-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "inv_alpha" .f32 0x3F5744FD#32 ((524288 / 623487 : ℝ) : EReal)
  ∧ IdealRules.named_const.Statement Cert.Kernel2Ideal.κ "eps_over_alpha_sq" .f32 0x36ED4403#32 ((2748779 / 388736039169 : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x1024 : Shape := ⟨3, ![16, 2048, 1024]⟩
abbrev S16x3072 : Shape := ⟨2, ![16, 3072]⟩
abbrev S1x1024x8704 : Shape := ⟨3, ![1, 1024, 8704]⟩
abbrev S1x8704 : Shape := ⟨2, ![1, 8704]⟩
abbrev S1x3x1024 : Shape := ⟨3, ![1, 3, 1024]⟩
abbrev S1x1024x1024 : Shape := ⟨3, ![1, 1024, 1024]⟩
abbrev S3x2x256x256 : Shape := ⟨4, ![3, 2, 256, 256]⟩
abbrev S1024x8704 : Shape := ⟨2, ![1024, 8704]⟩
abbrev S8704 : Shape := ⟨1, ![8704]⟩
abbrev S3x1024 : Shape := ⟨2, ![3, 1024]⟩
abbrev S1024x1024 : Shape := ⟨2, ![1024, 1024]⟩
abbrev S16x2048x256 : Shape := ⟨3, ![16, 2048, 256]⟩
abbrev S16x2x2048x128 : Shape := ⟨4, ![16, 2, 2048, 128]⟩
abbrev S1x512x1024 : Shape := ⟨3, ![1, 512, 1024]⟩
abbrev S1x512x256 : Shape := ⟨3, ![1, 512, 256]⟩
abbrev S1x2x2048x128 : Shape := ⟨4, ![1, 2, 2048, 128]⟩
abbrev S520x1024 : Shape := ⟨2, ![520, 1024]⟩
abbrev S512x1024 : Shape := ⟨2, ![512, 1024]⟩
abbrev S6x512x128 : Shape := ⟨3, ![6, 512, 128]⟩
abbrev S2048x2304 : Shape := ⟨2, ![2048, 2304]⟩
abbrev S3x2x2048x128 : Shape := ⟨4, ![3, 2, 2048, 128]⟩
abbrev S8x3x128x128 : Shape := ⟨4, ![8, 3, 128, 128]⟩
abbrev S4x128x256 : Shape := ⟨3, ![4, 128, 256]⟩
abbrev S1024x6656 : Shape := ⟨2, ![1024, 6656]⟩
abbrev S4x32x6656 : Shape := ⟨3, ![4, 32, 6656]⟩
abbrev S4 : Shape := ⟨1, ![4]⟩
abbrev S1 : Shape := ⟨1, ![1]⟩
abbrev S_ : Shape := ⟨0, ![]⟩
abbrev S1x32x6656 : Shape := ⟨3, ![1, 32, 6656]⟩
abbrev S32x6656 : Shape := ⟨2, ![32, 6656]⟩
abbrev S1x32x2560 : Shape := ⟨3, ![1, 32, 2560]⟩
abbrev S32x2560 : Shape := ⟨2, ![32, 2560]⟩
abbrev S1x32x256 : Shape := ⟨3, ![1, 32, 256]⟩
abbrev S32x256 : Shape := ⟨2, ![32, 256]⟩
abbrev S8x1024 : Shape := ⟨2, ![8, 1024]⟩
abbrev S1x3072 : Shape := ⟨2, ![1, 3072]⟩
abbrev S1x1024 : Shape := ⟨2, ![1, 1024]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S256x256 : Shape := ⟨2, ![256, 256]⟩
abbrev S1024x512 : Shape := ⟨2, ![1024, 512]⟩
abbrev S512x512 : Shape := ⟨2, ![512, 512]⟩
abbrev S1x512 : Shape := ⟨2, ![1, 512]⟩
abbrev S256x128 : Shape := ⟨2, ![256, 128]⟩
abbrev S128x256 : Shape := ⟨2, ![128, 256]⟩
abbrev S1x128x256 : Shape := ⟨3, ![1, 128, 256]⟩
abbrev S1x1x256x256 : Shape := ⟨4, ![1, 1, 256, 256]⟩
abbrev S256 : Shape := ⟨1, ![256]⟩
abbrev S256x1 : Shape := ⟨2, ![256, 1]⟩
abbrev S1x1x128x128 : Shape := ⟨4, ![1, 1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S1x1x256x128 : Shape := ⟨4, ![1, 1, 256, 128]⟩

abbrev nBuf : Space → Nat
  | .hbm => 16
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1x1024x8704, .f32⟩
  | .hbm, ⟨3, _⟩ => ⟨S1x8704, .f32⟩
  | .hbm, ⟨4, _⟩ => ⟨S1x3x1024, .f32⟩
  | .hbm, ⟨5, _⟩ => ⟨S1x1024x1024, .f32⟩
  | .hbm, ⟨6, _⟩ => ⟨S3x2x256x256, .f32⟩
  | .hbm, ⟨7, _⟩ => ⟨S1024x8704, .f32⟩
  | .hbm, ⟨8, _⟩ => ⟨S8704, .f32⟩
  | .hbm, ⟨9, _⟩ => ⟨S1x8704, .f32⟩
  | .hbm, ⟨10, _⟩ => ⟨S3x1024, .f32⟩
  | .hbm, ⟨11, _⟩ => ⟨S1024x1024, .f32⟩
  | .hbm, ⟨12, _⟩ => ⟨S1024x1024, .bf16⟩
  | .hbm, ⟨13, _⟩ => ⟨S16x2048x256, .bf16⟩
  | .hbm, ⟨14, _⟩ => ⟨S16x2048x1024, .bf16⟩
  | .hbm, ⟨15, _⟩ => ⟨S16x2x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S16x3072, .f32⟩
  | .local _ .vmem, ⟨3, _⟩ => ⟨S1x8704, .f32⟩
  | .local _ .vmem, ⟨4, _⟩ => ⟨S3x1024, .f32⟩
  | .local _ .vmem, ⟨5, _⟩ => ⟨S1024x1024, .bf16⟩
  | .local _ .vmem, ⟨6, _⟩ => ⟨S3x2x256x256, .f32⟩
  | .local _ .vmem, ⟨7, _⟩ => ⟨S1x512x256, .bf16⟩
  | .local _ .vmem, ⟨8, _⟩ => ⟨S1x512x256, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x2x2048x128, .f32⟩
  | .local _ .vmem, ⟨12, _⟩ => ⟨S1x2x2048x128, .f32⟩
  | .local _ .vmem, ⟨13, _⟩ => ⟨S520x1024, .f32⟩
  | .local _ .vmem, ⟨14, _⟩ => ⟨S512x1024, .bf16⟩
  | .local _ .vmem, ⟨15, _⟩ => ⟨S6x512x128, .f32⟩
  | .local _ .vmem, ⟨16, _⟩ => ⟨S2048x2304, .bf16⟩
  | .local _ .vmem, ⟨17, _⟩ => ⟨S3x2x2048x128, .f32⟩
  | .local _ .vmem, ⟨18, _⟩ => ⟨S8x3x128x128, .f32⟩
  | .local _ .vmem, ⟨19, _⟩ => ⟨S4x128x256, .bf16⟩
  | .local _ .vmem, ⟨20, _⟩ => ⟨S1024x6656, .bf16⟩
  | .local _ .vmem, ⟨21, _⟩ => ⟨S4x32x6656, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v1 : BitVec 32 := Scalar.muli arg1 c512_i32
  v1
def k0_mult2 (i : grid0.Coords) : BitVec 32 :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let c512_i32_1 : BitVec 32 := 512#32
  let v5 : BitVec 32 := Scalar.muli v4 c512_i32_1
  v5
def k0_off1 (i : grid0.Coords) : Fin 2 → Nat :=
  let arg0 : BitVec 32 := BitVec.ofNat 32 (i 0).val
  let v16 : Index := Scalar.indexCast arg0
  let c0 : Index := 0#32
  ![v16.toNat, 0]
def k0_off2 (i : grid0.Coords) (c0_i32_19 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v42 : BitVec 32 := Scalar.addi v2 c0_i32_19
  let v43 : Index := Scalar.indexCast v42
  let c256_20 : Index := 256#32
  ![v43.toNat, 256]
def k0_off3 (i : grid0.Coords) (c0_i32_36 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v78 : BitVec 32 := Scalar.addi v2 c0_i32_36
  let v79 : Index := Scalar.indexCast v78
  let c384 : Index := 384#32
  ![v79.toNat, 384]
def k0_off4 (i : grid0.Coords) (c0_i32_62 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v120 : BitVec 32 := Scalar.addi v2 c0_i32_62
  let v121 : Index := Scalar.indexCast v120
  let c1024_63 : Index := 1024#32
  ![v121.toNat, 1024]
def k0_off5 (i : grid0.Coords) (c0_i32_85 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v156 : BitVec 32 := Scalar.addi v2 c0_i32_85
  let v157 : Index := Scalar.indexCast v156
  let c1152 : Index := 1152#32
  ![v157.toNat, 1152]
def k0_off6 (i : grid0.Coords) (c0_i32_110 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v198 : BitVec 32 := Scalar.addi v2 c0_i32_110
  let v199 : Index := Scalar.indexCast v198
  let c1792_111 : Index := 1792#32
  ![v199.toNat, 1792]
def k0_off7 (i : grid0.Coords) (c0_i32_132 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v234 : BitVec 32 := Scalar.addi v2 c0_i32_132
  let v235 : Index := Scalar.indexCast v234
  let c1920 : Index := 1920#32
  ![v235.toNat, 1920]
def k0_off8 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v270 : Index := Scalar.indexCast v2
  let c0_153 : Index := 0#32
  ![v270.toNat, 0]
def k0_off9 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v281 : Index := Scalar.indexCast v2
  let c768_158 : Index := 768#32
  ![v281.toNat, 768]
def k0_off10 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let v292 : Index := Scalar.indexCast v2
  let c1536_163 : Index := 1536#32
  ![v292.toNat, 1536]
def k0_off11 (i : grid0.Coords) (c0_i32_180 : BitVec 32) : Fin 2 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let c512_i32_1 : BitVec 32 := 512#32
  let v5 : BitVec 32 := Scalar.muli v4 c512_i32_1
  let v6 : BitVec 32 := v5
  let v336 : BitVec 32 := Scalar.addi v6 c0_i32_180
  let v337 : Index := Scalar.indexCast v336
  let c1024_181 : Index := 1024#32
  ![v337.toNat, 1024]
def k0_off12 (i : grid0.Coords) (c0_i32_200 : BitVec 32) : Fin 2 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let c512_i32_1 : BitVec 32 := 512#32
  let v5 : BitVec 32 := Scalar.muli v4 c512_i32_1
  let v6 : BitVec 32 := v5
  let v369 : BitVec 32 := Scalar.addi v6 c0_i32_200
  let v370 : Index := Scalar.indexCast v369
  let c1152_201 : Index := 1152#32
  ![v370.toNat, 1152]
def k0_off13 (i : grid0.Coords) (c0_i32_326 : BitVec 32) : Fin 2 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let c512_i32_1 : BitVec 32 := 512#32
  let v5 : BitVec 32 := Scalar.muli v4 c512_i32_1
  let v6 : BitVec 32 := v5
  let v590 : BitVec 32 := Scalar.addi v6 c0_i32_326
  let v591 : Index := Scalar.indexCast v590
  let c1792_327 : Index := 1792#32
  ![v591.toNat, 1792]
def k0_off14 (i : grid0.Coords) (c0_i32_331 : BitVec 32) : Fin 4 → Nat :=
  let c0_332 : Index := 0#32
  let c0_333 : Index := 0#32
  let arg1 : BitVec 32 := BitVec.ofNat 32 (i 1).val
  let c512_i32 : BitVec 32 := 512#32
  let v1 : BitVec 32 := Scalar.muli arg1 c512_i32
  let v2 : BitVec 32 := v1
  let v610 : BitVec 32 := Scalar.addi v2 c0_i32_331
  let v611 : Index := Scalar.indexCast v610
  let c0_334 : Index := 0#32
  ![0, 0, v611.toNat, 0]
def k0_off15 (i : grid0.Coords) (c0_i32_331 : BitVec 32) : Fin 4 → Nat :=
  let c1_335 : Index := 1#32
  let c0_336 : Index := 0#32
  let arg1 : BitVec 32 := BitVec.ofNat 32 (i 1).val
  let c512_i32 : BitVec 32 := 512#32
  let v1 : BitVec 32 := Scalar.muli arg1 c512_i32
  let v2 : BitVec 32 := v1
  let v610 : BitVec 32 := Scalar.addi v2 c0_i32_331
  let v615 : Index := Scalar.indexCast v610
  let c0_337 : Index := 0#32
  ![1, 0, v615.toNat, 0]
def k0_off16 (i : grid0.Coords) (c0_i32_331 : BitVec 32) : Fin 4 → Nat :=
  let c2_338 : Index := 2#32
  let c0_339 : Index := 0#32
  let arg1 : BitVec 32 := BitVec.ofNat 32 (i 1).val
  let c512_i32 : BitVec 32 := 512#32
  let v1 : BitVec 32 := Scalar.muli arg1 c512_i32
  let v2 : BitVec 32 := v1
  let v610 : BitVec 32 := Scalar.addi v2 c0_i32_331
  let v619 : Index := Scalar.indexCast v610
  let c0_340 : Index := 0#32
  ![2, 0, v619.toNat, 0]
def k0_off17 (i : grid0.Coords) (c0_i32_342 : BitVec 32) : Fin 2 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let c512_i32_1 : BitVec 32 := 512#32
  let v5 : BitVec 32 := Scalar.muli v4 c512_i32_1
  let v6 : BitVec 32 := v5
  let v624 : BitVec 32 := Scalar.addi v6 c0_i32_342
  let v625 : Index := Scalar.indexCast v624
  let c1920_343 : Index := 1920#32
  ![v625.toNat, 1920]
def k0_off18 (i : grid0.Coords) (c0_i32_347 : BitVec 32) : Fin 4 → Nat :=
  let c0_348 : Index := 0#32
  let c1_349 : Index := 1#32
  let arg1 : BitVec 32 := BitVec.ofNat 32 (i 1).val
  let c512_i32 : BitVec 32 := 512#32
  let v1 : BitVec 32 := Scalar.muli arg1 c512_i32
  let v2 : BitVec 32 := v1
  let v644 : BitVec 32 := Scalar.addi v2 c0_i32_347
  let v645 : Index := Scalar.indexCast v644
  let c0_350 : Index := 0#32
  ![0, 1, v645.toNat, 0]
def k0_off19 (i : grid0.Coords) (c0_i32_347 : BitVec 32) : Fin 4 → Nat :=
  let c1_351 : Index := 1#32
  let c1_352 : Index := 1#32
  let arg1 : BitVec 32 := BitVec.ofNat 32 (i 1).val
  let c512_i32 : BitVec 32 := 512#32
  let v1 : BitVec 32 := Scalar.muli arg1 c512_i32
  let v2 : BitVec 32 := v1
  let v644 : BitVec 32 := Scalar.addi v2 c0_i32_347
  let v649 : Index := Scalar.indexCast v644
  let c0_353 : Index := 0#32
  ![1, 1, v649.toNat, 0]
def k0_off20 (i : grid0.Coords) (c0_i32_347 : BitVec 32) : Fin 4 → Nat :=
  let c2_354 : Index := 2#32
  let c1_355 : Index := 1#32
  let arg1 : BitVec 32 := BitVec.ofNat 32 (i 1).val
  let c512_i32 : BitVec 32 := 512#32
  let v1 : BitVec 32 := Scalar.muli arg1 c512_i32
  let v2 : BitVec 32 := v1
  let v644 : BitVec 32 := Scalar.addi v2 c0_i32_347
  let v653 : Index := Scalar.indexCast v644
  let c0_356 : Index := 0#32
  ![2, 1, v653.toNat, 0]
def k0_mult3 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_455 : BitVec 32 := 0#32
  let v847 : BitVec 32 := Scalar.addi v2 c0_i32_455
  v847
def k0_mult4 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_455 : BitVec 32 := 0#32
  let v847 : BitVec 32 := Scalar.addi v2 c0_i32_455
  let c128_i32_456 : BitVec 32 := 128#32
  let v848 : BitVec 32 := Scalar.subi v847 c128_i32_456
  let c0_i32_457 : BitVec 32 := 0#32
  let v849 : BitVec 32 := Scalar.maxsi v848 c0_i32_457
  v849
def k0_off21 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let c0_i32_455 : BitVec 32 := 0#32
  let v847 : BitVec 32 := Scalar.addi v2 c0_i32_455
  let c128_i32_456 : BitVec 32 := 128#32
  let v848 : BitVec 32 := Scalar.subi v847 c128_i32_456
  let c0_i32_457 : BitVec 32 := 0#32
  let v849 : BitVec 32 := Scalar.maxsi v848 c0_i32_457
  let v851 : BitVec 32 := v849
  let v852 : Index := Scalar.indexCast v851
  let c768_458 : Index := 768#32
  ![v852.toNat, 768]
def k0_off22 (i : grid0.Coords) (c0_i32_455 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v847 : BitVec 32 := Scalar.addi v2 c0_i32_455
  let v850 : BitVec 32 := v847
  let v854 : Index := Scalar.indexCast v850
  let c768_459 : Index := 768#32
  ![v854.toNat, 768]
def k0_off23 (i : grid0.Coords) (c0_i32_455 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v847 : BitVec 32 := Scalar.addi v2 c0_i32_455
  let v850 : BitVec 32 := v847
  let v857 : Index := Scalar.indexCast v850
  let c0_460 : Index := 0#32
  ![v857.toNat, 0]
def k0_off24 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let c0_i32_455 : BitVec 32 := 0#32
  let v847 : BitVec 32 := Scalar.addi v2 c0_i32_455
  let c128_i32_456 : BitVec 32 := 128#32
  let v848 : BitVec 32 := Scalar.subi v847 c128_i32_456
  let c0_i32_457 : BitVec 32 := 0#32
  let v849 : BitVec 32 := Scalar.maxsi v848 c0_i32_457
  let v851 : BitVec 32 := v849
  let v883 : Index := Scalar.indexCast v851
  let c896 : Index := 896#32
  ![v883.toNat, 896]
def k0_off25 (i : grid0.Coords) (c0_i32_455 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v847 : BitVec 32 := Scalar.addi v2 c0_i32_455
  let v850 : BitVec 32 := v847
  let v885 : Index := Scalar.indexCast v850
  let c896_476 : Index := 896#32
  ![v885.toNat, 896]
def k0_off26 (i : grid0.Coords) (c0_i32_455 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v847 : BitVec 32 := Scalar.addi v2 c0_i32_455
  let v850 : BitVec 32 := v847
  let v888 : Index := Scalar.indexCast v850
  let c128 : Index := 128#32
  ![v888.toNat, 128]
def k0_mult5 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_535 : BitVec 32 := 128#32
  let v1007 : BitVec 32 := Scalar.addi v2 c128_i32_535
  v1007
def k0_mult6 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_535 : BitVec 32 := 128#32
  let v1007 : BitVec 32 := Scalar.addi v2 c128_i32_535
  let c128_i32_536 : BitVec 32 := 128#32
  let v1008 : BitVec 32 := Scalar.subi v1007 c128_i32_536
  v1008
def k0_off27 (i : grid0.Coords) (c128_i32_535 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1007 : BitVec 32 := Scalar.addi v2 c128_i32_535
  let c128_i32_536 : BitVec 32 := 128#32
  let v1008 : BitVec 32 := Scalar.subi v1007 c128_i32_536
  let v1010 : BitVec 32 := v1008
  let v1011 : Index := Scalar.indexCast v1010
  let c768_537 : Index := 768#32
  ![v1011.toNat, 768]
def k0_off28 (i : grid0.Coords) (c128_i32_535 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1007 : BitVec 32 := Scalar.addi v2 c128_i32_535
  let c128_i32_536 : BitVec 32 := 128#32
  let v1008 : BitVec 32 := Scalar.subi v1007 c128_i32_536
  let v1010 : BitVec 32 := v1008
  let v1040 : Index := Scalar.indexCast v1010
  let c896_554 : Index := 896#32
  ![v1040.toNat, 896]
def k0_mult7 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_620 : BitVec 32 := 256#32
  let v1168 : BitVec 32 := Scalar.addi v2 c256_i32_620
  v1168
def k0_mult8 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_620 : BitVec 32 := 256#32
  let v1168 : BitVec 32 := Scalar.addi v2 c256_i32_620
  let c128_i32_621 : BitVec 32 := 128#32
  let v1169 : BitVec 32 := Scalar.subi v1168 c128_i32_621
  v1169
def k0_mult9 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_656 : BitVec 32 := 0#32
  let v1230 : BitVec 32 := Scalar.addi v2 c0_i32_656
  v1230
def k0_mult10 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_656 : BitVec 32 := 0#32
  let v1230 : BitVec 32 := Scalar.addi v2 c0_i32_656
  let c128_i32_657 : BitVec 32 := 128#32
  let v1231 : BitVec 32 := Scalar.subi v1230 c128_i32_657
  let c0_i32_658 : BitVec 32 := 0#32
  let v1232 : BitVec 32 := Scalar.maxsi v1231 c0_i32_658
  v1232
def k0_off29 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let c0_i32_656 : BitVec 32 := 0#32
  let v1230 : BitVec 32 := Scalar.addi v2 c0_i32_656
  let c128_i32_657 : BitVec 32 := 128#32
  let v1231 : BitVec 32 := Scalar.subi v1230 c128_i32_657
  let c0_i32_658 : BitVec 32 := 0#32
  let v1232 : BitVec 32 := Scalar.maxsi v1231 c0_i32_658
  let v1234 : BitVec 32 := v1232
  let v1235 : Index := Scalar.indexCast v1234
  let c1536_659 : Index := 1536#32
  ![v1235.toNat, 1536]
def k0_off30 (i : grid0.Coords) (c0_i32_656 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1230 : BitVec 32 := Scalar.addi v2 c0_i32_656
  let v1233 : BitVec 32 := v1230
  let v1237 : Index := Scalar.indexCast v1233
  let c1536_660 : Index := 1536#32
  ![v1237.toNat, 1536]
def k0_mult11 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_675 : BitVec 32 := 0#32
  let v1263 : BitVec 32 := Scalar.addi v2 c0_i32_675
  let c0_i32_676 : BitVec 32 := 0#32
  let v1264 : BitVec 32 := Scalar.addi v1263 c0_i32_676
  v1264
def k0_off31 (i : grid0.Coords) (c0_i32_675 : BitVec 32) (c0_i32_676 : BitVec 32) : Fin 4 → Nat :=
  let c2_689 : Index := 2#32
  let c0_690 : Index := 0#32
  let arg1 : BitVec 32 := BitVec.ofNat 32 (i 1).val
  let c512_i32 : BitVec 32 := 512#32
  let v1 : BitVec 32 := Scalar.muli arg1 c512_i32
  let v2 : BitVec 32 := v1
  let v1263 : BitVec 32 := Scalar.addi v2 c0_i32_675
  let v1264 : BitVec 32 := Scalar.addi v1263 c0_i32_676
  let v1265 : BitVec 32 := v1264
  let v1272 : Index := Scalar.indexCast v1265
  let c0_691 : Index := 0#32
  ![2, 0, v1272.toNat, 0]
def k0_off32 (i : grid0.Coords) (c0_i32_675 : BitVec 32) (c0_i32_676 : BitVec 32) : Fin 4 → Nat :=
  let c0_692 : Index := 0#32
  let c0_693 : Index := 0#32
  let arg1 : BitVec 32 := BitVec.ofNat 32 (i 1).val
  let c512_i32 : BitVec 32 := 512#32
  let v1 : BitVec 32 := Scalar.muli arg1 c512_i32
  let v2 : BitVec 32 := v1
  let v1263 : BitVec 32 := Scalar.addi v2 c0_i32_675
  let v1264 : BitVec 32 := Scalar.addi v1263 c0_i32_676
  let v1265 : BitVec 32 := v1264
  let v1280 : Index := Scalar.indexCast v1265
  let c0_694 : Index := 0#32
  ![0, 0, v1280.toNat, 0]
def k0_off33 (i : grid0.Coords) (c0_i32_675 : BitVec 32) (c0_i32_676 : BitVec 32) : Fin 4 → Nat :=
  let c1_695 : Index := 1#32
  let c0_696 : Index := 0#32
  let arg1 : BitVec 32 := BitVec.ofNat 32 (i 1).val
  let c512_i32 : BitVec 32 := 512#32
  let v1 : BitVec 32 := Scalar.muli arg1 c512_i32
  let v2 : BitVec 32 := v1
  let v1263 : BitVec 32 := Scalar.addi v2 c0_i32_675
  let v1264 : BitVec 32 := Scalar.addi v1263 c0_i32_676
  let v1265 : BitVec 32 := v1264
  let v1286 : Index := Scalar.indexCast v1265
  let c0_697 : Index := 0#32
  ![1, 0, v1286.toNat, 0]
def k0_mult12 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_707 : BitVec 32 := 128#32
  let v1304 : BitVec 32 := Scalar.addi v2 c128_i32_707
  let c0_i32_708 : BitVec 32 := 0#32
  let v1305 : BitVec 32 := Scalar.addi v1304 c0_i32_708
  v1305
def k0_mult13 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_739 : BitVec 32 := 256#32
  let v1345 : BitVec 32 := Scalar.addi v2 c256_i32_739
  let c0_i32_740 : BitVec 32 := 0#32
  let v1346 : BitVec 32 := Scalar.addi v1345 c0_i32_740
  v1346
def k0_mult14 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_771 : BitVec 32 := 384#32
  let v1386 : BitVec 32 := Scalar.addi v2 c384_i32_771
  let c0_i32_772 : BitVec 32 := 0#32
  let v1387 : BitVec 32 := Scalar.addi v1386 c0_i32_772
  v1387
def k0_off34 (i : grid0.Coords) : Fin 2 → Nat :=
  let arg1 : BitVec 32 := BitVec.ofNat 32 (i 1).val
  let c512_i32 : BitVec 32 := 512#32
  let v1 : BitVec 32 := Scalar.muli arg1 c512_i32
  let v2 : BitVec 32 := v1
  let c0_i32_656 : BitVec 32 := 0#32
  let v1230 : BitVec 32 := Scalar.addi v2 c0_i32_656
  let c128_i32_657 : BitVec 32 := 128#32
  let v1231 : BitVec 32 := Scalar.subi v1230 c128_i32_657
  let c0_i32_658 : BitVec 32 := 0#32
  let v1232 : BitVec 32 := Scalar.maxsi v1231 c0_i32_658
  let v1234 : BitVec 32 := v1232
  let v1427 : Index := Scalar.indexCast v1234
  let c1664 : Index := 1664#32
  ![v1427.toNat, 1664]
def k0_off35 (i : grid0.Coords) (c0_i32_656 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1230 : BitVec 32 := Scalar.addi v2 c0_i32_656
  let v1233 : BitVec 32 := v1230
  let v1429 : Index := Scalar.indexCast v1233
  let c1664_803 : Index := 1664#32
  ![v1429.toNat, 1664]
def k0_mult15 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_818 : BitVec 32 := 0#32
  let v1455 : BitVec 32 := Scalar.addi v2 c0_i32_818
  let c0_i32_819 : BitVec 32 := 0#32
  let v1456 : BitVec 32 := Scalar.addi v1455 c0_i32_819
  v1456
def k0_off36 (i : grid0.Coords) (c0_i32_818 : BitVec 32) (c0_i32_819 : BitVec 32) : Fin 4 → Nat :=
  let c2_832 : Index := 2#32
  let c1_833 : Index := 1#32
  let arg1 : BitVec 32 := BitVec.ofNat 32 (i 1).val
  let c512_i32 : BitVec 32 := 512#32
  let v1 : BitVec 32 := Scalar.muli arg1 c512_i32
  let v2 : BitVec 32 := v1
  let v1455 : BitVec 32 := Scalar.addi v2 c0_i32_818
  let v1456 : BitVec 32 := Scalar.addi v1455 c0_i32_819
  let v1457 : BitVec 32 := v1456
  let v1464 : Index := Scalar.indexCast v1457
  let c0_834 : Index := 0#32
  ![2, 1, v1464.toNat, 0]
def k0_off37 (i : grid0.Coords) (c0_i32_818 : BitVec 32) (c0_i32_819 : BitVec 32) : Fin 4 → Nat :=
  let c0_835 : Index := 0#32
  let c1_836 : Index := 1#32
  let arg1 : BitVec 32 := BitVec.ofNat 32 (i 1).val
  let c512_i32 : BitVec 32 := 512#32
  let v1 : BitVec 32 := Scalar.muli arg1 c512_i32
  let v2 : BitVec 32 := v1
  let v1455 : BitVec 32 := Scalar.addi v2 c0_i32_818
  let v1456 : BitVec 32 := Scalar.addi v1455 c0_i32_819
  let v1457 : BitVec 32 := v1456
  let v1472 : Index := Scalar.indexCast v1457
  let c0_837 : Index := 0#32
  ![0, 1, v1472.toNat, 0]
def k0_off38 (i : grid0.Coords) (c0_i32_818 : BitVec 32) (c0_i32_819 : BitVec 32) : Fin 4 → Nat :=
  let c1_838 : Index := 1#32
  let c1_839 : Index := 1#32
  let arg1 : BitVec 32 := BitVec.ofNat 32 (i 1).val
  let c512_i32 : BitVec 32 := 512#32
  let v1 : BitVec 32 := Scalar.muli arg1 c512_i32
  let v2 : BitVec 32 := v1
  let v1455 : BitVec 32 := Scalar.addi v2 c0_i32_818
  let v1456 : BitVec 32 := Scalar.addi v1455 c0_i32_819
  let v1457 : BitVec 32 := v1456
  let v1478 : Index := Scalar.indexCast v1457
  let c0_840 : Index := 0#32
  ![1, 1, v1478.toNat, 0]
def k0_mult16 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_850 : BitVec 32 := 128#32
  let v1496 : BitVec 32 := Scalar.addi v2 c128_i32_850
  let c0_i32_851 : BitVec 32 := 0#32
  let v1497 : BitVec 32 := Scalar.addi v1496 c0_i32_851
  v1497
def k0_mult17 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_882 : BitVec 32 := 256#32
  let v1537 : BitVec 32 := Scalar.addi v2 c256_i32_882
  let c0_i32_883 : BitVec 32 := 0#32
  let v1538 : BitVec 32 := Scalar.addi v1537 c0_i32_883
  v1538
def k0_mult18 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_914 : BitVec 32 := 384#32
  let v1578 : BitVec 32 := Scalar.addi v2 c384_i32_914
  let c0_i32_915 : BitVec 32 := 0#32
  let v1579 : BitVec 32 := Scalar.addi v1578 c0_i32_915
  v1579
def k0_mult19 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_956 : BitVec 32 := 384#32
  let v1644 : BitVec 32 := Scalar.addi v2 c384_i32_956
  v1644
def k0_mult20 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_956 : BitVec 32 := 384#32
  let v1644 : BitVec 32 := Scalar.addi v2 c384_i32_956
  let c128_i32_957 : BitVec 32 := 128#32
  let v1645 : BitVec 32 := Scalar.subi v1644 c128_i32_957
  v1645
def k0_mult21 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_992 : BitVec 32 := 128#32
  let v1706 : BitVec 32 := Scalar.addi v2 c128_i32_992
  v1706
def k0_mult22 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_992 : BitVec 32 := 128#32
  let v1706 : BitVec 32 := Scalar.addi v2 c128_i32_992
  let c128_i32_993 : BitVec 32 := 128#32
  let v1707 : BitVec 32 := Scalar.subi v1706 c128_i32_993
  v1707
def k0_off39 (i : grid0.Coords) (c128_i32_992 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1706 : BitVec 32 := Scalar.addi v2 c128_i32_992
  let c128_i32_993 : BitVec 32 := 128#32
  let v1707 : BitVec 32 := Scalar.subi v1706 c128_i32_993
  let v1709 : BitVec 32 := v1707
  let v1710 : Index := Scalar.indexCast v1709
  let c1536_994 : Index := 1536#32
  ![v1710.toNat, 1536]
def k0_mult23 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1010 : BitVec 32 := 0#32
  let v1738 : BitVec 32 := Scalar.addi v2 c0_i32_1010
  let c32_i32 : BitVec 32 := 32#32
  let v1739 : BitVec 32 := Scalar.addi v1738 c32_i32
  v1739
def k0_mult24 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1041 : BitVec 32 := 128#32
  let v1779 : BitVec 32 := Scalar.addi v2 c128_i32_1041
  let c32_i32_1042 : BitVec 32 := 32#32
  let v1780 : BitVec 32 := Scalar.addi v1779 c32_i32_1042
  v1780
def k0_mult25 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1073 : BitVec 32 := 256#32
  let v1820 : BitVec 32 := Scalar.addi v2 c256_i32_1073
  let c32_i32_1074 : BitVec 32 := 32#32
  let v1821 : BitVec 32 := Scalar.addi v1820 c32_i32_1074
  v1821
def k0_mult26 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1105 : BitVec 32 := 384#32
  let v1861 : BitVec 32 := Scalar.addi v2 c384_i32_1105
  let c32_i32_1106 : BitVec 32 := 32#32
  let v1862 : BitVec 32 := Scalar.addi v1861 c32_i32_1106
  v1862
def k0_off40 (i : grid0.Coords) (c128_i32_992 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v1706 : BitVec 32 := Scalar.addi v2 c128_i32_992
  let c128_i32_993 : BitVec 32 := 128#32
  let v1707 : BitVec 32 := Scalar.subi v1706 c128_i32_993
  let v1709 : BitVec 32 := v1707
  let v1902 : Index := Scalar.indexCast v1709
  let c1664_1137 : Index := 1664#32
  ![v1902.toNat, 1664]
def k0_mult27 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1153 : BitVec 32 := 0#32
  let v1930 : BitVec 32 := Scalar.addi v2 c0_i32_1153
  let c32_i32_1154 : BitVec 32 := 32#32
  let v1931 : BitVec 32 := Scalar.addi v1930 c32_i32_1154
  v1931
def k0_mult28 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1185 : BitVec 32 := 128#32
  let v1971 : BitVec 32 := Scalar.addi v2 c128_i32_1185
  let c32_i32_1186 : BitVec 32 := 32#32
  let v1972 : BitVec 32 := Scalar.addi v1971 c32_i32_1186
  v1972
def k0_mult29 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1217 : BitVec 32 := 256#32
  let v2012 : BitVec 32 := Scalar.addi v2 c256_i32_1217
  let c32_i32_1218 : BitVec 32 := 32#32
  let v2013 : BitVec 32 := Scalar.addi v2012 c32_i32_1218
  v2013
def k0_mult30 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1249 : BitVec 32 := 384#32
  let v2053 : BitVec 32 := Scalar.addi v2 c384_i32_1249
  let c32_i32_1250 : BitVec 32 := 32#32
  let v2054 : BitVec 32 := Scalar.addi v2053 c32_i32_1250
  v2054
def k0_mult31 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1281 : BitVec 32 := 256#32
  let v2094 : BitVec 32 := Scalar.addi v2 c256_i32_1281
  v2094
def k0_mult32 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1281 : BitVec 32 := 256#32
  let v2094 : BitVec 32 := Scalar.addi v2 c256_i32_1281
  let c128_i32_1282 : BitVec 32 := 128#32
  let v2095 : BitVec 32 := Scalar.subi v2094 c128_i32_1282
  v2095
def k0_mult33 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1299 : BitVec 32 := 0#32
  let v2126 : BitVec 32 := Scalar.addi v2 c0_i32_1299
  let c64_i32_1300 : BitVec 32 := 64#32
  let v2127 : BitVec 32 := Scalar.addi v2126 c64_i32_1300
  v2127
def k0_mult34 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1331 : BitVec 32 := 128#32
  let v2167 : BitVec 32 := Scalar.addi v2 c128_i32_1331
  let c64_i32_1332 : BitVec 32 := 64#32
  let v2168 : BitVec 32 := Scalar.addi v2167 c64_i32_1332
  v2168
def k0_mult35 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1363 : BitVec 32 := 256#32
  let v2208 : BitVec 32 := Scalar.addi v2 c256_i32_1363
  let c64_i32_1364 : BitVec 32 := 64#32
  let v2209 : BitVec 32 := Scalar.addi v2208 c64_i32_1364
  v2209
def k0_mult36 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1395 : BitVec 32 := 384#32
  let v2249 : BitVec 32 := Scalar.addi v2 c384_i32_1395
  let c64_i32_1396 : BitVec 32 := 64#32
  let v2250 : BitVec 32 := Scalar.addi v2249 c64_i32_1396
  v2250
def k0_mult37 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1443 : BitVec 32 := 0#32
  let v2318 : BitVec 32 := Scalar.addi v2 c0_i32_1443
  let c64_i32_1444 : BitVec 32 := 64#32
  let v2319 : BitVec 32 := Scalar.addi v2318 c64_i32_1444
  v2319
def k0_mult38 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1475 : BitVec 32 := 128#32
  let v2359 : BitVec 32 := Scalar.addi v2 c128_i32_1475
  let c64_i32_1476 : BitVec 32 := 64#32
  let v2360 : BitVec 32 := Scalar.addi v2359 c64_i32_1476
  v2360
def k0_mult39 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1507 : BitVec 32 := 256#32
  let v2400 : BitVec 32 := Scalar.addi v2 c256_i32_1507
  let c64_i32_1508 : BitVec 32 := 64#32
  let v2401 : BitVec 32 := Scalar.addi v2400 c64_i32_1508
  v2401
def k0_mult40 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1539 : BitVec 32 := 384#32
  let v2441 : BitVec 32 := Scalar.addi v2 c384_i32_1539
  let c64_i32_1540 : BitVec 32 := 64#32
  let v2442 : BitVec 32 := Scalar.addi v2441 c64_i32_1540
  v2442
def k0_mult41 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1589 : BitVec 32 := 384#32
  let v2508 : BitVec 32 := Scalar.addi v2 c384_i32_1589
  v2508
def k0_mult42 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1589 : BitVec 32 := 384#32
  let v2508 : BitVec 32 := Scalar.addi v2 c384_i32_1589
  let c128_i32_1590 : BitVec 32 := 128#32
  let v2509 : BitVec 32 := Scalar.subi v2508 c128_i32_1590
  v2509
def k0_mult43 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1607 : BitVec 32 := 0#32
  let v2540 : BitVec 32 := Scalar.addi v2 c0_i32_1607
  let c96_i32 : BitVec 32 := 96#32
  let v2541 : BitVec 32 := Scalar.addi v2540 c96_i32
  v2541
def k0_mult44 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1638 : BitVec 32 := 128#32
  let v2581 : BitVec 32 := Scalar.addi v2 c128_i32_1638
  let c96_i32_1639 : BitVec 32 := 96#32
  let v2582 : BitVec 32 := Scalar.addi v2581 c96_i32_1639
  v2582
def k0_mult45 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1670 : BitVec 32 := 256#32
  let v2622 : BitVec 32 := Scalar.addi v2 c256_i32_1670
  let c96_i32_1671 : BitVec 32 := 96#32
  let v2623 : BitVec 32 := Scalar.addi v2622 c96_i32_1671
  v2623
def k0_mult46 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1702 : BitVec 32 := 384#32
  let v2663 : BitVec 32 := Scalar.addi v2 c384_i32_1702
  let c96_i32_1703 : BitVec 32 := 96#32
  let v2664 : BitVec 32 := Scalar.addi v2663 c96_i32_1703
  v2664
def k0_mult47 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c0_i32_1750 : BitVec 32 := 0#32
  let v2732 : BitVec 32 := Scalar.addi v2 c0_i32_1750
  let c96_i32_1751 : BitVec 32 := 96#32
  let v2733 : BitVec 32 := Scalar.addi v2732 c96_i32_1751
  v2733
def k0_mult48 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c128_i32_1782 : BitVec 32 := 128#32
  let v2773 : BitVec 32 := Scalar.addi v2 c128_i32_1782
  let c96_i32_1783 : BitVec 32 := 96#32
  let v2774 : BitVec 32 := Scalar.addi v2773 c96_i32_1783
  v2774
def k0_mult49 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c256_i32_1814 : BitVec 32 := 256#32
  let v2814 : BitVec 32 := Scalar.addi v2 c256_i32_1814
  let c96_i32_1815 : BitVec 32 := 96#32
  let v2815 : BitVec 32 := Scalar.addi v2814 c96_i32_1815
  v2815
def k0_mult50 (i : grid0.Coords) : BitVec 32 :=
  let arg1 : BitVec 32 := BitVec.ofNat 32 (i 1).val
  let c512_i32 : BitVec 32 := 512#32
  let v1 : BitVec 32 := Scalar.muli arg1 c512_i32
  let v2 : BitVec 32 := v1
  let c384_i32_1846 : BitVec 32 := 384#32
  let v2855 : BitVec 32 := Scalar.addi v2 c384_i32_1846
  let c96_i32_1847 : BitVec 32 := 96#32
  let v2856 : BitVec 32 := Scalar.addi v2855 c96_i32_1847
  v2856
def k0_off41 (i : grid0.Coords) (c0_i32_1913 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v2929 : BitVec 32 := Scalar.addi v2 c0_i32_1913
  let v2930 : Index := Scalar.indexCast v2929
  let c512_1914 : Index := 512#32
  ![v2930.toNat, 512]
def k0_off42 (i : grid0.Coords) (c0_i32_2002 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v3081 : BitVec 32 := Scalar.addi v2 c0_i32_2002
  let v3082 : Index := Scalar.indexCast v3081
  let c640 : Index := 640#32
  ![v3082.toNat, 640]
def k0_off43 (i : grid0.Coords) (c0_i32_2112 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v3239 : BitVec 32 := Scalar.addi v2 c0_i32_2112
  let v3240 : Index := Scalar.indexCast v3239
  let c1280_2113 : Index := 1280#32
  ![v3240.toNat, 1280]
def k0_off44 (i : grid0.Coords) (c0_i32_2219 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v3391 : BitVec 32 := Scalar.addi v2 c0_i32_2219
  let v3392 : Index := Scalar.indexCast v3391
  let c1408 : Index := 1408#32
  ![v3392.toNat, 1408]
def k0_off45 (i : grid0.Coords) (c0_i32_2329 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v3549 : BitVec 32 := Scalar.addi v2 c0_i32_2329
  let v3550 : Index := Scalar.indexCast v3549
  let c2048_2330 : Index := 2048#32
  ![v3550.toNat, 2048]
def k0_off46 (i : grid0.Coords) (c0_i32_2436 : BitVec 32) : Fin 2 → Nat :=
  let arg1 : BitVec 32 := BitVec.ofNat 32 (i 1).val
  let c512_i32 : BitVec 32 := 512#32
  let v1 : BitVec 32 := Scalar.muli arg1 c512_i32
  let v2 : BitVec 32 := v1
  let v3701 : BitVec 32 := Scalar.addi v2 c0_i32_2436
  let v3702 : Index := Scalar.indexCast v3701
  let c2176 : Index := 2176#32
  ![v3702.toNat, 2176]
def k0_cond4 (i : grid0.Coords) : BitVec 1 :=
  let arg1 : BitVec 32 := BitVec.ofNat 32 (i 1).val
  let c3_i32 : BitVec 32 := 3#32
  let v3826 : BitVec 1 := Scalar.cmpi .eq arg1 c3_i32
  let v3827 : BitVec 32 := Scalar.extui v3826
  let c0_i32_2512 : BitVec 32 := 0#32
  let v3828 : BitVec 1 := Scalar.cmpi .ne v3827 c0_i32_2512
  v3828

@[reducible] def k0_t1_loop : Scf.Loop 32 :=
  let c0_i32_2513 : BitVec 32 := 0#32
  let c4_i32 : BitVec 32 := 4#32
  let v3829 : BitVec 32 := Scalar.addi c0_i32_2513 c4_i32
  let c1_i32_2514 : BitVec 32 := 1#32
  ⟨c0_i32_2513, v3829, c1_i32_2514⟩
def k0_mult51 (k0_t1 : Fin k0_t1_loop.trips) : BitVec 32 :=
  let c0_i32_2519 : BitVec 32 := 0#32
  let c0_i32_2513 : BitVec 32 := 0#32
  let c1_i32_2514 : BitVec 32 := 1#32
  let arg22 : BitVec 32 := Scf.iv c0_i32_2513 c1_i32_2514 k0_t1
  let c4_i32_2516 : BitVec 32 := 4#32
  let v3830 : BitVec 32 := Scalar.muli arg22 c4_i32_2516
  let c0_i32_2517 : BitVec 32 := 0#32
  let v3831 : BitVec 32 := Scalar.addi v3830 c0_i32_2517
  let c32_i32_2518 : BitVec 32 := 32#32
  let v3832 : BitVec 32 := Scalar.muli v3831 c32_i32_2518
  let v3833 : BitVec 32 := Scalar.addi c0_i32_2519 v3832
  v3833
def k0_off47 (k0_t1 : Fin k0_t1_loop.trips) (c0_i32_2519 : BitVec 32) (c0_i32_2517 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2516 : BitVec 32 := 4#32
  let v3830 : BitVec 32 := Scalar.muli arg22 c4_i32_2516
  let v3831 : BitVec 32 := Scalar.addi v3830 c0_i32_2517
  let c32_i32_2518 : BitVec 32 := 32#32
  let v3832 : BitVec 32 := Scalar.muli v3831 c32_i32_2518
  let v3833 : BitVec 32 := Scalar.addi c0_i32_2519 v3832
  let v3834 : BitVec 32 := v3833
  let v3835 : Index := Scalar.indexCast v3834
  let c512_2520 : Index := 512#32
  ![v3835.toNat, 512]
def k0_mult52 (k0_t1 : Fin k0_t1_loop.trips) : BitVec 32 :=
  let c512_i32_2522 : BitVec 32 := 512#32
  let c0_i32_2513 : BitVec 32 := 0#32
  let c1_i32_2514 : BitVec 32 := 1#32
  let arg22 : BitVec 32 := Scf.iv c0_i32_2513 c1_i32_2514 k0_t1
  let c4_i32_2516 : BitVec 32 := 4#32
  let v3830 : BitVec 32 := Scalar.muli arg22 c4_i32_2516
  let c0_i32_2517 : BitVec 32 := 0#32
  let v3831 : BitVec 32 := Scalar.addi v3830 c0_i32_2517
  let c32_i32_2521 : BitVec 32 := 32#32
  let v3837 : BitVec 32 := Scalar.muli v3831 c32_i32_2521
  let v3838 : BitVec 32 := Scalar.addi c512_i32_2522 v3837
  v3838
def k0_mult53 (k0_t1 : Fin k0_t1_loop.trips) : BitVec 32 :=
  let c1024_i32 : BitVec 32 := 1024#32
  let c0_i32_2513 : BitVec 32 := 0#32
  let c1_i32_2514 : BitVec 32 := 1#32
  let arg22 : BitVec 32 := Scf.iv c0_i32_2513 c1_i32_2514 k0_t1
  let c4_i32_2516 : BitVec 32 := 4#32
  let v3830 : BitVec 32 := Scalar.muli arg22 c4_i32_2516
  let c0_i32_2517 : BitVec 32 := 0#32
  let v3831 : BitVec 32 := Scalar.addi v3830 c0_i32_2517
  let c32_i32_2524 : BitVec 32 := 32#32
  let v3842 : BitVec 32 := Scalar.muli v3831 c32_i32_2524
  let v3843 : BitVec 32 := Scalar.addi c1024_i32 v3842
  v3843
def k0_mult54 (k0_t1 : Fin k0_t1_loop.trips) : BitVec 32 :=
  let c1536_i32 : BitVec 32 := 1536#32
  let c0_i32_2513 : BitVec 32 := 0#32
  let c1_i32_2514 : BitVec 32 := 1#32
  let arg22 : BitVec 32 := Scf.iv c0_i32_2513 c1_i32_2514 k0_t1
  let c4_i32_2516 : BitVec 32 := 4#32
  let v3830 : BitVec 32 := Scalar.muli arg22 c4_i32_2516
  let c0_i32_2517 : BitVec 32 := 0#32
  let v3831 : BitVec 32 := Scalar.addi v3830 c0_i32_2517
  let c32_i32_2526 : BitVec 32 := 32#32
  let v3847 : BitVec 32 := Scalar.muli v3831 c32_i32_2526
  let v3848 : BitVec 32 := Scalar.addi c1536_i32 v3847
  v3848
def k0_mult55 (k0_t1 : Fin k0_t1_loop.trips) : BitVec 32 :=
  let c0_i32_2531 : BitVec 32 := 0#32
  let c0_i32_2513 : BitVec 32 := 0#32
  let c1_i32_2514 : BitVec 32 := 1#32
  let arg22 : BitVec 32 := Scf.iv c0_i32_2513 c1_i32_2514 k0_t1
  let c4_i32_2528 : BitVec 32 := 4#32
  let v3853 : BitVec 32 := Scalar.muli arg22 c4_i32_2528
  let c0_i32_2529 : BitVec 32 := 0#32
  let v3854 : BitVec 32 := Scalar.addi v3853 c0_i32_2529
  let c32_i32_2530 : BitVec 32 := 32#32
  let v3855 : BitVec 32 := Scalar.muli v3854 c32_i32_2530
  let v3856 : BitVec 32 := Scalar.addi c0_i32_2531 v3855
  v3856
def k0_off48 (k0_t1 : Fin k0_t1_loop.trips) (c0_i32_2531 : BitVec 32) (c0_i32_2529 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2528 : BitVec 32 := 4#32
  let v3853 : BitVec 32 := Scalar.muli arg22 c4_i32_2528
  let v3854 : BitVec 32 := Scalar.addi v3853 c0_i32_2529
  let c32_i32_2530 : BitVec 32 := 32#32
  let v3855 : BitVec 32 := Scalar.muli v3854 c32_i32_2530
  let v3856 : BitVec 32 := Scalar.addi c0_i32_2531 v3855
  let v3857 : BitVec 32 := v3856
  let v3858 : Index := Scalar.indexCast v3857
  let c1280_2532 : Index := 1280#32
  ![v3858.toNat, 1280]
def k0_mult56 (k0_t1 : Fin k0_t1_loop.trips) : BitVec 32 :=
  let c512_i32_2534 : BitVec 32 := 512#32
  let c0_i32_2513 : BitVec 32 := 0#32
  let c1_i32_2514 : BitVec 32 := 1#32
  let arg22 : BitVec 32 := Scf.iv c0_i32_2513 c1_i32_2514 k0_t1
  let c4_i32_2528 : BitVec 32 := 4#32
  let v3853 : BitVec 32 := Scalar.muli arg22 c4_i32_2528
  let c0_i32_2529 : BitVec 32 := 0#32
  let v3854 : BitVec 32 := Scalar.addi v3853 c0_i32_2529
  let c32_i32_2533 : BitVec 32 := 32#32
  let v3860 : BitVec 32 := Scalar.muli v3854 c32_i32_2533
  let v3861 : BitVec 32 := Scalar.addi c512_i32_2534 v3860
  v3861
def k0_mult57 (k0_t1 : Fin k0_t1_loop.trips) : BitVec 32 :=
  let c1024_i32_2537 : BitVec 32 := 1024#32
  let c0_i32_2513 : BitVec 32 := 0#32
  let c1_i32_2514 : BitVec 32 := 1#32
  let arg22 : BitVec 32 := Scf.iv c0_i32_2513 c1_i32_2514 k0_t1
  let c4_i32_2528 : BitVec 32 := 4#32
  let v3853 : BitVec 32 := Scalar.muli arg22 c4_i32_2528
  let c0_i32_2529 : BitVec 32 := 0#32
  let v3854 : BitVec 32 := Scalar.addi v3853 c0_i32_2529
  let c32_i32_2536 : BitVec 32 := 32#32
  let v3865 : BitVec 32 := Scalar.muli v3854 c32_i32_2536
  let v3866 : BitVec 32 := Scalar.addi c1024_i32_2537 v3865
  v3866
def k0_mult58 (k0_t1 : Fin k0_t1_loop.trips) : BitVec 32 :=
  let c1536_i32_2540 : BitVec 32 := 1536#32
  let c0_i32_2513 : BitVec 32 := 0#32
  let c1_i32_2514 : BitVec 32 := 1#32
  let arg22 : BitVec 32 := Scf.iv c0_i32_2513 c1_i32_2514 k0_t1
  let c4_i32_2528 : BitVec 32 := 4#32
  let v3853 : BitVec 32 := Scalar.muli arg22 c4_i32_2528
  let c0_i32_2529 : BitVec 32 := 0#32
  let v3854 : BitVec 32 := Scalar.addi v3853 c0_i32_2529
  let c32_i32_2539 : BitVec 32 := 32#32
  let v3870 : BitVec 32 := Scalar.muli v3854 c32_i32_2539
  let v3871 : BitVec 32 := Scalar.addi c1536_i32_2540 v3870
  v3871
def k0_mult59 (k0_t1 : Fin k0_t1_loop.trips) : BitVec 32 :=
  let c0_i32_2559 : BitVec 32 := 0#32
  let c0_i32_2513 : BitVec 32 := 0#32
  let c1_i32_2514 : BitVec 32 := 1#32
  let arg22 : BitVec 32 := Scf.iv c0_i32_2513 c1_i32_2514 k0_t1
  let c4_i32_2556 : BitVec 32 := 4#32
  let v3898 : BitVec 32 := Scalar.muli arg22 c4_i32_2556
  let c0_i32_2557 : BitVec 32 := 0#32
  let v3899 : BitVec 32 := Scalar.addi v3898 c0_i32_2557
  let c32_i32_2558 : BitVec 32 := 32#32
  let v3900 : BitVec 32 := Scalar.muli v3899 c32_i32_2558
  let v3901 : BitVec 32 := Scalar.addi c0_i32_2559 v3900
  v3901
def k0_off49 (k0_t1 : Fin k0_t1_loop.trips) (c0_i32_2559 : BitVec 32) (c0_i32_2557 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2556 : BitVec 32 := 4#32
  let v3898 : BitVec 32 := Scalar.muli arg22 c4_i32_2556
  let v3899 : BitVec 32 := Scalar.addi v3898 c0_i32_2557
  let c32_i32_2558 : BitVec 32 := 32#32
  let v3900 : BitVec 32 := Scalar.muli v3899 c32_i32_2558
  let v3901 : BitVec 32 := Scalar.addi c0_i32_2559 v3900
  let v3902 : BitVec 32 := v3901
  let v3903 : Index := Scalar.indexCast v3902
  let c640_2560 : Index := 640#32
  ![v3903.toNat, 640]
def k0_mult60 (k0_t1 : Fin k0_t1_loop.trips) : BitVec 32 :=
  let c512_i32_2562 : BitVec 32 := 512#32
  let c0_i32_2513 : BitVec 32 := 0#32
  let c1_i32_2514 : BitVec 32 := 1#32
  let arg22 : BitVec 32 := Scf.iv c0_i32_2513 c1_i32_2514 k0_t1
  let c4_i32_2556 : BitVec 32 := 4#32
  let v3898 : BitVec 32 := Scalar.muli arg22 c4_i32_2556
  let c0_i32_2557 : BitVec 32 := 0#32
  let v3899 : BitVec 32 := Scalar.addi v3898 c0_i32_2557
  let c32_i32_2561 : BitVec 32 := 32#32
  let v3905 : BitVec 32 := Scalar.muli v3899 c32_i32_2561
  let v3906 : BitVec 32 := Scalar.addi c512_i32_2562 v3905
  v3906
def k0_mult61 (k0_t1 : Fin k0_t1_loop.trips) : BitVec 32 :=
  let c1024_i32_2565 : BitVec 32 := 1024#32
  let c0_i32_2513 : BitVec 32 := 0#32
  let c1_i32_2514 : BitVec 32 := 1#32
  let arg22 : BitVec 32 := Scf.iv c0_i32_2513 c1_i32_2514 k0_t1
  let c4_i32_2556 : BitVec 32 := 4#32
  let v3898 : BitVec 32 := Scalar.muli arg22 c4_i32_2556
  let c0_i32_2557 : BitVec 32 := 0#32
  let v3899 : BitVec 32 := Scalar.addi v3898 c0_i32_2557
  let c32_i32_2564 : BitVec 32 := 32#32
  let v3910 : BitVec 32 := Scalar.muli v3899 c32_i32_2564
  let v3911 : BitVec 32 := Scalar.addi c1024_i32_2565 v3910
  v3911
def k0_mult62 (k0_t1 : Fin k0_t1_loop.trips) : BitVec 32 :=
  let c1536_i32_2568 : BitVec 32 := 1536#32
  let c0_i32_2513 : BitVec 32 := 0#32
  let c1_i32_2514 : BitVec 32 := 1#32
  let arg22 : BitVec 32 := Scf.iv c0_i32_2513 c1_i32_2514 k0_t1
  let c4_i32_2556 : BitVec 32 := 4#32
  let v3898 : BitVec 32 := Scalar.muli arg22 c4_i32_2556
  let c0_i32_2557 : BitVec 32 := 0#32
  let v3899 : BitVec 32 := Scalar.addi v3898 c0_i32_2557
  let c32_i32_2567 : BitVec 32 := 32#32
  let v3915 : BitVec 32 := Scalar.muli v3899 c32_i32_2567
  let v3916 : BitVec 32 := Scalar.addi c1536_i32_2568 v3915
  v3916
def k0_mult63 (k0_t1 : Fin k0_t1_loop.trips) : BitVec 32 :=
  let c0_i32_2573 : BitVec 32 := 0#32
  let c0_i32_2513 : BitVec 32 := 0#32
  let c1_i32_2514 : BitVec 32 := 1#32
  let arg22 : BitVec 32 := Scf.iv c0_i32_2513 c1_i32_2514 k0_t1
  let c4_i32_2570 : BitVec 32 := 4#32
  let v3921 : BitVec 32 := Scalar.muli arg22 c4_i32_2570
  let c0_i32_2571 : BitVec 32 := 0#32
  let v3922 : BitVec 32 := Scalar.addi v3921 c0_i32_2571
  let c32_i32_2572 : BitVec 32 := 32#32
  let v3923 : BitVec 32 := Scalar.muli v3922 c32_i32_2572
  let v3924 : BitVec 32 := Scalar.addi c0_i32_2573 v3923
  v3924
def k0_off50 (k0_t1 : Fin k0_t1_loop.trips) (c0_i32_2573 : BitVec 32) (c0_i32_2571 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2570 : BitVec 32 := 4#32
  let v3921 : BitVec 32 := Scalar.muli arg22 c4_i32_2570
  let v3922 : BitVec 32 := Scalar.addi v3921 c0_i32_2571
  let c32_i32_2572 : BitVec 32 := 32#32
  let v3923 : BitVec 32 := Scalar.muli v3922 c32_i32_2572
  let v3924 : BitVec 32 := Scalar.addi c0_i32_2573 v3923
  let v3925 : BitVec 32 := v3924
  let v3926 : Index := Scalar.indexCast v3925
  let c1408_2574 : Index := 1408#32
  ![v3926.toNat, 1408]
def k0_mult64 (k0_t1 : Fin k0_t1_loop.trips) : BitVec 32 :=
  let c512_i32_2576 : BitVec 32 := 512#32
  let c0_i32_2513 : BitVec 32 := 0#32
  let c1_i32_2514 : BitVec 32 := 1#32
  let arg22 : BitVec 32 := Scf.iv c0_i32_2513 c1_i32_2514 k0_t1
  let c4_i32_2570 : BitVec 32 := 4#32
  let v3921 : BitVec 32 := Scalar.muli arg22 c4_i32_2570
  let c0_i32_2571 : BitVec 32 := 0#32
  let v3922 : BitVec 32 := Scalar.addi v3921 c0_i32_2571
  let c32_i32_2575 : BitVec 32 := 32#32
  let v3928 : BitVec 32 := Scalar.muli v3922 c32_i32_2575
  let v3929 : BitVec 32 := Scalar.addi c512_i32_2576 v3928
  v3929
def k0_mult65 (k0_t1 : Fin k0_t1_loop.trips) : BitVec 32 :=
  let c1024_i32_2579 : BitVec 32 := 1024#32
  let c0_i32_2513 : BitVec 32 := 0#32
  let c1_i32_2514 : BitVec 32 := 1#32
  let arg22 : BitVec 32 := Scf.iv c0_i32_2513 c1_i32_2514 k0_t1
  let c4_i32_2570 : BitVec 32 := 4#32
  let v3921 : BitVec 32 := Scalar.muli arg22 c4_i32_2570
  let c0_i32_2571 : BitVec 32 := 0#32
  let v3922 : BitVec 32 := Scalar.addi v3921 c0_i32_2571
  let c32_i32_2578 : BitVec 32 := 32#32
  let v3933 : BitVec 32 := Scalar.muli v3922 c32_i32_2578
  let v3934 : BitVec 32 := Scalar.addi c1024_i32_2579 v3933
  v3934
def k0_mult66 (k0_t1 : Fin k0_t1_loop.trips) : BitVec 32 :=
  let c1536_i32_2582 : BitVec 32 := 1536#32
  let c0_i32_2513 : BitVec 32 := 0#32
  let c1_i32_2514 : BitVec 32 := 1#32
  let arg22 : BitVec 32 := Scf.iv c0_i32_2513 c1_i32_2514 k0_t1
  let c4_i32_2570 : BitVec 32 := 4#32
  let v3921 : BitVec 32 := Scalar.muli arg22 c4_i32_2570
  let c0_i32_2571 : BitVec 32 := 0#32
  let v3922 : BitVec 32 := Scalar.addi v3921 c0_i32_2571
  let c32_i32_2581 : BitVec 32 := 32#32
  let v3938 : BitVec 32 := Scalar.muli v3922 c32_i32_2581
  let v3939 : BitVec 32 := Scalar.addi c1536_i32_2582 v3938
  v3939
def k0_mult67 (k0_t1 : Fin k0_t1_loop.trips) : BitVec 32 :=
  let c0_i32_2601 : BitVec 32 := 0#32
  let c0_i32_2513 : BitVec 32 := 0#32
  let c1_i32_2514 : BitVec 32 := 1#32
  let arg22 : BitVec 32 := Scf.iv c0_i32_2513 c1_i32_2514 k0_t1
  let c4_i32_2598 : BitVec 32 := 4#32
  let v3966 : BitVec 32 := Scalar.muli arg22 c4_i32_2598
  let c1_i32_2599 : BitVec 32 := 1#32
  let v3967 : BitVec 32 := Scalar.addi v3966 c1_i32_2599
  let c32_i32_2600 : BitVec 32 := 32#32
  let v3968 : BitVec 32 := Scalar.muli v3967 c32_i32_2600
  let v3969 : BitVec 32 := Scalar.addi c0_i32_2601 v3968
  v3969
def k0_mult68 (k0_t1 : Fin k0_t1_loop.trips) : BitVec 32 :=
  let c512_i32_2604 : BitVec 32 := 512#32
  let c0_i32_2513 : BitVec 32 := 0#32
  let c1_i32_2514 : BitVec 32 := 1#32
  let arg22 : BitVec 32 := Scf.iv c0_i32_2513 c1_i32_2514 k0_t1
  let c4_i32_2598 : BitVec 32 := 4#32
  let v3966 : BitVec 32 := Scalar.muli arg22 c4_i32_2598
  let c1_i32_2599 : BitVec 32 := 1#32
  let v3967 : BitVec 32 := Scalar.addi v3966 c1_i32_2599
  let c32_i32_2603 : BitVec 32 := 32#32
  let v3973 : BitVec 32 := Scalar.muli v3967 c32_i32_2603
  let v3974 : BitVec 32 := Scalar.addi c512_i32_2604 v3973
  v3974
def k0_mult69 (k0_t1 : Fin k0_t1_loop.trips) : BitVec 32 :=
  let c1024_i32_2607 : BitVec 32 := 1024#32
  let c0_i32_2513 : BitVec 32 := 0#32
  let c1_i32_2514 : BitVec 32 := 1#32
  let arg22 : BitVec 32 := Scf.iv c0_i32_2513 c1_i32_2514 k0_t1
  let c4_i32_2598 : BitVec 32 := 4#32
  let v3966 : BitVec 32 := Scalar.muli arg22 c4_i32_2598
  let c1_i32_2599 : BitVec 32 := 1#32
  let v3967 : BitVec 32 := Scalar.addi v3966 c1_i32_2599
  let c32_i32_2606 : BitVec 32 := 32#32
  let v3978 : BitVec 32 := Scalar.muli v3967 c32_i32_2606
  let v3979 : BitVec 32 := Scalar.addi c1024_i32_2607 v3978
  v3979
def k0_mult70 (k0_t1 : Fin k0_t1_loop.trips) : BitVec 32 :=
  let c1536_i32_2610 : BitVec 32 := 1536#32
  let c0_i32_2513 : BitVec 32 := 0#32
  let c1_i32_2514 : BitVec 32 := 1#32
  let arg22 : BitVec 32 := Scf.iv c0_i32_2513 c1_i32_2514 k0_t1
  let c4_i32_2598 : BitVec 32 := 4#32
  let v3966 : BitVec 32 := Scalar.muli arg22 c4_i32_2598
  let c1_i32_2599 : BitVec 32 := 1#32
  let v3967 : BitVec 32 := Scalar.addi v3966 c1_i32_2599
  let c32_i32_2609 : BitVec 32 := 32#32
  let v3983 : BitVec 32 := Scalar.muli v3967 c32_i32_2609
  let v3984 : BitVec 32 := Scalar.addi c1536_i32_2610 v3983
  v3984
def k0_mult71 (k0_t1 : Fin k0_t1_loop.trips) : BitVec 32 :=
  let c0_i32_2615 : BitVec 32 := 0#32
  let c0_i32_2513 : BitVec 32 := 0#32
  let c1_i32_2514 : BitVec 32 := 1#32
  let arg22 : BitVec 32 := Scf.iv c0_i32_2513 c1_i32_2514 k0_t1
  let c4_i32_2612 : BitVec 32 := 4#32
  let v3989 : BitVec 32 := Scalar.muli arg22 c4_i32_2612
  let c1_i32_2613 : BitVec 32 := 1#32
  let v3990 : BitVec 32 := Scalar.addi v3989 c1_i32_2613
  let c32_i32_2614 : BitVec 32 := 32#32
  let v3991 : BitVec 32 := Scalar.muli v3990 c32_i32_2614
  let v3992 : BitVec 32 := Scalar.addi c0_i32_2615 v3991
  v3992
def k0_mult72 (k0_t1 : Fin k0_t1_loop.trips) : BitVec 32 :=
  let c512_i32_2618 : BitVec 32 := 512#32
  let c0_i32_2513 : BitVec 32 := 0#32
  let c1_i32_2514 : BitVec 32 := 1#32
  let arg22 : BitVec 32 := Scf.iv c0_i32_2513 c1_i32_2514 k0_t1
  let c4_i32_2612 : BitVec 32 := 4#32
  let v3989 : BitVec 32 := Scalar.muli arg22 c4_i32_2612
  let c1_i32_2613 : BitVec 32 := 1#32
  let v3990 : BitVec 32 := Scalar.addi v3989 c1_i32_2613
  let c32_i32_2617 : BitVec 32 := 32#32
  let v3996 : BitVec 32 := Scalar.muli v3990 c32_i32_2617
  let v3997 : BitVec 32 := Scalar.addi c512_i32_2618 v3996
  v3997
def k0_mult73 (k0_t1 : Fin k0_t1_loop.trips) : BitVec 32 :=
  let c1024_i32_2621 : BitVec 32 := 1024#32
  let c0_i32_2513 : BitVec 32 := 0#32
  let c1_i32_2514 : BitVec 32 := 1#32
  let arg22 : BitVec 32 := Scf.iv c0_i32_2513 c1_i32_2514 k0_t1
  let c4_i32_2612 : BitVec 32 := 4#32
  let v3989 : BitVec 32 := Scalar.muli arg22 c4_i32_2612
  let c1_i32_2613 : BitVec 32 := 1#32
  let v3990 : BitVec 32 := Scalar.addi v3989 c1_i32_2613
  let c32_i32_2620 : BitVec 32 := 32#32
  let v4001 : BitVec 32 := Scalar.muli v3990 c32_i32_2620
  let v4002 : BitVec 32 := Scalar.addi c1024_i32_2621 v4001
  v4002
def k0_mult74 (k0_t1 : Fin k0_t1_loop.trips) : BitVec 32 :=
  let c1536_i32_2624 : BitVec 32 := 1536#32
  let c0_i32_2513 : BitVec 32 := 0#32
  let c1_i32_2514 : BitVec 32 := 1#32
  let arg22 : BitVec 32 := Scf.iv c0_i32_2513 c1_i32_2514 k0_t1
  let c4_i32_2612 : BitVec 32 := 4#32
  let v3989 : BitVec 32 := Scalar.muli arg22 c4_i32_2612
  let c1_i32_2613 : BitVec 32 := 1#32
  let v3990 : BitVec 32 := Scalar.addi v3989 c1_i32_2613
  let c32_i32_2623 : BitVec 32 := 32#32
  let v4006 : BitVec 32 := Scalar.muli v3990 c32_i32_2623
  let v4007 : BitVec 32 := Scalar.addi c1536_i32_2624 v4006
  v4007
def k0_mult75 (k0_t1 : Fin k0_t1_loop.trips) : BitVec 32 :=
  let c0_i32_2643 : BitVec 32 := 0#32
  let c0_i32_2513 : BitVec 32 := 0#32
  let c1_i32_2514 : BitVec 32 := 1#32
  let arg22 : BitVec 32 := Scf.iv c0_i32_2513 c1_i32_2514 k0_t1
  let c4_i32_2640 : BitVec 32 := 4#32
  let v4034 : BitVec 32 := Scalar.muli arg22 c4_i32_2640
  let c1_i32_2641 : BitVec 32 := 1#32
  let v4035 : BitVec 32 := Scalar.addi v4034 c1_i32_2641
  let c32_i32_2642 : BitVec 32 := 32#32
  let v4036 : BitVec 32 := Scalar.muli v4035 c32_i32_2642
  let v4037 : BitVec 32 := Scalar.addi c0_i32_2643 v4036
  v4037
def k0_mult76 (k0_t1 : Fin k0_t1_loop.trips) : BitVec 32 :=
  let c512_i32_2646 : BitVec 32 := 512#32
  let c0_i32_2513 : BitVec 32 := 0#32
  let c1_i32_2514 : BitVec 32 := 1#32
  let arg22 : BitVec 32 := Scf.iv c0_i32_2513 c1_i32_2514 k0_t1
  let c4_i32_2640 : BitVec 32 := 4#32
  let v4034 : BitVec 32 := Scalar.muli arg22 c4_i32_2640
  let c1_i32_2641 : BitVec 32 := 1#32
  let v4035 : BitVec 32 := Scalar.addi v4034 c1_i32_2641
  let c32_i32_2645 : BitVec 32 := 32#32
  let v4041 : BitVec 32 := Scalar.muli v4035 c32_i32_2645
  let v4042 : BitVec 32 := Scalar.addi c512_i32_2646 v4041
  v4042
def k0_mult77 (k0_t1 : Fin k0_t1_loop.trips) : BitVec 32 :=
  let c1024_i32_2649 : BitVec 32 := 1024#32
  let c0_i32_2513 : BitVec 32 := 0#32
  let c1_i32_2514 : BitVec 32 := 1#32
  let arg22 : BitVec 32 := Scf.iv c0_i32_2513 c1_i32_2514 k0_t1
  let c4_i32_2640 : BitVec 32 := 4#32
  let v4034 : BitVec 32 := Scalar.muli arg22 c4_i32_2640
  let c1_i32_2641 : BitVec 32 := 1#32
  let v4035 : BitVec 32 := Scalar.addi v4034 c1_i32_2641
  let c32_i32_2648 : BitVec 32 := 32#32
  let v4046 : BitVec 32 := Scalar.muli v4035 c32_i32_2648
  let v4047 : BitVec 32 := Scalar.addi c1024_i32_2649 v4046
  v4047
def k0_mult78 (k0_t1 : Fin k0_t1_loop.trips) : BitVec 32 :=
  let c1536_i32_2652 : BitVec 32 := 1536#32
  let c0_i32_2513 : BitVec 32 := 0#32
  let c1_i32_2514 : BitVec 32 := 1#32
  let arg22 : BitVec 32 := Scf.iv c0_i32_2513 c1_i32_2514 k0_t1
  let c4_i32_2640 : BitVec 32 := 4#32
  let v4034 : BitVec 32 := Scalar.muli arg22 c4_i32_2640
  let c1_i32_2641 : BitVec 32 := 1#32
  let v4035 : BitVec 32 := Scalar.addi v4034 c1_i32_2641
  let c32_i32_2651 : BitVec 32 := 32#32
  let v4051 : BitVec 32 := Scalar.muli v4035 c32_i32_2651
  let v4052 : BitVec 32 := Scalar.addi c1536_i32_2652 v4051
  v4052
def k0_mult79 (k0_t1 : Fin k0_t1_loop.trips) : BitVec 32 :=
  let c0_i32_2657 : BitVec 32 := 0#32
  let c0_i32_2513 : BitVec 32 := 0#32
  let c1_i32_2514 : BitVec 32 := 1#32
  let arg22 : BitVec 32 := Scf.iv c0_i32_2513 c1_i32_2514 k0_t1
  let c4_i32_2654 : BitVec 32 := 4#32
  let v4057 : BitVec 32 := Scalar.muli arg22 c4_i32_2654
  let c1_i32_2655 : BitVec 32 := 1#32
  let v4058 : BitVec 32 := Scalar.addi v4057 c1_i32_2655
  let c32_i32_2656 : BitVec 32 := 32#32
  let v4059 : BitVec 32 := Scalar.muli v4058 c32_i32_2656
  let v4060 : BitVec 32 := Scalar.addi c0_i32_2657 v4059
  v4060
def k0_mult80 (k0_t1 : Fin k0_t1_loop.trips) : BitVec 32 :=
  let c512_i32_2660 : BitVec 32 := 512#32
  let c0_i32_2513 : BitVec 32 := 0#32
  let c1_i32_2514 : BitVec 32 := 1#32
  let arg22 : BitVec 32 := Scf.iv c0_i32_2513 c1_i32_2514 k0_t1
  let c4_i32_2654 : BitVec 32 := 4#32
  let v4057 : BitVec 32 := Scalar.muli arg22 c4_i32_2654
  let c1_i32_2655 : BitVec 32 := 1#32
  let v4058 : BitVec 32 := Scalar.addi v4057 c1_i32_2655
  let c32_i32_2659 : BitVec 32 := 32#32
  let v4064 : BitVec 32 := Scalar.muli v4058 c32_i32_2659
  let v4065 : BitVec 32 := Scalar.addi c512_i32_2660 v4064
  v4065
def k0_mult81 (k0_t1 : Fin k0_t1_loop.trips) : BitVec 32 :=
  let c1024_i32_2663 : BitVec 32 := 1024#32
  let c0_i32_2513 : BitVec 32 := 0#32
  let c1_i32_2514 : BitVec 32 := 1#32
  let arg22 : BitVec 32 := Scf.iv c0_i32_2513 c1_i32_2514 k0_t1
  let c4_i32_2654 : BitVec 32 := 4#32
  let v4057 : BitVec 32 := Scalar.muli arg22 c4_i32_2654
  let c1_i32_2655 : BitVec 32 := 1#32
  let v4058 : BitVec 32 := Scalar.addi v4057 c1_i32_2655
  let c32_i32_2662 : BitVec 32 := 32#32
  let v4069 : BitVec 32 := Scalar.muli v4058 c32_i32_2662
  let v4070 : BitVec 32 := Scalar.addi c1024_i32_2663 v4069
  v4070
def k0_mult82 (k0_t1 : Fin k0_t1_loop.trips) : BitVec 32 :=
  let c1536_i32_2666 : BitVec 32 := 1536#32
  let c0_i32_2513 : BitVec 32 := 0#32
  let c1_i32_2514 : BitVec 32 := 1#32
  let arg22 : BitVec 32 := Scf.iv c0_i32_2513 c1_i32_2514 k0_t1
  let c4_i32_2654 : BitVec 32 := 4#32
  let v4057 : BitVec 32 := Scalar.muli arg22 c4_i32_2654
  let c1_i32_2655 : BitVec 32 := 1#32
  let v4058 : BitVec 32 := Scalar.addi v4057 c1_i32_2655
  let c32_i32_2665 : BitVec 32 := 32#32
  let v4074 : BitVec 32 := Scalar.muli v4058 c32_i32_2665
  let v4075 : BitVec 32 := Scalar.addi c1536_i32_2666 v4074
  v4075
def k0_mult83 (k0_t1 : Fin k0_t1_loop.trips) : BitVec 32 :=
  let c0_i32_2684 : BitVec 32 := 0#32
  let c0_i32_2513 : BitVec 32 := 0#32
  let c1_i32_2514 : BitVec 32 := 1#32
  let arg22 : BitVec 32 := Scf.iv c0_i32_2513 c1_i32_2514 k0_t1
  let c4_i32_2682 : BitVec 32 := 4#32
  let v4102 : BitVec 32 := Scalar.muli arg22 c4_i32_2682
  let c2_i32 : BitVec 32 := 2#32
  let v4103 : BitVec 32 := Scalar.addi v4102 c2_i32
  let c32_i32_2683 : BitVec 32 := 32#32
  let v4104 : BitVec 32 := Scalar.muli v4103 c32_i32_2683
  let v4105 : BitVec 32 := Scalar.addi c0_i32_2684 v4104
  v4105
def k0_mult84 (k0_t1 : Fin k0_t1_loop.trips) : BitVec 32 :=
  let c512_i32_2687 : BitVec 32 := 512#32
  let c0_i32_2513 : BitVec 32 := 0#32
  let c1_i32_2514 : BitVec 32 := 1#32
  let arg22 : BitVec 32 := Scf.iv c0_i32_2513 c1_i32_2514 k0_t1
  let c4_i32_2682 : BitVec 32 := 4#32
  let v4102 : BitVec 32 := Scalar.muli arg22 c4_i32_2682
  let c2_i32 : BitVec 32 := 2#32
  let v4103 : BitVec 32 := Scalar.addi v4102 c2_i32
  let c32_i32_2686 : BitVec 32 := 32#32
  let v4109 : BitVec 32 := Scalar.muli v4103 c32_i32_2686
  let v4110 : BitVec 32 := Scalar.addi c512_i32_2687 v4109
  v4110
def k0_mult85 (k0_t1 : Fin k0_t1_loop.trips) : BitVec 32 :=
  let c1024_i32_2690 : BitVec 32 := 1024#32
  let c0_i32_2513 : BitVec 32 := 0#32
  let c1_i32_2514 : BitVec 32 := 1#32
  let arg22 : BitVec 32 := Scf.iv c0_i32_2513 c1_i32_2514 k0_t1
  let c4_i32_2682 : BitVec 32 := 4#32
  let v4102 : BitVec 32 := Scalar.muli arg22 c4_i32_2682
  let c2_i32 : BitVec 32 := 2#32
  let v4103 : BitVec 32 := Scalar.addi v4102 c2_i32
  let c32_i32_2689 : BitVec 32 := 32#32
  let v4114 : BitVec 32 := Scalar.muli v4103 c32_i32_2689
  let v4115 : BitVec 32 := Scalar.addi c1024_i32_2690 v4114
  v4115
def k0_mult86 (k0_t1 : Fin k0_t1_loop.trips) : BitVec 32 :=
  let c1536_i32_2693 : BitVec 32 := 1536#32
  let c0_i32_2513 : BitVec 32 := 0#32
  let c1_i32_2514 : BitVec 32 := 1#32
  let arg22 : BitVec 32 := Scf.iv c0_i32_2513 c1_i32_2514 k0_t1
  let c4_i32_2682 : BitVec 32 := 4#32
  let v4102 : BitVec 32 := Scalar.muli arg22 c4_i32_2682
  let c2_i32 : BitVec 32 := 2#32
  let v4103 : BitVec 32 := Scalar.addi v4102 c2_i32
  let c32_i32_2692 : BitVec 32 := 32#32
  let v4119 : BitVec 32 := Scalar.muli v4103 c32_i32_2692
  let v4120 : BitVec 32 := Scalar.addi c1536_i32_2693 v4119
  v4120
def k0_mult87 (k0_t1 : Fin k0_t1_loop.trips) : BitVec 32 :=
  let c0_i32_2698 : BitVec 32 := 0#32
  let c0_i32_2513 : BitVec 32 := 0#32
  let c1_i32_2514 : BitVec 32 := 1#32
  let arg22 : BitVec 32 := Scf.iv c0_i32_2513 c1_i32_2514 k0_t1
  let c4_i32_2695 : BitVec 32 := 4#32
  let v4125 : BitVec 32 := Scalar.muli arg22 c4_i32_2695
  let c2_i32_2696 : BitVec 32 := 2#32
  let v4126 : BitVec 32 := Scalar.addi v4125 c2_i32_2696
  let c32_i32_2697 : BitVec 32 := 32#32
  let v4127 : BitVec 32 := Scalar.muli v4126 c32_i32_2697
  let v4128 : BitVec 32 := Scalar.addi c0_i32_2698 v4127
  v4128
def k0_mult88 (k0_t1 : Fin k0_t1_loop.trips) : BitVec 32 :=
  let c512_i32_2701 : BitVec 32 := 512#32
  let c0_i32_2513 : BitVec 32 := 0#32
  let c1_i32_2514 : BitVec 32 := 1#32
  let arg22 : BitVec 32 := Scf.iv c0_i32_2513 c1_i32_2514 k0_t1
  let c4_i32_2695 : BitVec 32 := 4#32
  let v4125 : BitVec 32 := Scalar.muli arg22 c4_i32_2695
  let c2_i32_2696 : BitVec 32 := 2#32
  let v4126 : BitVec 32 := Scalar.addi v4125 c2_i32_2696
  let c32_i32_2700 : BitVec 32 := 32#32
  let v4132 : BitVec 32 := Scalar.muli v4126 c32_i32_2700
  let v4133 : BitVec 32 := Scalar.addi c512_i32_2701 v4132
  v4133
def k0_mult89 (k0_t1 : Fin k0_t1_loop.trips) : BitVec 32 :=
  let c1024_i32_2704 : BitVec 32 := 1024#32
  let c0_i32_2513 : BitVec 32 := 0#32
  let c1_i32_2514 : BitVec 32 := 1#32
  let arg22 : BitVec 32 := Scf.iv c0_i32_2513 c1_i32_2514 k0_t1
  let c4_i32_2695 : BitVec 32 := 4#32
  let v4125 : BitVec 32 := Scalar.muli arg22 c4_i32_2695
  let c2_i32_2696 : BitVec 32 := 2#32
  let v4126 : BitVec 32 := Scalar.addi v4125 c2_i32_2696
  let c32_i32_2703 : BitVec 32 := 32#32
  let v4137 : BitVec 32 := Scalar.muli v4126 c32_i32_2703
  let v4138 : BitVec 32 := Scalar.addi c1024_i32_2704 v4137
  v4138
def k0_mult90 (k0_t1 : Fin k0_t1_loop.trips) : BitVec 32 :=
  let c1536_i32_2707 : BitVec 32 := 1536#32
  let c0_i32_2513 : BitVec 32 := 0#32
  let c1_i32_2514 : BitVec 32 := 1#32
  let arg22 : BitVec 32 := Scf.iv c0_i32_2513 c1_i32_2514 k0_t1
  let c4_i32_2695 : BitVec 32 := 4#32
  let v4125 : BitVec 32 := Scalar.muli arg22 c4_i32_2695
  let c2_i32_2696 : BitVec 32 := 2#32
  let v4126 : BitVec 32 := Scalar.addi v4125 c2_i32_2696
  let c32_i32_2706 : BitVec 32 := 32#32
  let v4142 : BitVec 32 := Scalar.muli v4126 c32_i32_2706
  let v4143 : BitVec 32 := Scalar.addi c1536_i32_2707 v4142
  v4143
def k0_mult91 (k0_t1 : Fin k0_t1_loop.trips) : BitVec 32 :=
  let c0_i32_2726 : BitVec 32 := 0#32
  let c0_i32_2513 : BitVec 32 := 0#32
  let c1_i32_2514 : BitVec 32 := 1#32
  let arg22 : BitVec 32 := Scf.iv c0_i32_2513 c1_i32_2514 k0_t1
  let c4_i32_2723 : BitVec 32 := 4#32
  let v4170 : BitVec 32 := Scalar.muli arg22 c4_i32_2723
  let c2_i32_2724 : BitVec 32 := 2#32
  let v4171 : BitVec 32 := Scalar.addi v4170 c2_i32_2724
  let c32_i32_2725 : BitVec 32 := 32#32
  let v4172 : BitVec 32 := Scalar.muli v4171 c32_i32_2725
  let v4173 : BitVec 32 := Scalar.addi c0_i32_2726 v4172
  v4173
def k0_mult92 (k0_t1 : Fin k0_t1_loop.trips) : BitVec 32 :=
  let c512_i32_2729 : BitVec 32 := 512#32
  let c0_i32_2513 : BitVec 32 := 0#32
  let c1_i32_2514 : BitVec 32 := 1#32
  let arg22 : BitVec 32 := Scf.iv c0_i32_2513 c1_i32_2514 k0_t1
  let c4_i32_2723 : BitVec 32 := 4#32
  let v4170 : BitVec 32 := Scalar.muli arg22 c4_i32_2723
  let c2_i32_2724 : BitVec 32 := 2#32
  let v4171 : BitVec 32 := Scalar.addi v4170 c2_i32_2724
  let c32_i32_2728 : BitVec 32 := 32#32
  let v4177 : BitVec 32 := Scalar.muli v4171 c32_i32_2728
  let v4178 : BitVec 32 := Scalar.addi c512_i32_2729 v4177
  v4178
def k0_mult93 (k0_t1 : Fin k0_t1_loop.trips) : BitVec 32 :=
  let c1024_i32_2732 : BitVec 32 := 1024#32
  let c0_i32_2513 : BitVec 32 := 0#32
  let c1_i32_2514 : BitVec 32 := 1#32
  let arg22 : BitVec 32 := Scf.iv c0_i32_2513 c1_i32_2514 k0_t1
  let c4_i32_2723 : BitVec 32 := 4#32
  let v4170 : BitVec 32 := Scalar.muli arg22 c4_i32_2723
  let c2_i32_2724 : BitVec 32 := 2#32
  let v4171 : BitVec 32 := Scalar.addi v4170 c2_i32_2724
  let c32_i32_2731 : BitVec 32 := 32#32
  let v4182 : BitVec 32 := Scalar.muli v4171 c32_i32_2731
  let v4183 : BitVec 32 := Scalar.addi c1024_i32_2732 v4182
  v4183
def k0_mult94 (k0_t1 : Fin k0_t1_loop.trips) : BitVec 32 :=
  let c1536_i32_2735 : BitVec 32 := 1536#32
  let c0_i32_2513 : BitVec 32 := 0#32
  let c1_i32_2514 : BitVec 32 := 1#32
  let arg22 : BitVec 32 := Scf.iv c0_i32_2513 c1_i32_2514 k0_t1
  let c4_i32_2723 : BitVec 32 := 4#32
  let v4170 : BitVec 32 := Scalar.muli arg22 c4_i32_2723
  let c2_i32_2724 : BitVec 32 := 2#32
  let v4171 : BitVec 32 := Scalar.addi v4170 c2_i32_2724
  let c32_i32_2734 : BitVec 32 := 32#32
  let v4187 : BitVec 32 := Scalar.muli v4171 c32_i32_2734
  let v4188 : BitVec 32 := Scalar.addi c1536_i32_2735 v4187
  v4188
def k0_mult95 (k0_t1 : Fin k0_t1_loop.trips) : BitVec 32 :=
  let c0_i32_2740 : BitVec 32 := 0#32
  let c0_i32_2513 : BitVec 32 := 0#32
  let c1_i32_2514 : BitVec 32 := 1#32
  let arg22 : BitVec 32 := Scf.iv c0_i32_2513 c1_i32_2514 k0_t1
  let c4_i32_2737 : BitVec 32 := 4#32
  let v4193 : BitVec 32 := Scalar.muli arg22 c4_i32_2737
  let c2_i32_2738 : BitVec 32 := 2#32
  let v4194 : BitVec 32 := Scalar.addi v4193 c2_i32_2738
  let c32_i32_2739 : BitVec 32 := 32#32
  let v4195 : BitVec 32 := Scalar.muli v4194 c32_i32_2739
  let v4196 : BitVec 32 := Scalar.addi c0_i32_2740 v4195
  v4196
def k0_mult96 (k0_t1 : Fin k0_t1_loop.trips) : BitVec 32 :=
  let c512_i32_2743 : BitVec 32 := 512#32
  let c0_i32_2513 : BitVec 32 := 0#32
  let c1_i32_2514 : BitVec 32 := 1#32
  let arg22 : BitVec 32 := Scf.iv c0_i32_2513 c1_i32_2514 k0_t1
  let c4_i32_2737 : BitVec 32 := 4#32
  let v4193 : BitVec 32 := Scalar.muli arg22 c4_i32_2737
  let c2_i32_2738 : BitVec 32 := 2#32
  let v4194 : BitVec 32 := Scalar.addi v4193 c2_i32_2738
  let c32_i32_2742 : BitVec 32 := 32#32
  let v4200 : BitVec 32 := Scalar.muli v4194 c32_i32_2742
  let v4201 : BitVec 32 := Scalar.addi c512_i32_2743 v4200
  v4201
def k0_mult97 (k0_t1 : Fin k0_t1_loop.trips) : BitVec 32 :=
  let c1024_i32_2746 : BitVec 32 := 1024#32
  let c0_i32_2513 : BitVec 32 := 0#32
  let c1_i32_2514 : BitVec 32 := 1#32
  let arg22 : BitVec 32 := Scf.iv c0_i32_2513 c1_i32_2514 k0_t1
  let c4_i32_2737 : BitVec 32 := 4#32
  let v4193 : BitVec 32 := Scalar.muli arg22 c4_i32_2737
  let c2_i32_2738 : BitVec 32 := 2#32
  let v4194 : BitVec 32 := Scalar.addi v4193 c2_i32_2738
  let c32_i32_2745 : BitVec 32 := 32#32
  let v4205 : BitVec 32 := Scalar.muli v4194 c32_i32_2745
  let v4206 : BitVec 32 := Scalar.addi c1024_i32_2746 v4205
  v4206
def k0_mult98 (k0_t1 : Fin k0_t1_loop.trips) : BitVec 32 :=
  let c1536_i32_2749 : BitVec 32 := 1536#32
  let c0_i32_2513 : BitVec 32 := 0#32
  let c1_i32_2514 : BitVec 32 := 1#32
  let arg22 : BitVec 32 := Scf.iv c0_i32_2513 c1_i32_2514 k0_t1
  let c4_i32_2737 : BitVec 32 := 4#32
  let v4193 : BitVec 32 := Scalar.muli arg22 c4_i32_2737
  let c2_i32_2738 : BitVec 32 := 2#32
  let v4194 : BitVec 32 := Scalar.addi v4193 c2_i32_2738
  let c32_i32_2748 : BitVec 32 := 32#32
  let v4210 : BitVec 32 := Scalar.muli v4194 c32_i32_2748
  let v4211 : BitVec 32 := Scalar.addi c1536_i32_2749 v4210
  v4211
def k0_mult99 (k0_t1 : Fin k0_t1_loop.trips) : BitVec 32 :=
  let c0_i32_2768 : BitVec 32 := 0#32
  let c0_i32_2513 : BitVec 32 := 0#32
  let c1_i32_2514 : BitVec 32 := 1#32
  let arg22 : BitVec 32 := Scf.iv c0_i32_2513 c1_i32_2514 k0_t1
  let c4_i32_2765 : BitVec 32 := 4#32
  let v4238 : BitVec 32 := Scalar.muli arg22 c4_i32_2765
  let c3_i32_2766 : BitVec 32 := 3#32
  let v4239 : BitVec 32 := Scalar.addi v4238 c3_i32_2766
  let c32_i32_2767 : BitVec 32 := 32#32
  let v4240 : BitVec 32 := Scalar.muli v4239 c32_i32_2767
  let v4241 : BitVec 32 := Scalar.addi c0_i32_2768 v4240
  v4241
def k0_mult100 (k0_t1 : Fin k0_t1_loop.trips) : BitVec 32 :=
  let c512_i32_2771 : BitVec 32 := 512#32
  let c0_i32_2513 : BitVec 32 := 0#32
  let c1_i32_2514 : BitVec 32 := 1#32
  let arg22 : BitVec 32 := Scf.iv c0_i32_2513 c1_i32_2514 k0_t1
  let c4_i32_2765 : BitVec 32 := 4#32
  let v4238 : BitVec 32 := Scalar.muli arg22 c4_i32_2765
  let c3_i32_2766 : BitVec 32 := 3#32
  let v4239 : BitVec 32 := Scalar.addi v4238 c3_i32_2766
  let c32_i32_2770 : BitVec 32 := 32#32
  let v4245 : BitVec 32 := Scalar.muli v4239 c32_i32_2770
  let v4246 : BitVec 32 := Scalar.addi c512_i32_2771 v4245
  v4246
def k0_mult101 (k0_t1 : Fin k0_t1_loop.trips) : BitVec 32 :=
  let c1024_i32_2774 : BitVec 32 := 1024#32
  let c0_i32_2513 : BitVec 32 := 0#32
  let c1_i32_2514 : BitVec 32 := 1#32
  let arg22 : BitVec 32 := Scf.iv c0_i32_2513 c1_i32_2514 k0_t1
  let c4_i32_2765 : BitVec 32 := 4#32
  let v4238 : BitVec 32 := Scalar.muli arg22 c4_i32_2765
  let c3_i32_2766 : BitVec 32 := 3#32
  let v4239 : BitVec 32 := Scalar.addi v4238 c3_i32_2766
  let c32_i32_2773 : BitVec 32 := 32#32
  let v4250 : BitVec 32 := Scalar.muli v4239 c32_i32_2773
  let v4251 : BitVec 32 := Scalar.addi c1024_i32_2774 v4250
  v4251
def k0_mult102 (k0_t1 : Fin k0_t1_loop.trips) : BitVec 32 :=
  let c1536_i32_2777 : BitVec 32 := 1536#32
  let c0_i32_2513 : BitVec 32 := 0#32
  let c1_i32_2514 : BitVec 32 := 1#32
  let arg22 : BitVec 32 := Scf.iv c0_i32_2513 c1_i32_2514 k0_t1
  let c4_i32_2765 : BitVec 32 := 4#32
  let v4238 : BitVec 32 := Scalar.muli arg22 c4_i32_2765
  let c3_i32_2766 : BitVec 32 := 3#32
  let v4239 : BitVec 32 := Scalar.addi v4238 c3_i32_2766
  let c32_i32_2776 : BitVec 32 := 32#32
  let v4255 : BitVec 32 := Scalar.muli v4239 c32_i32_2776
  let v4256 : BitVec 32 := Scalar.addi c1536_i32_2777 v4255
  v4256
def k0_mult103 (k0_t1 : Fin k0_t1_loop.trips) : BitVec 32 :=
  let c0_i32_2782 : BitVec 32 := 0#32
  let c0_i32_2513 : BitVec 32 := 0#32
  let c1_i32_2514 : BitVec 32 := 1#32
  let arg22 : BitVec 32 := Scf.iv c0_i32_2513 c1_i32_2514 k0_t1
  let c4_i32_2779 : BitVec 32 := 4#32
  let v4261 : BitVec 32 := Scalar.muli arg22 c4_i32_2779
  let c3_i32_2780 : BitVec 32 := 3#32
  let v4262 : BitVec 32 := Scalar.addi v4261 c3_i32_2780
  let c32_i32_2781 : BitVec 32 := 32#32
  let v4263 : BitVec 32 := Scalar.muli v4262 c32_i32_2781
  let v4264 : BitVec 32 := Scalar.addi c0_i32_2782 v4263
  v4264
def k0_mult104 (k0_t1 : Fin k0_t1_loop.trips) : BitVec 32 :=
  let c512_i32_2785 : BitVec 32 := 512#32
  let c0_i32_2513 : BitVec 32 := 0#32
  let c1_i32_2514 : BitVec 32 := 1#32
  let arg22 : BitVec 32 := Scf.iv c0_i32_2513 c1_i32_2514 k0_t1
  let c4_i32_2779 : BitVec 32 := 4#32
  let v4261 : BitVec 32 := Scalar.muli arg22 c4_i32_2779
  let c3_i32_2780 : BitVec 32 := 3#32
  let v4262 : BitVec 32 := Scalar.addi v4261 c3_i32_2780
  let c32_i32_2784 : BitVec 32 := 32#32
  let v4268 : BitVec 32 := Scalar.muli v4262 c32_i32_2784
  let v4269 : BitVec 32 := Scalar.addi c512_i32_2785 v4268
  v4269
def k0_mult105 (k0_t1 : Fin k0_t1_loop.trips) : BitVec 32 :=
  let c1024_i32_2788 : BitVec 32 := 1024#32
  let c0_i32_2513 : BitVec 32 := 0#32
  let c1_i32_2514 : BitVec 32 := 1#32
  let arg22 : BitVec 32 := Scf.iv c0_i32_2513 c1_i32_2514 k0_t1
  let c4_i32_2779 : BitVec 32 := 4#32
  let v4261 : BitVec 32 := Scalar.muli arg22 c4_i32_2779
  let c3_i32_2780 : BitVec 32 := 3#32
  let v4262 : BitVec 32 := Scalar.addi v4261 c3_i32_2780
  let c32_i32_2787 : BitVec 32 := 32#32
  let v4273 : BitVec 32 := Scalar.muli v4262 c32_i32_2787
  let v4274 : BitVec 32 := Scalar.addi c1024_i32_2788 v4273
  v4274
def k0_mult106 (k0_t1 : Fin k0_t1_loop.trips) : BitVec 32 :=
  let c1536_i32_2791 : BitVec 32 := 1536#32
  let c0_i32_2513 : BitVec 32 := 0#32
  let c1_i32_2514 : BitVec 32 := 1#32
  let arg22 : BitVec 32 := Scf.iv c0_i32_2513 c1_i32_2514 k0_t1
  let c4_i32_2779 : BitVec 32 := 4#32
  let v4261 : BitVec 32 := Scalar.muli arg22 c4_i32_2779
  let c3_i32_2780 : BitVec 32 := 3#32
  let v4262 : BitVec 32 := Scalar.addi v4261 c3_i32_2780
  let c32_i32_2790 : BitVec 32 := 32#32
  let v4278 : BitVec 32 := Scalar.muli v4262 c32_i32_2790
  let v4279 : BitVec 32 := Scalar.addi c1536_i32_2791 v4278
  v4279
def k0_mult107 (k0_t1 : Fin k0_t1_loop.trips) : BitVec 32 :=
  let c0_i32_2810 : BitVec 32 := 0#32
  let c0_i32_2513 : BitVec 32 := 0#32
  let c1_i32_2514 : BitVec 32 := 1#32
  let arg22 : BitVec 32 := Scf.iv c0_i32_2513 c1_i32_2514 k0_t1
  let c4_i32_2807 : BitVec 32 := 4#32
  let v4306 : BitVec 32 := Scalar.muli arg22 c4_i32_2807
  let c3_i32_2808 : BitVec 32 := 3#32
  let v4307 : BitVec 32 := Scalar.addi v4306 c3_i32_2808
  let c32_i32_2809 : BitVec 32 := 32#32
  let v4308 : BitVec 32 := Scalar.muli v4307 c32_i32_2809
  let v4309 : BitVec 32 := Scalar.addi c0_i32_2810 v4308
  v4309
def k0_mult108 (k0_t1 : Fin k0_t1_loop.trips) : BitVec 32 :=
  let c512_i32_2813 : BitVec 32 := 512#32
  let c0_i32_2513 : BitVec 32 := 0#32
  let c1_i32_2514 : BitVec 32 := 1#32
  let arg22 : BitVec 32 := Scf.iv c0_i32_2513 c1_i32_2514 k0_t1
  let c4_i32_2807 : BitVec 32 := 4#32
  let v4306 : BitVec 32 := Scalar.muli arg22 c4_i32_2807
  let c3_i32_2808 : BitVec 32 := 3#32
  let v4307 : BitVec 32 := Scalar.addi v4306 c3_i32_2808
  let c32_i32_2812 : BitVec 32 := 32#32
  let v4313 : BitVec 32 := Scalar.muli v4307 c32_i32_2812
  let v4314 : BitVec 32 := Scalar.addi c512_i32_2813 v4313
  v4314
def k0_mult109 (k0_t1 : Fin k0_t1_loop.trips) : BitVec 32 :=
  let c1024_i32_2816 : BitVec 32 := 1024#32
  let c0_i32_2513 : BitVec 32 := 0#32
  let c1_i32_2514 : BitVec 32 := 1#32
  let arg22 : BitVec 32 := Scf.iv c0_i32_2513 c1_i32_2514 k0_t1
  let c4_i32_2807 : BitVec 32 := 4#32
  let v4306 : BitVec 32 := Scalar.muli arg22 c4_i32_2807
  let c3_i32_2808 : BitVec 32 := 3#32
  let v4307 : BitVec 32 := Scalar.addi v4306 c3_i32_2808
  let c32_i32_2815 : BitVec 32 := 32#32
  let v4318 : BitVec 32 := Scalar.muli v4307 c32_i32_2815
  let v4319 : BitVec 32 := Scalar.addi c1024_i32_2816 v4318
  v4319
def k0_mult110 (k0_t1 : Fin k0_t1_loop.trips) : BitVec 32 :=
  let c1536_i32_2819 : BitVec 32 := 1536#32
  let c0_i32_2513 : BitVec 32 := 0#32
  let c1_i32_2514 : BitVec 32 := 1#32
  let arg22 : BitVec 32 := Scf.iv c0_i32_2513 c1_i32_2514 k0_t1
  let c4_i32_2807 : BitVec 32 := 4#32
  let v4306 : BitVec 32 := Scalar.muli arg22 c4_i32_2807
  let c3_i32_2808 : BitVec 32 := 3#32
  let v4307 : BitVec 32 := Scalar.addi v4306 c3_i32_2808
  let c32_i32_2818 : BitVec 32 := 32#32
  let v4323 : BitVec 32 := Scalar.muli v4307 c32_i32_2818
  let v4324 : BitVec 32 := Scalar.addi c1536_i32_2819 v4323
  v4324
def k0_mult111 (k0_t1 : Fin k0_t1_loop.trips) : BitVec 32 :=
  let c0_i32_2824 : BitVec 32 := 0#32
  let c0_i32_2513 : BitVec 32 := 0#32
  let c1_i32_2514 : BitVec 32 := 1#32
  let arg22 : BitVec 32 := Scf.iv c0_i32_2513 c1_i32_2514 k0_t1
  let c4_i32_2821 : BitVec 32 := 4#32
  let v4329 : BitVec 32 := Scalar.muli arg22 c4_i32_2821
  let c3_i32_2822 : BitVec 32 := 3#32
  let v4330 : BitVec 32 := Scalar.addi v4329 c3_i32_2822
  let c32_i32_2823 : BitVec 32 := 32#32
  let v4331 : BitVec 32 := Scalar.muli v4330 c32_i32_2823
  let v4332 : BitVec 32 := Scalar.addi c0_i32_2824 v4331
  v4332
def k0_mult112 (k0_t1 : Fin k0_t1_loop.trips) : BitVec 32 :=
  let c512_i32_2827 : BitVec 32 := 512#32
  let c0_i32_2513 : BitVec 32 := 0#32
  let c1_i32_2514 : BitVec 32 := 1#32
  let arg22 : BitVec 32 := Scf.iv c0_i32_2513 c1_i32_2514 k0_t1
  let c4_i32_2821 : BitVec 32 := 4#32
  let v4329 : BitVec 32 := Scalar.muli arg22 c4_i32_2821
  let c3_i32_2822 : BitVec 32 := 3#32
  let v4330 : BitVec 32 := Scalar.addi v4329 c3_i32_2822
  let c32_i32_2826 : BitVec 32 := 32#32
  let v4336 : BitVec 32 := Scalar.muli v4330 c32_i32_2826
  let v4337 : BitVec 32 := Scalar.addi c512_i32_2827 v4336
  v4337
def k0_mult113 (k0_t1 : Fin k0_t1_loop.trips) : BitVec 32 :=
  let c1024_i32_2830 : BitVec 32 := 1024#32
  let c0_i32_2513 : BitVec 32 := 0#32
  let c1_i32_2514 : BitVec 32 := 1#32
  let arg22 : BitVec 32 := Scf.iv c0_i32_2513 c1_i32_2514 k0_t1
  let c4_i32_2821 : BitVec 32 := 4#32
  let v4329 : BitVec 32 := Scalar.muli arg22 c4_i32_2821
  let c3_i32_2822 : BitVec 32 := 3#32
  let v4330 : BitVec 32 := Scalar.addi v4329 c3_i32_2822
  let c32_i32_2829 : BitVec 32 := 32#32
  let v4341 : BitVec 32 := Scalar.muli v4330 c32_i32_2829
  let v4342 : BitVec 32 := Scalar.addi c1024_i32_2830 v4341
  v4342
def k0_mult114 (k0_t1 : Fin k0_t1_loop.trips) : BitVec 32 :=
  let c1536_i32_2833 : BitVec 32 := 1536#32
  let c0_i32_2513 : BitVec 32 := 0#32
  let c1_i32_2514 : BitVec 32 := 1#32
  let arg22 : BitVec 32 := Scf.iv c0_i32_2513 c1_i32_2514 k0_t1
  let c4_i32_2821 : BitVec 32 := 4#32
  let v4329 : BitVec 32 := Scalar.muli arg22 c4_i32_2821
  let c3_i32_2822 : BitVec 32 := 3#32
  let v4330 : BitVec 32 := Scalar.addi v4329 c3_i32_2822
  let c32_i32_2832 : BitVec 32 := 32#32
  let v4346 : BitVec 32 := Scalar.muli v4330 c32_i32_2832
  let v4347 : BitVec 32 := Scalar.addi c1536_i32_2833 v4346
  v4347
def k0_mult115 (k0_t1 : Fin k0_t1_loop.trips) : BitVec 32 :=
  let c0_i32_2852 : BitVec 32 := 0#32
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let c0_i32_2850 : BitVec 32 := 0#32
  let v4375 : BitVec 32 := Scalar.addi v4374 c0_i32_2850
  let c32_i32_2851 : BitVec 32 := 32#32
  let v4376 : BitVec 32 := Scalar.muli v4375 c32_i32_2851
  let v4377 : BitVec 32 := Scalar.addi c0_i32_2852 v4376
  v4377
def k0_off51 (k0_t1 : Fin k0_t1_loop.trips) (c0_i32_2852 : BitVec 32) (c0_i32_2850 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let v4375 : BitVec 32 := Scalar.addi v4374 c0_i32_2850
  let c32_i32_2851 : BitVec 32 := 32#32
  let v4376 : BitVec 32 := Scalar.muli v4375 c32_i32_2851
  let v4377 : BitVec 32 := Scalar.addi c0_i32_2852 v4376
  let v4378 : BitVec 32 := v4377
  let v4379 : Index := Scalar.indexCast v4378
  let c2048_2853 : Index := 2048#32
  ![v4379.toNat, 2048]
def k0_mult116 (k0_t1 : Fin k0_t1_loop.trips) : BitVec 32 :=
  let c512_i32_2855 : BitVec 32 := 512#32
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let c0_i32_2850 : BitVec 32 := 0#32
  let v4375 : BitVec 32 := Scalar.addi v4374 c0_i32_2850
  let c32_i32_2854 : BitVec 32 := 32#32
  let v4381 : BitVec 32 := Scalar.muli v4375 c32_i32_2854
  let v4382 : BitVec 32 := Scalar.addi c512_i32_2855 v4381
  v4382
def k0_mult117 (k0_t1 : Fin k0_t1_loop.trips) : BitVec 32 :=
  let c1024_i32_2858 : BitVec 32 := 1024#32
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let c0_i32_2850 : BitVec 32 := 0#32
  let v4375 : BitVec 32 := Scalar.addi v4374 c0_i32_2850
  let c32_i32_2857 : BitVec 32 := 32#32
  let v4386 : BitVec 32 := Scalar.muli v4375 c32_i32_2857
  let v4387 : BitVec 32 := Scalar.addi c1024_i32_2858 v4386
  v4387
def k0_mult118 (k0_t1 : Fin k0_t1_loop.trips) : BitVec 32 :=
  let c1536_i32_2861 : BitVec 32 := 1536#32
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let c0_i32_2850 : BitVec 32 := 0#32
  let v4375 : BitVec 32 := Scalar.addi v4374 c0_i32_2850
  let c32_i32_2860 : BitVec 32 := 32#32
  let v4391 : BitVec 32 := Scalar.muli v4375 c32_i32_2860
  let v4392 : BitVec 32 := Scalar.addi c1536_i32_2861 v4391
  v4392
def k0_off52 (k0_t1 : Fin k0_t1_loop.trips) (c0_i32_2865 : BitVec 32) : Fin 4 → Nat :=
  let c2_2866 : Index := 2#32
  let c0_2867 : Index := 0#32
  let c0_i32_2513 : BitVec 32 := 0#32
  let c1_i32_2514 : BitVec 32 := 1#32
  let arg22 : BitVec 32 := Scf.iv c0_i32_2513 c1_i32_2514 k0_t1
  let v4411 : BitVec 32 := Scalar.addi c0_i32_2865 arg22
  let v4415 : Index := Scalar.indexCast v4411
  let c0_2868 : Index := 0#32
  ![2, 0, v4415.toNat, 0]
def k0_off53 (k0_t1 : Fin k0_t1_loop.trips) (c0_i32_2865 : BitVec 32) : Fin 4 → Nat :=
  let c0_2869 : Index := 0#32
  let c0_2870 : Index := 0#32
  let c0_i32_2513 : BitVec 32 := 0#32
  let c1_i32_2514 : BitVec 32 := 1#32
  let arg22 : BitVec 32 := Scf.iv c0_i32_2513 c1_i32_2514 k0_t1
  let v4411 : BitVec 32 := Scalar.addi c0_i32_2865 arg22
  let v4423 : Index := Scalar.indexCast v4411
  let c0_2871 : Index := 0#32
  ![0, 0, v4423.toNat, 0]
def k0_off54 (k0_t1 : Fin k0_t1_loop.trips) (c0_i32_2865 : BitVec 32) : Fin 4 → Nat :=
  let c1_2872 : Index := 1#32
  let c0_2873 : Index := 0#32
  let c0_i32_2513 : BitVec 32 := 0#32
  let c1_i32_2514 : BitVec 32 := 1#32
  let arg22 : BitVec 32 := Scf.iv c0_i32_2513 c1_i32_2514 k0_t1
  let v4411 : BitVec 32 := Scalar.addi c0_i32_2865 arg22
  let v4429 : Index := Scalar.indexCast v4411
  let c0_2874 : Index := 0#32
  ![1, 0, v4429.toNat, 0]
def k0_off55 (k0_t1 : Fin k0_t1_loop.trips) (c0_i32_2850 : BitVec 32) : Fin 4 → Nat :=
  let c0_2905 : Index := 0#32
  let c0_2906 : Index := 0#32
  let c0_i32_2513 : BitVec 32 := 0#32
  let c1_i32_2514 : BitVec 32 := 1#32
  let arg22 : BitVec 32 := Scf.iv c0_i32_2513 c1_i32_2514 k0_t1
  let c4_i32_2849 : BitVec 32 := 4#32
  let v4374 : BitVec 32 := Scalar.muli arg22 c4_i32_2849
  let v4375 : BitVec 32 := Scalar.addi v4374 c0_i32_2850
  let v4512 : Index := Scalar.indexCast v4375
  let c0_2907 : Index := 0#32
  ![0, 0, v4512.toNat, 0]
def k0_mult119 (k0_t1 : Fin k0_t1_loop.trips) : BitVec 32 :=
  let c0_i32_2911 : BitVec 32 := 0#32
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let c0_i32_2909 : BitVec 32 := 0#32
  let v4517 : BitVec 32 := Scalar.addi v4516 c0_i32_2909
  let c32_i32_2910 : BitVec 32 := 32#32
  let v4518 : BitVec 32 := Scalar.muli v4517 c32_i32_2910
  let v4519 : BitVec 32 := Scalar.addi c0_i32_2911 v4518
  v4519
def k0_off56 (k0_t1 : Fin k0_t1_loop.trips) (c0_i32_2911 : BitVec 32) (c0_i32_2909 : BitVec 32) : Fin 2 → Nat :=
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let v4517 : BitVec 32 := Scalar.addi v4516 c0_i32_2909
  let c32_i32_2910 : BitVec 32 := 32#32
  let v4518 : BitVec 32 := Scalar.muli v4517 c32_i32_2910
  let v4519 : BitVec 32 := Scalar.addi c0_i32_2911 v4518
  let v4520 : BitVec 32 := v4519
  let v4521 : Index := Scalar.indexCast v4520
  let c2176_2912 : Index := 2176#32
  ![v4521.toNat, 2176]
def k0_mult120 (k0_t1 : Fin k0_t1_loop.trips) : BitVec 32 :=
  let c512_i32_2914 : BitVec 32 := 512#32
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let c0_i32_2909 : BitVec 32 := 0#32
  let v4517 : BitVec 32 := Scalar.addi v4516 c0_i32_2909
  let c32_i32_2913 : BitVec 32 := 32#32
  let v4523 : BitVec 32 := Scalar.muli v4517 c32_i32_2913
  let v4524 : BitVec 32 := Scalar.addi c512_i32_2914 v4523
  v4524
def k0_mult121 (k0_t1 : Fin k0_t1_loop.trips) : BitVec 32 :=
  let c1024_i32_2917 : BitVec 32 := 1024#32
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let c0_i32_2909 : BitVec 32 := 0#32
  let v4517 : BitVec 32 := Scalar.addi v4516 c0_i32_2909
  let c32_i32_2916 : BitVec 32 := 32#32
  let v4528 : BitVec 32 := Scalar.muli v4517 c32_i32_2916
  let v4529 : BitVec 32 := Scalar.addi c1024_i32_2917 v4528
  v4529
def k0_mult122 (k0_t1 : Fin k0_t1_loop.trips) : BitVec 32 :=
  let c1536_i32_2920 : BitVec 32 := 1536#32
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let c0_i32_2909 : BitVec 32 := 0#32
  let v4517 : BitVec 32 := Scalar.addi v4516 c0_i32_2909
  let c32_i32_2919 : BitVec 32 := 32#32
  let v4533 : BitVec 32 := Scalar.muli v4517 c32_i32_2919
  let v4534 : BitVec 32 := Scalar.addi c1536_i32_2920 v4533
  v4534
def k0_off57 (k0_t1 : Fin k0_t1_loop.trips) (c0_i32_2924 : BitVec 32) : Fin 4 → Nat :=
  let c2_2925 : Index := 2#32
  let c1_2926 : Index := 1#32
  let c0_i32_2513 : BitVec 32 := 0#32
  let c1_i32_2514 : BitVec 32 := 1#32
  let arg22 : BitVec 32 := Scf.iv c0_i32_2513 c1_i32_2514 k0_t1
  let v4553 : BitVec 32 := Scalar.addi c0_i32_2924 arg22
  let v4557 : Index := Scalar.indexCast v4553
  let c0_2927 : Index := 0#32
  ![2, 1, v4557.toNat, 0]
def k0_off58 (k0_t1 : Fin k0_t1_loop.trips) (c0_i32_2924 : BitVec 32) : Fin 4 → Nat :=
  let c0_2928 : Index := 0#32
  let c1_2929 : Index := 1#32
  let c0_i32_2513 : BitVec 32 := 0#32
  let c1_i32_2514 : BitVec 32 := 1#32
  let arg22 : BitVec 32 := Scf.iv c0_i32_2513 c1_i32_2514 k0_t1
  let v4553 : BitVec 32 := Scalar.addi c0_i32_2924 arg22
  let v4565 : Index := Scalar.indexCast v4553
  let c0_2930 : Index := 0#32
  ![0, 1, v4565.toNat, 0]
def k0_off59 (k0_t1 : Fin k0_t1_loop.trips) (c0_i32_2924 : BitVec 32) : Fin 4 → Nat :=
  let c1_2931 : Index := 1#32
  let c1_2932 : Index := 1#32
  let c0_i32_2513 : BitVec 32 := 0#32
  let c1_i32_2514 : BitVec 32 := 1#32
  let arg22 : BitVec 32 := Scf.iv c0_i32_2513 c1_i32_2514 k0_t1
  let v4553 : BitVec 32 := Scalar.addi c0_i32_2924 arg22
  let v4571 : Index := Scalar.indexCast v4553
  let c0_2933 : Index := 0#32
  ![1, 1, v4571.toNat, 0]
def k0_off60 (k0_t1 : Fin k0_t1_loop.trips) (c0_i32_2909 : BitVec 32) : Fin 4 → Nat :=
  let c0_2964 : Index := 0#32
  let c1_2965 : Index := 1#32
  let c0_i32_2513 : BitVec 32 := 0#32
  let c1_i32_2514 : BitVec 32 := 1#32
  let arg22 : BitVec 32 := Scf.iv c0_i32_2513 c1_i32_2514 k0_t1
  let c4_i32_2908 : BitVec 32 := 4#32
  let v4516 : BitVec 32 := Scalar.muli arg22 c4_i32_2908
  let v4517 : BitVec 32 := Scalar.addi v4516 c0_i32_2909
  let v4654 : Index := Scalar.indexCast v4517
  let c0_2966 : Index := 0#32
  ![0, 1, v4654.toNat, 0]
def k0_mult123 (k0_t1 : Fin k0_t1_loop.trips) : BitVec 32 :=
  let c0_i32_2970 : BitVec 32 := 0#32
  let c0_i32_2513 : BitVec 32 := 0#32
  let c1_i32_2514 : BitVec 32 := 1#32
  let arg22 : BitVec 32 := Scf.iv c0_i32_2513 c1_i32_2514 k0_t1
  let c4_i32_2967 : BitVec 32 := 4#32
  let v4658 : BitVec 32 := Scalar.muli arg22 c4_i32_2967
  let c1_i32_2968 : BitVec 32 := 1#32
  let v4659 : BitVec 32 := Scalar.addi v4658 c1_i32_2968
  let c32_i32_2969 : BitVec 32 := 32#32
  let v4660 : BitVec 32 := Scalar.muli v4659 c32_i32_2969
  let v4661 : BitVec 32 := Scalar.addi c0_i32_2970 v4660
  v4661
def k0_mult124 (k0_t1 : Fin k0_t1_loop.trips) : BitVec 32 :=
  let c512_i32_2973 : BitVec 32 := 512#32
  let c0_i32_2513 : BitVec 32 := 0#32
  let c1_i32_2514 : BitVec 32 := 1#32
  let arg22 : BitVec 32 := Scf.iv c0_i32_2513 c1_i32_2514 k0_t1
  let c4_i32_2967 : BitVec 32 := 4#32
  let v4658 : BitVec 32 := Scalar.muli arg22 c4_i32_2967
  let c1_i32_2968 : BitVec 32 := 1#32
  let v4659 : BitVec 32 := Scalar.addi v4658 c1_i32_2968
  let c32_i32_2972 : BitVec 32 := 32#32
  let v4665 : BitVec 32 := Scalar.muli v4659 c32_i32_2972
  let v4666 : BitVec 32 := Scalar.addi c512_i32_2973 v4665
  v4666
def k0_mult125 (k0_t1 : Fin k0_t1_loop.trips) : BitVec 32 :=
  let c1024_i32_2976 : BitVec 32 := 1024#32
  let c0_i32_2513 : BitVec 32 := 0#32
  let c1_i32_2514 : BitVec 32 := 1#32
  let arg22 : BitVec 32 := Scf.iv c0_i32_2513 c1_i32_2514 k0_t1
  let c4_i32_2967 : BitVec 32 := 4#32
  let v4658 : BitVec 32 := Scalar.muli arg22 c4_i32_2967
  let c1_i32_2968 : BitVec 32 := 1#32
  let v4659 : BitVec 32 := Scalar.addi v4658 c1_i32_2968
  let c32_i32_2975 : BitVec 32 := 32#32
  let v4670 : BitVec 32 := Scalar.muli v4659 c32_i32_2975
  let v4671 : BitVec 32 := Scalar.addi c1024_i32_2976 v4670
  v4671
def k0_mult126 (k0_t1 : Fin k0_t1_loop.trips) : BitVec 32 :=
  let c1536_i32_2979 : BitVec 32 := 1536#32
  let c0_i32_2513 : BitVec 32 := 0#32
  let c1_i32_2514 : BitVec 32 := 1#32
  let arg22 : BitVec 32 := Scf.iv c0_i32_2513 c1_i32_2514 k0_t1
  let c4_i32_2967 : BitVec 32 := 4#32
  let v4658 : BitVec 32 := Scalar.muli arg22 c4_i32_2967
  let c1_i32_2968 : BitVec 32 := 1#32
  let v4659 : BitVec 32 := Scalar.addi v4658 c1_i32_2968
  let c32_i32_2978 : BitVec 32 := 32#32
  let v4675 : BitVec 32 := Scalar.muli v4659 c32_i32_2978
  let v4676 : BitVec 32 := Scalar.addi c1536_i32_2979 v4675
  v4676
def k0_mult127 (k0_t1 : Fin k0_t1_loop.trips) : BitVec 32 :=
  let c0_i32_3026 : BitVec 32 := 0#32
  let c0_i32_2513 : BitVec 32 := 0#32
  let c1_i32_2514 : BitVec 32 := 1#32
  let arg22 : BitVec 32 := Scf.iv c0_i32_2513 c1_i32_2514 k0_t1
  let c4_i32_3023 : BitVec 32 := 4#32
  let v4800 : BitVec 32 := Scalar.muli arg22 c4_i32_3023
  let c1_i32_3024 : BitVec 32 := 1#32
  let v4801 : BitVec 32 := Scalar.addi v4800 c1_i32_3024
  let c32_i32_3025 : BitVec 32 := 32#32
  let v4802 : BitVec 32 := Scalar.muli v4801 c32_i32_3025
  let v4803 : BitVec 32 := Scalar.addi c0_i32_3026 v4802
  v4803
def k0_mult128 (k0_t1 : Fin k0_t1_loop.trips) : BitVec 32 :=
  let c512_i32_3029 : BitVec 32 := 512#32
  let c0_i32_2513 : BitVec 32 := 0#32
  let c1_i32_2514 : BitVec 32 := 1#32
  let arg22 : BitVec 32 := Scf.iv c0_i32_2513 c1_i32_2514 k0_t1
  let c4_i32_3023 : BitVec 32 := 4#32
  let v4800 : BitVec 32 := Scalar.muli arg22 c4_i32_3023
  let c1_i32_3024 : BitVec 32 := 1#32
  let v4801 : BitVec 32 := Scalar.addi v4800 c1_i32_3024
  let c32_i32_3028 : BitVec 32 := 32#32
  let v4807 : BitVec 32 := Scalar.muli v4801 c32_i32_3028
  let v4808 : BitVec 32 := Scalar.addi c512_i32_3029 v4807
  v4808
def k0_mult129 (k0_t1 : Fin k0_t1_loop.trips) : BitVec 32 :=
  let c1024_i32_3032 : BitVec 32 := 1024#32
  let c0_i32_2513 : BitVec 32 := 0#32
  let c1_i32_2514 : BitVec 32 := 1#32
  let arg22 : BitVec 32 := Scf.iv c0_i32_2513 c1_i32_2514 k0_t1
  let c4_i32_3023 : BitVec 32 := 4#32
  let v4800 : BitVec 32 := Scalar.muli arg22 c4_i32_3023
  let c1_i32_3024 : BitVec 32 := 1#32
  let v4801 : BitVec 32 := Scalar.addi v4800 c1_i32_3024
  let c32_i32_3031 : BitVec 32 := 32#32
  let v4812 : BitVec 32 := Scalar.muli v4801 c32_i32_3031
  let v4813 : BitVec 32 := Scalar.addi c1024_i32_3032 v4812
  v4813
def k0_mult130 (k0_t1 : Fin k0_t1_loop.trips) : BitVec 32 :=
  let c1536_i32_3035 : BitVec 32 := 1536#32
  let c0_i32_2513 : BitVec 32 := 0#32
  let c1_i32_2514 : BitVec 32 := 1#32
  let arg22 : BitVec 32 := Scf.iv c0_i32_2513 c1_i32_2514 k0_t1
  let c4_i32_3023 : BitVec 32 := 4#32
  let v4800 : BitVec 32 := Scalar.muli arg22 c4_i32_3023
  let c1_i32_3024 : BitVec 32 := 1#32
  let v4801 : BitVec 32 := Scalar.addi v4800 c1_i32_3024
  let c32_i32_3034 : BitVec 32 := 32#32
  let v4817 : BitVec 32 := Scalar.muli v4801 c32_i32_3034
  let v4818 : BitVec 32 := Scalar.addi c1536_i32_3035 v4817
  v4818
def k0_mult131 (k0_t1 : Fin k0_t1_loop.trips) : BitVec 32 :=
  let c0_i32_3085 : BitVec 32 := 0#32
  let c0_i32_2513 : BitVec 32 := 0#32
  let c1_i32_2514 : BitVec 32 := 1#32
  let arg22 : BitVec 32 := Scf.iv c0_i32_2513 c1_i32_2514 k0_t1
  let c4_i32_3082 : BitVec 32 := 4#32
  let v4942 : BitVec 32 := Scalar.muli arg22 c4_i32_3082
  let c2_i32_3083 : BitVec 32 := 2#32
  let v4943 : BitVec 32 := Scalar.addi v4942 c2_i32_3083
  let c32_i32_3084 : BitVec 32 := 32#32
  let v4944 : BitVec 32 := Scalar.muli v4943 c32_i32_3084
  let v4945 : BitVec 32 := Scalar.addi c0_i32_3085 v4944
  v4945
def k0_mult132 (k0_t1 : Fin k0_t1_loop.trips) : BitVec 32 :=
  let c512_i32_3088 : BitVec 32 := 512#32
  let c0_i32_2513 : BitVec 32 := 0#32
  let c1_i32_2514 : BitVec 32 := 1#32
  let arg22 : BitVec 32 := Scf.iv c0_i32_2513 c1_i32_2514 k0_t1
  let c4_i32_3082 : BitVec 32 := 4#32
  let v4942 : BitVec 32 := Scalar.muli arg22 c4_i32_3082
  let c2_i32_3083 : BitVec 32 := 2#32
  let v4943 : BitVec 32 := Scalar.addi v4942 c2_i32_3083
  let c32_i32_3087 : BitVec 32 := 32#32
  let v4949 : BitVec 32 := Scalar.muli v4943 c32_i32_3087
  let v4950 : BitVec 32 := Scalar.addi c512_i32_3088 v4949
  v4950
def k0_mult133 (k0_t1 : Fin k0_t1_loop.trips) : BitVec 32 :=
  let c1024_i32_3091 : BitVec 32 := 1024#32
  let c0_i32_2513 : BitVec 32 := 0#32
  let c1_i32_2514 : BitVec 32 := 1#32
  let arg22 : BitVec 32 := Scf.iv c0_i32_2513 c1_i32_2514 k0_t1
  let c4_i32_3082 : BitVec 32 := 4#32
  let v4942 : BitVec 32 := Scalar.muli arg22 c4_i32_3082
  let c2_i32_3083 : BitVec 32 := 2#32
  let v4943 : BitVec 32 := Scalar.addi v4942 c2_i32_3083
  let c32_i32_3090 : BitVec 32 := 32#32
  let v4954 : BitVec 32 := Scalar.muli v4943 c32_i32_3090
  let v4955 : BitVec 32 := Scalar.addi c1024_i32_3091 v4954
  v4955
def k0_mult134 (k0_t1 : Fin k0_t1_loop.trips) : BitVec 32 :=
  let c1536_i32_3094 : BitVec 32 := 1536#32
  let c0_i32_2513 : BitVec 32 := 0#32
  let c1_i32_2514 : BitVec 32 := 1#32
  let arg22 : BitVec 32 := Scf.iv c0_i32_2513 c1_i32_2514 k0_t1
  let c4_i32_3082 : BitVec 32 := 4#32
  let v4942 : BitVec 32 := Scalar.muli arg22 c4_i32_3082
  let c2_i32_3083 : BitVec 32 := 2#32
  let v4943 : BitVec 32 := Scalar.addi v4942 c2_i32_3083
  let c32_i32_3093 : BitVec 32 := 32#32
  let v4959 : BitVec 32 := Scalar.muli v4943 c32_i32_3093
  let v4960 : BitVec 32 := Scalar.addi c1536_i32_3094 v4959
  v4960
def k0_mult135 (k0_t1 : Fin k0_t1_loop.trips) : BitVec 32 :=
  let c0_i32_3141 : BitVec 32 := 0#32
  let c0_i32_2513 : BitVec 32 := 0#32
  let c1_i32_2514 : BitVec 32 := 1#32
  let arg22 : BitVec 32 := Scf.iv c0_i32_2513 c1_i32_2514 k0_t1
  let c4_i32_3138 : BitVec 32 := 4#32
  let v5084 : BitVec 32 := Scalar.muli arg22 c4_i32_3138
  let c2_i32_3139 : BitVec 32 := 2#32
  let v5085 : BitVec 32 := Scalar.addi v5084 c2_i32_3139
  let c32_i32_3140 : BitVec 32 := 32#32
  let v5086 : BitVec 32 := Scalar.muli v5085 c32_i32_3140
  let v5087 : BitVec 32 := Scalar.addi c0_i32_3141 v5086
  v5087
def k0_mult136 (k0_t1 : Fin k0_t1_loop.trips) : BitVec 32 :=
  let c512_i32_3144 : BitVec 32 := 512#32
  let c0_i32_2513 : BitVec 32 := 0#32
  let c1_i32_2514 : BitVec 32 := 1#32
  let arg22 : BitVec 32 := Scf.iv c0_i32_2513 c1_i32_2514 k0_t1
  let c4_i32_3138 : BitVec 32 := 4#32
  let v5084 : BitVec 32 := Scalar.muli arg22 c4_i32_3138
  let c2_i32_3139 : BitVec 32 := 2#32
  let v5085 : BitVec 32 := Scalar.addi v5084 c2_i32_3139
  let c32_i32_3143 : BitVec 32 := 32#32
  let v5091 : BitVec 32 := Scalar.muli v5085 c32_i32_3143
  let v5092 : BitVec 32 := Scalar.addi c512_i32_3144 v5091
  v5092
def k0_mult137 (k0_t1 : Fin k0_t1_loop.trips) : BitVec 32 :=
  let c1024_i32_3147 : BitVec 32 := 1024#32
  let c0_i32_2513 : BitVec 32 := 0#32
  let c1_i32_2514 : BitVec 32 := 1#32
  let arg22 : BitVec 32 := Scf.iv c0_i32_2513 c1_i32_2514 k0_t1
  let c4_i32_3138 : BitVec 32 := 4#32
  let v5084 : BitVec 32 := Scalar.muli arg22 c4_i32_3138
  let c2_i32_3139 : BitVec 32 := 2#32
  let v5085 : BitVec 32 := Scalar.addi v5084 c2_i32_3139
  let c32_i32_3146 : BitVec 32 := 32#32
  let v5096 : BitVec 32 := Scalar.muli v5085 c32_i32_3146
  let v5097 : BitVec 32 := Scalar.addi c1024_i32_3147 v5096
  v5097
def k0_mult138 (k0_t1 : Fin k0_t1_loop.trips) : BitVec 32 :=
  let c1536_i32_3150 : BitVec 32 := 1536#32
  let c0_i32_2513 : BitVec 32 := 0#32
  let c1_i32_2514 : BitVec 32 := 1#32
  let arg22 : BitVec 32 := Scf.iv c0_i32_2513 c1_i32_2514 k0_t1
  let c4_i32_3138 : BitVec 32 := 4#32
  let v5084 : BitVec 32 := Scalar.muli arg22 c4_i32_3138
  let c2_i32_3139 : BitVec 32 := 2#32
  let v5085 : BitVec 32 := Scalar.addi v5084 c2_i32_3139
  let c32_i32_3149 : BitVec 32 := 32#32
  let v5101 : BitVec 32 := Scalar.muli v5085 c32_i32_3149
  let v5102 : BitVec 32 := Scalar.addi c1536_i32_3150 v5101
  v5102
def k0_mult139 (k0_t1 : Fin k0_t1_loop.trips) : BitVec 32 :=
  let c0_i32_3200 : BitVec 32 := 0#32
  let c0_i32_2513 : BitVec 32 := 0#32
  let c1_i32_2514 : BitVec 32 := 1#32
  let arg22 : BitVec 32 := Scf.iv c0_i32_2513 c1_i32_2514 k0_t1
  let c4_i32_3197 : BitVec 32 := 4#32
  let v5226 : BitVec 32 := Scalar.muli arg22 c4_i32_3197
  let c3_i32_3198 : BitVec 32 := 3#32
  let v5227 : BitVec 32 := Scalar.addi v5226 c3_i32_3198
  let c32_i32_3199 : BitVec 32 := 32#32
  let v5228 : BitVec 32 := Scalar.muli v5227 c32_i32_3199
  let v5229 : BitVec 32 := Scalar.addi c0_i32_3200 v5228
  v5229
def k0_mult140 (k0_t1 : Fin k0_t1_loop.trips) : BitVec 32 :=
  let c512_i32_3203 : BitVec 32 := 512#32
  let c0_i32_2513 : BitVec 32 := 0#32
  let c1_i32_2514 : BitVec 32 := 1#32
  let arg22 : BitVec 32 := Scf.iv c0_i32_2513 c1_i32_2514 k0_t1
  let c4_i32_3197 : BitVec 32 := 4#32
  let v5226 : BitVec 32 := Scalar.muli arg22 c4_i32_3197
  let c3_i32_3198 : BitVec 32 := 3#32
  let v5227 : BitVec 32 := Scalar.addi v5226 c3_i32_3198
  let c32_i32_3202 : BitVec 32 := 32#32
  let v5233 : BitVec 32 := Scalar.muli v5227 c32_i32_3202
  let v5234 : BitVec 32 := Scalar.addi c512_i32_3203 v5233
  v5234
def k0_mult141 (k0_t1 : Fin k0_t1_loop.trips) : BitVec 32 :=
  let c1024_i32_3206 : BitVec 32 := 1024#32
  let c0_i32_2513 : BitVec 32 := 0#32
  let c1_i32_2514 : BitVec 32 := 1#32
  let arg22 : BitVec 32 := Scf.iv c0_i32_2513 c1_i32_2514 k0_t1
  let c4_i32_3197 : BitVec 32 := 4#32
  let v5226 : BitVec 32 := Scalar.muli arg22 c4_i32_3197
  let c3_i32_3198 : BitVec 32 := 3#32
  let v5227 : BitVec 32 := Scalar.addi v5226 c3_i32_3198
  let c32_i32_3205 : BitVec 32 := 32#32
  let v5238 : BitVec 32 := Scalar.muli v5227 c32_i32_3205
  let v5239 : BitVec 32 := Scalar.addi c1024_i32_3206 v5238
  v5239
def k0_mult142 (k0_t1 : Fin k0_t1_loop.trips) : BitVec 32 :=
  let c1536_i32_3209 : BitVec 32 := 1536#32
  let c0_i32_2513 : BitVec 32 := 0#32
  let c1_i32_2514 : BitVec 32 := 1#32
  let arg22 : BitVec 32 := Scf.iv c0_i32_2513 c1_i32_2514 k0_t1
  let c4_i32_3197 : BitVec 32 := 4#32
  let v5226 : BitVec 32 := Scalar.muli arg22 c4_i32_3197
  let c3_i32_3198 : BitVec 32 := 3#32
  let v5227 : BitVec 32 := Scalar.addi v5226 c3_i32_3198
  let c32_i32_3208 : BitVec 32 := 32#32
  let v5243 : BitVec 32 := Scalar.muli v5227 c32_i32_3208
  let v5244 : BitVec 32 := Scalar.addi c1536_i32_3209 v5243
  v5244
def k0_mult143 (k0_t1 : Fin k0_t1_loop.trips) : BitVec 32 :=
  let c0_i32_3256 : BitVec 32 := 0#32
  let c0_i32_2513 : BitVec 32 := 0#32
  let c1_i32_2514 : BitVec 32 := 1#32
  let arg22 : BitVec 32 := Scf.iv c0_i32_2513 c1_i32_2514 k0_t1
  let c4_i32_3253 : BitVec 32 := 4#32
  let v5368 : BitVec 32 := Scalar.muli arg22 c4_i32_3253
  let c3_i32_3254 : BitVec 32 := 3#32
  let v5369 : BitVec 32 := Scalar.addi v5368 c3_i32_3254
  let c32_i32_3255 : BitVec 32 := 32#32
  let v5370 : BitVec 32 := Scalar.muli v5369 c32_i32_3255
  let v5371 : BitVec 32 := Scalar.addi c0_i32_3256 v5370
  v5371
def k0_mult144 (k0_t1 : Fin k0_t1_loop.trips) : BitVec 32 :=
  let c512_i32_3259 : BitVec 32 := 512#32
  let c0_i32_2513 : BitVec 32 := 0#32
  let c1_i32_2514 : BitVec 32 := 1#32
  let arg22 : BitVec 32 := Scf.iv c0_i32_2513 c1_i32_2514 k0_t1
  let c4_i32_3253 : BitVec 32 := 4#32
  let v5368 : BitVec 32 := Scalar.muli arg22 c4_i32_3253
  let c3_i32_3254 : BitVec 32 := 3#32
  let v5369 : BitVec 32 := Scalar.addi v5368 c3_i32_3254
  let c32_i32_3258 : BitVec 32 := 32#32
  let v5375 : BitVec 32 := Scalar.muli v5369 c32_i32_3258
  let v5376 : BitVec 32 := Scalar.addi c512_i32_3259 v5375
  v5376
def k0_mult145 (k0_t1 : Fin k0_t1_loop.trips) : BitVec 32 :=
  let c1024_i32_3262 : BitVec 32 := 1024#32
  let c0_i32_2513 : BitVec 32 := 0#32
  let c1_i32_2514 : BitVec 32 := 1#32
  let arg22 : BitVec 32 := Scf.iv c0_i32_2513 c1_i32_2514 k0_t1
  let c4_i32_3253 : BitVec 32 := 4#32
  let v5368 : BitVec 32 := Scalar.muli arg22 c4_i32_3253
  let c3_i32_3254 : BitVec 32 := 3#32
  let v5369 : BitVec 32 := Scalar.addi v5368 c3_i32_3254
  let c32_i32_3261 : BitVec 32 := 32#32
  let v5380 : BitVec 32 := Scalar.muli v5369 c32_i32_3261
  let v5381 : BitVec 32 := Scalar.addi c1024_i32_3262 v5380
  v5381
def k0_mult146 (k0_t1 : Fin k0_t1_loop.trips) : BitVec 32 :=
  let c1536_i32_3265 : BitVec 32 := 1536#32
  let c0_i32_2513 : BitVec 32 := 0#32
  let c1_i32_2514 : BitVec 32 := 1#32
  let arg22 : BitVec 32 := Scf.iv c0_i32_2513 c1_i32_2514 k0_t1
  let c4_i32_3253 : BitVec 32 := 4#32
  let v5368 : BitVec 32 := Scalar.muli arg22 c4_i32_3253
  let c3_i32_3254 : BitVec 32 := 3#32
  let v5369 : BitVec 32 := Scalar.addi v5368 c3_i32_3254
  let c32_i32_3264 : BitVec 32 := 32#32
  let v5385 : BitVec 32 := Scalar.muli v5369 c32_i32_3264
  let v5386 : BitVec 32 := Scalar.addi c1536_i32_3265 v5385
  v5386
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16x2048x1024 : Shape := ⟨3, ![16, 2048, 1024]⟩
abbrev S16x3072 : Shape := ⟨2, ![16, 3072]⟩
abbrev S1x1024x8704 : Shape := ⟨3, ![1, 1024, 8704]⟩
abbrev S1x8704 : Shape := ⟨2, ![1, 8704]⟩
abbrev S1x3x1024 : Shape := ⟨3, ![1, 3, 1024]⟩
abbrev S1x1024x1024 : Shape := ⟨3, ![1, 1024, 1024]⟩
abbrev S3x2x256x256 : Shape := ⟨4, ![3, 2, 256, 256]⟩
abbrev S16x1x3072 : Shape := ⟨3, ![16, 1, 3072]⟩
abbrev S16x1x1024 : Shape := ⟨3, ![16, 1, 1024]⟩
abbrev S_ : Shape := ⟨0, ![]⟩
abbrev S1024x8704 : Shape := ⟨2, ![1024, 8704]⟩
abbrev S16x2048x8704 : Shape := ⟨3, ![16, 2048, 8704]⟩
abbrev S8704 : Shape := ⟨1, ![8704]⟩
abbrev S1x1x8704 : Shape := ⟨3, ![1, 1, 8704]⟩
abbrev S16x2048x256 : Shape := ⟨3, ![16, 2048, 256]⟩
abbrev S16x2050x1024 : Shape := ⟨3, ![16, 2050, 1024]⟩
abbrev S3x1024 : Shape := ⟨2, ![3, 1024]⟩
abbrev S1x1024 : Shape := ⟨2, ![1, 1024]⟩
abbrev S1024 : Shape := ⟨1, ![1024]⟩
abbrev S1x1x1024 : Shape := ⟨3, ![1, 1, 1024]⟩
abbrev S1024x1024 : Shape := ⟨2, ![1024, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1x1024x8704, .f32⟩
  | .hbm, ⟨3, _⟩ => ⟨S1x8704, .f32⟩
  | .hbm, ⟨4, _⟩ => ⟨S1x3x1024, .f32⟩
  | .hbm, ⟨5, _⟩ => ⟨S1x1024x1024, .f32⟩
  | .hbm, ⟨6, _⟩ => ⟨S3x2x256x256, .f32⟩
  | .hbm, ⟨7, _⟩ => ⟨S16x1x3072, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S_, .f32⟩
  | .hbm, ⟨12, _⟩ => ⟨S16x1x1024, .f32⟩
  | .hbm, ⟨13, _⟩ => ⟨S16x1x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S1024x8704, .f32⟩
  | .hbm, ⟨19, _⟩ => ⟨S16x2048x8704, .f32⟩
  | .hbm, ⟨20, _⟩ => ⟨S8704, .f32⟩
  | .hbm, ⟨21, _⟩ => ⟨S1x1x8704, .f32⟩
  | .hbm, ⟨22, _⟩ => ⟨S16x2048x8704, .f32⟩
  | .hbm, ⟨23, _⟩ => ⟨S16x2048x8704, .f32⟩
  | .hbm, ⟨24, _⟩ => ⟨S16x2048x256, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .i32⟩
  | .hbm, ⟨31, _⟩ => ⟨S_, .f32⟩
  | .hbm, ⟨32, _⟩ => ⟨S16x2050x1024, .f32⟩
  | .hbm, ⟨33, _⟩ => ⟨S3x1024, .f32⟩
  | .hbm, ⟨34, _⟩ => ⟨S1x1024, .f32⟩
  | .hbm, ⟨35, _⟩ => ⟨S1024, .f32⟩
  | .hbm, ⟨36, _⟩ => ⟨S16x2048x1024, .f32⟩
  | .hbm, ⟨37, _⟩ => ⟨S1x1x1024, .f32⟩
  | .hbm, ⟨38, _⟩ => ⟨S16x2048x1024, .f32⟩
  | .hbm, ⟨39, _⟩ => ⟨S16x2048x1024, .f32⟩
  | .hbm, ⟨40, _⟩ => ⟨S1x1024, .f32⟩
  | .hbm, ⟨41, _⟩ => ⟨S1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S1x1024, .f32⟩
  | .hbm, ⟨48, _⟩ => ⟨S1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S1024x1024, .f32⟩
  | .hbm, ⟨66, _⟩ => ⟨S16x2048x1024, .f32⟩
  | .hbm, ⟨67, _⟩ => ⟨S16x2048x256, .f32⟩
  | .hbm, ⟨68, _⟩ => ⟨S16x2048x256, .f32⟩
  | .hbm, ⟨69, _⟩ => ⟨S_, .f32⟩
  | .hbm, ⟨70, _⟩ => ⟨S16x2048x256, .f32⟩
  | .hbm, ⟨71, _⟩ => ⟨S16x2048x256, .f32⟩
  | .hbm, ⟨72, _⟩ => ⟨S_, .f32⟩
  | .hbm, ⟨73, _⟩ => ⟨S16x2048x256, .f32⟩
  | .hbm, ⟨74, _⟩ => ⟨S16x2048x256, .f32⟩
  | .hbm, ⟨75, _⟩ => ⟨S16x2048x256, .f32⟩
  | .hbm, ⟨76, _⟩ => ⟨S16x2048x256, .bf16⟩
  | .hbm, ⟨77, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x3072 : Shape := ⟨2, ![16, 3072]⟩
abbrev S16x2x2048x128 : Shape := ⟨4, ![16, 2, 2048, 128]⟩
abbrev S16x2048x256 : Shape := ⟨3, ![16, 2048, 256]⟩
abbrev S1x1024x8704 : Shape := ⟨3, ![1, 1024, 8704]⟩
abbrev S1x8704 : Shape := ⟨2, ![1, 8704]⟩
abbrev S1x256x1024 : Shape := ⟨3, ![1, 256, 1024]⟩
abbrev S1x1024x1024 : Shape := ⟨3, ![1, 1024, 1024]⟩
abbrev S1x1024 : Shape := ⟨2, ![1, 1024]⟩
abbrev S1024x8704 : Shape := ⟨2, ![1024, 8704]⟩
abbrev S8704 : Shape := ⟨1, ![8704]⟩
abbrev S256x1024 : Shape := ⟨2, ![256, 1024]⟩
abbrev S1024x1024 : Shape := ⟨2, ![1024, 1024]⟩
abbrev S1024 : Shape := ⟨1, ![1024]⟩
abbrev S1x2x1024x128 : Shape := ⟨4, ![1, 2, 1024, 128]⟩
abbrev S1x1024x256 : Shape := ⟨3, ![1, 1024, 256]⟩
abbrev S1024x512 : Shape := ⟨2, ![1024, 512]⟩
abbrev S1024x2048 : Shape := ⟨2, ![1024, 2048]⟩
abbrev S1x3072 : Shape := ⟨2, ![1, 3072]⟩
abbrev S1x1x1024x128 : Shape := ⟨4, ![1, 1, 1024, 128]⟩
abbrev S1024x128 : Shape := ⟨2, ![1024, 128]⟩
abbrev S1024x256 : Shape := ⟨2, ![1024, 256]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 24
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S16x2x2048x128, .f32⟩
  | .hbm, ⟨3, _⟩ => ⟨S16x2048x256, .bf16⟩
  | .hbm, ⟨4, _⟩ => ⟨S16x2048x1024, .bf16⟩
  | .hbm, ⟨5, _⟩ => ⟨S1x1024x8704, .f32⟩
  | .hbm, ⟨6, _⟩ => ⟨S1x8704, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x8704, .f32⟩
  | .hbm, ⟨13, _⟩ => ⟨S8704, .f32⟩
  | .hbm, ⟨14, _⟩ => ⟨S1x8704, .f32⟩
  | .hbm, ⟨15, _⟩ => ⟨S256x1024, .f32⟩
  | .hbm, ⟨16, _⟩ => ⟨S1024x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S16x3072, .f32⟩
  | .local _ .vmem, ⟨3, _⟩ => ⟨S1x2x1024x128, .f32⟩
  | .local _ .vmem, ⟨4, _⟩ => ⟨S1x2x1024x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x8704, .f32⟩
  | .local _ .vmem, ⟨14, _⟩ => ⟨S256x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1024x1024, .bf16⟩
  | .local _ .vmem, ⟨22, _⟩ => ⟨S1024x2048, .bf16⟩
  | .local _ .vmem, ⟨23, _⟩ => ⟨S256x1024, .bf16⟩
  | .local _ .vmem, ⟨24, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let arg0 : BitVec 32 := BitVec.ofNat 32 (i 0).val
  let v5 : Index := Scalar.indexCast arg0
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c13_i32 : BitVec 32 := 13#32
  let c0_i32_0 : BitVec 32 := 0#32
  ![c0_i32.toNat, c13_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c14_i32 : BitVec 32 := 14#32
  let c0_i32_0 : BitVec 32 := 0#32
  ![c0_i32.toNat, c14_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c15_i32 : BitVec 32 := 15#32
  let c0_i32_0 : BitVec 32 := 0#32
  ![c0_i32.toNat, c15_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![c0_i32.toNat, c16_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x8704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel2Ideal.lean ====
variable {F : FTy → Type} [FloatOps F] [Named F]
def κ : String → Option EReal := fun
  | "eps_over_alpha_sq" => some ((2748779 / 388736039169 : ℝ) : EReal)
  | "inv_alpha" => some ((524288 / 623487 : ℝ) : EReal)
  | _ => none
-- ==== Reference2Ideal.lean ====
abbrev S16x2048x1024 : Shape := ⟨3, ![16, 2048, 1024]⟩
abbrev S16x3072 : Shape := ⟨2, ![16, 3072]⟩
abbrev S16x2x2048x128 : Shape := ⟨4, ![16, 2, 2048, 128]⟩
abbrev S16x2048x256 : Shape := ⟨3, ![16, 2048, 256]⟩
abbrev S1x1024x8704 : Shape := ⟨3, ![1, 1024, 8704]⟩
abbrev S1x8704 : Shape := ⟨2, ![1, 8704]⟩
abbrev S1x256x1024 : Shape := ⟨3, ![1, 256, 1024]⟩
abbrev S1x1024x1024 : Shape := ⟨3, ![1, 1024, 1024]⟩
abbrev S1x1024 : Shape := ⟨2, ![1, 1024]⟩
abbrev S16x1x3072 : Shape := ⟨3, ![16, 1, 3072]⟩
abbrev S16x1x1024 : Shape := ⟨3, ![16, 1, 1024]⟩
abbrev S_ : Shape := ⟨0, ![]⟩
abbrev S1024x8704 : Shape := ⟨2, ![1024, 8704]⟩
abbrev S16x2048x8704 : Shape := ⟨3, ![16, 2048, 8704]⟩
abbrev S8704 : Shape := ⟨1, ![8704]⟩
abbrev S1x1x8704 : Shape := ⟨3, ![1, 1, 8704]⟩
abbrev S16x2048x2x128 : Shape := ⟨4, ![16, 2048, 2, 128]⟩
abbrev S256x1024 : Shape := ⟨2, ![256, 1024]⟩
abbrev S1024x1024 : Shape := ⟨2, ![1024, 1024]⟩
abbrev S1024 : Shape := ⟨1, ![1024]⟩
abbrev S1x1x1024 : Shape := ⟨3, ![1, 1, 1024]⟩
abbrev S16x2048 : Shape := ⟨2, ![16, 2048]⟩
abbrev S16x2048x1 : Shape := ⟨3, ![16, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S16x2x2048x128, .f32⟩
  | .hbm, ⟨3, _⟩ => ⟨S16x2048x256, .bf16⟩
  | .hbm, ⟨4, _⟩ => ⟨S16x2048x1024, .bf16⟩
  | .hbm, ⟨5, _⟩ => ⟨S1x1024x8704, .f32⟩
  | .hbm, ⟨6, _⟩ => ⟨S1x8704, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16x1x3072, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S_, .f32⟩
  | .hbm, ⟨17, _⟩ => ⟨S16x1x1024, .f32⟩
  | .hbm, ⟨18, _⟩ => ⟨S16x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S1024x8704, .f32⟩
  | .hbm, ⟨24, _⟩ => ⟨S16x2048x8704, .f32⟩
  | .hbm, ⟨25, _⟩ => ⟨S8704, .f32⟩
  | .hbm, ⟨26, _⟩ => ⟨S1x1x8704, .f32⟩
  | .hbm, ⟨27, _⟩ => ⟨S16x2048x8704, .f32⟩
  | .hbm, ⟨28, _⟩ => ⟨S16x2048x8704, .f32⟩
  | .hbm, ⟨29, _⟩ => ⟨S16x2048x1024, .f32⟩
  | .hbm, ⟨30, _⟩ => ⟨S16x2048x1024, .f32⟩
  | .hbm, ⟨31, _⟩ => ⟨S16x2048x2x128, .f32⟩
  | .hbm, ⟨32, _⟩ => ⟨S16x2048x256, .f32⟩
  | .hbm, ⟨33, _⟩ => ⟨S16x2048x256, .f32⟩
  | .hbm, ⟨34, _⟩ => ⟨S16x2048x256, .f32⟩
  | .hbm, ⟨35, _⟩ => ⟨S256x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S1024x1024, .f32⟩
  | .hbm, ⟨58, _⟩ => ⟨S16x2048x1024, .f32⟩
  | .hbm, ⟨59, _⟩ => ⟨S1024, .f32⟩
  | .hbm, ⟨60, _⟩ => ⟨S1x1x1024, .f32⟩
  | .hbm, ⟨61, _⟩ => ⟨S16x2048x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S_, .f32⟩
  | .hbm, ⟨73, _⟩ => ⟨S16x2048x1, .f32⟩
  | .hbm, ⟨74, _⟩ => ⟨S16x2048x1, .f32⟩
  | .hbm, ⟨75, _⟩ => ⟨S16x2048x1024, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048, .f32⟩
  | .hbm, ⟨80, _⟩ => ⟨S16x2048x1, .f32⟩
  | .hbm, ⟨81, _⟩ => ⟨S_, .f32⟩
  | .hbm, ⟨82, _⟩ => ⟨S16x2048x1, .f32⟩
  | .hbm, ⟨83, _⟩ => ⟨S16x2048x1, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048x1, .f32⟩
  | .hbm, ⟨88, _⟩ => ⟨S16x2048x1, .f32⟩
  | .hbm, ⟨89, _⟩ => ⟨S16x2048x1, .f32⟩
  | .hbm, ⟨90, _⟩ => ⟨S16x2048x1024, .f32⟩
  | .hbm, ⟨91, _⟩ => ⟨S16x2048x1024, .f32⟩
  | .hbm, ⟨92, _⟩ => ⟨S1024, .f32⟩
  | .hbm, ⟨93, _⟩ => ⟨S1x1x1024, .f32⟩
  | .hbm, ⟨94, _⟩ => ⟨S16x2048x1024, .f32⟩
  | .hbm, ⟨95, _⟩ => ⟨S16x2048x1024, .f32⟩
  | .hbm, ⟨96, _⟩ => ⟨S1024, .f32⟩
  | .hbm, ⟨97, _⟩ => ⟨S1x1x1024, .f32⟩
  | .hbm, ⟨98, _⟩ => ⟨S16x2048x1024, .f32⟩
  | .hbm, ⟨99, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩

abbrev nD : Nat := 1
abbrev τ : Topo := Topo.v7x

variable {F : FTy → Type} [FloatOps F]
-- ==== Kernel3.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S16x3072 : Shape := ⟨2, ![16, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x3072, .f32⟩
  | .hbm, ⟨13, _⟩ => ⟨S16x3072, .f32⟩
  | .hbm, ⟨14, _⟩ => ⟨S3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Attn.Wpp.lean ====
/-
  A predicate transformer for straight-line bodies with one ring of copies in flight.

  `wpp p Q s` says that the program `p`, started from the contents `s` of the core's buffers, never touches a buffer it
  does not hold, and ends at a value and contents satisfying `Q`. The buffers `H` are held whole; the buffer `stage` is
  held in four parts (by the leading coordinate), each part lent to the copy in flight on the cell of the same number;
  the copies read `hbm`, whose share `q i` goes with cell `i`. `wpp_sound` turns the predicate into a weakest
  precondition over the buffers.
-/
module

public import proofs.«01_k».proof.Proof.Gen.KernelIdeal.Frame

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The user algebra of a kernel with copies of its own. -/
local notation "𝕄" => MT nD τ sig Unit (Elt F) ℕ (Pipeline.UD sig nD τ) ℕ

/-- The programs a body is. -/
abbrev PG (F : FTy → Type) (α : Type) : Type 1 := Prog (TpuEff nD τ sig (Elt F) Λ₀ .tc) α

/-- The contents of every buffer of core `c`, and which cells have a copy in flight. -/
structure St (F : FTy → Type) [FloatOps F] (c : Dev nD) where
  mem : (b : Ref sig .tc) → Buf (Elt F) ((c : Thread nD τ).loc b)
  busy : Fin 4 → Bool

/-- `s` with buffer `b` at `f`. -/
def St.upd {c : Dev nD} (s : St F c) (b : Ref sig .tc) (f : Buf (Elt F) ((c : Thread nD τ).loc b)) : St F c :=
  ⟨Function.update s.mem b f, s.busy⟩

/-- `s` with cell `i` busy or free. -/
def St.setBusy {c : Dev nD} (s : St F c) (i : Fin 4) (v : Bool) : St F c := ⟨s.mem, Function.update s.busy i v⟩

@[simp] theorem St.upd_same {c : Dev nD} (s : St F c) (b : Ref sig .tc) (f) : (s.upd b f).mem b = f := by simp [St.upd]
theorem St.upd_ne {c : Dev nD} (s : St F c) {b b' : Ref sig .tc} (f) (h : b' ≠ b) : (s.upd b f).mem b' = s.mem b' := by
  simp [St.upd, h]
@[simp] theorem St.upd_busy {c : Dev nD} (s : St F c) (b : Ref sig .tc) (f) : (s.upd b f).busy = s.busy := rfl
@[simp] theorem St.setBusy_mem {c : Dev nD} (s : St F c) (i v) : (s.setBusy i v).mem = s.mem := rfl
@[simp] theorem St.setBusy_busy {c : Dev nD} (s : St F c) (i v) : (s.setBusy i v).busy = Function.update s.busy i v := rfl

/-- The leading coordinate of an index. -/
def lead {S : Shape} (x : S.Idx) : ℕ := if h : 0 < S.rank then (x ⟨0, h⟩).val else 0

/-- What a body is run against: the buffers held whole, the staged buffer, the array copied from, the four cells, the
    amount of each copy. -/
structure Rig where
  H : Finset (Ref sig .tc)
  stage : Ref sig .tc
  hbm : Ref sig .tc
  sems : Fin 4 → DmaSem sig
  N : ℕ
  N_pos : 0 < N
  stage_not : stage ∉ H
  hbm_not : hbm ∉ H
  stage_ne : stage ≠ hbm

variable {c : Dev nD}

/-- What one effect needs of the contents and what it makes of them. -/
def handle (R : Rig) {β : Type} : TpuEff nD τ sig (Elt F) Λ₀ .tc β → (β → St F c → Prop) → St F c → Prop
  | .load m r _, K, s =>
      (m.view.ref ∈ R.H ∨ (m.view.ref = R.stage ∧ ∃ i : Fin 4, s.busy i = false ∧ ∀ x ∈ m.view.setOn r.set, lead x = i.val))
        ∧ K (m.view.readAt (Elt F) r (s.mem m.view.ref)) s
  | .store m r w M _ _, K, s =>
      m.view.ref ∈ R.H ∧ K ⟨⟩ (s.upd m.view.ref ((m.access r).write (Elt F) (s.mem m.view.ref) w M))
  | .enqueueDmaAs src (.here dst) via sem _ _ _, K, s =>
      ∃ i : Fin 4, sem = .dma (R.sems i) ∧ s.busy i = false ∧ src.view.ref = R.hbm ∧ dst.view.ref = R.stage
        ∧ dst.view.amount sem = R.N ∧ (∀ x ∈ dst.view.set, lead x = i.val)
        ∧ K ⟨⟩ ((s.upd dst.view.ref (dst.view.write (Elt F) (s.mem dst.view.ref) (via.apply (src.view.read (Elt F) (s.mem src.view.ref))) Finset.univ)).setBusy i true)
  | .waitDma sem b s' e _, K, s =>
      ∃ i : Fin 4, sem = R.sems i ∧ s.busy i = true ∧ b.dmaCredit s' e = R.N ∧ K ⟨⟩ (s.setBusy i false)
  | _, _, _ => False

/-- The predicate transformer: `handle` folded over the program. -/
def wpp (R : Rig) {α : Type} : PG F α → (α → St F c → Prop) → St F c → Prop
  | .ret a, Q, s => Q a s
  | .op e k, Q, s => handle R e (fun x s' => wpp R (k x) Q s') s

theorem handle_mono (R : Rig) {β : Type} (e : TpuEff nD τ sig (Elt F) Λ₀ .tc β) {K K' : β → St F c → Prop}
    (h : ∀ x s, K x s → K' x s) (s : St F c) : handle R e K s → handle R e K' s := by
  cases e with
  | load m r _ => exact fun ⟨a, b⟩ => ⟨a, h _ _ b⟩
  | store m r w M _ _ => exact fun ⟨a, b⟩ => ⟨a, h _ _ b⟩
  | enqueueDmaAs src tgt via sem _ _ _ =>
    cases tgt with
    | here dst => exact fun ⟨i, a, b, c, d, e, f, g⟩ => ⟨i, a, b, c, d, e, f, h _ _ g⟩
    | _ => exact id
  | waitDma sem b s' e _ => exact fun ⟨i, a, b, c, g⟩ => ⟨i, a, b, c, h _ _ g⟩
  | _ => exact id

theorem wpp_mono (R : Rig) {α : Type} (p : PG F α) {Q Q' : α → St F c → Prop} (h : ∀ a s, Q a s → Q' a s) :
    ∀ s, wpp R p Q s → wpp R p Q' s := by
  induction p with
  | ret a => exact fun s => h a s
  | op e k ih => exact fun s => handle_mono R e (fun x s' => ih x s') s

theorem wpp_bind (R : Rig) {α β : Type} (p : PG F α) (f : α → PG F β) (Q : β → St F c → Prop) (s : St F c) :
    wpp R (p >>= f) Q s = wpp R p (fun a s' => wpp R (f a) Q s') s := by
  induction p generalizing s with
  | ret a => rfl
  | op e k ih =>
    show handle R e (fun x s' => wpp R (k x >>= f) Q s') s = handle R e (fun x s' => wpp R (k x) (fun a s' => wpp R (f a) Q s') s') s
    congr 1
    funext x s'
    exact ih x s'

/-! ## The buffers as a resource -/

/-- Part `i` of the staged buffer. -/
def part (b : Ref sig .tc) (i : Fin 4) : Finset (Idx ((c : Thread nD τ).loc b)) :=
  Finset.univ.filter fun x => lead x = i.val

/-- Cell `i` and the part of the staged buffer that goes with it. -/
def slotRes (R : Rig) (q : Fin 4 → PosShare TreeShare) (s : St F c) (i : Fin 4) : sProp 𝕄 :=
  if s.busy i then
    iprop(∃ S : Finset (Idx ((c : Thread nD τ).loc R.hbm)),
      Flight (countersEmb (U := Pipeline.UD sig nD τ)) (c : Thread nD τ) (.dma (R.sems i)) () R.N
        iprop((((c : Thread nD τ).loc R.stage) ↦[part R.stage i]{fullShare} s.mem R.stage) ∗ (((c : Thread nD τ).loc R.hbm) ↦[S]{q i} s.mem R.hbm))
      ∗ (((c : Thread nD τ).loc R.hbm) ↦[Finset.univ \ S]{q i} s.mem R.hbm))
  else
    iprop(semVal ((c : Thread nD τ), .dma (R.sems i)) 0 ∗ (((c : Thread nD τ).loc R.hbm) ↦{q i} s.mem R.hbm)
      ∗ (((c : Thread nD τ).loc R.stage) ↦[part R.stage i]{fullShare} s.mem R.stage))

/-- All the body holds. -/
def own (R : Rig) (q : Fin 4 → PosShare TreeShare) (s : St F c) : sProp 𝕄 :=
  iprop(bigSep R.H (fun b => ((c : Thread nD τ).loc b) ↦{fullShare} s.mem b) ∗ bigSep Finset.univ (slotRes R q s)
    ∗ ∃ W, owes (c : Thread nD τ) 0 W)

theorem own_eq (R : Rig) (q : Fin 4 → PosShare TreeShare) (s : St F c) : own R q s =
  iprop(bigSep R.H (fun b => ((c : Thread nD τ).loc b) ↦{fullShare} s.mem b) ∗ bigSep Finset.univ (slotRes R q s)
    ∗ ∃ W, owes (c : Thread nD τ) 0 W) := rfl

theorem slotRes_congr (R : Rig) (q : Fin 4 → PosShare TreeShare) (s s' : St F c) (i : Fin 4) (hb : s.busy i = s'.busy i)
    (hh : s.mem R.hbm = s'.mem R.hbm) (hs : ∀ x ∈ part (c := c) R.stage i, s.mem R.stage x = s'.mem R.stage x) :
    slotRes R q s i = slotRes R q s' i := by
  unfold slotRes
  rw [hb, hh, pointsTo_congr hs]

theorem bigSep_pull {I : Type} [DecidableEq I] {S : Finset I} {i : I} (h : i ∈ S) (Φ : I → sProp 𝕄) :
    bigSep S Φ = iprop(Φ i ∗ bigSep (S.erase i) Φ) := bigSep_erase h

theorem slotRes_free (R : Rig) (q : Fin 4 → PosShare TreeShare) (s : St F c) (i : Fin 4) (h : s.busy i = false)
    {bs bh : Ref sig .tc} (hs : bs = R.stage) (hh : bh = R.hbm) :
    slotRes R q s i = iprop(semVal ((c : Thread nD τ), .dma (R.sems i)) 0 ∗ (((c : Thread nD τ).loc bh) ↦{q i} s.mem bh)
      ∗ (((c : Thread nD τ).loc bs) ↦[part bs i]{fullShare} s.mem bs)) := by
  subst hs hh; unfold slotRes; rw [if_neg (by simp [h])]

theorem slotRes_busy (R : Rig) (q : Fin 4 → PosShare TreeShare) (s : St F c) (i : Fin 4) (h : s.busy i = true)
    {bs bh : Ref sig .tc} (hs : bs = R.stage) (hh : bh = R.hbm) :
    slotRes R q s i = iprop(∃ S : Finset (Idx ((c : Thread nD τ).loc bh)),
      Flight (countersEmb (U := Pipeline.UD sig nD τ)) (c : Thread nD τ) (.dma (R.sems i)) () R.N
        iprop((((c : Thread nD τ).loc bs) ↦[part bs i]{fullShare} s.mem bs) ∗ (((c : Thread nD τ).loc bh) ↦[S]{q i} s.mem bh))
      ∗ (((c : Thread nD τ).loc bh) ↦[Finset.univ \ S]{q i} s.mem bh)) := by
  subst hs hh; unfold slotRes; rw [if_pos h]

theorem wpp_step_load (R : Rig) (q : Fin 4 → PosShare TreeShare) {cs : CoreSpace} {sh : Shape} {e : EltTy} (m : Memref sig .tc cs sh e)
    (r : LoadRect sh) (hl : m.view.LoadsAt r) {α : Type} (k : (r.shape.Idx → Elt F e) → PG F α) (Φ : α → sProp 𝕄) (s : St F c)
    (hm : m.view.ref ∈ R.H ∨ (m.view.ref = R.stage ∧ ∃ i : Fin 4, s.busy i = false ∧ ∀ x ∈ m.view.setOn r.set, lead x = i.val)) :
    iprop(own R q s ∗ (own R q s -∗ wp frame (wpE (defs₀ (F := F)) Variants.none (c : Thread nD τ) none) Set.univ (k (m.view.readAt (Elt F) r (s.mem m.view.ref))) Φ))
      ⊢ wp frame (wpE (defs₀ (F := F)) Variants.none (c : Thread nD τ) none) Set.univ (.op (.load m r hl) k) Φ := by
  rcases hm with hm | ⟨hst, i, hb, hx⟩
  · rw [own_eq, bigSep_pull hm]
    iintro ⟨⟨⟨H, HR⟩, HS, HW⟩, Hk⟩
    iapply (wp_load Variants.none (c : Thread nD τ) none Set.univ (m := m) (r := r) (hl := hl) (S := Finset.univ) (Finset.subset_univ _)) $$ H
    iintro H
    iapply Hk
    isplitl [H HR]
    · isplitl [H] <;> iassumption
    isplitl [HS] <;> iassumption
  · rw [own_eq, bigSep_pull (Finset.mem_univ i), slotRes_free R q s i hb hst rfl]
    iintro ⟨⟨HH, ⟨⟨Hv, Hh, H⟩, HR⟩, HW⟩, Hk⟩
    iapply (wp_load Variants.none (c : Thread nD τ) none Set.univ (m := m) (r := r) (hl := hl) (S := part m.view.ref i)
      (fun x hxm => Finset.mem_filter.mpr ⟨Finset.mem_univ _, hx x hxm⟩)) $$ H
    iintro H
    iapply Hk
    isplitl [HH]; · iexact HH
    isplitl [Hv Hh H HR]
    · isplitl [Hv Hh H]
      · isplitl [Hv]; · iexact Hv
        isplitl [Hh] <;> iassumption
      iexact HR
    iexact HW

theorem wpp_step_store (R : Rig) (q : Fin 4 → PosShare TreeShare) {cs : CoreSpace} {sh : Shape} {e : EltTy} (m : Memref sig .tc cs sh e)
    (r : Rect sh) (w : r.shape.Idx → Elt F e) (M : Finset r.shape.Idx) (hx : (m.access r).Stores M) (hmk : M = Finset.univ ∨ ∀ a, r.stride a = 1)
    {α : Type} (k : PUnit → PG F α) (Φ : α → sProp 𝕄) (s : St F c) (hm : m.view.ref ∈ R.H) :
    iprop(own R q s ∗ (own R q (s.upd m.view.ref ((m.access r).write (Elt F) (s.mem m.view.ref) w M))
        -∗ wp frame (wpE (defs₀ (F := F)) Variants.none (c : Thread nD τ) none) Set.univ (k ⟨⟩) Φ))
      ⊢ wp frame (wpE (defs₀ (F := F)) Variants.none (c : Thread nD τ) none) Set.univ (.op (.store m r w M hx hmk) k) Φ := by
  rw [own_eq, own_eq, bigSep_pull hm, bigSep_pull hm, St.upd_same]
  rw [show bigSep (R.H.erase m.view.ref) (fun b => (((c : Thread nD τ).loc b) ↦{fullShare} (s.upd m.view.ref ((m.access r).write (Elt F) (s.mem m.view.ref) w M)).mem b : sProp 𝕄))
      = bigSep (R.H.erase m.view.ref) (fun b => (((c : Thread nD τ).loc b) ↦{fullShare} s.mem b : sProp 𝕄)) from
    bigSep_congr fun b hb => by rw [St.upd_ne _ _ (Finset.ne_of_mem_erase hb)]]
  rw [show bigSep Finset.univ (slotRes R q (s.upd m.view.ref ((m.access r).write (Elt F) (s.mem m.view.ref) w M))) = bigSep Finset.univ (slotRes R q s) from
    bigSep_congr fun i _ => slotRes_congr R q _ _ i rfl (St.upd_ne _ _ (fun h => R.hbm_not (h ▸ hm)))
      (fun x _ => by rw [St.upd_ne _ _ (fun h => R.stage_not (by rw [h]; exact hm))])]
  iintro ⟨⟨⟨H, HR⟩, HS, HW⟩, Hk⟩
  iapply (wp_store Variants.none (c : Thread nD τ) none Set.univ (m := m) (r := r) (w := w) (Mk := M) (hx := hx) (hm := hmk) (S := Finset.univ) (Finset.subset_univ _)) $$ H
  iintro H
  iapply Hk
  isplitl [H HR]
  · isplitl [H] <;> iassumption
  isplitl [HS] <;> iassumption

theorem wpp_step_enqueue (R : Rig) (q : Fin 4 → PosShare TreeShare) {sp sp' : Space} {s₀ : Shape} {e₀ : EltTy} {sh : Shape} {e : EltTy}
    (src : Memref sig .tc sp s₀ e₀) (dst : Memref sig .tc sp' sh e) (via : ReadAs (Elt F) s₀ e₀ sh e) (sem : SemLoc sig)
    (hsrc : src.view.WordExact) (hdst : dst.view.WordExact) (hsem : DmaTarget.Typed (nD := nD) (τ := τ) (p := .tc) sp sem (.here dst))
    {α : Type} (k : PUnit → PG F α) (Φ : α → sProp 𝕄) (s : St F c) (i : Fin 4) (hi : sem = .dma (R.sems i)) (hb : s.busy i = false)
    (hrs : src.view.ref = R.hbm) (hrd : dst.view.ref = R.stage) (hN : dst.view.amount sem = R.N) (hx : ∀ x ∈ dst.view.set, lead x = i.val)
    (s' : St F c) (hs' : s' = (s.upd dst.view.ref (dst.view.write (Elt F) (s.mem dst.view.ref) (via.apply (src.view.read (Elt F) (s.mem src.view.ref))) Finset.univ)).setBusy i true) :
    iprop(own R q s ∗ (own R q s' -∗ wp frame (wpE (defs₀ (F := F)) Variants.none (c : Thread nD τ) none) Set.univ (k ⟨⟩) Φ))
      ⊢ wp frame (wpE (defs₀ (F := F)) Variants.none (c : Thread nD τ) none) Set.univ (.op (.enqueueDmaAs src (.here dst) via sem hsrc hdst hsem) k) Φ := by
  have hne : src.view.ref ≠ dst.view.ref := fun h => R.stage_ne (hrd.symm.trans (h.symm.trans hrs))
  have e1 : s'.mem src.view.ref = s.mem src.view.ref := by rw [hs', St.setBusy_mem, St.upd_ne _ _ hne]
  have e2 : s'.mem dst.view.ref = dst.view.write (Elt F) (s.mem dst.view.ref) (via.apply (src.view.read (Elt F) (s.mem src.view.ref))) Finset.univ := by
    rw [hs', St.setBusy_mem, St.upd_same]
  have e3 : s'.busy i = true := by rw [hs', St.setBusy_busy, Function.update_self]
  have eH : bigSep R.H (fun b => (((c : Thread nD τ).loc b) ↦{fullShare} s'.mem b : sProp 𝕄)) = bigSep R.H (fun b => (((c : Thread nD τ).loc b) ↦{fullShare} s.mem b : sProp 𝕄)) :=
    bigSep_congr fun b hbH => by
      have hn : b ≠ dst.view.ref := fun h => R.stage_not (by rw [← hrd, ← h]; exact hbH)
      rw [hs', St.setBusy_mem, St.upd_ne _ _ hn]
  have eS : bigSep (Finset.univ.erase i) (slotRes R q s') = bigSep (Finset.univ.erase i) (slotRes R q s) :=
    bigSep_congr fun j hj => slotRes_congr R q _ _ j
      (by rw [hs', St.setBusy_busy, Function.update_of_ne (Finset.ne_of_mem_erase hj)]; rfl)
      (by rw [← hrs]; exact e1)
      (by
        rw [← hrd]
        intro x hxj
        rw [e2]
        refine dst.view.write_of_not_mem _ _ _ fun hmem => ?_
        have h1 := hx x hmem
        have h2 := (Finset.mem_filter.mp hxj).2
        exact Finset.ne_of_mem_erase hj (Fin.ext (h2.symm.trans h1)))
  rw [own_eq, own_eq, eH, bigSep_pull (Finset.mem_univ i), bigSep_pull (Finset.mem_univ i) (slotRes R q s'), eS,
    slotRes_free R q s i hb hrd hrs, slotRes_busy R q s' i e3 hrd hrs, e1, e2]
  subst hi
  iintro ⟨⟨HH, ⟨⟨Hv, Hh, Hd⟩, HR⟩, HW⟩, Hk⟩
  ihave Hh2 := (pointsTo_split_subset (Finset.subset_univ src.view.set)).1 $$ Hh
  icases Hh2 with ⟨Hh, Hrest⟩
  iapply (wp_dmaLocal (countersEmb (U := Pipeline.UD sig nD τ)) Variants.none (c : Thread nD τ) none (src := src) (dst := dst) (via := via)
    (hsrc := hsrc) (hdst := hdst) (hsem := hsem) () R.N hN R.N_pos
    (fun x hxm => Finset.mem_filter.mpr ⟨Finset.mem_univ _, hx x hxm⟩ : dst.view.set ⊆ part dst.view.ref i)) $$ [Hh Hd Hv]
  · isplitl [Hh]; · iexact Hh
    isplitl [Hd]; · iexact Hd
    iexact Hv
  iintro HF
  iapply Hk
  isplitl [HH]; · iexact HH
  isplitl [HF Hrest HR]
  · isplitl [HF Hrest]
    · iexists src.view.set
      isplitl [HF]; · iexact HF
      iexact Hrest
    iexact HR
  iexact HW

theorem wpp_step_wait (R : Rig) (q : Fin 4 → PosShare TreeShare) {sh : Shape} {e : EltTy} (sem : DmaSem sig) {κ : Kind} (b : Ref sig κ)
    (hk : (Proc.tc : Proc τ) = .tc ∨ b.HasMemref sh e)
    {α : Type} (k : PUnit → PG F α) (Φ : α → sProp 𝕄) (s : St F c) (i : Fin 4) (hi : sem = R.sems i) (hb : s.busy i = true)
    (hN : b.dmaCredit sh e = R.N) :
    iprop(own R q s ∗ (own R q (s.setBusy i false) -∗ wp frame (wpE (defs₀ (F := F)) Variants.none (c : Thread nD τ) none) Set.univ (k ⟨⟩) Φ))
      ⊢ wp frame (wpE (defs₀ (F := F)) Variants.none (c : Thread nD τ) none) Set.univ (.op (.waitDma sem b sh e hk) k) Φ := by
  have eS : bigSep (Finset.univ.erase i) (slotRes R q (s.setBusy i false)) = bigSep (Finset.univ.erase i) (slotRes R q s) :=
    bigSep_congr fun j hj => slotRes_congr R q _ _ j
      (by rw [St.setBusy_busy, Function.update_of_ne (Finset.ne_of_mem_erase hj)]) rfl (fun _ _ => rfl)
  rw [own_eq, own_eq, bigSep_pull (Finset.mem_univ i), bigSep_pull (Finset.mem_univ i) (slotRes R q (s.setBusy i false)), eS,
    slotRes_busy R q s i hb rfl rfl, slotRes_free R q (s.setBusy i false) i (by simp) rfl rfl]
  subst hi
  iintro ⟨⟨HH, ⟨⟨%S, HF, Hrest⟩, HR⟩, %W, HW⟩, Hk⟩
  iapply (wp_waitLocalSized (countersEmb (U := Pipeline.UD sig nD τ)) Variants.none (c : Thread nD τ) none (sem := R.sems i) (b := b) (hk := hk) () hN) $$ [HF HW]
  · isplitl [HF] <;> iassumption
  iintro ⟨⟨Hd, Hh⟩, Hv, HW⟩
  iapply Hk
  isplitl [HH]; · iexact HH
  isplitl [Hd Hh Hv Hrest HR]
  · isplitl [Hd Hh Hv Hrest]
    · isplitl [Hv]; · iexact Hv
      isplitl [Hh Hrest]
      · iapply (pointsTo_split_subset (Finset.subset_univ S)).2
        isplitl [Hh]; · iexact Hh
        iexact Hrest
      iexact Hd
    iexact HR
  iexists _; iexact HW

/-- A program that satisfies the predicate runs, from the buffers at `s`, to the buffers at contents satisfying `Q`. -/
theorem wpp_sound (R : Rig) (q : Fin 4 → PosShare TreeShare) {α : Type} (p : PG F α) (Q : α → St F c → Prop) (Φ : α → sProp 𝕄) :
    ∀ s, wpp R p Q s → iprop(own R q s ∗ (∀ a s', ⌜Q a s'⌝ -∗ own R q s' -∗ Φ a))
      ⊢ wp frame (wpE (defs₀ (F := F)) Variants.none (c : Thread nD τ) none) Set.univ p Φ := by
  induction p with
  | ret a =>
    intro s h
    iintro ⟨Ho, Hk⟩
    iapply (le_wp_ret _ _ _ a Φ)
    iapply Hk $$ %a %s [] Ho
    ipureintro; exact h
  | op e k ih =>
    intro s h
    cases e with
    | load m r hl =>
      obtain ⟨hm, hk⟩ := h
      iintro ⟨Ho, Hk⟩
      iapply (wpp_step_load R q m r hl k Φ s hm)
      isplitl [Ho]; · iexact Ho
      iintro Ho
      iapply (ih _ s hk)
      isplitl [Ho] <;> iassumption
    | store m r w M hx hmk =>
      obtain ⟨hm, hk⟩ := h
      iintro ⟨Ho, Hk⟩
      iapply (wpp_step_store R q m r w M hx hmk k Φ s hm)
      isplitl [Ho]; · iexact Ho
      iintro Ho
      iapply (ih _ _ hk)
      isplitl [Ho] <;> iassumption
    | enqueueDmaAs src tgt via sem h1 h2 h3 =>
      cases tgt with
      | here dst =>
        obtain ⟨i, a1, a2, a3, a4, a5, a6, hk⟩ := h
        iintro ⟨Ho, Hk⟩
        iapply (wpp_step_enqueue R q src dst via sem h1 h2 h3 k Φ s i a1 a2 a3 a4 a5 a6 _ rfl)
        isplitl [Ho]; · iexact Ho
        iintro Ho
        iapply (ih _ _ hk)
        isplitl [Ho] <;> iassumption
      | _ => exact h.elim
    | waitDma sem b s' e' hk' =>
      obtain ⟨i, a1, a2, a3, hk⟩ := h
      iintro ⟨Ho, Hk⟩
      iapply (wpp_step_wait R q sem b hk' k Φ s i a1 a2 a3)
      isplitl [Ho]; · iexact Ho
      iintro Ho
      iapply (ih _ _ hk)
      isplitl [Ho] <;> iassumption
    | _ => exact h.elim

end Cert.KernelIdeal.Attn
-- ==== Proof.Attn.Safe.lean ====
/-
  Programs that only load buffers they hold and only store into a set of buffers `U`: whatever they compute, every buffer
  outside `U` keeps its contents and no copy starts or ends.
-/
module

public import proofs.«01_k».proof.Proof.Attn.Wpp

@[expose] public section

noncomputable section

namespace Cert.KernelIdeal.Attn

open Cert.KernelIdeal Cert.KernelIdeal.Gen
open Idealize.ShloMosaic Idealize.ShloMosaic.TcCoe
open Idealize.SL.Sem

variable {F : FTy → Type} [FloatOps F]

/-- Loads of buffers of `H`, stores into buffers of `U`, nothing else. -/
def Safe (H U : Finset (Ref sig .tc)) {α : Type} : PG F α → Prop
  | .ret _ => True
  | .op (.load m r hl) k => m.view.ref ∈ H ∧ ∀ v, Safe H U (k v)
  | .op (.store m r w M h1 h2) k => m.view.ref ∈ U ∧ Safe H U (k ⟨⟩)
  | .op _ k => False

variable {H U : Finset (Ref sig .tc)}

theorem safe_pure {α : Type} (a : α) : Safe H U (pure a : PG F α) := trivial

theorem safe_bind {α β : Type} {p : PG F α} {f : α → PG F β} (hp : Safe H U p) (hf : ∀ a, Safe H U (f a)) : Safe H U (p >>= f) := by
  induction p with
  | ret a => exact hf a
  | op e k ih =>
    cases e with
    | load m r hl => exact ⟨hp.1, fun v => ih v (hp.2 v)⟩
    | store m r w M h1 h2 => exact ⟨hp.1, ih ⟨⟩ hp.2⟩
    | _ => exact hp.elim

theorem safe_load {β : Type} {cs : CoreSpace} {sh : Shape} {e : EltTy} {m : Memref sig .tc cs sh e} {r : LoadRect sh} {hl : m.view.LoadsAt r}
    {f : (r.shape.Idx → Elt F e) → PG F β} (hm : m.view.ref ∈ H) (hf : ∀ a, Safe H U (f a)) :
    Safe H U (Prog.lift (.load m r hl) >>= f) := ⟨hm, hf⟩

theorem safe_store {β : Type} {cs : CoreSpace} {sh : Shape} {e : EltTy} {m : Memref sig .tc cs sh e} {r : Rect sh} {w : r.shape.Idx → Elt F e}
    {M : Finset r.shape.Idx} {h1 : (m.access r).Stores M} {h2 : M = Finset.univ ∨ ∀ a, r.stride a = 1}
    {f : PUnit → PG F β} (hm : m.view.ref ∈ U) (hf : Safe H U (f ⟨⟩)) :
    Safe H U (Prog.lift (.store m r w M h1 h2) >>= f) := ⟨hm, hf⟩

/-- What a safe program needs is less with more buffers. -/
theorem Safe.mono {H' U' : Finset (Ref sig .tc)} (hH : H ⊆ H') (hU : U ⊆ U') {α : Type} {p : PG F α} (h : Safe H U p) : Safe H' U' p := by
  induction p with
  | ret a => trivial
  | op e k ih =>
    cases e with
    | load m r hl => exact ⟨hH h.1, fun v => ih v (h.2 v)⟩
    | store m r w M h1 h2 => exact ⟨hU h.1, ih ⟨⟩ h.2⟩
    | _ => exact h.elim

theorem safe_forFrom {σ : Type} {n : ℕ} (body : Fin n → σ → PG F σ) (hb : ∀ k a, Safe H U (body k a)) :
    ∀ (l : List (Fin n)) (a : σ), Safe H U (Scf.forFrom body l a)
  | [], a => trivial
  | k :: l, a => safe_bind (hb k a) fun a => safe_forFrom body hb l a

/-- A counted loop of safe trips is safe. -/
theorem safe_for {w : ℕ} {σ : Type} {lb ub st : BitVec w} {hok : Scf.OK lb ub st} {a : σ}
    {body : Fin (Scf.trips lb ub st) → σ → PG F σ} (hb : ∀ k a, Safe H U (body k a)) : Safe H U (Scf.for lb ub st hok a body) := by
  rw [Scf.for_eq]; exact safe_forFrom body hb _ a

/-- A safe program leaves every buffer outside `U`, and the cells, as they were. -/
theorem Safe.wpp {c : Dev nD} (R : Rig) (hH : H ⊆ R.H) (hU : U ⊆ R.H) {α : Type} {p : PG F α} {Q : α → St F c → Prop} :
    ∀ {s : St F c}, Safe H U p → (∀ a (s' : St F c), (∀ b, b ∉ U → s'.mem b = s.mem b) → s'.busy = s.busy → Q a s') → Attn.wpp R p Q s := by
  induction p with
  | ret a => exact fun {s} _ hQ => hQ a s (fun _ _ => rfl) rfl
  | op e k ih =>
    intro s h hQ
    cases e with
    | load m r hl => exact ⟨.inl (hH h.1), ih _ (h.2 _) hQ⟩
    | store m r w M h1 h2 =>
      refine ⟨hU h.1, ih _ h.2 fun a s' hs hb => hQ a s' (fun b hbU => ?_) hb⟩
      rw [hs b hbU, St.upd_ne _ _ (fun he => hbU (by rw [he]; exact h.1))]
    | _ => exact h.elim

end Cert.KernelIdeal.Attn
-- ==== Proof.Attn.Fill.lean ====
/-
  The filling of the weights' buffer: 32 chunks of 32 rows pass through the four slots of the staged buffer; the columns
  of each chunk are moved, converted, to their place. `FillI` is what holds between two operations.
-/
module

public import proofs.«01_k».proof.Proof.Attn.Safe
public import proofs.«01_k».proof.Proof.Gen.KernelIdeal.Skeleton
public import Idealize.ShloMosaic.Lib.ValueLayout

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F] {c : Dev nD}

/-- The weights' buffer. -/
def wS (s : St F c) : S1024x6656.Idx → Elt F .bf16 := s.mem cc0_scratch7
/-- The staged buffer. -/
def gS (s : St F c) : S4x32x6656.Idx → Elt F .f32 := s.mem cc0_scratch8
/-- The array copied from. -/
def hS (s : St F c) : S1024x8704.Idx → Elt F .f32 := s.mem main_v0

/-- The cell of slot `j`. -/
def semOf (j : Fin 4) : DmaSem sig :=
  ((cc0_scratch9.slice (Rect.unit (s := S4) ![j.val] S1.size (fun a => by
    match a with | ⟨0, _⟩ => show j.val + 1 ≤ 4; omega))).squeeze S_ squeezes_S1_S_).sem

/-- What the body is run against. -/
def rig (H : Finset (Ref sig .tc)) (h1 : cc0_scratch8 ∉ H) (h2 : main_v0 ∉ H) : Rig where
  H := H
  stage := cc0_scratch8
  hbm := main_v0
  sems := semOf
  N := (cc0_scratch8 : Ref sig .tc).dmaCredit S32x6656 .f32
  N_pos := sig.dmaCredit_pos _ _ _ _ _ (by decide)
  stage_not := h1
  hbm_not := h2
  stage_ne := by decide

/-- The conversion a move applies. -/
def cv (x : Elt F .f32) : Elt F .bf16 := FloatOps.truncf .bf16 bitsLt_bf16_f32 x

/-- The column of the weights that column `x` of the buffer holds. -/
def perm (x : ℕ) : ℕ :=
  if x < 2560 then x else
    (if (x - 2560) / 256 % 4 = 0 then 4608 else if (x - 2560) / 256 % 4 = 1 then 2560 else if (x - 2560) / 256 % 4 = 2 then 3584 else 5632)
      + (x - 2560) / 1024 * 256 + x % 256

theorem perm_lt {x : ℕ} (h : x < 6656) : perm x < 8704 := by unfold perm; split_ifs <;> omega

/-- After chunks `< enq` were started, chunks `< wt` awaited, chunks `< k` moved, and the columns `< C` of chunk `k` moved. -/
structure FillI (s0 : St F c) (enq wt k C : ℕ) (s : St F c) : Prop where
  other : ∀ b, b ≠ cc0_scratch7 → b ≠ cc0_scratch8 → s.mem b = s0.mem b
  busy : ∀ j : Fin 4, s.busy j = true ↔ ∃ e, wt ≤ e ∧ e < enq ∧ e % 4 = j.val
  st : ∀ e : Fin 32, k ≤ e.val → e.val < enq → ∀ (r : Fin 32) (x : Fin 6656),
    gS s (ix3 ⟨e.val % 4, by omega⟩ r x) = hS s0 (ix2 ⟨32 * e.val + r.val, by omega⟩ ⟨x.val, by omega⟩)
  w : ∀ (r : Fin 1024) (x : Fin 6656), r.val < 32 * k ∨ (r.val < 32 * k + 32 ∧ x.val < C) →
    wS s (ix2 r x) = cv (hS s0 (ix2 r ⟨perm x.val, perm_lt x.isLt⟩))

/-- The next chunk. -/
theorem FillI.next {s0 s : St F c} {enq wt k : ℕ} (h : FillI s0 enq wt k 6656 s) : FillI s0 enq wt (k + 1) 0 s where
  other := h.other
  busy := h.busy
  st e h1 h2 := h.st e (by omega) h2
  w r x hx := h.w r x (by omega)

theorem write_rect_emb {b : Ref sig .tc} (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) f w (Finset.mem_univ x)

theorem write_rect_not {b : Ref sig .tc} (r : Rect b.ty.shape) (f : b.ty.Contents (Elt F)) (w : r.shape.Idx → Elt F b.ty.elt) (i : b.ty.shape.Idx)
    (h : ∀ x, r.emb x ≠ i) : ((Memref.whole b).access r).write (Elt F) f w Finset.univ i = f i :=
  View.write_of_not_mem (v := (Memref.whole b).access r) f w _ (fun hm => by
    obtain ⟨x, -, hx⟩ := Finset.mem_map.mp hm
    exact h x hx)

variable {H : Finset (Ref sig .tc)} {h1 : cc0_scratch8 ∉ H} {h2 : main_v0 ∉ H} {β : Type} {Q : β → St F c → Prop}

/-- A move: load a piece of the slot, load and overwrite the columns of the buffer. -/
theorem wpp_move (hH : cc0_scratch7 ∈ H) {s0 s : St F c} {enq wt k C : ℕ} (hI : FillI s0 enq wt k C s) (W S : ℕ)
    (hk : k < wt) (hke : k < enq) (he4 : enq ≤ k + 4) (hk32 : k < 32)
    {inb1 : ∀ a, (![k % 4, 0, S] : Fin 3 → ℕ) a + (![1, 32, W] : Fin 3 → ℕ) a ≤ S4x32x6656.size a}
    {inb2 inb3 : ∀ a, (![32 * k, C] : Fin 2 → ℕ) a + (![32, W] : Fin 2 → ℕ) a ≤ S1024x6656.size a}
    {l1 : (Memref.whole cc0_scratch8).view.LoadsAt (Rect.unit (s := S4x32x6656) ![k % 4, 0, S] ![1, 32, W] inb1).toLoadRect}
    {l2 : (Memref.whole cc0_scratch7).view.LoadsAt (Rect.unit (s := S1024x6656) ![32 * k, C] ![32, W] inb2).toLoadRect}
    {pay : ((⟨3, ![1, 32, W]⟩ : Shape).Idx → Elt F .f32) → (⟨2, ![32, W]⟩ : Shape).Idx → Elt F .bf16}
    {l3 : ((Memref.whole cc0_scratch7).access (Rect.unit (s := S1024x6656) ![32 * k, C] ![32, W] inb3)).Stores Finset.univ}
    {l4 : (Finset.univ : Finset (Rect.unit (s := S1024x6656) ![32 * k, C] ![32, W] inb3).shape.Idx) = Finset.univ ∨ ∀ a, (Rect.unit (s := S1024x6656) ![32 * k, C] ![32, W] inb3).stride a = 1}
    {f : PUnit → PG F β}
    (hp : ∀ v (r : Fin 32) (x : Fin W), pay v (ix2 r x) = cv (v (ix3 0 r x)))
    (hperm : ∀ i < W, perm (C + i) = S + i)
    (h : ∀ s', FillI s0 enq wt k (C + W) s' → wpp (rig H h1 h2) (f ⟨⟩) Q s') :
    wpp (rig H h1 h2) (Prog.lift (.load (Memref.whole cc0_scratch8) (Rect.unit (s := S4x32x6656) ![k % 4, 0, S] ![1, 32, W] inb1).toLoadRect l1) >>= fun v =>
      Prog.lift (.load (Memref.whole cc0_scratch7) (Rect.unit (s := S1024x6656) ![32 * k, C] ![32, W] inb2).toLoadRect l2) >>= fun _ =>
      Prog.lift (.store (Memref.whole cc0_scratch7) (Rect.unit (s := S1024x6656) ![32 * k, C] ![32, W] inb3) (pay v) Finset.univ l3 l4) >>= f) Q s := by
  have hSW : S + W ≤ 6656 := inb1 2
  have hCW : C + W ≤ 6656 := inb2 1
  refine ⟨Or.inr ⟨rfl, ⟨⟨k % 4, by omega⟩, ?_, ?_⟩⟩, Or.inl hH, hH, h _ ?_⟩
  · rcases hb : s.busy ⟨k % 4, by omega⟩ with _ | _
    · rfl
    · obtain ⟨e, e1, e2, e3⟩ := (hI.busy _).mp hb
      exact absurd e3 (by show e % 4 ≠ k % 4; omega)
  · intro x hx
    obtain ⟨y, hy, rfl⟩ := Finset.mem_map.mp hx
    have hz := Rect.mem_set_unit.mp hy ⟨0, by decide⟩
    have hz1 : k % 4 ≤ (y 0).val := hz.1
    have hz2 : (y 0).val < k % 4 + 1 := hz.2
    show (y 0).val = k % 4
    omega
  · set v := (Memref.whole cc0_scratch8).view.readAt (Elt F) (Rect.unit (s := S4x32x6656) ![k % 4, 0, S] ![1, 32, W] inb1).toLoadRect (s.mem cc0_scratch8) with hv
    have hval : ∀ (r : Fin 32) (x : Fin W), v (ix3 0 r x) = gS s (ix3 ⟨k % 4, by omega⟩ r ⟨S + x.val, by omega⟩) := by
      intro r x
      exact congrArg (gS s) (funext fun a => Fin.ext (by
        match a with
        | ⟨0, _⟩ => show k % 4 + 1 * 0 = k % 4; omega
        | ⟨1, _⟩ => show 0 + 1 * r.val = r.val; omega
        | ⟨2, _⟩ => show S + 1 * x.val = S + x.val; omega))
    refine ⟨fun b hb7 hb8 => ?_, hI.busy, fun e e1 e2 r x => ?_, fun r x hx => ?_⟩
    · rw [St.upd_ne _ _ hb7]; exact hI.other b hb7 hb8
    · exact (congrFun (St.upd_ne s _ (by decide)) _).trans (hI.st e e1 e2 r x)
    · refine (congrFun (St.upd_same s _ _) _).trans ?_
      by_cases hin : 32 * k ≤ r.val ∧ r.val < 32 * k + 32 ∧ C ≤ x.val ∧ x.val < C + W
      · obtain ⟨r1, r2, x1, x2⟩ := hin
        have hix : (ix2 r x : S1024x6656.Idx) = (Rect.unit (s := S1024x6656) ![32 * k, C] ![32, W] inb3).emb
            (ix2 (⟨r.val - 32 * k, by omega⟩ : Fin 32) (⟨x.val - C, by omega⟩ : Fin W)) := funext fun a => Fin.ext (by
          match a with
          | ⟨0, _⟩ => show r.val = 32 * k + 1 * (r.val - 32 * k); omega
          | ⟨1, _⟩ => show x.val = C + 1 * (x.val - C); omega)
        rw [hix]
        refine (write_rect_emb (b := cc0_scratch7) _ _ _ _).trans ?_
        rw [hp, hval, hI.st ⟨k, hk32⟩ le_rfl hke]
        refine congrArg (fun z => cv (hS s0 z)) (funext fun a => Fin.ext ?_)
        match a with
        | ⟨0, _⟩ => show 32 * k + (r.val - 32 * k) = r.val; omega
        | ⟨1, _⟩ =>
          show S + (x.val - C) = perm x.val
          rw [← hperm _ (by omega : x.val - C < W)]; congr 1; omega
      · refine (write_rect_not (b := cc0_scratch7) _ _ _ _ fun z hz => hin ?_).trans (hI.w r x (by omega))
        have z0 : (z 0).val < 32 := (z 0).isLt
        have z1 : (z 1).val < W := (z 1).isLt
        have e0 : 32 * k + 1 * (z 0).val = r.val := congrArg (fun i : S1024x6656.Idx => (i 0).val) hz
        have e1 : C + 1 * (z 1).val = x.val := congrArg (fun i : S1024x6656.Idx => (i 1).val) hz
        omega

/-- The staged buffer with the next chunk in its slot. -/
theorem FillI.start {s0 s : St F c} {enq wt k C : ℕ} (hI : FillI s0 enq wt k C s) (hw : wt ≤ enq) (hb : enq < wt + 4) (hk : enq < k + 4) (he : enq < 32)
    (X : S4x32x6656.Idx → Elt F .f32)
    (hX1 : ∀ (r : Fin 32) (x : Fin 6656), X (ix3 ⟨enq % 4, by omega⟩ r x) = hS s (ix2 ⟨32 * enq + r.val, by omega⟩ ⟨x.val, by omega⟩))
    (hX2 : ∀ i : S4x32x6656.Idx, (i 0).val ≠ enq % 4 → X i = gS s i) :
    FillI s0 (enq + 1) wt k C ((s.upd cc0_scratch8 X).setBusy ⟨enq % 4, by omega⟩ true) := by
  have hg : gS ((s.upd cc0_scratch8 X).setBusy ⟨enq % 4, by omega⟩ true) = X := St.upd_same s cc0_scratch8 X
  refine ⟨fun b hb7 hb8 => (St.upd_ne s _ hb8).trans (hI.other b hb7 hb8), fun j => ?_, fun e e1 e2 r x => ?_, fun r x hx => ?_⟩
  · by_cases hj : j = ⟨enq % 4, by omega⟩
    · subst hj
      rw [St.setBusy_busy, Function.update_self]
      exact ⟨fun _ => ⟨enq, hw, by omega, rfl⟩, fun _ => rfl⟩
    · rw [St.setBusy_busy, Function.update_of_ne hj]
      refine (hI.busy j).trans ⟨fun ⟨e, a, b, d⟩ => ⟨e, a, by omega, d⟩, fun ⟨e, a, b, d⟩ => ⟨e, a, ?_, d⟩⟩
      have : e ≠ enq := fun h' => hj (Fin.ext (by rw [← d, h']))
      omega
  · rw [hg]
    by_cases hee : e.val = enq
    · obtain ⟨e, he'⟩ := e
      subst hee
      refine (hX1 r x).trans ?_
      rw [show hS s = hS s0 from hI.other main_v0 (by decide) (by decide)]
    · refine (hX2 _ ?_).trans (hI.st e e1 (by omega) r x)
      show e.val % 4 ≠ enq % 4
      omega
  · refine Eq.trans ?_ (hI.w r x hx)
    exact congrFun (St.upd_ne s (b := cc0_scratch8) (b' := cc0_scratch7) X (by decide)) _

/-- The start of a chunk's copy. -/
theorem wpp_start {s0 s : St F c} {enq wt k C : ℕ} (hI : FillI s0 enq wt k C s) (hw : wt ≤ enq) (hb : enq < wt + 4) (hk : enq < k + 4) (he : enq < 32)
    {inb1 : ∀ a, (![32 * enq, 0] : Fin 2 → ℕ) a + S32x6656.size a ≤ S1024x8704.size a}
    {inb2 : ∀ a, (![enq % 4, 0, 0] : Fin 3 → ℕ) a + S1x32x6656.size a ≤ S4x32x6656.size a}
    {inb3 : ∀ a, (![enq % 4] : Fin 1 → ℕ) a + S1.size a ≤ S4.size a}
    {q1 q2 : _} {x1 : _} {x2 : _} {x3 : _} {f : PUnit → PG F β}
    (h : ∀ s', FillI s0 (enq + 1) wt k C s' → wpp (rig H h1 h2) (f ⟨⟩) Q s') :
    wpp (rig H h1 h2) (Prog.lift (.enqueueDma ((Memref.whole main_v0).slice (Rect.unit (s := S1024x8704) ![32 * enq, 0] S32x6656.size inb1) (fun _ => rfl))
      (.here (((Memref.whole cc0_scratch8).slice (Rect.unit (s := S4x32x6656) ![enq % 4, 0, 0] S1x32x6656.size inb2) (fun _ => rfl)).squeeze S32x6656 q1))
      (.dma ((cc0_scratch9.slice (Rect.unit (s := S4) ![enq % 4] S1.size inb3)).squeeze S_ q2).sem) x1 x2 x3) >>= f) Q s := by
  have hemb : ∀ (r : Fin 32) (x : Fin 6656), (((Memref.whole cc0_scratch8).slice (Rect.unit (s := S4x32x6656) ![enq % 4, 0, 0] S1x32x6656.size inb2) (fun _ => rfl)).squeeze S32x6656 q1).view.emb (ix2 r x)
      = (ix3 (⟨enq % 4, by omega⟩ : Fin 4) r x : S4x32x6656.Idx) := by
    intro r x
    have e : (Shape.reshapeEquiv q1.numel_eq (ix2 r x) : S1x32x6656.Idx) = ix3 (0 : Fin 1) r x := shapeCast_1ab_ab_apply (fun i => i) q1.numel_eq r x
    show (Rect.unit (s := S4x32x6656) ![enq % 4, 0, 0] S1x32x6656.size inb2).emb (Shape.reshapeEquiv q1.numel_eq (ix2 r x)) = _
    rw [e]
    refine funext fun a => Fin.ext ?_
    match a with
    | ⟨0, _⟩ => show enq % 4 + 1 * 0 = enq % 4; omega
    | ⟨1, _⟩ => show 0 + 1 * r.val = r.val; omega
    | ⟨2, _⟩ => show 0 + 1 * x.val = x.val; omega
  refine ⟨⟨enq % 4, by omega⟩, rfl, ?_, rfl, rfl, rfl, ?_, h _ ?_⟩
  · rcases hb' : s.busy ⟨enq % 4, by omega⟩ with _ | _
    · rfl
    · obtain ⟨e, e1, e2, e3⟩ := (hI.busy _).mp hb'
      exact absurd e3 (by show e % 4 ≠ enq % 4; omega)
  · intro x hx
    obtain ⟨y, -, rfl⟩ := Finset.mem_map.mp hx
    have hy : y = ix2 (y 0) (y 1) := funext fun a => by match a with | ⟨0, _⟩ => rfl | ⟨1, _⟩ => rfl
    rw [hy]
    exact (congrArg lead (hemb (y 0) (y 1))).trans rfl
  · refine FillI.start hI hw hb hk he _ (fun r x => ?_) (fun i hi => ?_)
    · refine (congrArg _ (hemb r x).symm).trans ?_
      refine (View.write_emb_of_mem (v := (((Memref.whole cc0_scratch8).slice (Rect.unit (s := S4x32x6656) ![enq % 4, 0, 0] S1x32x6656.size inb2) (fun _ => rfl)).squeeze S32x6656 q1).view) _ _ (Finset.mem_univ (ix2 r x))).trans ?_
      show hS s ((Rect.unit (s := S1024x8704) ![32 * enq, 0] S32x6656.size inb1).emb (ix2 r x)) = _
      refine congrArg (hS s) (funext fun a => Fin.ext ?_)
      match a with
      | ⟨0, _⟩ => show 32 * enq + 1 * r.val = 32 * enq + r.val; omega
      | ⟨1, _⟩ => show 0 + 1 * x.val = x.val; omega
    · refine View.write_of_not_mem (v := (((Memref.whole cc0_scratch8).slice (Rect.unit (s := S4x32x6656) ![enq % 4, 0, 0] S1x32x6656.size inb2) (fun _ => rfl)).squeeze S32x6656 q1).view) _ _ _ fun hm => ?_
      obtain ⟨y, -, hy'⟩ := Finset.mem_map.mp hm
      have hy : y = ix2 (y 0) (y 1) := funext fun a => by match a with | ⟨0, _⟩ => rfl | ⟨1, _⟩ => rfl
      rw [hy] at hy'
      have hz := (hemb (y 0) (y 1)).symm.trans hy'
      exact hi (congrArg (fun i : S4x32x6656.Idx => (i 0).val) hz).symm

/-- The end of a chunk's copy. -/
theorem wpp_await {s0 s : St F c} {enq wt k C : ℕ} (hI : FillI s0 enq wt k C s) (hw : wt < enq) (hb : enq ≤ wt + 4)
    {inb2 : ∀ a, (![wt % 4, 0, 0] : Fin 3 → ℕ) a + S1x32x6656.size a ≤ S4x32x6656.size a}
    {inb3 : ∀ a, (![wt % 4] : Fin 1 → ℕ) a + S1.size a ≤ S4.size a}
    {q1 q2 : _} {m : Memref sig .tc .hbm S32x6656 .f32} {x1 : _} {x2 : _} {f : PUnit → PG F β}
    (h : ∀ s', FillI s0 enq (wt + 1) k C s' → wpp (rig H h1 h2) (f ⟨⟩) Q s') :
    wpp (rig H h1 h2) (Prog.lift (.waitDma2 ((cc0_scratch9.slice (Rect.unit (s := S4) ![wt % 4] S1.size inb3)).squeeze S_ q2).sem m
      (((Memref.whole cc0_scratch8).slice (Rect.unit (s := S4x32x6656) ![wt % 4, 0, 0] S1x32x6656.size inb2) (fun _ => rfl)).squeeze S32x6656 q1) x1 x2) >>= f) Q s := by
  refine ⟨⟨wt % 4, by omega⟩, rfl, (hI.busy _).mpr ⟨wt, le_rfl, hw, rfl⟩, rfl, h _ ?_⟩
  refine ⟨hI.other, fun j => ?_, hI.st, hI.w⟩
  by_cases hj : j = ⟨wt % 4, by omega⟩
  · subst hj
    rw [St.setBusy_busy, Function.update_self]
    refine ⟨fun h => (Bool.false_ne_true h).elim, fun ⟨e, a, b, d⟩ => absurd d ?_⟩
    show e % 4 ≠ wt % 4
    omega
  · rw [St.setBusy_busy, Function.update_of_ne hj]
    refine (hI.busy j).trans ⟨fun ⟨e, a, b, d⟩ => ⟨e, ?_, b, d⟩, fun ⟨e, a, b, d⟩ => ⟨e, by omega, b, d⟩⟩
    have : e ≠ wt := fun h' => hj (Fin.ext (by rw [← d, h']))
    omega

/-- The payload of a move of 256 columns. -/
theorem pay256 (v : S1x32x256.Idx → Elt F .f32) (r : Fin 32) (x : Fin 256) : k0_pay5 v (ix2 r x) = cv (v (ix3 0 r x)) := by
  unfold k0_pay5
  rw [shapeCast_self]
  exact congrArg cv (shapeCast_1ab_ab_apply v shapeCasts_S1x32x256_S32x256 r x)

/-- The payload of the move of the first 2560 columns. -/
theorem pay2560 (v : S1x32x2560.Idx → Elt F .f32) (r : Fin 32) (x : Fin 2560) : k0_pay4 v (ix2 r x) = cv (v (ix3 0 r x)) := by
  unfold k0_pay4
  rw [shapeCast_self]
  exact congrArg cv (shapeCast_1ab_ab_apply v shapeCasts_S1x32x2560_S32x2560 r x)

/-- The permuted columns, block by block. -/
theorem perm_block {C S W : ℕ} (hW : W = 256 ∧ C % 256 = 0 ∧ 2560 ≤ C ∧ perm C = S ∨ C = 0 ∧ S = 0 ∧ W = 2560) : ∀ i < W, perm (C + i) = S + i := by
  intro i hi
  rcases hW with ⟨rfl, hC, h0, rfl⟩ | ⟨rfl, rfl, rfl⟩
  · obtain ⟨n, rfl⟩ : ∃ n, C = 2560 + 256 * n := ⟨(C - 2560) / 256, by omega⟩
    have e1 : (2560 + 256 * n + i - 2560) / 256 = n := by omega
    have e2 : (2560 + 256 * n + i - 2560) / 1024 = n / 4 := by omega
    have e3 : (2560 + 256 * n + i) % 256 = i := by omega
    have e1' : (2560 + 256 * n - 2560) / 256 = n := by omega
    have e2' : (2560 + 256 * n - 2560) / 1024 = n / 4 := by omega
    have e3' : (2560 + 256 * n) % 256 = 0 := by omega
    rw [perm, perm, if_neg (show ¬ 2560 + 256 * n + i < 2560 by omega), if_neg (show ¬ 2560 + 256 * n < 2560 by omega), e1, e2, e3, e1', e2', e3']
    omega
  · unfold perm; rw [if_pos (by omega)]

end Cert.KernelIdeal.Attn
-- ==== Proof.Attn.FillA.lean ====
/-
  The filling, operation by operation: parts 1 to 30 of the body.
-/
module

public import proofs.«01_k».proof.Proof.Attn.Fill

@[expose] public section

set_option maxHeartbeats 1000000
set_option maxRecDepth 16384

noncomputable section

namespace Cert.KernelIdeal.Attn

open Cert.KernelIdeal Cert.KernelIdeal.Gen
open Idealize.ShloMosaic Idealize.ShloMosaic.TcCoe
open Idealize.SL.Sem

variable {F : FTy → Type} [FloatOps F] {c : Dev nD} {H : Finset (Ref sig .tc)} {h1 : cc0_scratch8 ∉ H} {h2 : main_v0 ∉ H} {Q : PUnit → St F c → Prop}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

theorem fill_part1 (hH : cc0_scratch7 ∈ H) {s0 s : St F c} (hI : FillI s0 0 0 0 0 s) (h : ∀ s', FillI s0 4 1 0 0 s' → Q ⟨⟩ s') :
    wpp (rig H h1 h2) (k0_part1 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part1_eq_skeleton]; unfold k0_part1_skel
  refine wpp_start (enq := 0) hI (by omega) (by omega) (by omega) (by omega) fun s hI => ?_
  refine wpp_start (enq := 1) hI (by omega) (by omega) (by omega) (by omega) fun s hI => ?_
  refine wpp_start (enq := 2) hI (by omega) (by omega) (by omega) (by omega) fun s hI => ?_
  refine wpp_start (enq := 3) hI (by omega) (by omega) (by omega) (by omega) fun s hI => ?_
  refine wpp_await (wt := 0) hI (by omega) (by omega) fun s hI => ?_
  exact h _ hI

theorem fill_part2 (hH : cc0_scratch7 ∈ H) {s0 s : St F c} (hI : FillI s0 4 1 0 0 s) (h : ∀ s', FillI s0 4 1 0 3584 s' → Q ⟨⟩ s') :
    wpp (rig H h1 h2) (k0_part2 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part2_eq_skeleton]; unfold k0_part2_skel
  refine wpp_move hH (k := 0) (C := 0) hI 2560 0 (by omega) (by omega) (by omega) (by omega) pay2560 (perm_block (by decide)) fun s hI => ?_
  refine wpp_move hH (k := 0) (C := 2560) hI 256 4608 (by omega) (by omega) (by omega) (by omega) pay256 (perm_block (by decide)) fun s hI => ?_
  refine wpp_move hH (k := 0) (C := 2816) hI 256 2560 (by omega) (by omega) (by omega) (by omega) pay256 (perm_block (by decide)) fun s hI => ?_
  refine wpp_move hH (k := 0) (C := 3072) hI 256 3584 (by omega) (by omega) (by omega) (by omega) pay256 (perm_block (by decide)) fun s hI => ?_
  refine wpp_move hH (k := 0) (C := 3328) hI 256 5632 (by omega) (by omega) (by omega) (by omega) pay256 (perm_block (by decide)) fun s hI => ?_
  exact h _ hI

theorem fill_part3 (hH : cc0_scratch7 ∈ H) {s0 s : St F c} (hI : FillI s0 4 1 0 3584 s) (h : ∀ s', FillI s0 4 1 0 4864 s' → Q ⟨⟩ s') :
    wpp (rig H h1 h2) (k0_part3 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part3_eq_skeleton]; unfold k0_part3_skel
  refine wpp_move hH (k := 0) (C := 3584) hI 256 4864 (by omega) (by omega) (by omega) (by omega) pay256 (perm_block (by decide)) fun s hI => ?_
  refine wpp_move hH (k := 0) (C := 3840) hI 256 2816 (by omega) (by omega) (by omega) (by omega) pay256 (perm_block (by decide)) fun s hI => ?_
  refine wpp_move hH (k := 0) (C := 4096) hI 256 3840 (by omega) (by omega) (by omega) (by omega) pay256 (perm_block (by decide)) fun s hI => ?_
  refine wpp_move hH (k := 0) (C := 4352) hI 256 5888 (by omega) (by omega) (by omega) (by omega) pay256 (perm_block (by decide)) fun s hI => ?_
  refine wpp_move hH (k := 0) (C := 4608) hI 256 5120 (by omega) (by omega) (by omega) (by omega) pay256 (perm_block (by decide)) fun s hI => ?_
  exact h _ hI

theorem fill_part4 (hH : cc0_scratch7 ∈ H) {s0 s : St F c} (hI : FillI s0 4 1 0 4864 s) (h : ∀ s', FillI s0 4 1 0 6144 s' → Q ⟨⟩ s') :
    wpp (rig H h1 h2) (k0_part4 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part4_eq_skeleton]; unfold k0_part4_skel
  refine wpp_move hH (k := 0) (C := 4864) hI 256 3072 (by omega) (by omega) (by omega) (by omega) pay256 (perm_block (by decide)) fun s hI => ?_
  refine wpp_move hH (k := 0) (C := 5120) hI 256 4096 (by omega) (by omega) (by omega) (by omega) pay256 (perm_block (by decide)) fun s hI => ?_
  refine wpp_move hH (k := 0) (C := 5376) hI 256 6144 (by omega) (by omega) (by omega) (by omega) pay256 (perm_block (by decide)) fun s hI => ?_
  refine wpp_move hH (k := 0) (C := 5632) hI 256 5376 (by omega) (by omega) (by omega) (by omega) pay256 (perm_block (by decide)) fun s hI => ?_
  refine wpp_move hH (k := 0) (C := 5888) hI 256 3328 (by omega) (by omega) (by omega) (by omega) pay256 (perm_block (by decide)) fun s hI => ?_
  exact h _ hI

theorem fill_part5 (hH : cc0_scratch7 ∈ H) {s0 s : St F c} (hI : FillI s0 4 1 0 6144 s) (h : ∀ s', FillI s0 5 2 1 2560 s' → Q ⟨⟩ s') :
    wpp (rig H h1 h2) (k0_part5 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part5_eq_skeleton]; unfold k0_part5_skel
  refine wpp_move hH (k := 0) (C := 6144) hI 256 4352 (by omega) (by omega) (by omega) (by omega) pay256 (perm_block (by decide)) fun s hI => ?_
  refine wpp_move hH (k := 0) (C := 6400) hI 256 6400 (by omega) (by omega) (by omega) (by omega) pay256 (perm_block (by decide)) fun s hI => ?_
  replace hI := hI.next
  refine wpp_start (enq := 4) hI (by omega) (by omega) (by omega) (by omega) fun s hI => ?_
  refine wpp_await (wt := 1) hI (by omega) (by omega) fun s hI => ?_
  refine wpp_move hH (k := 1) (C := 0) hI 2560 0 (by omega) (by omega) (by omega) (by omega) pay2560 (perm_block (by decide)) fun s hI => ?_
  exact h _ hI

theorem fill_part6 (hH : cc0_scratch7 ∈ H) {s0 s : St F c} (hI : FillI s0 5 2 1 2560 s) (h : ∀ s', FillI s0 5 2 1 3840 s' → Q ⟨⟩ s') :
    wpp (rig H h1 h2) (k0_part6 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part6_eq_skeleton]; unfold k0_part6_skel
  refine wpp_move hH (k := 1) (C := 2560) hI 256 4608 (by omega) (by omega) (by omega) (by omega) pay256 (perm_block (by decide)) fun s hI => ?_
  refine wpp_move hH (k := 1) (C := 2816) hI 256 2560 (by omega) (by omega) (by omega) (by omega) pay256 (perm_block (by decide)) fun s hI => ?_
  refine wpp_move hH (k := 1) (C := 3072) hI 256 3584 (by omega) (by omega) (by omega) (by omega) pay256 (perm_block (by decide)) fun s hI => ?_
  refine wpp_move hH (k := 1) (C := 3328) hI 256 5632 (by omega) (by omega) (by omega) (by omega) pay256 (perm_block (by decide)) fun s hI => ?_
  refine wpp_move hH (k := 1) (C := 3584) hI 256 4864 (by omega) (by omega) (by omega) (by omega) pay256 (perm_block (by decide)) fun s hI => ?_
  exact h _ hI

theorem fill_part7 (hH : cc0_scratch7 ∈ H) {s0 s : St F c} (hI : FillI s0 5 2 1 3840 s) (h : ∀ s', FillI s0 5 2 1 5120 s' → Q ⟨⟩ s') :
    wpp (rig H h1 h2) (k0_part7 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part7_eq_skeleton]; unfold k0_part7_skel
  refine wpp_move hH (k := 1) (C := 3840) hI 256 2816 (by omega) (by omega) (by omega) (by omega) pay256 (perm_block (by decide)) fun s hI => ?_
  refine wpp_move hH (k := 1) (C := 4096) hI 256 3840 (by omega) (by omega) (by omega) (by omega) pay256 (perm_block (by decide)) fun s hI => ?_
  refine wpp_move hH (k := 1) (C := 4352) hI 256 5888 (by omega) (by omega) (by omega) (by omega) pay256 (perm_block (by decide)) fun s hI => ?_
  refine wpp_move hH (k := 1) (C := 4608) hI 256 5120 (by omega) (by omega) (by omega) (by omega) pay256 (perm_block (by decide)) fun s hI => ?_
  refine wpp_move hH (k := 1) (C := 4864) hI 256 3072 (by omega) (by omega) (by omega) (by omega) pay256 (perm_block (by decide)) fun s hI => ?_
  exact h _ hI

theorem fill_part8 (hH : cc0_scratch7 ∈ H) {s0 s : St F c} (hI : FillI s0 5 2 1 5120 s) (h : ∀ s', FillI s0 5 2 1 6400 s' → Q ⟨⟩ s') :
    wpp (rig H h1 h2) (k0_part8 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part8_eq_skeleton]; unfold k0_part8_skel
  refine wpp_move hH (k := 1) (C := 5120) hI 256 4096 (by omega) (by omega) (by omega) (by omega) pay256 (perm_block (by decide)) fun s hI => ?_
  refine wpp_move hH (k := 1) (C := 5376) hI 256 6144 (by omega) (by omega) (by omega) (by omega) pay256 (perm_block (by decide)) fun s hI => ?_
  refine wpp_move hH (k := 1) (C := 5632) hI 256 5376 (by omega) (by omega) (by omega) (by omega) pay256 (perm_block (by decide)) fun s hI => ?_
  refine wpp_move hH (k := 1) (C := 5888) hI 256 3328 (by omega) (by omega) (by omega) (by omega) pay256 (perm_block (by decide)) fun s hI => ?_
  refine wpp_move hH (k := 1) (C := 6144) hI 256 4352 (by omega) (by omega) (by omega) (by omega) pay256 (perm_block (by decide)) fun s hI => ?_
  exact h _ hI

theorem fill_part9 (hH : cc0_scratch7 ∈ H) {s0 s : St F c} (hI : FillI s0 5 2 1 6400 s) (h : ∀ s', FillI s0 6 3 2 2816 s' → Q ⟨⟩ s') :
    wpp (rig H h1 h2) (k0_part9 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part9_eq_skeleton]; unfold k0_part9_skel
  refine wpp_move hH (k := 1) (C := 6400) hI 256 6400 (by omega) (by omega) (by omega) (by omega) pay256 (perm_block (by decide)) fun s hI => ?_
  replace hI := hI.next
  refine wpp_start (enq := 5) hI (by omega) (by omega) (by omega) (by omega) fun s hI => ?_
  refine wpp_await (wt := 2) hI (by omega) (by omega) fun s hI => ?_
  refine wpp_move hH (k := 2) (C := 0) hI 2560 0 (by omega) (by omega) (by omega) (by omega) pay2560 (perm_block (by decide)) fun s hI => ?_
  refine wpp_move hH (k := 2) (C := 2560) hI 256 4608 (by omega) (by omega) (by omega) (by omega) pay256 (perm_block (by decide)) fun s hI => ?_
  exact h _ hI

theorem fill_part10 (hH : cc0_scratch7 ∈ H) {s0 s : St F c} (hI : FillI s0 6 3 2 2816 s) (h : ∀ s', FillI s0 6 3 2 4096 s' → Q ⟨⟩ s') :
    wpp (rig H h1 h2) (k0_part10 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part10_eq_skeleton]; unfold k0_part10_skel
  refine wpp_move hH (k := 2) (C := 2816) hI 256 2560 (by omega) (by omega) (by omega) (by omega) pay256 (perm_block (by decide)) fun s hI => ?_
  refine wpp_move hH (k := 2) (C := 3072) hI 256 3584 (by omega) (by omega) (by omega) (by omega) pay256 (perm_block (by decide)) fun s hI => ?_
  refine wpp_move hH (k := 2) (C := 3328) hI 256 5632 (by omega) (by omega) (by omega) (by omega) pay256 (perm_block (by decide)) fun s hI => ?_
  refine wpp_move hH (k := 2) (C := 3584) hI 256 4864 (by omega) (by omega) (by omega) (by omega) pay256 (perm_block (by decide)) fun s hI => ?_
  refine wpp_move hH (k := 2) (C := 3840) hI 256 2816 (by omega) (by omega) (by omega) (by omega) pay256 (perm_block (by decide)) fun s hI => ?_
  exact h _ hI

theorem fill_part11 (hH : cc0_scratch7 ∈ H) {s0 s : St F c} (hI : FillI s0 6 3 2 4096 s) (h : ∀ s', FillI s0 6 3 2 5376 s' → Q ⟨⟩ s') :
    wpp (rig H h1 h2) (k0_part11 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part11_eq_skeleton]; unfold k0_part11_skel
  refine wpp_move hH (k := 2) (C := 4096) hI 256 3840 (by omega) (by omega) (by omega) (by omega) pay256 (perm_block (by decide)) fun s hI => ?_
  refine wpp_move hH (k := 2) (C := 4352) hI 256 5888 (by omega) (by omega) (by omega) (by omega) pay256 (perm_block (by decide)) fun s hI => ?_
  refine wpp_move hH (k := 2) (C := 4608) hI 256 5120 (by omega) (by omega) (by omega) (by omega) pay256 (perm_block (by decide)) fun s hI => ?_
  refine wpp_move hH (k := 2) (C := 4864) hI 256 3072 (by omega) (by omega) (by omega) (by omega) pay256 (perm_block (by decide)) fun s hI => ?_
  refine wpp_move hH (k := 2) (C := 5120) hI 256 4096 (by omega) (by omega) (by omega) (by omega) pay256 (perm_block (by decide)) fun s hI => ?_
  exact h _ hI

theorem fill_part12 (hH : cc0_scratch7 ∈ H) {s0 s : St F c} (hI : FillI s0 6 3 2 5376 s) (h : ∀ s', FillI s0 6 3 3 0 s' → Q ⟨⟩ s') :
    wpp (rig H h1 h2) (k0_part12 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part12_eq_skeleton]; unfold k0_part12_skel
  refine wpp_move hH (k := 2) (C := 5376) hI 256 6144 (by omega) (by omega) (by omega) (by omega) pay256 (perm_block (by decide)) fun s hI => ?_
  refine wpp_move hH (k := 2) (C := 5632) hI 256 5376 (by omega) (by omega) (by omega) (by omega) pay256 (perm_block (by decide)) fun s hI => ?_
  refine wpp_move hH (k := 2) (C := 5888) hI 256 3328 (by omega) (by omega) (by omega) (by omega) pay256 (perm_block (by decide)) fun s hI => ?_
  refine wpp_move hH (k := 2) (C := 6144) hI 256 4352 (by omega) (by omega) (by omega) (by omega) pay256 (perm_block (by decide)) fun s hI => ?_
  refine wpp_move hH (k := 2) (C := 6400) hI 256 6400 (by omega) (by omega) (by omega) (by omega) pay256 (perm_block (by decide)) fun s hI => ?_
  replace hI := hI.next
  exact h _ hI

theorem fill_part13 (hH : cc0_scratch7 ∈ H) {s0 s : St F c} (hI : FillI s0 6 3 3 0 s) (h : ∀ s', FillI s0 7 4 3 3072 s' → Q ⟨⟩ s') :
    wpp (rig H h1 h2) (k0_part13 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part13_eq_skeleton]; unfold k0_part13_skel
  refine wpp_start (enq := 6) hI (by omega) (by omega) (by omega) (by omega) fun s hI => ?_
  refine wpp_await (wt := 3) hI (by omega) (by omega) fun s hI => ?_
  refine wpp_move hH (k := 3) (C := 0) hI 2560 0 (by omega) (by omega) (by omega) (by omega) pay2560 (perm_block (by decide)) fun s hI => ?_
  refine wpp_move hH (k := 3) (C := 2560) hI 256 4608 (by omega) (by omega) (by omega) (by omega) pay256 (perm_block (by decide)) fun s hI => ?_
  refine wpp_move hH (k := 3) (C := 2816) hI 256 2560 (by omega) (by omega) (by omega) (by omega) pay256 (perm_block (by decide)) fun s hI => ?_
  exact h _ hI

theorem fill_part14 (hH : cc0_scratch7 ∈ H) {s0 s : St F c} (hI : FillI s0 7 4 3 3072 s) (h : ∀ s', FillI s0 7 4 3 4352 s' → Q ⟨⟩ s') :
    wpp (rig H h1 h2) (k0_part14 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part14_eq_skeleton]; unfold k0_part14_skel
  refine wpp_move hH (k := 3) (C := 3072) hI 256 3584 (by omega) (by omega) (by omega) (by omega) pay256 (perm_block (by decide)) fun s hI => ?_
  refine wpp_move hH (k := 3) (C := 3328) hI 256 5632 (by omega) (by omega) (by omega) (by omega) pay256 (perm_block (by decide)) fun s hI => ?_
  refine wpp_move hH (k := 3) (C := 3584) hI 256 4864 (by omega) (by omega) (by omega) (by omega) pay256 (perm_block (by decide)) fun s hI => ?_
  refine wpp_move hH (k := 3) (C := 3840) hI 256 2816 (by omega) (by omega) (by omega) (by omega) pay256 (perm_block (by decide)) fun s hI => ?_
  refine wpp_move hH (k := 3) (C := 4096) hI 256 3840 (by omega) (by omega) (by omega) (by omega) pay256 (perm_block (by decide)) fun s hI => ?_
  exact h _ hI

theorem fill_part15 (hH : cc0_scratch7 ∈ H) {s0 s : St F c} (hI : FillI s0 7 4 3 4352 s) (h : ∀ s', FillI s0 7 4 3 5632 s' → Q ⟨⟩ s') :
    wpp (rig H h1 h2) (k0_part15 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part15_eq_skeleton]; unfold k0_part15_skel
  refine wpp_move hH (k := 3) (C := 4352) hI 256 5888 (by omega) (by omega) (by omega) (by omega) pay256 (perm_block (by decide)) fun s hI => ?_
  refine wpp_move hH (k := 3) (C := 4608) hI 256 5120 (by omega) (by omega) (by omega) (by omega) pay256 (perm_block (by decide)) fun s hI => ?_
  refine wpp_move hH (k := 3) (C := 4864) hI 256 3072 (by omega) (by omega) (by omega) (by omega) pay256 (perm_block (by decide)) fun s hI => ?_
  refine wpp_move hH (k := 3) (C := 5120) hI 256 4096 (by omega) (by omega) (by omega) (by omega) pay256 (perm_block (by decide)) fun s hI => ?_
  refine wpp_move hH (k := 3) (C := 5376) hI 256 6144 (by omega) (by omega) (by omega) (by omega) pay256 (perm_block (by decide)) fun s hI => ?_
  exact h _ hI

theorem fill_part16 (hH : cc0_scratch7 ∈ H) {s0 s : St F c} (hI : FillI s0 7 4 3 5632 s) (h : ∀ s', FillI s0 8 4 4 0 s' → Q ⟨⟩ s') :
    wpp (rig H h1 h2) (k0_part16 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part16_eq_skeleton]; unfold k0_part16_skel
  refine wpp_move hH (k := 3) (C := 5632) hI 256 5376 (by omega) (by omega) (by omega) (by omega) pay256 (perm_block (by decide)) fun s hI => ?_
  refine wpp_move hH (k := 3) (C := 5888) hI 256 3328 (by omega) (by omega) (by omega) (by omega) pay256 (perm_block (by decide)) fun s hI => ?_
  refine wpp_move hH (k := 3) (C := 6144) hI 256 4352 (by omega) (by omega) (by omega) (by omega) pay256 (perm_block (by decide)) fun s hI => ?_
  refine wpp_move hH (k := 3) (C := 6400) hI 256 6400 (by omega) (by omega) (by omega) (by omega) pay256 (perm_block (by decide)) fun s hI => ?_
  replace hI := hI.next
  refine wpp_start (enq := 7) hI (by omega) (by omega) (by omega) (by omega) fun s hI => ?_
  exact h _ hI

theorem fill_part17 (hH : cc0_scratch7 ∈ H) {s0 s : St F c} (hI : FillI s0 8 4 4 0 s) (h : ∀ s', FillI s0 8 5 4 3328 s' → Q ⟨⟩ s') :
    wpp (rig H h1 h2) (k0_part17 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part17_eq_skeleton]; unfold k0_part17_skel
  refine wpp_await (wt := 4) hI (by omega) (by omega) fun s hI => ?_
  refine wpp_move hH (k := 4) (C := 0) hI 2560 0 (by omega) (by omega) (by omega) (by omega) pay2560 (perm_block (by decide)) fun s hI => ?_
  refine wpp_move hH (k := 4) (C := 2560) hI 256 4608 (by omega) (by omega) (by omega) (by omega) pay256 (perm_block (by decide)) fun s hI => ?_
  refine wpp_move hH (k := 4) (C := 2816) hI 256 2560 (by omega) (by omega) (by omega) (by omega) pay256 (perm_block (by decide)) fun s hI => ?_
  refine wpp_move hH (k := 4) (C := 3072) hI 256 3584 (by omega) (by omega) (by omega) (by omega) pay256 (perm_block (by decide)) fun s hI => ?_
  exact h _ hI

theorem fill_part18 (hH : cc0_scratch7 ∈ H) {s0 s : St F c} (hI : FillI s0 8 5 4 3328 s) (h : ∀ s', FillI s0 8 5 4 4608 s' → Q ⟨⟩ s') :
    wpp (rig H h1 h2) (k0_part18 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part18_eq_skeleton]; unfold k0_part18_skel
  refine wpp_move hH (k := 4) (C := 3328) hI 256 5632 (by omega) (by omega) (by omega) (by omega) pay256 (perm_block (by decide)) fun s hI => ?_
  refine wpp_move hH (k := 4) (C := 3584) hI 256 4864 (by omega) (by omega) (by omega) (by omega) pay256 (perm_block (by decide)) fun s hI => ?_
  refine wpp_move hH (k := 4) (C := 3840) hI 256 2816 (by omega) (by omega) (by omega) (by omega) pay256 (perm_block (by decide)) fun s hI => ?_
  refine wpp_move hH (k := 4) (C := 4096) hI 256 3840 (by omega) (by omega) (by omega) (by omega) pay256 (perm_block (by decide)) fun s hI => ?_
  refine wpp_move hH (k := 4) (C := 4352) hI 256 5888 (by omega) (by omega) (by omega) (by omega) pay256 (perm_block (by decide)) fun s hI => ?_
  exact h _ hI

theorem fill_part19 (hH : cc0_scratch7 ∈ H) {s0 s : St F c} (hI : FillI s0 8 5 4 4608 s) (h : ∀ s', FillI s0 8 5 4 5888 s' → Q ⟨⟩ s') :
    wpp (rig H h1 h2) (k0_part19 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part19_eq_skeleton]; unfold k0_part19_skel
  refine wpp_move hH (k := 4) (C := 4608) hI 256 5120 (by omega) (by omega) (by omega) (by omega) pay256 (perm_block (by decide)) fun s hI => ?_
  refine wpp_move hH (k := 4) (C := 4864) hI 256 3072 (by omega) (by omega) (by omega) (by omega) pay256 (perm_block (by decide)) fun s hI => ?_
  refine wpp_move hH (k := 4) (C := 5120) hI 256 4096 (by omega) (by omega) (by omega) (by omega) pay256 (perm_block (by decide)) fun s hI => ?_
  refine wpp_move hH (k := 4) (C := 5376) hI 256 6144 (by omega) (by omega) (by omega) (by omega) pay256 (perm_block (by decide)) fun s hI => ?_
  refine wpp_move hH (k := 4) (C := 5632) hI 256 5376 (by omega) (by omega) (by omega) (by omega) pay256 (perm_block (by decide)) fun s hI => ?_
  exact h _ hI

theorem fill_part20 (hH : cc0_scratch7 ∈ H) {s0 s : St F c} (hI : FillI s0 8 5 4 5888 s) (h : ∀ s', FillI s0 9 6 5 0 s' → Q ⟨⟩ s') :
    wpp (rig H h1 h2) (k0_part20 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part20_eq_skeleton]; unfold k0_part20_skel
  refine wpp_move hH (k := 4) (C := 5888) hI 256 3328 (by omega) (by omega) (by omega) (by omega) pay256 (perm_block (by decide)) fun s hI => ?_
  refine wpp_move hH (k := 4) (C := 6144) hI 256 4352 (by omega) (by omega) (by omega) (by omega) pay256 (perm_block (by decide)) fun s hI => ?_
  refine wpp_move hH (k := 4) (C := 6400) hI 256 6400 (by omega) (by omega) (by omega) (by omega) pay256 (perm_block (by decide)) fun s hI => ?_
  replace hI := hI.next
  refine wpp_start (enq := 8) hI (by omega) (by omega) (by omega) (by omega) fun s hI => ?_
  refine wpp_await (wt := 5) hI (by omega) (by omega) fun s hI => ?_
  exact h _ hI

theorem fill_part21 (hH : cc0_scratch7 ∈ H) {s0 s : St F c} (hI : FillI s0 9 6 5 0 s) (h : ∀ s', FillI s0 9 6 5 3584 s' → Q ⟨⟩ s') :
    wpp (rig H h1 h2) (k0_part21 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part21_eq_skeleton]; unfold k0_part21_skel
  refine wpp_move hH (k := 5) (C := 0) hI 2560 0 (by omega) (by omega) (by omega) (by omega) pay2560 (perm_block (by decide)) fun s hI => ?_
  refine wpp_move hH (k := 5) (C := 2560) hI 256 4608 (by omega) (by omega) (by omega) (by omega) pay256 (perm_block (by decide)) fun s hI => ?_
  refine wpp_move hH (k := 5) (C := 2816) hI 256 2560 (by omega) (by omega) (by omega) (by omega) pay256 (perm_block (by decide)) fun s hI => ?_
  refine wpp_move hH (k := 5) (C := 3072) hI 256 3584 (by omega) (by omega) (by omega) (by omega) pay256 (perm_block (by decide)) fun s hI => ?_
  refine wpp_move hH (k := 5) (C := 3328) hI 256 5632 (by omega) (by omega) (by omega) (by omega) pay256 (perm_block (by decide)) fun s hI => ?_
  exact h _ hI

theorem fill_part22 (hH : cc0_scratch7 ∈ H) {s0 s : St F c} (hI : FillI s0 9 6 5 3584 s) (h : ∀ s', FillI s0 9 6 5 4864 s' → Q ⟨⟩ s') :
    wpp (rig H h1 h2) (k0_part22 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part22_eq_skeleton]; unfold k0_part22_skel
  refine wpp_move hH (k := 5) (C := 3584) hI 256 4864 (by omega) (by omega) (by omega) (by omega) pay256 (perm_block (by decide)) fun s hI => ?_
  refine wpp_move hH (k := 5) (C := 3840) hI 256 2816 (by omega) (by omega) (by omega) (by omega) pay256 (perm_block (by decide)) fun s hI => ?_
  refine wpp_move hH (k := 5) (C := 4096) hI 256 3840 (by omega) (by omega) (by omega) (by omega) pay256 (perm_block (by decide)) fun s hI => ?_
  refine wpp_move hH (k := 5) (C := 4352) hI 256 5888 (by omega) (by omega) (by omega) (by omega) pay256 (perm_block (by decide)) fun s hI => ?_
  refine wpp_move hH (k := 5) (C := 4608) hI 256 5120 (by omega) (by omega) (by omega) (by omega) pay256 (perm_block (by decide)) fun s hI => ?_
  exact h _ hI

theorem fill_part23 (hH : cc0_scratch7 ∈ H) {s0 s : St F c} (hI : FillI s0 9 6 5 4864 s) (h : ∀ s', FillI s0 9 6 5 6144 s' → Q ⟨⟩ s') :
    wpp (rig H h1 h2) (k0_part23 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part23_eq_skeleton]; unfold k0_part23_skel
  refine wpp_move hH (k := 5) (C := 4864) hI 256 3072 (by omega) (by omega) (by omega) (by omega) pay256 (perm_block (by decide)) fun s hI => ?_
  refine wpp_move hH (k := 5) (C := 5120) hI 256 4096 (by omega) (by omega) (by omega) (by omega) pay256 (perm_block (by decide)) fun s hI => ?_
  refine wpp_move hH (k := 5) (C := 5376) hI 256 6144 (by omega) (by omega) (by omega) (by omega) pay256 (perm_block (by decide)) fun s hI => ?_
  refine wpp_move hH (k := 5) (C := 5632) hI 256 5376 (by omega) (by omega) (by omega) (by omega) pay256 (perm_block (by decide)) fun s hI => ?_
  refine wpp_move hH (k := 5) (C := 5888) hI 256 3328 (by omega) (by omega) (by omega) (by omega) pay256 (perm_block (by decide)) fun s hI => ?_
  exact h _ hI

theorem fill_part24 (hH : cc0_scratch7 ∈ H) {s0 s : St F c} (hI : FillI s0 9 6 5 6144 s) (h : ∀ s', FillI s0 10 7 6 2560 s' → Q ⟨⟩ s') :
    wpp (rig H h1 h2) (k0_part24 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part24_eq_skeleton]; unfold k0_part24_skel
  refine wpp_move hH (k := 5) (C := 6144) hI 256 4352 (by omega) (by omega) (by omega) (by omega) pay256 (perm_block (by decide)) fun s hI => ?_
  refine wpp_move hH (k := 5) (C := 6400) hI 256 6400 (by omega) (by omega) (by omega) (by omega) pay256 (perm_block (by decide)) fun s hI => ?_
  replace hI := hI.next
  refine wpp_start (enq := 9) hI (by omega) (by omega) (by omega) (by omega) fun s hI => ?_
  refine wpp_await (wt := 6) hI (by omega) (by omega) fun s hI => ?_
  refine wpp_move hH (k := 6) (C := 0) hI 2560 0 (by omega) (by omega) (by omega) (by omega) pay2560 (perm_block (by decide)) fun s hI => ?_
  exact h _ hI

theorem fill_part25 (hH : cc0_scratch7 ∈ H) {s0 s : St F c} (hI : FillI s0 10 7 6 2560 s) (h : ∀ s', FillI s0 10 7 6 3840 s' → Q ⟨⟩ s') :
    wpp (rig H h1 h2) (k0_part25 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part25_eq_skeleton]; unfold k0_part25_skel
  refine wpp_move hH (k := 6) (C := 2560) hI 256 4608 (by omega) (by omega) (by omega) (by omega) pay256 (perm_block (by decide)) fun s hI => ?_
  refine wpp_move hH (k := 6) (C := 2816) hI 256 2560 (by omega) (by omega) (by omega) (by omega) pay256 (perm_block (by decide)) fun s hI => ?_
  refine wpp_move hH (k := 6) (C := 3072) hI 256 3584 (by omega) (by omega) (by omega) (by omega) pay256 (perm_block (by decide)) fun s hI => ?_
  refine wpp_move hH (k := 6) (C := 3328) hI 256 5632 (by omega) (by omega) (by omega) (by omega) pay256 (perm_block (by decide)) fun s hI => ?_
  refine wpp_move hH (k := 6) (C := 3584) hI 256 4864 (by omega) (by omega) (by omega) (by omega) pay256 (perm_block (by decide)) fun s hI => ?_
  exact h _ hI

theorem fill_part26 (hH : cc0_scratch7 ∈ H) {s0 s : St F c} (hI : FillI s0 10 7 6 3840 s) (h : ∀ s', FillI s0 10 7 6 5120 s' → Q ⟨⟩ s') :
    wpp (rig H h1 h2) (k0_part26 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part26_eq_skeleton]; unfold k0_part26_skel
  refine wpp_move hH (k := 6) (C := 3840) hI 256 2816 (by omega) (by omega) (by omega) (by omega) pay256 (perm_block (by decide)) fun s hI => ?_
  refine wpp_move hH (k := 6) (C := 4096) hI 256 3840 (by omega) (by omega) (by omega) (by omega) pay256 (perm_block (by decide)) fun s hI => ?_
  refine wpp_move hH (k := 6) (C := 4352) hI 256 5888 (by omega) (by omega) (by omega) (by omega) pay256 (perm_block (by decide)) fun s hI => ?_
  refine wpp_move hH (k := 6) (C := 4608) hI 256 5120 (by omega) (by omega) (by omega) (by omega) pay256 (perm_block (by decide)) fun s hI => ?_
  refine wpp_move hH (k := 6) (C := 4864) hI 256 3072 (by omega) (by omega) (by omega) (by omega) pay256 (perm_block (by decide)) fun s hI => ?_
  exact h _ hI

theorem fill_part27 (hH : cc0_scratch7 ∈ H) {s0 s : St F c} (hI : FillI s0 10 7 6 5120 s) (h : ∀ s', FillI s0 10 7 6 6400 s' → Q ⟨⟩ s') :
    wpp (rig H h1 h2) (k0_part27 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part27_eq_skeleton]; unfold k0_part27_skel
  refine wpp_move hH (k := 6) (C := 5120) hI 256 4096 (by omega) (by omega) (by omega) (by omega) pay256 (perm_block (by decide)) fun s hI => ?_
  refine wpp_move hH (k := 6) (C := 5376) hI 256 6144 (by omega) (by omega) (by omega) (by omega) pay256 (perm_block (by decide)) fun s hI => ?_
  refine wpp_move hH (k := 6) (C := 5632) hI 256 5376 (by omega) (by omega) (by omega) (by omega) pay256 (perm_block (by decide)) fun s hI => ?_
  refine wpp_move hH (k := 6) (C := 5888) hI 256 3328 (by omega) (by omega) (by omega) (by omega) pay256 (perm_block (by decide)) fun s hI => ?_
  refine wpp_move hH (k := 6) (C := 6144) hI 256 4352 (by omega) (by omega) (by omega) (by omega) pay256 (perm_block (by decide)) fun s hI => ?_
  exact h _ hI

theorem fill_part28 (hH : cc0_scratch7 ∈ H) {s0 s : St F c} (hI : FillI s0 10 7 6 6400 s) (h : ∀ s', FillI s0 11 8 7 2816 s' → Q ⟨⟩ s') :
    wpp (rig H h1 h2) (k0_part28 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part28_eq_skeleton]; unfold k0_part28_skel
  refine wpp_move hH (k := 6) (C := 6400) hI 256 6400 (by omega) (by omega) (by omega) (by omega) pay256 (perm_block (by decide)) fun s hI => ?_
  replace hI := hI.next
  refine wpp_start (enq := 10) hI (by omega) (by omega) (by omega) (by omega) fun s hI => ?_
  refine wpp_await (wt := 7) hI (by omega) (by omega) fun s hI => ?_
  refine wpp_move hH (k := 7) (C := 0) hI 2560 0 (by omega) (by omega) (by omega) (by omega) pay2560 (perm_block (by decide)) fun s hI => ?_
  refine wpp_move hH (k := 7) (C := 2560) hI 256 4608 (by omega) (by omega) (by omega) (by omega) pay256 (perm_block (by decide)) fun s hI => ?_
  exact h _ hI

theorem fill_part29 (hH : cc0_scratch7 ∈ H) {s0 s : St F c} (hI : FillI s0 11 8 7 2816 s) (h : ∀ s', FillI s0 11 8 7 4096 s' → Q ⟨⟩ s') :
    wpp (rig H h1 h2) (k0_part29 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part29_eq_skeleton]; unfold k0_part29_skel
  refine wpp_move hH (k := 7) (C := 2816) hI 256 2560 (by omega) (by omega) (by omega) (by omega) pay256 (perm_block (by decide)) fun s hI => ?_
  refine wpp_move hH (k := 7) (C := 3072) hI 256 3584 (by omega) (by omega) (by omega) (by omega) pay256 (perm_block (by decide)) fun s hI => ?_
  refine wpp_move hH (k := 7) (C := 3328) hI 256 5632 (by omega) (by omega) (by omega) (by omega) pay256 (perm_block (by decide)) fun s hI => ?_
  refine wpp_move hH (k := 7) (C := 3584) hI 256 4864 (by omega) (by omega) (by omega) (by omega) pay256 (perm_block (by decide)) fun s hI => ?_
  refine wpp_move hH (k := 7) (C := 3840) hI 256 2816 (by omega) (by omega) (by omega) (by omega) pay256 (perm_block (by decide)) fun s hI => ?_
  exact h _ hI

theorem fill_part30 (hH : cc0_scratch7 ∈ H) {s0 s : St F c} (hI : FillI s0 11 8 7 4096 s) (h : ∀ s', FillI s0 11 8 7 5376 s' → Q ⟨⟩ s') :
    wpp (rig H h1 h2) (k0_part30 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part30_eq_skeleton]; unfold k0_part30_skel
  refine wpp_move hH (k := 7) (C := 4096) hI 256 3840 (by omega) (by omega) (by omega) (by omega) pay256 (perm_block (by decide)) fun s hI => ?_
  refine wpp_move hH (k := 7) (C := 4352) hI 256 5888 (by omega) (by omega) (by omega) (by omega) pay256 (perm_block (by decide)) fun s hI => ?_
  refine wpp_move hH (k := 7) (C := 4608) hI 256 5120 (by omega) (by omega) (by omega) (by omega) pay256 (perm_block (by decide)) fun s hI => ?_
  refine wpp_move hH (k := 7) (C := 4864) hI 256 3072 (by omega) (by omega) (by omega) (by omega) pay256 (perm_block (by decide)) fun s hI => ?_
  refine wpp_move hH (k := 7) (C := 5120) hI 256 4096 (by omega) (by omega) (by omega) (by omega) pay256 (perm_block (by decide)) fun s hI => ?_
  exact h _ hI

end Cert.KernelIdeal.Attn
-- ==== Proof.Attn.FillB.lean ====
/-
  The filling, operation by operation: parts 31 to 60 of the body.
-/
module

public import proofs.«01_k».proof.Proof.Attn.Fill

@[expose] public section

set_option maxHeartbeats 1000000
set_option maxRecDepth 16384

noncomputable section

namespace Cert.KernelIdeal.Attn

open Cert.KernelIdeal Cert.KernelIdeal.Gen
open Idealize.ShloMosaic Idealize.ShloMosaic.TcCoe
open Idealize.SL.Sem

variable {F : FTy → Type} [FloatOps F] {c : Dev nD} {H : Finset (Ref sig .tc)} {h1 : cc0_scratch8 ∉ H} {h2 : main_v0 ∉ H} {Q : PUnit → St F c → Prop}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

theorem fill_part31 (hH : cc0_scratch7 ∈ H) {s0 s : St F c} (hI : FillI s0 11 8 7 5376 s) (h : ∀ s', FillI s0 11 8 8 0 s' → Q ⟨⟩ s') :
    wpp (rig H h1 h2) (k0_part31 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part31_eq_skeleton]; unfold k0_part31_skel
  refine wpp_move hH (k := 7) (C := 5376) hI 256 6144 (by omega) (by omega) (by omega) (by omega) pay256 (perm_block (by decide)) fun s hI => ?_
  refine wpp_move hH (k := 7) (C := 5632) hI 256 5376 (by omega) (by omega) (by omega) (by omega) pay256 (perm_block (by decide)) fun s hI => ?_
  refine wpp_move hH (k := 7) (C := 5888) hI 256 3328 (by omega) (by omega) (by omega) (by omega) pay256 (perm_block (by decide)) fun s hI => ?_
  refine wpp_move hH (k := 7) (C := 6144) hI 256 4352 (by omega) (by omega) (by omega) (by omega) pay256 (perm_block (by decide)) fun s hI => ?_
  refine wpp_move hH (k := 7) (C := 6400) hI 256 6400 (by omega) (by omega) (by omega) (by omega) pay256 (perm_block (by decide)) fun s hI => ?_
  replace hI := hI.next
  exact h _ hI

theorem fill_part32 (hH : cc0_scratch7 ∈ H) {s0 s : St F c} (hI : FillI s0 11 8 8 0 s) (h : ∀ s', FillI s0 12 9 8 3072 s' → Q ⟨⟩ s') :
    wpp (rig H h1 h2) (k0_part32 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part32_eq_skeleton]; unfold k0_part32_skel
  refine wpp_start (enq := 11) hI (by omega) (by omega) (by omega) (by omega) fun s hI => ?_
  refine wpp_await (wt := 8) hI (by omega) (by omega) fun s hI => ?_
  refine wpp_move hH (k := 8) (C := 0) hI 2560 0 (by omega) (by omega) (by omega) (by omega) pay2560 (perm_block (by decide)) fun s hI => ?_
  refine wpp_move hH (k := 8) (C := 2560) hI 256 4608 (by omega) (by omega) (by omega) (by omega) pay256 (perm_block (by decide)) fun s hI => ?_
  refine wpp_move hH (k := 8) (C := 2816) hI 256 2560 (by omega) (by omega) (by omega) (by omega) pay256 (perm_block (by decide)) fun s hI => ?_
  exact h _ hI

theorem fill_part33 (hH : cc0_scratch7 ∈ H) {s0 s : St F c} (hI : FillI s0 12 9 8 3072 s) (h : ∀ s', FillI s0 12 9 8 4352 s' → Q ⟨⟩ s') :
    wpp (rig H h1 h2) (k0_part33 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part33_eq_skeleton]; unfold k0_part33_skel
  refine wpp_move hH (k := 8) (C := 3072) hI 256 3584 (by omega) (by omega) (by omega) (by omega) pay256 (perm_block (by decide)) fun s hI => ?_
  refine wpp_move hH (k := 8) (C := 3328) hI 256 5632 (by omega) (by omega) (by omega) (by omega) pay256 (perm_block (by decide)) fun s hI => ?_
  refine wpp_move hH (k := 8) (C := 3584) hI 256 4864 (by omega) (by omega) (by omega) (by omega) pay256 (perm_block (by decide)) fun s hI => ?_
  refine wpp_move hH (k := 8) (C := 3840) hI 256 2816 (by omega) (by omega) (by omega) (by omega) pay256 (perm_block (by decide)) fun s hI => ?_
  refine wpp_move hH (k := 8) (C := 4096) hI 256 3840 (by omega) (by omega) (by omega) (by omega) pay256 (perm_block (by decide)) fun s hI => ?_
  exact h _ hI

theorem fill_part34 (hH : cc0_scratch7 ∈ H) {s0 s : St F c} (hI : FillI s0 12 9 8 4352 s) (h : ∀ s', FillI s0 12 9 8 5632 s' → Q ⟨⟩ s') :
    wpp (rig H h1 h2) (k0_part34 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part34_eq_skeleton]; unfold k0_part34_skel
  refine wpp_move hH (k := 8) (C := 4352) hI 256 5888 (by omega) (by omega) (by omega) (by omega) pay256 (perm_block (by decide)) fun s hI => ?_
  refine wpp_move hH (k := 8) (C := 4608) hI 256 5120 (by omega) (by omega) (by omega) (by omega) pay256 (perm_block (by decide)) fun s hI => ?_
  refine wpp_move hH (k := 8) (C := 4864) hI 256 3072 (by omega) (by omega) (by omega) (by omega) pay256 (perm_block (by decide)) fun s hI => ?_
  refine wpp_move hH (k := 8) (C := 5120) hI 256 4096 (by omega) (by omega) (by omega) (by omega) pay256 (perm_block (by decide)) fun s hI => ?_
  refine wpp_move hH (k := 8) (C := 5376) hI 256 6144 (by omega) (by omega) (by omega) (by omega) pay256 (perm_block (by decide)) fun s hI => ?_
  exact h _ hI

theorem fill_part35 (hH : cc0_scratch7 ∈ H) {s0 s : St F c} (hI : FillI s0 12 9 8 5632 s) (h : ∀ s', FillI s0 13 9 9 0 s' → Q ⟨⟩ s') :
    wpp (rig H h1 h2) (k0_part35 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part35_eq_skeleton]; unfold k0_part35_skel
  refine wpp_move hH (k := 8) (C := 5632) hI 256 5376 (by omega) (by omega) (by omega) (by omega) pay256 (perm_block (by decide)) fun s hI => ?_
  refine wpp_move hH (k := 8) (C := 5888) hI 256 3328 (by omega) (by omega) (by omega) (by omega) pay256 (perm_block (by decide)) fun s hI => ?_
  refine wpp_move hH (k := 8) (C := 6144) hI 256 4352 (by omega) (by omega) (by omega) (by omega) pay256 (perm_block (by decide)) fun s hI => ?_
  refine wpp_move hH (k := 8) (C := 6400) hI 256 6400 (by omega) (by omega) (by omega) (by omega) pay256 (perm_block (by decide)) fun s hI => ?_
  replace hI := hI.next
  refine wpp_start (enq := 12) hI (by omega) (by omega) (by omega) (by omega) fun s hI => ?_
  exact h _ hI

theorem fill_part36 (hH : cc0_scratch7 ∈ H) {s0 s : St F c} (hI : FillI s0 13 9 9 0 s) (h : ∀ s', FillI s0 13 10 9 3328 s' → Q ⟨⟩ s') :
    wpp (rig H h1 h2) (k0_part36 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part36_eq_skeleton]; unfold k0_part36_skel
  refine wpp_await (wt := 9) hI (by omega) (by omega) fun s hI => ?_
  refine wpp_move hH (k := 9) (C := 0) hI 2560 0 (by omega) (by omega) (by omega) (by omega) pay2560 (perm_block (by decide)) fun s hI => ?_
  refine wpp_move hH (k := 9) (C := 2560) hI 256 4608 (by omega) (by omega) (by omega) (by omega) pay256 (perm_block (by decide)) fun s hI => ?_
  refine wpp_move hH (k := 9) (C := 2816) hI 256 2560 (by omega) (by omega) (by omega) (by omega) pay256 (perm_block (by decide)) fun s hI => ?_
  refine wpp_move hH (k := 9) (C := 3072) hI 256 3584 (by omega) (by omega) (by omega) (by omega) pay256 (perm_block (by decide)) fun s hI => ?_
  exact h _ hI

theorem fill_part37 (hH : cc0_scratch7 ∈ H) {s0 s : St F c} (hI : FillI s0 13 10 9 3328 s) (h : ∀ s', FillI s0 13 10 9 4608 s' → Q ⟨⟩ s') :
    wpp (rig H h1 h2) (k0_part37 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part37_eq_skeleton]; unfold k0_part37_skel
  refine wpp_move hH (k := 9) (C := 3328) hI 256 5632 (by omega) (by omega) (by omega) (by omega) pay256 (perm_block (by decide)) fun s hI => ?_
  refine wpp_move hH (k := 9) (C := 3584) hI 256 4864 (by omega) (by omega) (by omega) (by omega) pay256 (perm_block (by decide)) fun s hI => ?_
  refine wpp_move hH (k := 9) (C := 3840) hI 256 2816 (by omega) (by omega) (by omega) (by omega) pay256 (perm_block (by decide)) fun s hI => ?_
  refine wpp_move hH (k := 9) (C := 4096) hI 256 3840 (by omega) (by omega) (by omega) (by omega) pay256 (perm_block (by decide)) fun s hI => ?_
  refine wpp_move hH (k := 9) (C := 4352) hI 256 5888 (by omega) (by omega) (by omega) (by omega) pay256 (perm_block (by decide)) fun s hI => ?_
  exact h _ hI

theorem fill_part38 (hH : cc0_scratch7 ∈ H) {s0 s : St F c} (hI : FillI s0 13 10 9 4608 s) (h : ∀ s', FillI s0 13 10 9 5888 s' → Q ⟨⟩ s') :
    wpp (rig H h1 h2) (k0_part38 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part38_eq_skeleton]; unfold k0_part38_skel
  refine wpp_move hH (k := 9) (C := 4608) hI 256 5120 (by omega) (by omega) (by omega) (by omega) pay256 (perm_block (by decide)) fun s hI => ?_
  refine wpp_move hH (k := 9) (C := 4864) hI 256 3072 (by omega) (by omega) (by omega) (by omega) pay256 (perm_block (by decide)) fun s hI => ?_
  refine wpp_move hH (k := 9) (C := 5120) hI 256 4096 (by omega) (by omega) (by omega) (by omega) pay256 (perm_block (by decide)) fun s hI => ?_
  refine wpp_move hH (k := 9) (C := 5376) hI 256 6144 (by omega) (by omega) (by omega) (by omega) pay256 (perm_block (by decide)) fun s hI => ?_
  refine wpp_move hH (k := 9) (C := 5632) hI 256 5376 (by omega) (by omega) (by omega) (by omega) pay256 (perm_block (by decide)) fun s hI => ?_
  exact h _ hI

theorem fill_part39 (hH : cc0_scratch7 ∈ H) {s0 s : St F c} (hI : FillI s0 13 10 9 5888 s) (h : ∀ s', FillI s0 14 11 10 0 s' → Q ⟨⟩ s') :
    wpp (rig H h1 h2) (k0_part39 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part39_eq_skeleton]; unfold k0_part39_skel
  refine wpp_move hH (k := 9) (C := 5888) hI 256 3328 (by omega) (by omega) (by omega) (by omega) pay256 (perm_block (by decide)) fun s hI => ?_
  refine wpp_move hH (k := 9) (C := 6144) hI 256 4352 (by omega) (by omega) (by omega) (by omega) pay256 (perm_block (by decide)) fun s hI => ?_
  refine wpp_move hH (k := 9) (C := 6400) hI 256 6400 (by omega) (by omega) (by omega) (by omega) pay256 (perm_block (by decide)) fun s hI => ?_
  replace hI := hI.next
  refine wpp_start (enq := 13) hI (by omega) (by omega) (by omega) (by omega) fun s hI => ?_
  refine wpp_await (wt := 10) hI (by omega) (by omega) fun s hI => ?_
  exact h _ hI

theorem fill_part40 (hH : cc0_scratch7 ∈ H) {s0 s : St F c} (hI : FillI s0 14 11 10 0 s) (h : ∀ s', FillI s0 14 11 10 3584 s' → Q ⟨⟩ s') :
    wpp (rig H h1 h2) (k0_part40 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part40_eq_skeleton]; unfold k0_part40_skel
  refine wpp_move hH (k := 10) (C := 0) hI 2560 0 (by omega) (by omega) (by omega) (by omega) pay2560 (perm_block (by decide)) fun s hI => ?_
  refine wpp_move hH (k := 10) (C := 2560) hI 256 4608 (by omega) (by omega) (by omega) (by omega) pay256 (perm_block (by decide)) fun s hI => ?_
  refine wpp_move hH (k := 10) (C := 2816) hI 256 2560 (by omega) (by omega) (by omega) (by omega) pay256 (perm_block (by decide)) fun s hI => ?_
  refine wpp_move hH (k := 10) (C := 3072) hI 256 3584 (by omega) (by omega) (by omega) (by omega) pay256 (perm_block (by decide)) fun s hI => ?_
  refine wpp_move hH (k := 10) (C := 3328) hI 256 5632 (by omega) (by omega) (by omega) (by omega) pay256 (perm_block (by decide)) fun s hI => ?_
  exact h _ hI

theorem fill_part41 (hH : cc0_scratch7 ∈ H) {s0 s : St F c} (hI : FillI s0 14 11 10 3584 s) (h : ∀ s', FillI s0 14 11 10 4864 s' → Q ⟨⟩ s') :
    wpp (rig H h1 h2) (k0_part41 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part41_eq_skeleton]; unfold k0_part41_skel
  refine wpp_move hH (k := 10) (C := 3584) hI 256 4864 (by omega) (by omega) (by omega) (by omega) pay256 (perm_block (by decide)) fun s hI => ?_
  refine wpp_move hH (k := 10) (C := 3840) hI 256 2816 (by omega) (by omega) (by omega) (by omega) pay256 (perm_block (by decide)) fun s hI => ?_
  refine wpp_move hH (k := 10) (C := 4096) hI 256 3840 (by omega) (by omega) (by omega) (by omega) pay256 (perm_block (by decide)) fun s hI => ?_
  refine wpp_move hH (k := 10) (C := 4352) hI 256 5888 (by omega) (by omega) (by omega) (by omega) pay256 (perm_block (by decide)) fun s hI => ?_
  refine wpp_move hH (k := 10) (C := 4608) hI 256 5120 (by omega) (by omega) (by omega) (by omega) pay256 (perm_block (by decide)) fun s hI => ?_
  exact h _ hI

theorem fill_part42 (hH : cc0_scratch7 ∈ H) {s0 s : St F c} (hI : FillI s0 14 11 10 4864 s) (h : ∀ s', FillI s0 14 11 10 6144 s' → Q ⟨⟩ s') :
    wpp (rig H h1 h2) (k0_part42 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part42_eq_skeleton]; unfold k0_part42_skel
  refine wpp_move hH (k := 10) (C := 4864) hI 256 3072 (by omega) (by omega) (by omega) (by omega) pay256 (perm_block (by decide)) fun s hI => ?_
  refine wpp_move hH (k := 10) (C := 5120) hI 256 4096 (by omega) (by omega) (by omega) (by omega) pay256 (perm_block (by decide)) fun s hI => ?_
  refine wpp_move hH (k := 10) (C := 5376) hI 256 6144 (by omega) (by omega) (by omega) (by omega) pay256 (perm_block (by decide)) fun s hI => ?_
  refine wpp_move hH (k := 10) (C := 5632) hI 256 5376 (by omega) (by omega) (by omega) (by omega) pay256 (perm_block (by decide)) fun s hI => ?_
  refine wpp_move hH (k := 10) (C := 5888) hI 256 3328 (by omega) (by omega) (by omega) (by omega) pay256 (perm_block (by decide)) fun s hI => ?_
  exact h _ hI

theorem fill_part43 (hH : cc0_scratch7 ∈ H) {s0 s : St F c} (hI : FillI s0 14 11 10 6144 s) (h : ∀ s', FillI s0 15 12 11 2560 s' → Q ⟨⟩ s') :
    wpp (rig H h1 h2) (k0_part43 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part43_eq_skeleton]; unfold k0_part43_skel
  refine wpp_move hH (k := 10) (C := 6144) hI 256 4352 (by omega) (by omega) (by omega) (by omega) pay256 (perm_block (by decide)) fun s hI => ?_
  refine wpp_move hH (k := 10) (C := 6400) hI 256 6400 (by omega) (by omega) (by omega) (by omega) pay256 (perm_block (by decide)) fun s hI => ?_
  replace hI := hI.next
  refine wpp_start (enq := 14) hI (by omega) (by omega) (by omega) (by omega) fun s hI => ?_
  refine wpp_await (wt := 11) hI (by omega) (by omega) fun s hI => ?_
  refine wpp_move hH (k := 11) (C := 0) hI 2560 0 (by omega) (by omega) (by omega) (by omega) pay2560 (perm_block (by decide)) fun s hI => ?_
  exact h _ hI

theorem fill_part44 (hH : cc0_scratch7 ∈ H) {s0 s : St F c} (hI : FillI s0 15 12 11 2560 s) (h : ∀ s', FillI s0 15 12 11 3840 s' → Q ⟨⟩ s') :
    wpp (rig H h1 h2) (k0_part44 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part44_eq_skeleton]; unfold k0_part44_skel
  refine wpp_move hH (k := 11) (C := 2560) hI 256 4608 (by omega) (by omega) (by omega) (by omega) pay256 (perm_block (by decide)) fun s hI => ?_
  refine wpp_move hH (k := 11) (C := 2816) hI 256 2560 (by omega) (by omega) (by omega) (by omega) pay256 (perm_block (by decide)) fun s hI => ?_
  refine wpp_move hH (k := 11) (C := 3072) hI 256 3584 (by omega) (by omega) (by omega) (by omega) pay256 (perm_block (by decide)) fun s hI => ?_
  refine wpp_move hH (k := 11) (C := 3328) hI 256 5632 (by omega) (by omega) (by omega) (by omega) pay256 (perm_block (by decide)) fun s hI => ?_
  refine wpp_move hH (k := 11) (C := 3584) hI 256 4864 (by omega) (by omega) (by omega) (by omega) pay256 (perm_block (by decide)) fun s hI => ?_
  exact h _ hI

theorem fill_part45 (hH : cc0_scratch7 ∈ H) {s0 s : St F c} (hI : FillI s0 15 12 11 3840 s) (h : ∀ s', FillI s0 15 12 11 5120 s' → Q ⟨⟩ s') :
    wpp (rig H h1 h2) (k0_part45 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part45_eq_skeleton]; unfold k0_part45_skel
  refine wpp_move hH (k := 11) (C := 3840) hI 256 2816 (by omega) (by omega) (by omega) (by omega) pay256 (perm_block (by decide)) fun s hI => ?_
  refine wpp_move hH (k := 11) (C := 4096) hI 256 3840 (by omega) (by omega) (by omega) (by omega) pay256 (perm_block (by decide)) fun s hI => ?_
  refine wpp_move hH (k := 11) (C := 4352) hI 256 5888 (by omega) (by omega) (by omega) (by omega) pay256 (perm_block (by decide)) fun s hI => ?_
  refine wpp_move hH (k := 11) (C := 4608) hI 256 5120 (by omega) (by omega) (by omega) (by omega) pay256 (perm_block (by decide)) fun s hI => ?_
  refine wpp_move hH (k := 11) (C := 4864) hI 256 3072 (by omega) (by omega) (by omega) (by omega) pay256 (perm_block (by decide)) fun s hI => ?_
  exact h _ hI

theorem fill_part46 (hH : cc0_scratch7 ∈ H) {s0 s : St F c} (hI : FillI s0 15 12 11 5120 s) (h : ∀ s', FillI s0 15 12 11 6400 s' → Q ⟨⟩ s') :
    wpp (rig H h1 h2) (k0_part46 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part46_eq_skeleton]; unfold k0_part46_skel
  refine wpp_move hH (k := 11) (C := 5120) hI 256 4096 (by omega) (by omega) (by omega) (by omega) pay256 (perm_block (by decide)) fun s hI => ?_
  refine wpp_move hH (k := 11) (C := 5376) hI 256 6144 (by omega) (by omega) (by omega) (by omega) pay256 (perm_block (by decide)) fun s hI => ?_
  refine wpp_move hH (k := 11) (C := 5632) hI 256 5376 (by omega) (by omega) (by omega) (by omega) pay256 (perm_block (by decide)) fun s hI => ?_
  refine wpp_move hH (k := 11) (C := 5888) hI 256 3328 (by omega) (by omega) (by omega) (by omega) pay256 (perm_block (by decide)) fun s hI => ?_
  refine wpp_move hH (k := 11) (C := 6144) hI 256 4352 (by omega) (by omega) (by omega) (by omega) pay256 (perm_block (by decide)) fun s hI => ?_
  exact h _ hI

theorem fill_part47 (hH : cc0_scratch7 ∈ H) {s0 s : St F c} (hI : FillI s0 15 12 11 6400 s) (h : ∀ s', FillI s0 16 13 12 2816 s' → Q ⟨⟩ s') :
    wpp (rig H h1 h2) (k0_part47 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part47_eq_skeleton]; unfold k0_part47_skel
  refine wpp_move hH (k := 11) (C := 6400) hI 256 6400 (by omega) (by omega) (by omega) (by omega) pay256 (perm_block (by decide)) fun s hI => ?_
  replace hI := hI.next
  refine wpp_start (enq := 15) hI (by omega) (by omega) (by omega) (by omega) fun s hI => ?_
  refine wpp_await (wt := 12) hI (by omega) (by omega) fun s hI => ?_
  refine wpp_move hH (k := 12) (C := 0) hI 2560 0 (by omega) (by omega) (by omega) (by omega) pay2560 (perm_block (by decide)) fun s hI => ?_
  refine wpp_move hH (k := 12) (C := 2560) hI 256 4608 (by omega) (by omega) (by omega) (by omega) pay256 (perm_block (by decide)) fun s hI => ?_
  exact h _ hI

theorem fill_part48 (hH : cc0_scratch7 ∈ H) {s0 s : St F c} (hI : FillI s0 16 13 12 2816 s) (h : ∀ s', FillI s0 16 13 12 4096 s' → Q ⟨⟩ s') :
    wpp (rig H h1 h2) (k0_part48 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part48_eq_skeleton]; unfold k0_part48_skel
  refine wpp_move hH (k := 12) (C := 2816) hI 256 2560 (by omega) (by omega) (by omega) (by omega) pay256 (perm_block (by decide)) fun s hI => ?_
  refine wpp_move hH (k := 12) (C := 3072) hI 256 3584 (by omega) (by omega) (by omega) (by omega) pay256 (perm_block (by decide)) fun s hI => ?_
  refine wpp_move hH (k := 12) (C := 3328) hI 256 5632 (by omega) (by omega) (by omega) (by omega) pay256 (perm_block (by decide)) fun s hI => ?_
  refine wpp_move hH (k := 12) (C := 3584) hI 256 4864 (by omega) (by omega) (by omega) (by omega) pay256 (perm_block (by decide)) fun s hI => ?_
  refine wpp_move hH (k := 12) (C := 3840) hI 256 2816 (by omega) (by omega) (by omega) (by omega) pay256 (perm_block (by decide)) fun s hI => ?_
  exact h _ hI

theorem fill_part49 (hH : cc0_scratch7 ∈ H) {s0 s : St F c} (hI : FillI s0 16 13 12 4096 s) (h : ∀ s', FillI s0 16 13 12 5376 s' → Q ⟨⟩ s') :
    wpp (rig H h1 h2) (k0_part49 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part49_eq_skeleton]; unfold k0_part49_skel
  refine wpp_move hH (k := 12) (C := 4096) hI 256 3840 (by omega) (by omega) (by omega) (by omega) pay256 (perm_block (by decide)) fun s hI => ?_
  refine wpp_move hH (k := 12) (C := 4352) hI 256 5888 (by omega) (by omega) (by omega) (by omega) pay256 (perm_block (by decide)) fun s hI => ?_
  refine wpp_move hH (k := 12) (C := 4608) hI 256 5120 (by omega) (by omega) (by omega) (by omega) pay256 (perm_block (by decide)) fun s hI => ?_
  refine wpp_move hH (k := 12) (C := 4864) hI 256 3072 (by omega) (by omega) (by omega) (by omega) pay256 (perm_block (by decide)) fun s hI => ?_
  refine wpp_move hH (k := 12) (C := 5120) hI 256 4096 (by omega) (by omega) (by omega) (by omega) pay256 (perm_block (by decide)) fun s hI => ?_
  exact h _ hI

theorem fill_part50 (hH : cc0_scratch7 ∈ H) {s0 s : St F c} (hI : FillI s0 16 13 12 5376 s) (h : ∀ s', FillI s0 16 13 13 0 s' → Q ⟨⟩ s') :
    wpp (rig H h1 h2) (k0_part50 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part50_eq_skeleton]; unfold k0_part50_skel
  refine wpp_move hH (k := 12) (C := 5376) hI 256 6144 (by omega) (by omega) (by omega) (by omega) pay256 (perm_block (by decide)) fun s hI => ?_
  refine wpp_move hH (k := 12) (C := 5632) hI 256 5376 (by omega) (by omega) (by omega) (by omega) pay256 (perm_block (by decide)) fun s hI => ?_
  refine wpp_move hH (k := 12) (C := 5888) hI 256 3328 (by omega) (by omega) (by omega) (by omega) pay256 (perm_block (by decide)) fun s hI => ?_
  refine wpp_move hH (k := 12) (C := 6144) hI 256 4352 (by omega) (by omega) (by omega) (by omega) pay256 (perm_block (by decide)) fun s hI => ?_
  refine wpp_move hH (k := 12) (C := 6400) hI 256 6400 (by omega) (by omega) (by omega) (by omega) pay256 (perm_block (by decide)) fun s hI => ?_
  replace hI := hI.next
  exact h _ hI

theorem fill_part51 (hH : cc0_scratch7 ∈ H) {s0 s : St F c} (hI : FillI s0 16 13 13 0 s) (h : ∀ s', FillI s0 17 14 13 3072 s' → Q ⟨⟩ s') :
    wpp (rig H h1 h2) (k0_part51 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part51_eq_skeleton]; unfold k0_part51_skel
  refine wpp_start (enq := 16) hI (by omega) (by omega) (by omega) (by omega) fun s hI => ?_
  refine wpp_await (wt := 13) hI (by omega) (by omega) fun s hI => ?_
  refine wpp_move hH (k := 13) (C := 0) hI 2560 0 (by omega) (by omega) (by omega) (by omega) pay2560 (perm_block (by decide)) fun s hI => ?_
  refine wpp_move hH (k := 13) (C := 2560) hI 256 4608 (by omega) (by omega) (by omega) (by omega) pay256 (perm_block (by decide)) fun s hI => ?_
  refine wpp_move hH (k := 13) (C := 2816) hI 256 2560 (by omega) (by omega) (by omega) (by omega) pay256 (perm_block (by decide)) fun s hI => ?_
  exact h _ hI

theorem fill_part52 (hH : cc0_scratch7 ∈ H) {s0 s : St F c} (hI : FillI s0 17 14 13 3072 s) (h : ∀ s', FillI s0 17 14 13 4352 s' → Q ⟨⟩ s') :
    wpp (rig H h1 h2) (k0_part52 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part52_eq_skeleton]; unfold k0_part52_skel
  refine wpp_move hH (k := 13) (C := 3072) hI 256 3584 (by omega) (by omega) (by omega) (by omega) pay256 (perm_block (by decide)) fun s hI => ?_
  refine wpp_move hH (k := 13) (C := 3328) hI 256 5632 (by omega) (by omega) (by omega) (by omega) pay256 (perm_block (by decide)) fun s hI => ?_
  refine wpp_move hH (k := 13) (C := 3584) hI 256 4864 (by omega) (by omega) (by omega) (by omega) pay256 (perm_block (by decide)) fun s hI => ?_
  refine wpp_move hH (k := 13) (C := 3840) hI 256 2816 (by omega) (by omega) (by omega) (by omega) pay256 (perm_block (by decide)) fun s hI => ?_
  refine wpp_move hH (k := 13) (C := 4096) hI 256 3840 (by omega) (by omega) (by omega) (by omega) pay256 (perm_block (by decide)) fun s hI => ?_
  exact h _ hI

theorem fill_part53 (hH : cc0_scratch7 ∈ H) {s0 s : St F c} (hI : FillI s0 17 14 13 4352 s) (h : ∀ s', FillI s0 17 14 13 5632 s' → Q ⟨⟩ s') :
    wpp (rig H h1 h2) (k0_part53 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part53_eq_skeleton]; unfold k0_part53_skel
  refine wpp_move hH (k := 13) (C := 4352) hI 256 5888 (by omega) (by omega) (by omega) (by omega) pay256 (perm_block (by decide)) fun s hI => ?_
  refine wpp_move hH (k := 13) (C := 4608) hI 256 5120 (by omega) (by omega) (by omega) (by omega) pay256 (perm_block (by decide)) fun s hI => ?_
  refine wpp_move hH (k := 13) (C := 4864) hI 256 3072 (by omega) (by omega) (by omega) (by omega) pay256 (perm_block (by decide)) fun s hI => ?_
  refine wpp_move hH (k := 13) (C := 5120) hI 256 4096 (by omega) (by omega) (by omega) (by omega) pay256 (perm_block (by decide)) fun s hI => ?_
  refine wpp_move hH (k := 13) (C := 5376) hI 256 6144 (by omega) (by omega) (by omega) (by omega) pay256 (perm_block (by decide)) fun s hI => ?_
  exact h _ hI

theorem fill_part54 (hH : cc0_scratch7 ∈ H) {s0 s : St F c} (hI : FillI s0 17 14 13 5632 s) (h : ∀ s', FillI s0 18 14 14 0 s' → Q ⟨⟩ s') :
    wpp (rig H h1 h2) (k0_part54 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part54_eq_skeleton]; unfold k0_part54_skel
  refine wpp_move hH (k := 13) (C := 5632) hI 256 5376 (by omega) (by omega) (by omega) (by omega) pay256 (perm_block (by decide)) fun s hI => ?_
  refine wpp_move hH (k := 13) (C := 5888) hI 256 3328 (by omega) (by omega) (by omega) (by omega) pay256 (perm_block (by decide)) fun s hI => ?_
  refine wpp_move hH (k := 13) (C := 6144) hI 256 4352 (by omega) (by omega) (by omega) (by omega) pay256 (perm_block (by decide)) fun s hI => ?_
  refine wpp_move hH (k := 13) (C := 6400) hI 256 6400 (by omega) (by omega) (by omega) (by omega) pay256 (perm_block (by decide)) fun s hI => ?_
  replace hI := hI.next
  refine wpp_start (enq := 17) hI (by omega) (by omega) (by omega) (by omega) fun s hI => ?_
  exact h _ hI

theorem fill_part55 (hH : cc0_scratch7 ∈ H) {s0 s : St F c} (hI : FillI s0 18 14 14 0 s) (h : ∀ s', FillI s0 18 15 14 3328 s' → Q ⟨⟩ s') :
    wpp (rig H h1 h2) (k0_part55 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part55_eq_skeleton]; unfold k0_part55_skel
  refine wpp_await (wt := 14) hI (by omega) (by omega) fun s hI => ?_
  refine wpp_move hH (k := 14) (C := 0) hI 2560 0 (by omega) (by omega) (by omega) (by omega) pay2560 (perm_block (by decide)) fun s hI => ?_
  refine wpp_move hH (k := 14) (C := 2560) hI 256 4608 (by omega) (by omega) (by omega) (by omega) pay256 (perm_block (by decide)) fun s hI => ?_
  refine wpp_move hH (k := 14) (C := 2816) hI 256 2560 (by omega) (by omega) (by omega) (by omega) pay256 (perm_block (by decide)) fun s hI => ?_
  refine wpp_move hH (k := 14) (C := 3072) hI 256 3584 (by omega) (by omega) (by omega) (by omega) pay256 (perm_block (by decide)) fun s hI => ?_
  exact h _ hI

theorem fill_part56 (hH : cc0_scratch7 ∈ H) {s0 s : St F c} (hI : FillI s0 18 15 14 3328 s) (h : ∀ s', FillI s0 18 15 14 4608 s' → Q ⟨⟩ s') :
    wpp (rig H h1 h2) (k0_part56 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part56_eq_skeleton]; unfold k0_part56_skel
  refine wpp_move hH (k := 14) (C := 3328) hI 256 5632 (by omega) (by omega) (by omega) (by omega) pay256 (perm_block (by decide)) fun s hI => ?_
  refine wpp_move hH (k := 14) (C := 3584) hI 256 4864 (by omega) (by omega) (by omega) (by omega) pay256 (perm_block (by decide)) fun s hI => ?_
  refine wpp_move hH (k := 14) (C := 3840) hI 256 2816 (by omega) (by omega) (by omega) (by omega) pay256 (perm_block (by decide)) fun s hI => ?_
  refine wpp_move hH (k := 14) (C := 4096) hI 256 3840 (by omega) (by omega) (by omega) (by omega) pay256 (perm_block (by decide)) fun s hI => ?_
  refine wpp_move hH (k := 14) (C := 4352) hI 256 5888 (by omega) (by omega) (by omega) (by omega) pay256 (perm_block (by decide)) fun s hI => ?_
  exact h _ hI

theorem fill_part57 (hH : cc0_scratch7 ∈ H) {s0 s : St F c} (hI : FillI s0 18 15 14 4608 s) (h : ∀ s', FillI s0 18 15 14 5888 s' → Q ⟨⟩ s') :
    wpp (rig H h1 h2) (k0_part57 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part57_eq_skeleton]; unfold k0_part57_skel
  refine wpp_move hH (k := 14) (C := 4608) hI 256 5120 (by omega) (by omega) (by omega) (by omega) pay256 (perm_block (by decide)) fun s hI => ?_
  refine wpp_move hH (k := 14) (C := 4864) hI 256 3072 (by omega) (by omega) (by omega) (by omega) pay256 (perm_block (by decide)) fun s hI => ?_
  refine wpp_move hH (k := 14) (C := 5120) hI 256 4096 (by omega) (by omega) (by omega) (by omega) pay256 (perm_block (by decide)) fun s hI => ?_
  refine wpp_move hH (k := 14) (C := 5376) hI 256 6144 (by omega) (by omega) (by omega) (by omega) pay256 (perm_block (by decide)) fun s hI => ?_
  refine wpp_move hH (k := 14) (C := 5632) hI 256 5376 (by omega) (by omega) (by omega) (by omega) pay256 (perm_block (by decide)) fun s hI => ?_
  exact h _ hI

theorem fill_part58 (hH : cc0_scratch7 ∈ H) {s0 s : St F c} (hI : FillI s0 18 15 14 5888 s) (h : ∀ s', FillI s0 19 16 15 0 s' → Q ⟨⟩ s') :
    wpp (rig H h1 h2) (k0_part58 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part58_eq_skeleton]; unfold k0_part58_skel
  refine wpp_move hH (k := 14) (C := 5888) hI 256 3328 (by omega) (by omega) (by omega) (by omega) pay256 (perm_block (by decide)) fun s hI => ?_
  refine wpp_move hH (k := 14) (C := 6144) hI 256 4352 (by omega) (by omega) (by omega) (by omega) pay256 (perm_block (by decide)) fun s hI => ?_
  refine wpp_move hH (k := 14) (C := 6400) hI 256 6400 (by omega) (by omega) (by omega) (by omega) pay256 (perm_block (by decide)) fun s hI => ?_
  replace hI := hI.next
  refine wpp_start (enq := 18) hI (by omega) (by omega) (by omega) (by omega) fun s hI => ?_
  refine wpp_await (wt := 15) hI (by omega) (by omega) fun s hI => ?_
  exact h _ hI

theorem fill_part59 (hH : cc0_scratch7 ∈ H) {s0 s : St F c} (hI : FillI s0 19 16 15 0 s) (h : ∀ s', FillI s0 19 16 15 3584 s' → Q ⟨⟩ s') :
    wpp (rig H h1 h2) (k0_part59 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part59_eq_skeleton]; unfold k0_part59_skel
  refine wpp_move hH (k := 15) (C := 0) hI 2560 0 (by omega) (by omega) (by omega) (by omega) pay2560 (perm_block (by decide)) fun s hI => ?_
  refine wpp_move hH (k := 15) (C := 2560) hI 256 4608 (by omega) (by omega) (by omega) (by omega) pay256 (perm_block (by decide)) fun s hI => ?_
  refine wpp_move hH (k := 15) (C := 2816) hI 256 2560 (by omega) (by omega) (by omega) (by omega) pay256 (perm_block (by decide)) fun s hI => ?_
  refine wpp_move hH (k := 15) (C := 3072) hI 256 3584 (by omega) (by omega) (by omega) (by omega) pay256 (perm_block (by decide)) fun s hI => ?_
  refine wpp_move hH (k := 15) (C := 3328) hI 256 5632 (by omega) (by omega) (by omega) (by omega) pay256 (perm_block (by decide)) fun s hI => ?_
  exact h _ hI

theorem fill_part60 (hH : cc0_scratch7 ∈ H) {s0 s : St F c} (hI : FillI s0 19 16 15 3584 s) (h : ∀ s', FillI s0 19 16 15 4864 s' → Q ⟨⟩ s') :
    wpp (rig H h1 h2) (k0_part60 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part60_eq_skeleton]; unfold k0_part60_skel
  refine wpp_move hH (k := 15) (C := 3584) hI 256 4864 (by omega) (by omega) (by omega) (by omega) pay256 (perm_block (by decide)) fun s hI => ?_
  refine wpp_move hH (k := 15) (C := 3840) hI 256 2816 (by omega) (by omega) (by omega) (by omega) pay256 (perm_block (by decide)) fun s hI => ?_
  refine wpp_move hH (k := 15) (C := 4096) hI 256 3840 (by omega) (by omega) (by omega) (by omega) pay256 (perm_block (by decide)) fun s hI => ?_
  refine wpp_move hH (k := 15) (C := 4352) hI 256 5888 (by omega) (by omega) (by omega) (by omega) pay256 (perm_block (by decide)) fun s hI => ?_
  refine wpp_move hH (k := 15) (C := 4608) hI 256 5120 (by omega) (by omega) (by omega) (by omega) pay256 (perm_block (by decide)) fun s hI => ?_
  exact h _ hI

end Cert.KernelIdeal.Attn
-- ==== Proof.Attn.FillC.lean ====
/-
  The filling, operation by operation: parts 61 to 90 of the body.
-/
module

public import proofs.«01_k».proof.Proof.Attn.Fill

@[expose] public section

set_option maxHeartbeats 1000000
set_option maxRecDepth 16384

noncomputable section

namespace Cert.KernelIdeal.Attn

open Cert.KernelIdeal Cert.KernelIdeal.Gen
open Idealize.ShloMosaic Idealize.ShloMosaic.TcCoe
open Idealize.SL.Sem

variable {F : FTy → Type} [FloatOps F] {c : Dev nD} {H : Finset (Ref sig .tc)} {h1 : cc0_scratch8 ∉ H} {h2 : main_v0 ∉ H} {Q : PUnit → St F c → Prop}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

theorem fill_part61 (hH : cc0_scratch7 ∈ H) {s0 s : St F c} (hI : FillI s0 19 16 15 4864 s) (h : ∀ s', FillI s0 19 16 15 6144 s' → Q ⟨⟩ s') :
    wpp (rig H h1 h2) (k0_part61 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part61_eq_skeleton]; unfold k0_part61_skel
  refine wpp_move hH (k := 15) (C := 4864) hI 256 3072 (by omega) (by omega) (by omega) (by omega) pay256 (perm_block (by decide)) fun s hI => ?_
  refine wpp_move hH (k := 15) (C := 5120) hI 256 4096 (by omega) (by omega) (by omega) (by omega) pay256 (perm_block (by decide)) fun s hI => ?_
  refine wpp_move hH (k := 15) (C := 5376) hI 256 6144 (by omega) (by omega) (by omega) (by omega) pay256 (perm_block (by decide)) fun s hI => ?_
  refine wpp_move hH (k := 15) (C := 5632) hI 256 5376 (by omega) (by omega) (by omega) (by omega) pay256 (perm_block (by decide)) fun s hI => ?_
  refine wpp_move hH (k := 15) (C := 5888) hI 256 3328 (by omega) (by omega) (by omega) (by omega) pay256 (perm_block (by decide)) fun s hI => ?_
  exact h _ hI

theorem fill_part62 (hH : cc0_scratch7 ∈ H) {s0 s : St F c} (hI : FillI s0 19 16 15 6144 s) (h : ∀ s', FillI s0 20 17 16 2560 s' → Q ⟨⟩ s') :
    wpp (rig H h1 h2) (k0_part62 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part62_eq_skeleton]; unfold k0_part62_skel
  refine wpp_move hH (k := 15) (C := 6144) hI 256 4352 (by omega) (by omega) (by omega) (by omega) pay256 (perm_block (by decide)) fun s hI => ?_
  refine wpp_move hH (k := 15) (C := 6400) hI 256 6400 (by omega) (by omega) (by omega) (by omega) pay256 (perm_block (by decide)) fun s hI => ?_
  replace hI := hI.next
  refine wpp_start (enq := 19) hI (by omega) (by omega) (by omega) (by omega) fun s hI => ?_
  refine wpp_await (wt := 16) hI (by omega) (by omega) fun s hI => ?_
  refine wpp_move hH (k := 16) (C := 0) hI 2560 0 (by omega) (by omega) (by omega) (by omega) pay2560 (perm_block (by decide)) fun s hI => ?_
  exact h _ hI

theorem fill_part63 (hH : cc0_scratch7 ∈ H) {s0 s : St F c} (hI : FillI s0 20 17 16 2560 s) (h : ∀ s', FillI s0 20 17 16 3840 s' → Q ⟨⟩ s') :
    wpp (rig H h1 h2) (k0_part63 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part63_eq_skeleton]; unfold k0_part63_skel
  refine wpp_move hH (k := 16) (C := 2560) hI 256 4608 (by omega) (by omega) (by omega) (by omega) pay256 (perm_block (by decide)) fun s hI => ?_
  refine wpp_move hH (k := 16) (C := 2816) hI 256 2560 (by omega) (by omega) (by omega) (by omega) pay256 (perm_block (by decide)) fun s hI => ?_
  refine wpp_move hH (k := 16) (C := 3072) hI 256 3584 (by omega) (by omega) (by omega) (by omega) pay256 (perm_block (by decide)) fun s hI => ?_
  refine wpp_move hH (k := 16) (C := 3328) hI 256 5632 (by omega) (by omega) (by omega) (by omega) pay256 (perm_block (by decide)) fun s hI => ?_
  refine wpp_move hH (k := 16) (C := 3584) hI 256 4864 (by omega) (by omega) (by omega) (by omega) pay256 (perm_block (by decide)) fun s hI => ?_
  exact h _ hI

theorem fill_part64 (hH : cc0_scratch7 ∈ H) {s0 s : St F c} (hI : FillI s0 20 17 16 3840 s) (h : ∀ s', FillI s0 20 17 16 5120 s' → Q ⟨⟩ s') :
    wpp (rig H h1 h2) (k0_part64 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part64_eq_skeleton]; unfold k0_part64_skel
  refine wpp_move hH (k := 16) (C := 3840) hI 256 2816 (by omega) (by omega) (by omega) (by omega) pay256 (perm_block (by decide)) fun s hI => ?_
  refine wpp_move hH (k := 16) (C := 4096) hI 256 3840 (by omega) (by omega) (by omega) (by omega) pay256 (perm_block (by decide)) fun s hI => ?_
  refine wpp_move hH (k := 16) (C := 4352) hI 256 5888 (by omega) (by omega) (by omega) (by omega) pay256 (perm_block (by decide)) fun s hI => ?_
  refine wpp_move hH (k := 16) (C := 4608) hI 256 5120 (by omega) (by omega) (by omega) (by omega) pay256 (perm_block (by decide)) fun s hI => ?_
  refine wpp_move hH (k := 16) (C := 4864) hI 256 3072 (by omega) (by omega) (by omega) (by omega) pay256 (perm_block (by decide)) fun s hI => ?_
  exact h _ hI

theorem fill_part65 (hH : cc0_scratch7 ∈ H) {s0 s : St F c} (hI : FillI s0 20 17 16 5120 s) (h : ∀ s', FillI s0 20 17 16 6400 s' → Q ⟨⟩ s') :
    wpp (rig H h1 h2) (k0_part65 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part65_eq_skeleton]; unfold k0_part65_skel
  refine wpp_move hH (k := 16) (C := 5120) hI 256 4096 (by omega) (by omega) (by omega) (by omega) pay256 (perm_block (by decide)) fun s hI => ?_
  refine wpp_move hH (k := 16) (C := 5376) hI 256 6144 (by omega) (by omega) (by omega) (by omega) pay256 (perm_block (by decide)) fun s hI => ?_
  refine wpp_move hH (k := 16) (C := 5632) hI 256 5376 (by omega) (by omega) (by omega) (by omega) pay256 (perm_block (by decide)) fun s hI => ?_
  refine wpp_move hH (k := 16) (C := 5888) hI 256 3328 (by omega) (by omega) (by omega) (by omega) pay256 (perm_block (by decide)) fun s hI => ?_
  refine wpp_move hH (k := 16) (C := 6144) hI 256 4352 (by omega) (by omega) (by omega) (by omega) pay256 (perm_block (by decide)) fun s hI => ?_
  exact h _ hI

theorem fill_part66 (hH : cc0_scratch7 ∈ H) {s0 s : St F c} (hI : FillI s0 20 17 16 6400 s) (h : ∀ s', FillI s0 21 18 17 2816 s' → Q ⟨⟩ s') :
    wpp (rig H h1 h2) (k0_part66 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part66_eq_skeleton]; unfold k0_part66_skel
  refine wpp_move hH (k := 16) (C := 6400) hI 256 6400 (by omega) (by omega) (by omega) (by omega) pay256 (perm_block (by decide)) fun s hI => ?_
  replace hI := hI.next
  refine wpp_start (enq := 20) hI (by omega) (by omega) (by omega) (by omega) fun s hI => ?_
  refine wpp_await (wt := 17) hI (by omega) (by omega) fun s hI => ?_
  refine wpp_move hH (k := 17) (C := 0) hI 2560 0 (by omega) (by omega) (by omega) (by omega) pay2560 (perm_block (by decide)) fun s hI => ?_
  refine wpp_move hH (k := 17) (C := 2560) hI 256 4608 (by omega) (by omega) (by omega) (by omega) pay256 (perm_block (by decide)) fun s hI => ?_
  exact h _ hI

theorem fill_part67 (hH : cc0_scratch7 ∈ H) {s0 s : St F c} (hI : FillI s0 21 18 17 2816 s) (h : ∀ s', FillI s0 21 18 17 4096 s' → Q ⟨⟩ s') :
    wpp (rig H h1 h2) (k0_part67 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part67_eq_skeleton]; unfold k0_part67_skel
  refine wpp_move hH (k := 17) (C := 2816) hI 256 2560 (by omega) (by omega) (by omega) (by omega) pay256 (perm_block (by decide)) fun s hI => ?_
  refine wpp_move hH (k := 17) (C := 3072) hI 256 3584 (by omega) (by omega) (by omega) (by omega) pay256 (perm_block (by decide)) fun s hI => ?_
  refine wpp_move hH (k := 17) (C := 3328) hI 256 5632 (by omega) (by omega) (by omega) (by omega) pay256 (perm_block (by decide)) fun s hI => ?_
  refine wpp_move hH (k := 17) (C := 3584) hI 256 4864 (by omega) (by omega) (by omega) (by omega) pay256 (perm_block (by decide)) fun s hI => ?_
  refine wpp_move hH (k := 17) (C := 3840) hI 256 2816 (by omega) (by omega) (by omega) (by omega) pay256 (perm_block (by decide)) fun s hI => ?_
  exact h _ hI

theorem fill_part68 (hH : cc0_scratch7 ∈ H) {s0 s : St F c} (hI : FillI s0 21 18 17 4096 s) (h : ∀ s', FillI s0 21 18 17 5376 s' → Q ⟨⟩ s') :
    wpp (rig H h1 h2) (k0_part68 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part68_eq_skeleton]; unfold k0_part68_skel
  refine wpp_move hH (k := 17) (C := 4096) hI 256 3840 (by omega) (by omega) (by omega) (by omega) pay256 (perm_block (by decide)) fun s hI => ?_
  refine wpp_move hH (k := 17) (C := 4352) hI 256 5888 (by omega) (by omega) (by omega) (by omega) pay256 (perm_block (by decide)) fun s hI => ?_
  refine wpp_move hH (k := 17) (C := 4608) hI 256 5120 (by omega) (by omega) (by omega) (by omega) pay256 (perm_block (by decide)) fun s hI => ?_
  refine wpp_move hH (k := 17) (C := 4864) hI 256 3072 (by omega) (by omega) (by omega) (by omega) pay256 (perm_block (by decide)) fun s hI => ?_
  refine wpp_move hH (k := 17) (C := 5120) hI 256 4096 (by omega) (by omega) (by omega) (by omega) pay256 (perm_block (by decide)) fun s hI => ?_
  exact h _ hI

theorem fill_part69 (hH : cc0_scratch7 ∈ H) {s0 s : St F c} (hI : FillI s0 21 18 17 5376 s) (h : ∀ s', FillI s0 21 18 18 0 s' → Q ⟨⟩ s') :
    wpp (rig H h1 h2) (k0_part69 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part69_eq_skeleton]; unfold k0_part69_skel
  refine wpp_move hH (k := 17) (C := 5376) hI 256 6144 (by omega) (by omega) (by omega) (by omega) pay256 (perm_block (by decide)) fun s hI => ?_
  refine wpp_move hH (k := 17) (C := 5632) hI 256 5376 (by omega) (by omega) (by omega) (by omega) pay256 (perm_block (by decide)) fun s hI => ?_
  refine wpp_move hH (k := 17) (C := 5888) hI 256 3328 (by omega) (by omega) (by omega) (by omega) pay256 (perm_block (by decide)) fun s hI => ?_
  refine wpp_move hH (k := 17) (C := 6144) hI 256 4352 (by omega) (by omega) (by omega) (by omega) pay256 (perm_block (by decide)) fun s hI => ?_
  refine wpp_move hH (k := 17) (C := 6400) hI 256 6400 (by omega) (by omega) (by omega) (by omega) pay256 (perm_block (by decide)) fun s hI => ?_
  replace hI := hI.next
  exact h _ hI

theorem fill_part70 (hH : cc0_scratch7 ∈ H) {s0 s : St F c} (hI : FillI s0 21 18 18 0 s) (h : ∀ s', FillI s0 22 19 18 3072 s' → Q ⟨⟩ s') :
    wpp (rig H h1 h2) (k0_part70 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part70_eq_skeleton]; unfold k0_part70_skel
  refine wpp_start (enq := 21) hI (by omega) (by omega) (by omega) (by omega) fun s hI => ?_
  refine wpp_await (wt := 18) hI (by omega) (by omega) fun s hI => ?_
  refine wpp_move hH (k := 18) (C := 0) hI 2560 0 (by omega) (by omega) (by omega) (by omega) pay2560 (perm_block (by decide)) fun s hI => ?_
  refine wpp_move hH (k := 18) (C := 2560) hI 256 4608 (by omega) (by omega) (by omega) (by omega) pay256 (perm_block (by decide)) fun s hI => ?_
  refine wpp_move hH (k := 18) (C := 2816) hI 256 2560 (by omega) (by omega) (by omega) (by omega) pay256 (perm_block (by decide)) fun s hI => ?_
  exact h _ hI

theorem fill_part71 (hH : cc0_scratch7 ∈ H) {s0 s : St F c} (hI : FillI s0 22 19 18 3072 s) (h : ∀ s', FillI s0 22 19 18 4352 s' → Q ⟨⟩ s') :
    wpp (rig H h1 h2) (k0_part71 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part71_eq_skeleton]; unfold k0_part71_skel
  refine wpp_move hH (k := 18) (C := 3072) hI 256 3584 (by omega) (by omega) (by omega) (by omega) pay256 (perm_block (by decide)) fun s hI => ?_
  refine wpp_move hH (k := 18) (C := 3328) hI 256 5632 (by omega) (by omega) (by omega) (by omega) pay256 (perm_block (by decide)) fun s hI => ?_
  refine wpp_move hH (k := 18) (C := 3584) hI 256 4864 (by omega) (by omega) (by omega) (by omega) pay256 (perm_block (by decide)) fun s hI => ?_
  refine wpp_move hH (k := 18) (C := 3840) hI 256 2816 (by omega) (by omega) (by omega) (by omega) pay256 (perm_block (by decide)) fun s hI => ?_
  refine wpp_move hH (k := 18) (C := 4096) hI 256 3840 (by omega) (by omega) (by omega) (by omega) pay256 (perm_block (by decide)) fun s hI => ?_
  exact h _ hI

theorem fill_part72 (hH : cc0_scratch7 ∈ H) {s0 s : St F c} (hI : FillI s0 22 19 18 4352 s) (h : ∀ s', FillI s0 22 19 18 5632 s' → Q ⟨⟩ s') :
    wpp (rig H h1 h2) (k0_part72 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part72_eq_skeleton]; unfold k0_part72_skel
  refine wpp_move hH (k := 18) (C := 4352) hI 256 5888 (by omega) (by omega) (by omega) (by omega) pay256 (perm_block (by decide)) fun s hI => ?_
  refine wpp_move hH (k := 18) (C := 4608) hI 256 5120 (by omega) (by omega) (by omega) (by omega) pay256 (perm_block (by decide)) fun s hI => ?_
  refine wpp_move hH (k := 18) (C := 4864) hI 256 3072 (by omega) (by omega) (by omega) (by omega) pay256 (perm_block (by decide)) fun s hI => ?_
  refine wpp_move hH (k := 18) (C := 5120) hI 256 4096 (by omega) (by omega) (by omega) (by omega) pay256 (perm_block (by decide)) fun s hI => ?_
  refine wpp_move hH (k := 18) (C := 5376) hI 256 6144 (by omega) (by omega) (by omega) (by omega) pay256 (perm_block (by decide)) fun s hI => ?_
  exact h _ hI

theorem fill_part73 (hH : cc0_scratch7 ∈ H) {s0 s : St F c} (hI : FillI s0 22 19 18 5632 s) (h : ∀ s', FillI s0 23 19 19 0 s' → Q ⟨⟩ s') :
    wpp (rig H h1 h2) (k0_part73 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part73_eq_skeleton]; unfold k0_part73_skel
  refine wpp_move hH (k := 18) (C := 5632) hI 256 5376 (by omega) (by omega) (by omega) (by omega) pay256 (perm_block (by decide)) fun s hI => ?_
  refine wpp_move hH (k := 18) (C := 5888) hI 256 3328 (by omega) (by omega) (by omega) (by omega) pay256 (perm_block (by decide)) fun s hI => ?_
  refine wpp_move hH (k := 18) (C := 6144) hI 256 4352 (by omega) (by omega) (by omega) (by omega) pay256 (perm_block (by decide)) fun s hI => ?_
  refine wpp_move hH (k := 18) (C := 6400) hI 256 6400 (by omega) (by omega) (by omega) (by omega) pay256 (perm_block (by decide)) fun s hI => ?_
  replace hI := hI.next
  refine wpp_start (enq := 22) hI (by omega) (by omega) (by omega) (by omega) fun s hI => ?_
  exact h _ hI

theorem fill_part74 (hH : cc0_scratch7 ∈ H) {s0 s : St F c} (hI : FillI s0 23 19 19 0 s) (h : ∀ s', FillI s0 23 20 19 3328 s' → Q ⟨⟩ s') :
    wpp (rig H h1 h2) (k0_part74 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part74_eq_skeleton]; unfold k0_part74_skel
  refine wpp_await (wt := 19) hI (by omega) (by omega) fun s hI => ?_
  refine wpp_move hH (k := 19) (C := 0) hI 2560 0 (by omega) (by omega) (by omega) (by omega) pay2560 (perm_block (by decide)) fun s hI => ?_
  refine wpp_move hH (k := 19) (C := 2560) hI 256 4608 (by omega) (by omega) (by omega) (by omega) pay256 (perm_block (by decide)) fun s hI => ?_
  refine wpp_move hH (k := 19) (C := 2816) hI 256 2560 (by omega) (by omega) (by omega) (by omega) pay256 (perm_block (by decide)) fun s hI => ?_
  refine wpp_move hH (k := 19) (C := 3072) hI 256 3584 (by omega) (by omega) (by omega) (by omega) pay256 (perm_block (by decide)) fun s hI => ?_
  exact h _ hI

theorem fill_part75 (hH : cc0_scratch7 ∈ H) {s0 s : St F c} (hI : FillI s0 23 20 19 3328 s) (h : ∀ s', FillI s0 23 20 19 4608 s' → Q ⟨⟩ s') :
    wpp (rig H h1 h2) (k0_part75 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part75_eq_skeleton]; unfold k0_part75_skel
  refine wpp_move hH (k := 19) (C := 3328) hI 256 5632 (by omega) (by omega) (by omega) (by omega) pay256 (perm_block (by decide)) fun s hI => ?_
  refine wpp_move hH (k := 19) (C := 3584) hI 256 4864 (by omega) (by omega) (by omega) (by omega) pay256 (perm_block (by decide)) fun s hI => ?_
  refine wpp_move hH (k := 19) (C := 3840) hI 256 2816 (by omega) (by omega) (by omega) (by omega) pay256 (perm_block (by decide)) fun s hI => ?_
  refine wpp_move hH (k := 19) (C := 4096) hI 256 3840 (by omega) (by omega) (by omega) (by omega) pay256 (perm_block (by decide)) fun s hI => ?_
  refine wpp_move hH (k := 19) (C := 4352) hI 256 5888 (by omega) (by omega) (by omega) (by omega) pay256 (perm_block (by decide)) fun s hI => ?_
  exact h _ hI

theorem fill_part76 (hH : cc0_scratch7 ∈ H) {s0 s : St F c} (hI : FillI s0 23 20 19 4608 s) (h : ∀ s', FillI s0 23 20 19 5888 s' → Q ⟨⟩ s') :
    wpp (rig H h1 h2) (k0_part76 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part76_eq_skeleton]; unfold k0_part76_skel
  refine wpp_move hH (k := 19) (C := 4608) hI 256 5120 (by omega) (by omega) (by omega) (by omega) pay256 (perm_block (by decide)) fun s hI => ?_
  refine wpp_move hH (k := 19) (C := 4864) hI 256 3072 (by omega) (by omega) (by omega) (by omega) pay256 (perm_block (by decide)) fun s hI => ?_
  refine wpp_move hH (k := 19) (C := 5120) hI 256 4096 (by omega) (by omega) (by omega) (by omega) pay256 (perm_block (by decide)) fun s hI => ?_
  refine wpp_move hH (k := 19) (C := 5376) hI 256 6144 (by omega) (by omega) (by omega) (by omega) pay256 (perm_block (by decide)) fun s hI => ?_
  refine wpp_move hH (k := 19) (C := 5632) hI 256 5376 (by omega) (by omega) (by omega) (by omega) pay256 (perm_block (by decide)) fun s hI => ?_
  exact h _ hI

theorem fill_part77 (hH : cc0_scratch7 ∈ H) {s0 s : St F c} (hI : FillI s0 23 20 19 5888 s) (h : ∀ s', FillI s0 24 21 20 0 s' → Q ⟨⟩ s') :
    wpp (rig H h1 h2) (k0_part77 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part77_eq_skeleton]; unfold k0_part77_skel
  refine wpp_move hH (k := 19) (C := 5888) hI 256 3328 (by omega) (by omega) (by omega) (by omega) pay256 (perm_block (by decide)) fun s hI => ?_
  refine wpp_move hH (k := 19) (C := 6144) hI 256 4352 (by omega) (by omega) (by omega) (by omega) pay256 (perm_block (by decide)) fun s hI => ?_
  refine wpp_move hH (k := 19) (C := 6400) hI 256 6400 (by omega) (by omega) (by omega) (by omega) pay256 (perm_block (by decide)) fun s hI => ?_
  replace hI := hI.next
  refine wpp_start (enq := 23) hI (by omega) (by omega) (by omega) (by omega) fun s hI => ?_
  refine wpp_await (wt := 20) hI (by omega) (by omega) fun s hI => ?_
  exact h _ hI

theorem fill_part78 (hH : cc0_scratch7 ∈ H) {s0 s : St F c} (hI : FillI s0 24 21 20 0 s) (h : ∀ s', FillI s0 24 21 20 3584 s' → Q ⟨⟩ s') :
    wpp (rig H h1 h2) (k0_part78 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part78_eq_skeleton]; unfold k0_part78_skel
  refine wpp_move hH (k := 20) (C := 0) hI 2560 0 (by omega) (by omega) (by omega) (by omega) pay2560 (perm_block (by decide)) fun s hI => ?_
  refine wpp_move hH (k := 20) (C := 2560) hI 256 4608 (by omega) (by omega) (by omega) (by omega) pay256 (perm_block (by decide)) fun s hI => ?_
  refine wpp_move hH (k := 20) (C := 2816) hI 256 2560 (by omega) (by omega) (by omega) (by omega) pay256 (perm_block (by decide)) fun s hI => ?_
  refine wpp_move hH (k := 20) (C := 3072) hI 256 3584 (by omega) (by omega) (by omega) (by omega) pay256 (perm_block (by decide)) fun s hI => ?_
  refine wpp_move hH (k := 20) (C := 3328) hI 256 5632 (by omega) (by omega) (by omega) (by omega) pay256 (perm_block (by decide)) fun s hI => ?_
  exact h _ hI

theorem fill_part79 (hH : cc0_scratch7 ∈ H) {s0 s : St F c} (hI : FillI s0 24 21 20 3584 s) (h : ∀ s', FillI s0 24 21 20 4864 s' → Q ⟨⟩ s') :
    wpp (rig H h1 h2) (k0_part79 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part79_eq_skeleton]; unfold k0_part79_skel
  refine wpp_move hH (k := 20) (C := 3584) hI 256 4864 (by omega) (by omega) (by omega) (by omega) pay256 (perm_block (by decide)) fun s hI => ?_
  refine wpp_move hH (k := 20) (C := 3840) hI 256 2816 (by omega) (by omega) (by omega) (by omega) pay256 (perm_block (by decide)) fun s hI => ?_
  refine wpp_move hH (k := 20) (C := 4096) hI 256 3840 (by omega) (by omega) (by omega) (by omega) pay256 (perm_block (by decide)) fun s hI => ?_
  refine wpp_move hH (k := 20) (C := 4352) hI 256 5888 (by omega) (by omega) (by omega) (by omega) pay256 (perm_block (by decide)) fun s hI => ?_
  refine wpp_move hH (k := 20) (C := 4608) hI 256 5120 (by omega) (by omega) (by omega) (by omega) pay256 (perm_block (by decide)) fun s hI => ?_
  exact h _ hI

theorem fill_part80 (hH : cc0_scratch7 ∈ H) {s0 s : St F c} (hI : FillI s0 24 21 20 4864 s) (h : ∀ s', FillI s0 24 21 20 6144 s' → Q ⟨⟩ s') :
    wpp (rig H h1 h2) (k0_part80 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part80_eq_skeleton]; unfold k0_part80_skel
  refine wpp_move hH (k := 20) (C := 4864) hI 256 3072 (by omega) (by omega) (by omega) (by omega) pay256 (perm_block (by decide)) fun s hI => ?_
  refine wpp_move hH (k := 20) (C := 5120) hI 256 4096 (by omega) (by omega) (by omega) (by omega) pay256 (perm_block (by decide)) fun s hI => ?_
  refine wpp_move hH (k := 20) (C := 5376) hI 256 6144 (by omega) (by omega) (by omega) (by omega) pay256 (perm_block (by decide)) fun s hI => ?_
  refine wpp_move hH (k := 20) (C := 5632) hI 256 5376 (by omega) (by omega) (by omega) (by omega) pay256 (perm_block (by decide)) fun s hI => ?_
  refine wpp_move hH (k := 20) (C := 5888) hI 256 3328 (by omega) (by omega) (by omega) (by omega) pay256 (perm_block (by decide)) fun s hI => ?_
  exact h _ hI

theorem fill_part81 (hH : cc0_scratch7 ∈ H) {s0 s : St F c} (hI : FillI s0 24 21 20 6144 s) (h : ∀ s', FillI s0 25 22 21 2560 s' → Q ⟨⟩ s') :
    wpp (rig H h1 h2) (k0_part81 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part81_eq_skeleton]; unfold k0_part81_skel
  refine wpp_move hH (k := 20) (C := 6144) hI 256 4352 (by omega) (by omega) (by omega) (by omega) pay256 (perm_block (by decide)) fun s hI => ?_
  refine wpp_move hH (k := 20) (C := 6400) hI 256 6400 (by omega) (by omega) (by omega) (by omega) pay256 (perm_block (by decide)) fun s hI => ?_
  replace hI := hI.next
  refine wpp_start (enq := 24) hI (by omega) (by omega) (by omega) (by omega) fun s hI => ?_
  refine wpp_await (wt := 21) hI (by omega) (by omega) fun s hI => ?_
  refine wpp_move hH (k := 21) (C := 0) hI 2560 0 (by omega) (by omega) (by omega) (by omega) pay2560 (perm_block (by decide)) fun s hI => ?_
  exact h _ hI

theorem fill_part82 (hH : cc0_scratch7 ∈ H) {s0 s : St F c} (hI : FillI s0 25 22 21 2560 s) (h : ∀ s', FillI s0 25 22 21 3840 s' → Q ⟨⟩ s') :
    wpp (rig H h1 h2) (k0_part82 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part82_eq_skeleton]; unfold k0_part82_skel
  refine wpp_move hH (k := 21) (C := 2560) hI 256 4608 (by omega) (by omega) (by omega) (by omega) pay256 (perm_block (by decide)) fun s hI => ?_
  refine wpp_move hH (k := 21) (C := 2816) hI 256 2560 (by omega) (by omega) (by omega) (by omega) pay256 (perm_block (by decide)) fun s hI => ?_
  refine wpp_move hH (k := 21) (C := 3072) hI 256 3584 (by omega) (by omega) (by omega) (by omega) pay256 (perm_block (by decide)) fun s hI => ?_
  refine wpp_move hH (k := 21) (C := 3328) hI 256 5632 (by omega) (by omega) (by omega) (by omega) pay256 (perm_block (by decide)) fun s hI => ?_
  refine wpp_move hH (k := 21) (C := 3584) hI 256 4864 (by omega) (by omega) (by omega) (by omega) pay256 (perm_block (by decide)) fun s hI => ?_
  exact h _ hI

theorem fill_part83 (hH : cc0_scratch7 ∈ H) {s0 s : St F c} (hI : FillI s0 25 22 21 3840 s) (h : ∀ s', FillI s0 25 22 21 5120 s' → Q ⟨⟩ s') :
    wpp (rig H h1 h2) (k0_part83 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part83_eq_skeleton]; unfold k0_part83_skel
  refine wpp_move hH (k := 21) (C := 3840) hI 256 2816 (by omega) (by omega) (by omega) (by omega) pay256 (perm_block (by decide)) fun s hI => ?_
  refine wpp_move hH (k := 21) (C := 4096) hI 256 3840 (by omega) (by omega) (by omega) (by omega) pay256 (perm_block (by decide)) fun s hI => ?_
  refine wpp_move hH (k := 21) (C := 4352) hI 256 5888 (by omega) (by omega) (by omega) (by omega) pay256 (perm_block (by decide)) fun s hI => ?_
  refine wpp_move hH (k := 21) (C := 4608) hI 256 5120 (by omega) (by omega) (by omega) (by omega) pay256 (perm_block (by decide)) fun s hI => ?_
  refine wpp_move hH (k := 21) (C := 4864) hI 256 3072 (by omega) (by omega) (by omega) (by omega) pay256 (perm_block (by decide)) fun s hI => ?_
  exact h _ hI

theorem fill_part84 (hH : cc0_scratch7 ∈ H) {s0 s : St F c} (hI : FillI s0 25 22 21 5120 s) (h : ∀ s', FillI s0 25 22 21 6400 s' → Q ⟨⟩ s') :
    wpp (rig H h1 h2) (k0_part84 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part84_eq_skeleton]; unfold k0_part84_skel
  refine wpp_move hH (k := 21) (C := 5120) hI 256 4096 (by omega) (by omega) (by omega) (by omega) pay256 (perm_block (by decide)) fun s hI => ?_
  refine wpp_move hH (k := 21) (C := 5376) hI 256 6144 (by omega) (by omega) (by omega) (by omega) pay256 (perm_block (by decide)) fun s hI => ?_
  refine wpp_move hH (k := 21) (C := 5632) hI 256 5376 (by omega) (by omega) (by omega) (by omega) pay256 (perm_block (by decide)) fun s hI => ?_
  refine wpp_move hH (k := 21) (C := 5888) hI 256 3328 (by omega) (by omega) (by omega) (by omega) pay256 (perm_block (by decide)) fun s hI => ?_
  refine wpp_move hH (k := 21) (C := 6144) hI 256 4352 (by omega) (by omega) (by omega) (by omega) pay256 (perm_block (by decide)) fun s hI => ?_
  exact h _ hI

theorem fill_part85 (hH : cc0_scratch7 ∈ H) {s0 s : St F c} (hI : FillI s0 25 22 21 6400 s) (h : ∀ s', FillI s0 26 23 22 2816 s' → Q ⟨⟩ s') :
    wpp (rig H h1 h2) (k0_part85 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part85_eq_skeleton]; unfold k0_part85_skel
  refine wpp_move hH (k := 21) (C := 6400) hI 256 6400 (by omega) (by omega) (by omega) (by omega) pay256 (perm_block (by decide)) fun s hI => ?_
  replace hI := hI.next
  refine wpp_start (enq := 25) hI (by omega) (by omega) (by omega) (by omega) fun s hI => ?_
  refine wpp_await (wt := 22) hI (by omega) (by omega) fun s hI => ?_
  refine wpp_move hH (k := 22) (C := 0) hI 2560 0 (by omega) (by omega) (by omega) (by omega) pay2560 (perm_block (by decide)) fun s hI => ?_
  refine wpp_move hH (k := 22) (C := 2560) hI 256 4608 (by omega) (by omega) (by omega) (by omega) pay256 (perm_block (by decide)) fun s hI => ?_
  exact h _ hI

theorem fill_part86 (hH : cc0_scratch7 ∈ H) {s0 s : St F c} (hI : FillI s0 26 23 22 2816 s) (h : ∀ s', FillI s0 26 23 22 4096 s' → Q ⟨⟩ s') :
    wpp (rig H h1 h2) (k0_part86 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part86_eq_skeleton]; unfold k0_part86_skel
  refine wpp_move hH (k := 22) (C := 2816) hI 256 2560 (by omega) (by omega) (by omega) (by omega) pay256 (perm_block (by decide)) fun s hI => ?_
  refine wpp_move hH (k := 22) (C := 3072) hI 256 3584 (by omega) (by omega) (by omega) (by omega) pay256 (perm_block (by decide)) fun s hI => ?_
  refine wpp_move hH (k := 22) (C := 3328) hI 256 5632 (by omega) (by omega) (by omega) (by omega) pay256 (perm_block (by decide)) fun s hI => ?_
  refine wpp_move hH (k := 22) (C := 3584) hI 256 4864 (by omega) (by omega) (by omega) (by omega) pay256 (perm_block (by decide)) fun s hI => ?_
  refine wpp_move hH (k := 22) (C := 3840) hI 256 2816 (by omega) (by omega) (by omega) (by omega) pay256 (perm_block (by decide)) fun s hI => ?_
  exact h _ hI

theorem fill_part87 (hH : cc0_scratch7 ∈ H) {s0 s : St F c} (hI : FillI s0 26 23 22 4096 s) (h : ∀ s', FillI s0 26 23 22 5376 s' → Q ⟨⟩ s') :
    wpp (rig H h1 h2) (k0_part87 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part87_eq_skeleton]; unfold k0_part87_skel
  refine wpp_move hH (k := 22) (C := 4096) hI 256 3840 (by omega) (by omega) (by omega) (by omega) pay256 (perm_block (by decide)) fun s hI => ?_
  refine wpp_move hH (k := 22) (C := 4352) hI 256 5888 (by omega) (by omega) (by omega) (by omega) pay256 (perm_block (by decide)) fun s hI => ?_
  refine wpp_move hH (k := 22) (C := 4608) hI 256 5120 (by omega) (by omega) (by omega) (by omega) pay256 (perm_block (by decide)) fun s hI => ?_
  refine wpp_move hH (k := 22) (C := 4864) hI 256 3072 (by omega) (by omega) (by omega) (by omega) pay256 (perm_block (by decide)) fun s hI => ?_
  refine wpp_move hH (k := 22) (C := 5120) hI 256 4096 (by omega) (by omega) (by omega) (by omega) pay256 (perm_block (by decide)) fun s hI => ?_
  exact h _ hI

theorem fill_part88 (hH : cc0_scratch7 ∈ H) {s0 s : St F c} (hI : FillI s0 26 23 22 5376 s) (h : ∀ s', FillI s0 26 23 23 0 s' → Q ⟨⟩ s') :
    wpp (rig H h1 h2) (k0_part88 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part88_eq_skeleton]; unfold k0_part88_skel
  refine wpp_move hH (k := 22) (C := 5376) hI 256 6144 (by omega) (by omega) (by omega) (by omega) pay256 (perm_block (by decide)) fun s hI => ?_
  refine wpp_move hH (k := 22) (C := 5632) hI 256 5376 (by omega) (by omega) (by omega) (by omega) pay256 (perm_block (by decide)) fun s hI => ?_
  refine wpp_move hH (k := 22) (C := 5888) hI 256 3328 (by omega) (by omega) (by omega) (by omega) pay256 (perm_block (by decide)) fun s hI => ?_
  refine wpp_move hH (k := 22) (C := 6144) hI 256 4352 (by omega) (by omega) (by omega) (by omega) pay256 (perm_block (by decide)) fun s hI => ?_
  refine wpp_move hH (k := 22) (C := 6400) hI 256 6400 (by omega) (by omega) (by omega) (by omega) pay256 (perm_block (by decide)) fun s hI => ?_
  replace hI := hI.next
  exact h _ hI

theorem fill_part89 (hH : cc0_scratch7 ∈ H) {s0 s : St F c} (hI : FillI s0 26 23 23 0 s) (h : ∀ s', FillI s0 27 24 23 3072 s' → Q ⟨⟩ s') :
    wpp (rig H h1 h2) (k0_part89 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part89_eq_skeleton]; unfold k0_part89_skel
  refine wpp_start (enq := 26) hI (by omega) (by omega) (by omega) (by omega) fun s hI => ?_
  refine wpp_await (wt := 23) hI (by omega) (by omega) fun s hI => ?_
  refine wpp_move hH (k := 23) (C := 0) hI 2560 0 (by omega) (by omega) (by omega) (by omega) pay2560 (perm_block (by decide)) fun s hI => ?_
  refine wpp_move hH (k := 23) (C := 2560) hI 256 4608 (by omega) (by omega) (by omega) (by omega) pay256 (perm_block (by decide)) fun s hI => ?_
  refine wpp_move hH (k := 23) (C := 2816) hI 256 2560 (by omega) (by omega) (by omega) (by omega) pay256 (perm_block (by decide)) fun s hI => ?_
  exact h _ hI

theorem fill_part90 (hH : cc0_scratch7 ∈ H) {s0 s : St F c} (hI : FillI s0 27 24 23 3072 s) (h : ∀ s', FillI s0 27 24 23 4352 s' → Q ⟨⟩ s') :
    wpp (rig H h1 h2) (k0_part90 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part90_eq_skeleton]; unfold k0_part90_skel
  refine wpp_move hH (k := 23) (C := 3072) hI 256 3584 (by omega) (by omega) (by omega) (by omega) pay256 (perm_block (by decide)) fun s hI => ?_
  refine wpp_move hH (k := 23) (C := 3328) hI 256 5632 (by omega) (by omega) (by omega) (by omega) pay256 (perm_block (by decide)) fun s hI => ?_
  refine wpp_move hH (k := 23) (C := 3584) hI 256 4864 (by omega) (by omega) (by omega) (by omega) pay256 (perm_block (by decide)) fun s hI => ?_
  refine wpp_move hH (k := 23) (C := 3840) hI 256 2816 (by omega) (by omega) (by omega) (by omega) pay256 (perm_block (by decide)) fun s hI => ?_
  refine wpp_move hH (k := 23) (C := 4096) hI 256 3840 (by omega) (by omega) (by omega) (by omega) pay256 (perm_block (by decide)) fun s hI => ?_
  exact h _ hI

end Cert.KernelIdeal.Attn
-- ==== Proof.Attn.FillD.lean ====
/-
  The filling, operation by operation: parts 91 to 121 of the body.
-/
module

public import proofs.«01_k».proof.Proof.Attn.Fill

@[expose] public section

set_option maxHeartbeats 1000000
set_option maxRecDepth 16384

noncomputable section

namespace Cert.KernelIdeal.Attn

open Cert.KernelIdeal Cert.KernelIdeal.Gen
open Idealize.ShloMosaic Idealize.ShloMosaic.TcCoe
open Idealize.SL.Sem

variable {F : FTy → Type} [FloatOps F] {c : Dev nD} {H : Finset (Ref sig .tc)} {h1 : cc0_scratch8 ∉ H} {h2 : main_v0 ∉ H} {Q : PUnit → St F c → Prop}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

theorem fill_part91 (hH : cc0_scratch7 ∈ H) {s0 s : St F c} (hI : FillI s0 27 24 23 4352 s) (h : ∀ s', FillI s0 27 24 23 5632 s' → Q ⟨⟩ s') :
    wpp (rig H h1 h2) (k0_part91 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part91_eq_skeleton]; unfold k0_part91_skel
  refine wpp_move hH (k := 23) (C := 4352) hI 256 5888 (by omega) (by omega) (by omega) (by omega) pay256 (perm_block (by decide)) fun s hI => ?_
  refine wpp_move hH (k := 23) (C := 4608) hI 256 5120 (by omega) (by omega) (by omega) (by omega) pay256 (perm_block (by decide)) fun s hI => ?_
  refine wpp_move hH (k := 23) (C := 4864) hI 256 3072 (by omega) (by omega) (by omega) (by omega) pay256 (perm_block (by decide)) fun s hI => ?_
  refine wpp_move hH (k := 23) (C := 5120) hI 256 4096 (by omega) (by omega) (by omega) (by omega) pay256 (perm_block (by decide)) fun s hI => ?_
  refine wpp_move hH (k := 23) (C := 5376) hI 256 6144 (by omega) (by omega) (by omega) (by omega) pay256 (perm_block (by decide)) fun s hI => ?_
  exact h _ hI

theorem fill_part92 (hH : cc0_scratch7 ∈ H) {s0 s : St F c} (hI : FillI s0 27 24 23 5632 s) (h : ∀ s', FillI s0 28 24 24 0 s' → Q ⟨⟩ s') :
    wpp (rig H h1 h2) (k0_part92 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part92_eq_skeleton]; unfold k0_part92_skel
  refine wpp_move hH (k := 23) (C := 5632) hI 256 5376 (by omega) (by omega) (by omega) (by omega) pay256 (perm_block (by decide)) fun s hI => ?_
  refine wpp_move hH (k := 23) (C := 5888) hI 256 3328 (by omega) (by omega) (by omega) (by omega) pay256 (perm_block (by decide)) fun s hI => ?_
  refine wpp_move hH (k := 23) (C := 6144) hI 256 4352 (by omega) (by omega) (by omega) (by omega) pay256 (perm_block (by decide)) fun s hI => ?_
  refine wpp_move hH (k := 23) (C := 6400) hI 256 6400 (by omega) (by omega) (by omega) (by omega) pay256 (perm_block (by decide)) fun s hI => ?_
  replace hI := hI.next
  refine wpp_start (enq := 27) hI (by omega) (by omega) (by omega) (by omega) fun s hI => ?_
  exact h _ hI

theorem fill_part93 (hH : cc0_scratch7 ∈ H) {s0 s : St F c} (hI : FillI s0 28 24 24 0 s) (h : ∀ s', FillI s0 28 25 24 3328 s' → Q ⟨⟩ s') :
    wpp (rig H h1 h2) (k0_part93 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part93_eq_skeleton]; unfold k0_part93_skel
  refine wpp_await (wt := 24) hI (by omega) (by omega) fun s hI => ?_
  refine wpp_move hH (k := 24) (C := 0) hI 2560 0 (by omega) (by omega) (by omega) (by omega) pay2560 (perm_block (by decide)) fun s hI => ?_
  refine wpp_move hH (k := 24) (C := 2560) hI 256 4608 (by omega) (by omega) (by omega) (by omega) pay256 (perm_block (by decide)) fun s hI => ?_
  refine wpp_move hH (k := 24) (C := 2816) hI 256 2560 (by omega) (by omega) (by omega) (by omega) pay256 (perm_block (by decide)) fun s hI => ?_
  refine wpp_move hH (k := 24) (C := 3072) hI 256 3584 (by omega) (by omega) (by omega) (by omega) pay256 (perm_block (by decide)) fun s hI => ?_
  exact h _ hI

theorem fill_part94 (hH : cc0_scratch7 ∈ H) {s0 s : St F c} (hI : FillI s0 28 25 24 3328 s) (h : ∀ s', FillI s0 28 25 24 4608 s' → Q ⟨⟩ s') :
    wpp (rig H h1 h2) (k0_part94 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part94_eq_skeleton]; unfold k0_part94_skel
  refine wpp_move hH (k := 24) (C := 3328) hI 256 5632 (by omega) (by omega) (by omega) (by omega) pay256 (perm_block (by decide)) fun s hI => ?_
  refine wpp_move hH (k := 24) (C := 3584) hI 256 4864 (by omega) (by omega) (by omega) (by omega) pay256 (perm_block (by decide)) fun s hI => ?_
  refine wpp_move hH (k := 24) (C := 3840) hI 256 2816 (by omega) (by omega) (by omega) (by omega) pay256 (perm_block (by decide)) fun s hI => ?_
  refine wpp_move hH (k := 24) (C := 4096) hI 256 3840 (by omega) (by omega) (by omega) (by omega) pay256 (perm_block (by decide)) fun s hI => ?_
  refine wpp_move hH (k := 24) (C := 4352) hI 256 5888 (by omega) (by omega) (by omega) (by omega) pay256 (perm_block (by decide)) fun s hI => ?_
  exact h _ hI

theorem fill_part95 (hH : cc0_scratch7 ∈ H) {s0 s : St F c} (hI : FillI s0 28 25 24 4608 s) (h : ∀ s', FillI s0 28 25 24 5888 s' → Q ⟨⟩ s') :
    wpp (rig H h1 h2) (k0_part95 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part95_eq_skeleton]; unfold k0_part95_skel
  refine wpp_move hH (k := 24) (C := 4608) hI 256 5120 (by omega) (by omega) (by omega) (by omega) pay256 (perm_block (by decide)) fun s hI => ?_
  refine wpp_move hH (k := 24) (C := 4864) hI 256 3072 (by omega) (by omega) (by omega) (by omega) pay256 (perm_block (by decide)) fun s hI => ?_
  refine wpp_move hH (k := 24) (C := 5120) hI 256 4096 (by omega) (by omega) (by omega) (by omega) pay256 (perm_block (by decide)) fun s hI => ?_
  refine wpp_move hH (k := 24) (C := 5376) hI 256 6144 (by omega) (by omega) (by omega) (by omega) pay256 (perm_block (by decide)) fun s hI => ?_
  refine wpp_move hH (k := 24) (C := 5632) hI 256 5376 (by omega) (by omega) (by omega) (by omega) pay256 (perm_block (by decide)) fun s hI => ?_
  exact h _ hI

theorem fill_part96 (hH : cc0_scratch7 ∈ H) {s0 s : St F c} (hI : FillI s0 28 25 24 5888 s) (h : ∀ s', FillI s0 29 26 25 0 s' → Q ⟨⟩ s') :
    wpp (rig H h1 h2) (k0_part96 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part96_eq_skeleton]; unfold k0_part96_skel
  refine wpp_move hH (k := 24) (C := 5888) hI 256 3328 (by omega) (by omega) (by omega) (by omega) pay256 (perm_block (by decide)) fun s hI => ?_
  refine wpp_move hH (k := 24) (C := 6144) hI 256 4352 (by omega) (by omega) (by omega) (by omega) pay256 (perm_block (by decide)) fun s hI => ?_
  refine wpp_move hH (k := 24) (C := 6400) hI 256 6400 (by omega) (by omega) (by omega) (by omega) pay256 (perm_block (by decide)) fun s hI => ?_
  replace hI := hI.next
  refine wpp_start (enq := 28) hI (by omega) (by omega) (by omega) (by omega) fun s hI => ?_
  refine wpp_await (wt := 25) hI (by omega) (by omega) fun s hI => ?_
  exact h _ hI

theorem fill_part97 (hH : cc0_scratch7 ∈ H) {s0 s : St F c} (hI : FillI s0 29 26 25 0 s) (h : ∀ s', FillI s0 29 26 25 3584 s' → Q ⟨⟩ s') :
    wpp (rig H h1 h2) (k0_part97 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part97_eq_skeleton]; unfold k0_part97_skel
  refine wpp_move hH (k := 25) (C := 0) hI 2560 0 (by omega) (by omega) (by omega) (by omega) pay2560 (perm_block (by decide)) fun s hI => ?_
  refine wpp_move hH (k := 25) (C := 2560) hI 256 4608 (by omega) (by omega) (by omega) (by omega) pay256 (perm_block (by decide)) fun s hI => ?_
  refine wpp_move hH (k := 25) (C := 2816) hI 256 2560 (by omega) (by omega) (by omega) (by omega) pay256 (perm_block (by decide)) fun s hI => ?_
  refine wpp_move hH (k := 25) (C := 3072) hI 256 3584 (by omega) (by omega) (by omega) (by omega) pay256 (perm_block (by decide)) fun s hI => ?_
  refine wpp_move hH (k := 25) (C := 3328) hI 256 5632 (by omega) (by omega) (by omega) (by omega) pay256 (perm_block (by decide)) fun s hI => ?_
  exact h _ hI

theorem fill_part98 (hH : cc0_scratch7 ∈ H) {s0 s : St F c} (hI : FillI s0 29 26 25 3584 s) (h : ∀ s', FillI s0 29 26 25 4864 s' → Q ⟨⟩ s') :
    wpp (rig H h1 h2) (k0_part98 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part98_eq_skeleton]; unfold k0_part98_skel
  refine wpp_move hH (k := 25) (C := 3584) hI 256 4864 (by omega) (by omega) (by omega) (by omega) pay256 (perm_block (by decide)) fun s hI => ?_
  refine wpp_move hH (k := 25) (C := 3840) hI 256 2816 (by omega) (by omega) (by omega) (by omega) pay256 (perm_block (by decide)) fun s hI => ?_
  refine wpp_move hH (k := 25) (C := 4096) hI 256 3840 (by omega) (by omega) (by omega) (by omega) pay256 (perm_block (by decide)) fun s hI => ?_
  refine wpp_move hH (k := 25) (C := 4352) hI 256 5888 (by omega) (by omega) (by omega) (by omega) pay256 (perm_block (by decide)) fun s hI => ?_
  refine wpp_move hH (k := 25) (C := 4608) hI 256 5120 (by omega) (by omega) (by omega) (by omega) pay256 (perm_block (by decide)) fun s hI => ?_
  exact h _ hI

theorem fill_part99 (hH : cc0_scratch7 ∈ H) {s0 s : St F c} (hI : FillI s0 29 26 25 4864 s) (h : ∀ s', FillI s0 29 26 25 6144 s' → Q ⟨⟩ s') :
    wpp (rig H h1 h2) (k0_part99 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part99_eq_skeleton]; unfold k0_part99_skel
  refine wpp_move hH (k := 25) (C := 4864) hI 256 3072 (by omega) (by omega) (by omega) (by omega) pay256 (perm_block (by decide)) fun s hI => ?_
  refine wpp_move hH (k := 25) (C := 5120) hI 256 4096 (by omega) (by omega) (by omega) (by omega) pay256 (perm_block (by decide)) fun s hI => ?_
  refine wpp_move hH (k := 25) (C := 5376) hI 256 6144 (by omega) (by omega) (by omega) (by omega) pay256 (perm_block (by decide)) fun s hI => ?_
  refine wpp_move hH (k := 25) (C := 5632) hI 256 5376 (by omega) (by omega) (by omega) (by omega) pay256 (perm_block (by decide)) fun s hI => ?_
  refine wpp_move hH (k := 25) (C := 5888) hI 256 3328 (by omega) (by omega) (by omega) (by omega) pay256 (perm_block (by decide)) fun s hI => ?_
  exact h _ hI

theorem fill_part100 (hH : cc0_scratch7 ∈ H) {s0 s : St F c} (hI : FillI s0 29 26 25 6144 s) (h : ∀ s', FillI s0 30 27 26 2560 s' → Q ⟨⟩ s') :
    wpp (rig H h1 h2) (k0_part100 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part100_eq_skeleton]; unfold k0_part100_skel
  refine wpp_move hH (k := 25) (C := 6144) hI 256 4352 (by omega) (by omega) (by omega) (by omega) pay256 (perm_block (by decide)) fun s hI => ?_
  refine wpp_move hH (k := 25) (C := 6400) hI 256 6400 (by omega) (by omega) (by omega) (by omega) pay256 (perm_block (by decide)) fun s hI => ?_
  replace hI := hI.next
  refine wpp_start (enq := 29) hI (by omega) (by omega) (by omega) (by omega) fun s hI => ?_
  refine wpp_await (wt := 26) hI (by omega) (by omega) fun s hI => ?_
  refine wpp_move hH (k := 26) (C := 0) hI 2560 0 (by omega) (by omega) (by omega) (by omega) pay2560 (perm_block (by decide)) fun s hI => ?_
  exact h _ hI

theorem fill_part101 (hH : cc0_scratch7 ∈ H) {s0 s : St F c} (hI : FillI s0 30 27 26 2560 s) (h : ∀ s', FillI s0 30 27 26 3840 s' → Q ⟨⟩ s') :
    wpp (rig H h1 h2) (k0_part101 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part101_eq_skeleton]; unfold k0_part101_skel
  refine wpp_move hH (k := 26) (C := 2560) hI 256 4608 (by omega) (by omega) (by omega) (by omega) pay256 (perm_block (by decide)) fun s hI => ?_
  refine wpp_move hH (k := 26) (C := 2816) hI 256 2560 (by omega) (by omega) (by omega) (by omega) pay256 (perm_block (by decide)) fun s hI => ?_
  refine wpp_move hH (k := 26) (C := 3072) hI 256 3584 (by omega) (by omega) (by omega) (by omega) pay256 (perm_block (by decide)) fun s hI => ?_
  refine wpp_move hH (k := 26) (C := 3328) hI 256 5632 (by omega) (by omega) (by omega) (by omega) pay256 (perm_block (by decide)) fun s hI => ?_
  refine wpp_move hH (k := 26) (C := 3584) hI 256 4864 (by omega) (by omega) (by omega) (by omega) pay256 (perm_block (by decide)) fun s hI => ?_
  exact h _ hI

theorem fill_part102 (hH : cc0_scratch7 ∈ H) {s0 s : St F c} (hI : FillI s0 30 27 26 3840 s) (h : ∀ s', FillI s0 30 27 26 5120 s' → Q ⟨⟩ s') :
    wpp (rig H h1 h2) (k0_part102 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part102_eq_skeleton]; unfold k0_part102_skel
  refine wpp_move hH (k := 26) (C := 3840) hI 256 2816 (by omega) (by omega) (by omega) (by omega) pay256 (perm_block (by decide)) fun s hI => ?_
  refine wpp_move hH (k := 26) (C := 4096) hI 256 3840 (by omega) (by omega) (by omega) (by omega) pay256 (perm_block (by decide)) fun s hI => ?_
  refine wpp_move hH (k := 26) (C := 4352) hI 256 5888 (by omega) (by omega) (by omega) (by omega) pay256 (perm_block (by decide)) fun s hI => ?_
  refine wpp_move hH (k := 26) (C := 4608) hI 256 5120 (by omega) (by omega) (by omega) (by omega) pay256 (perm_block (by decide)) fun s hI => ?_
  refine wpp_move hH (k := 26) (C := 4864) hI 256 3072 (by omega) (by omega) (by omega) (by omega) pay256 (perm_block (by decide)) fun s hI => ?_
  exact h _ hI

theorem fill_part103 (hH : cc0_scratch7 ∈ H) {s0 s : St F c} (hI : FillI s0 30 27 26 5120 s) (h : ∀ s', FillI s0 30 27 26 6400 s' → Q ⟨⟩ s') :
    wpp (rig H h1 h2) (k0_part103 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part103_eq_skeleton]; unfold k0_part103_skel
  refine wpp_move hH (k := 26) (C := 5120) hI 256 4096 (by omega) (by omega) (by omega) (by omega) pay256 (perm_block (by decide)) fun s hI => ?_
  refine wpp_move hH (k := 26) (C := 5376) hI 256 6144 (by omega) (by omega) (by omega) (by omega) pay256 (perm_block (by decide)) fun s hI => ?_
  refine wpp_move hH (k := 26) (C := 5632) hI 256 5376 (by omega) (by omega) (by omega) (by omega) pay256 (perm_block (by decide)) fun s hI => ?_
  refine wpp_move hH (k := 26) (C := 5888) hI 256 3328 (by omega) (by omega) (by omega) (by omega) pay256 (perm_block (by decide)) fun s hI => ?_
  refine wpp_move hH (k := 26) (C := 6144) hI 256 4352 (by omega) (by omega) (by omega) (by omega) pay256 (perm_block (by decide)) fun s hI => ?_
  exact h _ hI

theorem fill_part104 (hH : cc0_scratch7 ∈ H) {s0 s : St F c} (hI : FillI s0 30 27 26 6400 s) (h : ∀ s', FillI s0 31 28 27 2816 s' → Q ⟨⟩ s') :
    wpp (rig H h1 h2) (k0_part104 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part104_eq_skeleton]; unfold k0_part104_skel
  refine wpp_move hH (k := 26) (C := 6400) hI 256 6400 (by omega) (by omega) (by omega) (by omega) pay256 (perm_block (by decide)) fun s hI => ?_
  replace hI := hI.next
  refine wpp_start (enq := 30) hI (by omega) (by omega) (by omega) (by omega) fun s hI => ?_
  refine wpp_await (wt := 27) hI (by omega) (by omega) fun s hI => ?_
  refine wpp_move hH (k := 27) (C := 0) hI 2560 0 (by omega) (by omega) (by omega) (by omega) pay2560 (perm_block (by decide)) fun s hI => ?_
  refine wpp_move hH (k := 27) (C := 2560) hI 256 4608 (by omega) (by omega) (by omega) (by omega) pay256 (perm_block (by decide)) fun s hI => ?_
  exact h _ hI

theorem fill_part105 (hH : cc0_scratch7 ∈ H) {s0 s : St F c} (hI : FillI s0 31 28 27 2816 s) (h : ∀ s', FillI s0 31 28 27 4096 s' → Q ⟨⟩ s') :
    wpp (rig H h1 h2) (k0_part105 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part105_eq_skeleton]; unfold k0_part105_skel
  refine wpp_move hH (k := 27) (C := 2816) hI 256 2560 (by omega) (by omega) (by omega) (by omega) pay256 (perm_block (by decide)) fun s hI => ?_
  refine wpp_move hH (k := 27) (C := 3072) hI 256 3584 (by omega) (by omega) (by omega) (by omega) pay256 (perm_block (by decide)) fun s hI => ?_
  refine wpp_move hH (k := 27) (C := 3328) hI 256 5632 (by omega) (by omega) (by omega) (by omega) pay256 (perm_block (by decide)) fun s hI => ?_
  refine wpp_move hH (k := 27) (C := 3584) hI 256 4864 (by omega) (by omega) (by omega) (by omega) pay256 (perm_block (by decide)) fun s hI => ?_
  refine wpp_move hH (k := 27) (C := 3840) hI 256 2816 (by omega) (by omega) (by omega) (by omega) pay256 (perm_block (by decide)) fun s hI => ?_
  exact h _ hI

theorem fill_part106 (hH : cc0_scratch7 ∈ H) {s0 s : St F c} (hI : FillI s0 31 28 27 4096 s) (h : ∀ s', FillI s0 31 28 27 5376 s' → Q ⟨⟩ s') :
    wpp (rig H h1 h2) (k0_part106 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part106_eq_skeleton]; unfold k0_part106_skel
  refine wpp_move hH (k := 27) (C := 4096) hI 256 3840 (by omega) (by omega) (by omega) (by omega) pay256 (perm_block (by decide)) fun s hI => ?_
  refine wpp_move hH (k := 27) (C := 4352) hI 256 5888 (by omega) (by omega) (by omega) (by omega) pay256 (perm_block (by decide)) fun s hI => ?_
  refine wpp_move hH (k := 27) (C := 4608) hI 256 5120 (by omega) (by omega) (by omega) (by omega) pay256 (perm_block (by decide)) fun s hI => ?_
  refine wpp_move hH (k := 27) (C := 4864) hI 256 3072 (by omega) (by omega) (by omega) (by omega) pay256 (perm_block (by decide)) fun s hI => ?_
  refine wpp_move hH (k := 27) (C := 5120) hI 256 4096 (by omega) (by omega) (by omega) (by omega) pay256 (perm_block (by decide)) fun s hI => ?_
  exact h _ hI

theorem fill_part107 (hH : cc0_scratch7 ∈ H) {s0 s : St F c} (hI : FillI s0 31 28 27 5376 s) (h : ∀ s', FillI s0 31 28 28 0 s' → Q ⟨⟩ s') :
    wpp (rig H h1 h2) (k0_part107 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part107_eq_skeleton]; unfold k0_part107_skel
  refine wpp_move hH (k := 27) (C := 5376) hI 256 6144 (by omega) (by omega) (by omega) (by omega) pay256 (perm_block (by decide)) fun s hI => ?_
  refine wpp_move hH (k := 27) (C := 5632) hI 256 5376 (by omega) (by omega) (by omega) (by omega) pay256 (perm_block (by decide)) fun s hI => ?_
  refine wpp_move hH (k := 27) (C := 5888) hI 256 3328 (by omega) (by omega) (by omega) (by omega) pay256 (perm_block (by decide)) fun s hI => ?_
  refine wpp_move hH (k := 27) (C := 6144) hI 256 4352 (by omega) (by omega) (by omega) (by omega) pay256 (perm_block (by decide)) fun s hI => ?_
  refine wpp_move hH (k := 27) (C := 6400) hI 256 6400 (by omega) (by omega) (by omega) (by omega) pay256 (perm_block (by decide)) fun s hI => ?_
  replace hI := hI.next
  exact h _ hI

theorem fill_part108 (hH : cc0_scratch7 ∈ H) {s0 s : St F c} (hI : FillI s0 31 28 28 0 s) (h : ∀ s', FillI s0 32 29 28 3072 s' → Q ⟨⟩ s') :
    wpp (rig H h1 h2) (k0_part108 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part108_eq_skeleton]; unfold k0_part108_skel
  refine wpp_start (enq := 31) hI (by omega) (by omega) (by omega) (by omega) fun s hI => ?_
  refine wpp_await (wt := 28) hI (by omega) (by omega) fun s hI => ?_
  refine wpp_move hH (k := 28) (C := 0) hI 2560 0 (by omega) (by omega) (by omega) (by omega) pay2560 (perm_block (by decide)) fun s hI => ?_
  refine wpp_move hH (k := 28) (C := 2560) hI 256 4608 (by omega) (by omega) (by omega) (by omega) pay256 (perm_block (by decide)) fun s hI => ?_
  refine wpp_move hH (k := 28) (C := 2816) hI 256 2560 (by omega) (by omega) (by omega) (by omega) pay256 (perm_block (by decide)) fun s hI => ?_
  exact h _ hI

theorem fill_part109 (hH : cc0_scratch7 ∈ H) {s0 s : St F c} (hI : FillI s0 32 29 28 3072 s) (h : ∀ s', FillI s0 32 29 28 4352 s' → Q ⟨⟩ s') :
    wpp (rig H h1 h2) (k0_part109 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part109_eq_skeleton]; unfold k0_part109_skel
  refine wpp_move hH (k := 28) (C := 3072) hI 256 3584 (by omega) (by omega) (by omega) (by omega) pay256 (perm_block (by decide)) fun s hI => ?_
  refine wpp_move hH (k := 28) (C := 3328) hI 256 5632 (by omega) (by omega) (by omega) (by omega) pay256 (perm_block (by decide)) fun s hI => ?_
  refine wpp_move hH (k := 28) (C := 3584) hI 256 4864 (by omega) (by omega) (by omega) (by omega) pay256 (perm_block (by decide)) fun s hI => ?_
  refine wpp_move hH (k := 28) (C := 3840) hI 256 2816 (by omega) (by omega) (by omega) (by omega) pay256 (perm_block (by decide)) fun s hI => ?_
  refine wpp_move hH (k := 28) (C := 4096) hI 256 3840 (by omega) (by omega) (by omega) (by omega) pay256 (perm_block (by decide)) fun s hI => ?_
  exact h _ hI

theorem fill_part110 (hH : cc0_scratch7 ∈ H) {s0 s : St F c} (hI : FillI s0 32 29 28 4352 s) (h : ∀ s', FillI s0 32 29 28 5632 s' → Q ⟨⟩ s') :
    wpp (rig H h1 h2) (k0_part110 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part110_eq_skeleton]; unfold k0_part110_skel
  refine wpp_move hH (k := 28) (C := 4352) hI 256 5888 (by omega) (by omega) (by omega) (by omega) pay256 (perm_block (by decide)) fun s hI => ?_
  refine wpp_move hH (k := 28) (C := 4608) hI 256 5120 (by omega) (by omega) (by omega) (by omega) pay256 (perm_block (by decide)) fun s hI => ?_
  refine wpp_move hH (k := 28) (C := 4864) hI 256 3072 (by omega) (by omega) (by omega) (by omega) pay256 (perm_block (by decide)) fun s hI => ?_
  refine wpp_move hH (k := 28) (C := 5120) hI 256 4096 (by omega) (by omega) (by omega) (by omega) pay256 (perm_block (by decide)) fun s hI => ?_
  refine wpp_move hH (k := 28) (C := 5376) hI 256 6144 (by omega) (by omega) (by omega) (by omega) pay256 (perm_block (by decide)) fun s hI => ?_
  exact h _ hI

theorem fill_part111 (hH : cc0_scratch7 ∈ H) {s0 s : St F c} (hI : FillI s0 32 29 28 5632 s) (h : ∀ s', FillI s0 32 30 29 0 s' → Q ⟨⟩ s') :
    wpp (rig H h1 h2) (k0_part111 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part111_eq_skeleton]; unfold k0_part111_skel
  refine wpp_move hH (k := 28) (C := 5632) hI 256 5376 (by omega) (by omega) (by omega) (by omega) pay256 (perm_block (by decide)) fun s hI => ?_
  refine wpp_move hH (k := 28) (C := 5888) hI 256 3328 (by omega) (by omega) (by omega) (by omega) pay256 (perm_block (by decide)) fun s hI => ?_
  refine wpp_move hH (k := 28) (C := 6144) hI 256 4352 (by omega) (by omega) (by omega) (by omega) pay256 (perm_block (by decide)) fun s hI => ?_
  refine wpp_move hH (k := 28) (C := 6400) hI 256 6400 (by omega) (by omega) (by omega) (by omega) pay256 (perm_block (by decide)) fun s hI => ?_
  replace hI := hI.next
  refine wpp_await (wt := 29) hI (by omega) (by omega) fun s hI => ?_
  exact h _ hI

theorem fill_part112 (hH : cc0_scratch7 ∈ H) {s0 s : St F c} (hI : FillI s0 32 30 29 0 s) (h : ∀ s', FillI s0 32 30 29 3584 s' → Q ⟨⟩ s') :
    wpp (rig H h1 h2) (k0_part112 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part112_eq_skeleton]; unfold k0_part112_skel
  refine wpp_move hH (k := 29) (C := 0) hI 2560 0 (by omega) (by omega) (by omega) (by omega) pay2560 (perm_block (by decide)) fun s hI => ?_
  refine wpp_move hH (k := 29) (C := 2560) hI 256 4608 (by omega) (by omega) (by omega) (by omega) pay256 (perm_block (by decide)) fun s hI => ?_
  refine wpp_move hH (k := 29) (C := 2816) hI 256 2560 (by omega) (by omega) (by omega) (by omega) pay256 (perm_block (by decide)) fun s hI => ?_
  refine wpp_move hH (k := 29) (C := 3072) hI 256 3584 (by omega) (by omega) (by omega) (by omega) pay256 (perm_block (by decide)) fun s hI => ?_
  refine wpp_move hH (k := 29) (C := 3328) hI 256 5632 (by omega) (by omega) (by omega) (by omega) pay256 (perm_block (by decide)) fun s hI => ?_
  exact h _ hI

theorem fill_part113 (hH : cc0_scratch7 ∈ H) {s0 s : St F c} (hI : FillI s0 32 30 29 3584 s) (h : ∀ s', FillI s0 32 30 29 4864 s' → Q ⟨⟩ s') :
    wpp (rig H h1 h2) (k0_part113 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part113_eq_skeleton]; unfold k0_part113_skel
  refine wpp_move hH (k := 29) (C := 3584) hI 256 4864 (by omega) (by omega) (by omega) (by omega) pay256 (perm_block (by decide)) fun s hI => ?_
  refine wpp_move hH (k := 29) (C := 3840) hI 256 2816 (by omega) (by omega) (by omega) (by omega) pay256 (perm_block (by decide)) fun s hI => ?_
  refine wpp_move hH (k := 29) (C := 4096) hI 256 3840 (by omega) (by omega) (by omega) (by omega) pay256 (perm_block (by decide)) fun s hI => ?_
  refine wpp_move hH (k := 29) (C := 4352) hI 256 5888 (by omega) (by omega) (by omega) (by omega) pay256 (perm_block (by decide)) fun s hI => ?_
  refine wpp_move hH (k := 29) (C := 4608) hI 256 5120 (by omega) (by omega) (by omega) (by omega) pay256 (perm_block (by decide)) fun s hI => ?_
  exact h _ hI

theorem fill_part114 (hH : cc0_scratch7 ∈ H) {s0 s : St F c} (hI : FillI s0 32 30 29 4864 s) (h : ∀ s', FillI s0 32 30 29 6144 s' → Q ⟨⟩ s') :
    wpp (rig H h1 h2) (k0_part114 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part114_eq_skeleton]; unfold k0_part114_skel
  refine wpp_move hH (k := 29) (C := 4864) hI 256 3072 (by omega) (by omega) (by omega) (by omega) pay256 (perm_block (by decide)) fun s hI => ?_
  refine wpp_move hH (k := 29) (C := 5120) hI 256 4096 (by omega) (by omega) (by omega) (by omega) pay256 (perm_block (by decide)) fun s hI => ?_
  refine wpp_move hH (k := 29) (C := 5376) hI 256 6144 (by omega) (by omega) (by omega) (by omega) pay256 (perm_block (by decide)) fun s hI => ?_
  refine wpp_move hH (k := 29) (C := 5632) hI 256 5376 (by omega) (by omega) (by omega) (by omega) pay256 (perm_block (by decide)) fun s hI => ?_
  refine wpp_move hH (k := 29) (C := 5888) hI 256 3328 (by omega) (by omega) (by omega) (by omega) pay256 (perm_block (by decide)) fun s hI => ?_
  exact h _ hI

theorem fill_part115 (hH : cc0_scratch7 ∈ H) {s0 s : St F c} (hI : FillI s0 32 30 29 6144 s) (h : ∀ s', FillI s0 32 31 30 2816 s' → Q ⟨⟩ s') :
    wpp (rig H h1 h2) (k0_part115 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part115_eq_skeleton]; unfold k0_part115_skel
  refine wpp_move hH (k := 29) (C := 6144) hI 256 4352 (by omega) (by omega) (by omega) (by omega) pay256 (perm_block (by decide)) fun s hI => ?_
  refine wpp_move hH (k := 29) (C := 6400) hI 256 6400 (by omega) (by omega) (by omega) (by omega) pay256 (perm_block (by decide)) fun s hI => ?_
  replace hI := hI.next
  refine wpp_await (wt := 30) hI (by omega) (by omega) fun s hI => ?_
  refine wpp_move hH (k := 30) (C := 0) hI 2560 0 (by omega) (by omega) (by omega) (by omega) pay2560 (perm_block (by decide)) fun s hI => ?_
  refine wpp_move hH (k := 30) (C := 2560) hI 256 4608 (by omega) (by omega) (by omega) (by omega) pay256 (perm_block (by decide)) fun s hI => ?_
  exact h _ hI

theorem fill_part116 (hH : cc0_scratch7 ∈ H) {s0 s : St F c} (hI : FillI s0 32 31 30 2816 s) (h : ∀ s', FillI s0 32 31 30 4096 s' → Q ⟨⟩ s') :
    wpp (rig H h1 h2) (k0_part116 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part116_eq_skeleton]; unfold k0_part116_skel
  refine wpp_move hH (k := 30) (C := 2816) hI 256 2560 (by omega) (by omega) (by omega) (by omega) pay256 (perm_block (by decide)) fun s hI => ?_
  refine wpp_move hH (k := 30) (C := 3072) hI 256 3584 (by omega) (by omega) (by omega) (by omega) pay256 (perm_block (by decide)) fun s hI => ?_
  refine wpp_move hH (k := 30) (C := 3328) hI 256 5632 (by omega) (by omega) (by omega) (by omega) pay256 (perm_block (by decide)) fun s hI => ?_
  refine wpp_move hH (k := 30) (C := 3584) hI 256 4864 (by omega) (by omega) (by omega) (by omega) pay256 (perm_block (by decide)) fun s hI => ?_
  refine wpp_move hH (k := 30) (C := 3840) hI 256 2816 (by omega) (by omega) (by omega) (by omega) pay256 (perm_block (by decide)) fun s hI => ?_
  exact h _ hI

theorem fill_part117 (hH : cc0_scratch7 ∈ H) {s0 s : St F c} (hI : FillI s0 32 31 30 4096 s) (h : ∀ s', FillI s0 32 31 30 5376 s' → Q ⟨⟩ s') :
    wpp (rig H h1 h2) (k0_part117 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part117_eq_skeleton]; unfold k0_part117_skel
  refine wpp_move hH (k := 30) (C := 4096) hI 256 3840 (by omega) (by omega) (by omega) (by omega) pay256 (perm_block (by decide)) fun s hI => ?_
  refine wpp_move hH (k := 30) (C := 4352) hI 256 5888 (by omega) (by omega) (by omega) (by omega) pay256 (perm_block (by decide)) fun s hI => ?_
  refine wpp_move hH (k := 30) (C := 4608) hI 256 5120 (by omega) (by omega) (by omega) (by omega) pay256 (perm_block (by decide)) fun s hI => ?_
  refine wpp_move hH (k := 30) (C := 4864) hI 256 3072 (by omega) (by omega) (by omega) (by omega) pay256 (perm_block (by decide)) fun s hI => ?_
  refine wpp_move hH (k := 30) (C := 5120) hI 256 4096 (by omega) (by omega) (by omega) (by omega) pay256 (perm_block (by decide)) fun s hI => ?_
  exact h _ hI

theorem fill_part118 (hH : cc0_scratch7 ∈ H) {s0 s : St F c} (hI : FillI s0 32 31 30 5376 s) (h : ∀ s', FillI s0 32 31 31 0 s' → Q ⟨⟩ s') :
    wpp (rig H h1 h2) (k0_part118 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part118_eq_skeleton]; unfold k0_part118_skel
  refine wpp_move hH (k := 30) (C := 5376) hI 256 6144 (by omega) (by omega) (by omega) (by omega) pay256 (perm_block (by decide)) fun s hI => ?_
  refine wpp_move hH (k := 30) (C := 5632) hI 256 5376 (by omega) (by omega) (by omega) (by omega) pay256 (perm_block (by decide)) fun s hI => ?_
  refine wpp_move hH (k := 30) (C := 5888) hI 256 3328 (by omega) (by omega) (by omega) (by omega) pay256 (perm_block (by decide)) fun s hI => ?_
  refine wpp_move hH (k := 30) (C := 6144) hI 256 4352 (by omega) (by omega) (by omega) (by omega) pay256 (perm_block (by decide)) fun s hI => ?_
  refine wpp_move hH (k := 30) (C := 6400) hI 256 6400 (by omega) (by omega) (by omega) (by omega) pay256 (perm_block (by decide)) fun s hI => ?_
  replace hI := hI.next
  exact h _ hI

theorem fill_part119 (hH : cc0_scratch7 ∈ H) {s0 s : St F c} (hI : FillI s0 32 31 31 0 s) (h : ∀ s', FillI s0 32 32 31 3328 s' → Q ⟨⟩ s') :
    wpp (rig H h1 h2) (k0_part119 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part119_eq_skeleton]; unfold k0_part119_skel
  refine wpp_await (wt := 31) hI (by omega) (by omega) fun s hI => ?_
  refine wpp_move hH (k := 31) (C := 0) hI 2560 0 (by omega) (by omega) (by omega) (by omega) pay2560 (perm_block (by decide)) fun s hI => ?_
  refine wpp_move hH (k := 31) (C := 2560) hI 256 4608 (by omega) (by omega) (by omega) (by omega) pay256 (perm_block (by decide)) fun s hI => ?_
  refine wpp_move hH (k := 31) (C := 2816) hI 256 2560 (by omega) (by omega) (by omega) (by omega) pay256 (perm_block (by decide)) fun s hI => ?_
  refine wpp_move hH (k := 31) (C := 3072) hI 256 3584 (by omega) (by omega) (by omega) (by omega) pay256 (perm_block (by decide)) fun s hI => ?_
  exact h _ hI

theorem fill_part120 (hH : cc0_scratch7 ∈ H) {s0 s : St F c} (hI : FillI s0 32 32 31 3328 s) (h : ∀ s', FillI s0 32 32 31 4608 s' → Q ⟨⟩ s') :
    wpp (rig H h1 h2) (k0_part120 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part120_eq_skeleton]; unfold k0_part120_skel
  refine wpp_move hH (k := 31) (C := 3328) hI 256 5632 (by omega) (by omega) (by omega) (by omega) pay256 (perm_block (by decide)) fun s hI => ?_
  refine wpp_move hH (k := 31) (C := 3584) hI 256 4864 (by omega) (by omega) (by omega) (by omega) pay256 (perm_block (by decide)) fun s hI => ?_
  refine wpp_move hH (k := 31) (C := 3840) hI 256 2816 (by omega) (by omega) (by omega) (by omega) pay256 (perm_block (by decide)) fun s hI => ?_
  refine wpp_move hH (k := 31) (C := 4096) hI 256 3840 (by omega) (by omega) (by omega) (by omega) pay256 (perm_block (by decide)) fun s hI => ?_
  refine wpp_move hH (k := 31) (C := 4352) hI 256 5888 (by omega) (by omega) (by omega) (by omega) pay256 (perm_block (by decide)) fun s hI => ?_
  exact h _ hI

theorem fill_part121 (hH : cc0_scratch7 ∈ H) {s0 s : St F c} (hI : FillI s0 32 32 31 4608 s) (h : ∀ s', FillI s0 32 32 31 5888 s' → Q ⟨⟩ s') :
    wpp (rig H h1 h2) (k0_part121 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part121_eq_skeleton]; unfold k0_part121_skel
  refine wpp_move hH (k := 31) (C := 4608) hI 256 5120 (by omega) (by omega) (by omega) (by omega) pay256 (perm_block (by decide)) fun s hI => ?_
  refine wpp_move hH (k := 31) (C := 4864) hI 256 3072 (by omega) (by omega) (by omega) (by omega) pay256 (perm_block (by decide)) fun s hI => ?_
  refine wpp_move hH (k := 31) (C := 5120) hI 256 4096 (by omega) (by omega) (by omega) (by omega) pay256 (perm_block (by decide)) fun s hI => ?_
  refine wpp_move hH (k := 31) (C := 5376) hI 256 6144 (by omega) (by omega) (by omega) (by omega) pay256 (perm_block (by decide)) fun s hI => ?_
  refine wpp_move hH (k := 31) (C := 5632) hI 256 5376 (by omega) (by omega) (by omega) (by omega) pay256 (perm_block (by decide)) fun s hI => ?_
  exact h _ hI

end Cert.KernelIdeal.Attn
-- ==== Proof.Attn.FillAll.lean ====
/-
  The filling as a whole.
-/
module

public import proofs.«01_k».proof.Proof.Attn.FillA
public import proofs.«01_k».proof.Proof.Attn.FillB
public import proofs.«01_k».proof.Proof.Attn.FillC
public import proofs.«01_k».proof.Proof.Attn.FillD

@[expose] public section

set_option maxHeartbeats 1000000
set_option maxRecDepth 16384

noncomputable section

namespace Cert.KernelIdeal.Attn

open Cert.KernelIdeal Cert.KernelIdeal.Gen
open Idealize.ShloMosaic Idealize.ShloMosaic.TcCoe
open Idealize.SL.Sem
open Idealize.ShloMosaic.ValueIdx

variable {F : FTy → Type} [FloatOps F] {c : Dev nD} {H : Finset (Ref sig .tc)} {h1 : cc0_scratch8 ∉ H} {h2 : main_v0 ∉ H} {Q : PUnit → St F c → Prop}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

variable {β : Type}

/-- A program with a known effect in front. -/
theorem fill_then {α : Type} {Q' : β → St F c → Prop} {s : St F c} {R : Rig} {p : PG F α} {f : α → PG F β} (h : wpp R p (fun a s' => wpp R (f a) Q' s') s) : wpp R (p >>= f) Q' s := by
  rw [wpp_bind]; exact h

theorem fill_part122 (hH : cc0_scratch7 ∈ H) {s0 s : St F c} (hI : FillI s0 0 0 0 0 s) (h : ∀ s', FillI s0 19 16 15 4864 s' → Q ⟨⟩ s') :
    wpp (rig H h1 h2) (k0_part122 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part122_eq_skeleton]; unfold k0_part122_skel
  refine fill_then (fill_part1 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part2 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part3 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part4 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part5 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part6 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part7 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part8 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part9 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part10 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part11 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part12 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part13 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part14 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part15 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part16 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part17 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part18 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part19 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part20 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part21 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part22 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part23 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part24 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part25 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part26 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part27 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part28 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part29 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part30 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part31 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part32 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part33 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part34 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part35 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part36 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part37 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part38 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part39 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part40 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part41 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part42 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part43 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part44 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part45 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part46 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part47 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part48 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part49 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part50 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part51 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part52 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part53 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part54 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part55 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part56 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part57 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part58 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part59 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part60 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  exact h _ hI

theorem fill_part123 (hH : cc0_scratch7 ∈ H) {s0 s : St F c} (hI : FillI s0 19 16 15 4864 s) (h : ∀ s', FillI s0 32 32 31 4608 s' → Q ⟨⟩ s') :
    wpp (rig H h1 h2) (k0_part123 (F := F) i arg2 harg2 arg3 harg3 (Memref.whole main_v0) harg4 arg5 harg5 arg6 harg6 arg7 harg7 arg8 harg8 arg9 harg9 arg10 harg10 arg11 harg11 arg12 harg12 arg13 harg13 arg14 harg14 arg15 harg15 arg16 harg16 arg17 harg17 arg18 harg18 (Memref.whole cc0_scratch7) harg19 (Memref.whole cc0_scratch8) harg20 cc0_scratch9) Q s := by
  rw [k0_part123_eq_skeleton]; unfold k0_part123_skel
  refine fill_then (fill_part61 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part62 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part63 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part64 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part65 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part66 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part67 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part68 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part69 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part70 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part71 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part72 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part73 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part74 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part75 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part76 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part77 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part78 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part79 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part80 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part81 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part82 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part83 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part84 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part85 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part86 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part87 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part88 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part89 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part90 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part91 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part92 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part93 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part94 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part95 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part96 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part97 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part98 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part99 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part100 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part101 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part102 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part103 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part104 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part105 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part106 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part107 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part108 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part109 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part110 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part111 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part112 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part113 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part114 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part115 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part116 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part117 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part118 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part119 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  refine fill_then (fill_part120 i arg2 harg2 arg3 harg3 harg4 arg5 harg5 arg6 harg6 arg7 harg7 arg8 harg8 arg9 harg9 arg10 harg10 arg11 harg11 arg12 harg12 arg13 harg13 arg14 harg14 arg15 harg15 arg16 harg16 arg17 harg17 arg18 harg18 harg19 harg20 hH hI fun s hI => ?_)
  exact h _ hI

end Cert.KernelIdeal.Attn
-- ==== Proof.Attn.Track.lean ====
/-
  The convolution branch and the gate of the attention, followed through one call of the body: what is read of the
  operands is `Data`; `uC`, `cC`, `tC` are a block of 256 columns of the gated inputs, of the convolution and of the gated
  convolution; `TI` is what holds of the buffers while the blocks are done one after another.
-/
module

public import proofs.«01_k».proof.Proof.Attn.Fill

@[expose] public section

set_option maxRecDepth 16384

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F] {c : Dev nD}

/-- The contents of a memref. -/
def rd {sp : Space} {S : Shape} {e : EltTy} (m : Memref sig .tc sp S e) (s : St F c) : S.Idx → Elt F e :=
  m.view.read (Elt F) (s.mem m.view.ref)

/-- The buffer of the gated inputs. -/
def uS (s : St F c) : S520x1024.Idx → Elt F .f32 := s.mem cc0_scratch0
/-- The buffer of the gated convolution. -/
def tS (s : St F c) : S512x1024.Idx → Elt F .bf16 := s.mem cc0_scratch1

/-- What one call of the body reads. -/
structure Data (F : FTy → Type) [FloatOps F] where
  xm : FVec F S512x1024 .bf16
  W : S1024x6656.Idx → Elt F .bf16
  B : S1x8704.Idx → Elt F .f32
  cw : S3x1024.Idx → Elt F .f32
  wp : S1024x1024.Idx → Elt F .bf16
  hal : S8x1024.Idx → Elt F .f32

/-- `N` columns of the weights' buffer from column `C` on. -/
def wB (D : Data F) (C N : ℕ) : (⟨2, ![1024, N]⟩ : Shape).Idx → Elt F .bf16 :=
  fun y => D.W (ix2 (y 0) ⟨(C + (y 1).val) % 6656, Nat.mod_lt _ (by decide)⟩)
/-- 256 entries of the bias from entry `C` on. -/
def bB (D : Data F) (C : ℕ) : S1x256.Idx → Elt F .f32 :=
  fun y => D.B (ix2 0 ⟨(C + (y 1).val) % 8704, Nat.mod_lt _ (by decide)⟩)
/-- 256 entries of tap `k` from entry `C` on. -/
def tap (D : Data F) (k : Fin 3) (C : ℕ) : S1x256.Idx → Elt F .f32 :=
  fun y => D.cw (ix2 k ⟨(C + (y 1).val) % 1024, Nat.mod_lt _ (by decide)⟩)

/-- Block `j` of the gated inputs. -/
def uC (D : Data F) (j : ℕ) : FVec F S512x256 .f32 :=
  k0_pay821 (k0_pay818 D.xm (wB D (2560 + 1024 * j) 512)) (k0_pay819 (bB D (4608 + 256 * j))) (bB D (2560 + 256 * j))
/-- Block `j` of the gated inputs `d` rows earlier. -/
def pre (D : Data F) (j d : ℕ) : S512x256.Idx → Elt F .f32 := fun y =>
  if (y 0).val < d then D.hal (ix2 ⟨(8 - d + (y 0).val) % 8, Nat.mod_lt _ (by decide)⟩ ⟨(256 * j + (y 1).val) % 1024, Nat.mod_lt _ (by decide)⟩)
  else uC D j (ix2 ⟨(y 0).val - d, lt_of_le_of_lt (Nat.sub_le _ _) (y 0).isLt⟩ (y 1))
/-- Block `j` of the convolution. -/
def cC (D : Data F) (j : ℕ) : FVec F S512x256 .f32 :=
  k0_pay822 (k0_pay818 D.xm (wB D (2560 + 1024 * j) 512)) (k0_pay819 (bB D (4608 + 256 * j))) (bB D (2560 + 256 * j))
    (tap D 0 (256 * j)) (pre D j 2) (tap D 1 (256 * j)) (pre D j 1) (tap D 2 (256 * j))
/-- Block `j` of the gated convolution. -/
def tC (D : Data F) (j : ℕ) : FVec F S512x256 .bf16 :=
  k0_pay837 (k0_pay836 D.xm (cC D j) (wB D (3072 + 1024 * j) 512) (bB D (3584 + 256 * j)) (bB D (5632 + 256 * j)))
/-- The gated convolution. -/
def tV (D : Data F) : FVec F S512x1024 .bf16 :=
  fun y => tC D ((y 1).val / 256) (ix2 (y 0) ⟨(y 1).val % 256, Nat.mod_lt _ (by decide)⟩)
/-- The gate of the attention. -/
def zaV (D : Data F) : FVec F S1x512x256 .bf16 := k0_pay1242 D.xm (wB D 2304 256) (bB D 2304)
/-- The convolution branch. -/
def ycV (D : Data F) : FVec F S1x512x1024 .bf16 := k0_pay1244 (k0_pay1243 (tV D) D.wp)

variable {A5 : Memref sig .tc .vmem S1x8704 .f32} {A6 : Memref sig .tc .vmem S3x1024 .f32} {A7 : Memref sig .tc .vmem S1024x1024 .bf16}
variable {A9 : Memref sig .tc .vmem S1x512x256 .bf16} {A10 : Memref sig .tc .vmem S1x512x1024 .bf16}

/-- Which buffers are held, which are written, and what the read ones hold. -/
structure Ctx (D : Data F) (H U V : Finset (Ref sig .tc)) (A5 : Memref sig .tc .vmem S1x8704 .f32) (A6 : Memref sig .tc .vmem S3x1024 .f32)
    (A7 : Memref sig .tc .vmem S1024x1024 .bf16) (A9 : Memref sig .tc .vmem S1x512x256 .bf16) (A10 : Memref sig .tc .vmem S1x512x1024 .bf16)
    (s1 : St F c) : Prop where
  UH : U ⊆ H
  UV : U ⊆ V
  u0 : cc0_scratch0 ∉ U
  u1 : cc0_scratch1 ∉ U
  u9 : A9.view.ref ∉ U
  u10 : A10.view.ref ∉ U
  v0 : cc0_scratch0 ∈ V
  v1 : cc0_scratch1 ∈ V
  v9 : A9.view.ref ∈ V
  v10 : A10.view.ref ∈ V
  d09 : A9.view.ref ≠ cc0_scratch0
  d19 : A9.view.ref ≠ cc0_scratch1
  d0A : A10.view.ref ≠ cc0_scratch0
  d1A : A10.view.ref ≠ cc0_scratch1
  d9A : A9.view.ref ≠ A10.view.ref
  h0 : cc0_scratch0 ∈ H
  h1 : cc0_scratch1 ∈ H
  h5 : A5.view.ref ∈ H
  h6 : A6.view.ref ∈ H
  h7 : A7.view.ref ∈ H
  h9 : A9.view.ref ∈ H
  h10 : A10.view.ref ∈ H
  hW : cc0_scratch7 ∈ H
  n5 : A5.view.ref ∉ V
  n6 : A6.view.ref ∉ V
  n7 : A7.view.ref ∉ V
  nW : cc0_scratch7 ∉ V
  e5 : rd A5 s1 = D.B
  e6 : rd A6 s1 = D.cw
  e7 : rd A7 s1 = D.wp
  eW : wS s1 = D.W

/-- What holds of the buffers with `n` blocks of the gated inputs and `m` blocks of the gated convolution done. -/
structure TI (D : Data F) (V : Finset (Ref sig .tc)) (A9 : Memref sig .tc .vmem S1x512x256 .bf16) (A10 : Memref sig .tc .vmem S1x512x1024 .bf16)
    (s1 : St F c) (n m : ℕ) (z y : Bool) (s : St F c) : Prop where
  other : ∀ b, b ∉ V → s.mem b = s1.mem b
  busy : s.busy = s1.busy
  u : ∀ j < n, ∀ (r : Fin 512) (x : Fin 256) (h : 256 * j + x.val < 1024), uS s (ix2 ⟨8 + r.val, by omega⟩ ⟨256 * j + x.val, h⟩) = uC D j (ix2 r x)
  hal : ∀ (r : Fin 8) (x : Fin 1024), uS s (ix2 ⟨r.val, by omega⟩ x) = D.hal (ix2 r x)
  t : ∀ j < m, ∀ (r : Fin 512) (x : Fin 256) (h : 256 * j + x.val < 1024), tS s (ix2 r ⟨256 * j + x.val, h⟩) = tC D j (ix2 r x)
  za : z = true → rd A9 s = zaV D
  yc : y = true → rd A10 s = ycV D

variable {D : Data F} {H U V : Finset (Ref sig .tc)} {h1 : cc0_scratch8 ∉ H} {h2 : main_v0 ∉ H} {α β : Type} {Q : β → St F c → Prop}
variable {s1 s : St F c} {n m : ℕ} {z y : Bool}

theorem rd_congr {sp : Space} {S : Shape} {e : EltTy} (M : Memref sig .tc sp S e) {s s' : St F c} (h : s'.mem M.view.ref = s.mem M.view.ref) : rd M s' = rd M s := by
  unfold rd; rw [h]

/-- A state that differs only in `U` satisfies the same. -/
theorem TI.of_eq (hC : Ctx D H U V A5 A6 A7 A9 A10 s1) (hI : TI D V A9 A10 s1 n m z y s) {s' : St F c}
    (hs : ∀ b, b ∉ U → s'.mem b = s.mem b) (hb : s'.busy = s.busy) : TI D V A9 A10 s1 n m z y s' where
  other b hbV := (hs b fun hU => hbV (hC.UV hU)).trans (hI.other b hbV)
  busy := hb.trans hI.busy
  u j hj r x h := (congrFun (hs _ hC.u0) _).trans (hI.u j hj r x h)
  hal r x := (congrFun (hs _ hC.u0) _).trans (hI.hal r x)
  t j hj r x h := (congrFun (hs _ hC.u1) _).trans (hI.t j hj r x h)
  za h := (rd_congr A9 (hs _ hC.u9)).trans (hI.za h)
  yc h := (rd_congr A10 (hs _ hC.u10)).trans (hI.yc h)

/-- A safe program in front. -/
theorem TI.safe (hC : Ctx D H U V A5 A6 A7 A9 A10 s1) (hI : TI D V A9 A10 s1 n m z y s) {p : PG F α} {f : α → PG F β}
    (hp : Safe H U p) (h : ∀ a s', TI D V A9 A10 s1 n m z y s' → wpp (rig H h1 h2) (f a) Q s') : wpp (rig H h1 h2) (p >>= f) Q s := by
  rw [wpp_bind]
  exact Safe.wpp (rig H h1 h2) (le_refl H) hC.UH hp fun a s' hs hb => h a s' (hI.of_eq hC hs hb)

/-- A program with a known effect in front. -/
theorem wpp_then {R : Rig} {p : PG F α} {f : α → PG F β} (h : wpp R p (fun a s' => wpp R (f a) Q s') s) : wpp R (p >>= f) Q s := by
  rw [wpp_bind]; exact h

/-- A load whose value does not matter. -/
theorem skip_load {β : Type} {Q : β → St F c → Prop} {cs : CoreSpace} {sh : Shape} {e : EltTy} {M : Memref sig .tc cs sh e} {r : LoadRect sh} {hl : M.view.LoadsAt r}
    {f : (r.shape.Idx → Elt F e) → PG F β} (hm : M.view.ref ∈ H) (h : ∀ v, wpp (rig H h1 h2) (f v) Q s) :
    wpp (rig H h1 h2) (Prog.lift (.load M r hl) >>= f) Q s := ⟨.inl hm, h _⟩

/-- A store into a buffer that is not followed. -/
theorem TI.skip_store (hC : Ctx D H U V A5 A6 A7 A9 A10 s1) (hI : TI D V A9 A10 s1 n m z y s) {cs : CoreSpace} {sh : Shape} {e : EltTy} {M : Memref sig .tc cs sh e} {r : Rect sh} {w : r.shape.Idx → Elt F e}
    {K : Finset r.shape.Idx} {x1 : (M.access r).Stores K} {x2 : K = Finset.univ ∨ ∀ a, r.stride a = 1}
    {f : PUnit → PG F β} (hm : M.view.ref ∈ U) (h : ∀ s', TI D V A9 A10 s1 n m z y s' → wpp (rig H h1 h2) (f ⟨⟩) Q s') :
    wpp (rig H h1 h2) (Prog.lift (.store M r w K x1 x2) >>= f) Q s :=
  ⟨hC.UH hm, h _ (hI.of_eq hC (fun b hb => St.upd_ne _ _ fun he => hb (by rw [he]; exact hm)) rfl)⟩

theorem ix2_eq {a b : ℕ} (y : (⟨2, ![a, b]⟩ : Shape).Idx) : y = ix2 (y 0) (y 1) := funext fun k => by match k with | ⟨0, _⟩ => rfl | ⟨1, _⟩ => rfl

/-- A load of columns of the weights' buffer. -/
theorem TI.ld_w (hC : Ctx D H U V A5 A6 A7 A9 A10 s1) (hI : TI D V A9 A10 s1 n m z y s) (C N : ℕ)
    {inb : ∀ a, (![0, C] : Fin 2 → ℕ) a + (![1024, N] : Fin 2 → ℕ) a ≤ S1024x6656.size a}
    {hl : (Memref.whole cc0_scratch7).view.LoadsAt (Rect.unit (s := S1024x6656) ![0, C] ![1024, N] inb).toLoadRect}
    {f : ((⟨2, ![1024, N]⟩ : Shape).Idx → Elt F .bf16) → PG F β}
    (h : wpp (rig H h1 h2) (f (wB D C N)) Q s) :
    wpp (rig H h1 h2) (Prog.lift (.load (Memref.whole cc0_scratch7) (Rect.unit (s := S1024x6656) ![0, C] ![1024, N] inb).toLoadRect hl) >>= f) Q s := by
  refine ⟨.inl hC.hW, ?_⟩
  have e : (Memref.whole cc0_scratch7).view.readAt (Elt F) (Rect.unit (s := S1024x6656) ![0, C] ![1024, N] inb).toLoadRect (s.mem cc0_scratch7) = wB D C N := by
    funext y
    have h0 : s.mem cc0_scratch7 = D.W := (hI.other _ hC.nW).trans hC.eW
    have hy : (y 1).val < N := (y 1).isLt
    have hi : C + N ≤ 6656 := inb 1
    rw [h0]
    refine congrArg D.W (funext fun a => Fin.ext ?_)
    match a with
    | ⟨0, _⟩ => show 0 + 1 * (y 0).val = (y 0).val; omega
    | ⟨1, _⟩ => show C + 1 * (y 1).val = (C + (y 1).val) % 6656; rw [Nat.mod_eq_of_lt (by omega)]; omega
  rw [← e] at h
  exact h

/-- A load of the bias. -/
theorem TI.ld_b (hC : Ctx D H U V A5 A6 A7 A9 A10 s1) (hI : TI D V A9 A10 s1 n m z y s) (C : ℕ)
    {inb : ∀ a, (![0, C] : Fin 2 → ℕ) a + S1x256.size a ≤ S1x8704.size a}
    {hl : A5.view.LoadsAt (Rect.unit (s := S1x8704) ![0, C] S1x256.size inb).toLoadRect}
    {f : (S1x256.Idx → Elt F .f32) → PG F β}
    (h : wpp (rig H h1 h2) (f (bB D C)) Q s) :
    wpp (rig H h1 h2) (Prog.lift (.load A5 (Rect.unit (s := S1x8704) ![0, C] S1x256.size inb).toLoadRect hl) >>= f) Q s := by
  refine ⟨.inl hC.h5, ?_⟩
  have e : A5.view.readAt (Elt F) (Rect.unit (s := S1x8704) ![0, C] S1x256.size inb).toLoadRect (s.mem A5.view.ref) = bB D C := by
    funext y
    have h0 : rd A5 s = D.B := (rd_congr A5 (hI.other _ hC.n5)).trans hC.e5
    have hy : (y 1).val < 256 := (y 1).isLt
    have hy0 : (y 0).val < 1 := (y 0).isLt
    have hi : C + 256 ≤ 8704 := inb 1
    show rd A5 s _ = _
    rw [h0]
    refine congrArg D.B (funext fun a => Fin.ext ?_)
    match a with
    | ⟨0, _⟩ => show 0 + 1 * (y 0).val = 0; omega
    | ⟨1, _⟩ => show C + 1 * (y 1).val = (C + (y 1).val) % 8704; rw [Nat.mod_eq_of_lt (by omega)]; omega
  rw [← e] at h
  exact h

/-- A load of a tap. -/
theorem TI.ld_tap (hC : Ctx D H U V A5 A6 A7 A9 A10 s1) (hI : TI D V A9 A10 s1 n m z y s) (k : Fin 3) (C : ℕ)
    {inb : ∀ a, (![k.val, C] : Fin 2 → ℕ) a + S1x256.size a ≤ S3x1024.size a}
    {hl : A6.view.LoadsAt (Rect.unit (s := S3x1024) ![k.val, C] S1x256.size inb).toLoadRect}
    {f : (S1x256.Idx → Elt F .f32) → PG F β}
    (h : wpp (rig H h1 h2) (f (tap D k C)) Q s) :
    wpp (rig H h1 h2) (Prog.lift (.load A6 (Rect.unit (s := S3x1024) ![k.val, C] S1x256.size inb).toLoadRect hl) >>= f) Q s := by
  refine ⟨.inl hC.h6, ?_⟩
  have e : A6.view.readAt (Elt F) (Rect.unit (s := S3x1024) ![k.val, C] S1x256.size inb).toLoadRect (s.mem A6.view.ref) = tap D k C := by
    funext y
    have h0 : rd A6 s = D.cw := (rd_congr A6 (hI.other _ hC.n6)).trans hC.e6
    have hy : (y 1).val < 256 := (y 1).isLt
    have hy0 : (y 0).val < 1 := (y 0).isLt
    have hi : C + 256 ≤ 1024 := inb 1
    show rd A6 s _ = _
    rw [h0]
    refine congrArg D.cw (funext fun a => Fin.ext ?_)
    match a with
    | ⟨0, _⟩ => show k.val + 1 * (y 0).val = k.val; omega
    | ⟨1, _⟩ => show C + 1 * (y 1).val = (C + (y 1).val) % 1024; rw [Nat.mod_eq_of_lt (by omega)]; omega
  rw [← e] at h
  exact h

/-- The load of the projection. -/
theorem TI.ld_wp (hC : Ctx D H U V A5 A6 A7 A9 A10 s1) (hI : TI D V A9 A10 s1 n m z y s)
    {inb : ∀ a, (![0, 0] : Fin 2 → ℕ) a + S1024x1024.size a ≤ S1024x1024.size a}
    {hl : A7.view.LoadsAt (Rect.unit (s := S1024x1024) ![0, 0] S1024x1024.size inb).toLoadRect}
    {f : (S1024x1024.Idx → Elt F .bf16) → PG F β}
    (h : wpp (rig H h1 h2) (f D.wp) Q s) :
    wpp (rig H h1 h2) (Prog.lift (.load A7 (Rect.unit (s := S1024x1024) ![0, 0] S1024x1024.size inb).toLoadRect hl) >>= f) Q s := by
  refine ⟨.inl hC.h7, ?_⟩
  have e : A7.view.readAt (Elt F) (Rect.unit (s := S1024x1024) ![0, 0] S1024x1024.size inb).toLoadRect (s.mem A7.view.ref) = D.wp := by
    funext y
    have h0 : rd A7 s = D.wp := (rd_congr A7 (hI.other _ hC.n7)).trans hC.e7
    show rd A7 s _ = _
    rw [h0]
    refine congrArg D.wp (funext fun a => Fin.ext ?_)
    match a with
    | ⟨0, _⟩ => show 0 + 1 * (y 0).val = (y 0).val; omega
    | ⟨1, _⟩ => show 0 + 1 * (y 1).val = (y 1).val; omega
  rw [← e] at h
  exact h

/-- A load of a block of the gated inputs, `d` rows earlier. -/
theorem TI.ld_u (hC : Ctx D H U V A5 A6 A7 A9 A10 s1) (hI : TI D V A9 A10 s1 n m z y s) (j d : ℕ) (hj : j < n) (hd : d ≤ 8)
    {inb : ∀ a, (![8 - d, 256 * j] : Fin 2 → ℕ) a + S512x256.size a ≤ S520x1024.size a}
    {hl : (Memref.whole cc0_scratch0).view.LoadsAt (Rect.unit (s := S520x1024) ![8 - d, 256 * j] S512x256.size inb).toLoadRect}
    {f : (S512x256.Idx → Elt F .f32) → PG F β}
    (h : wpp (rig H h1 h2) (f (pre D j d)) Q s) :
    wpp (rig H h1 h2) (Prog.lift (.load (Memref.whole cc0_scratch0) (Rect.unit (s := S520x1024) ![8 - d, 256 * j] S512x256.size inb).toLoadRect hl) >>= f) Q s := by
  refine ⟨.inl hC.h0, ?_⟩
  have e : (Memref.whole cc0_scratch0).view.readAt (Elt F) (Rect.unit (s := S520x1024) ![8 - d, 256 * j] S512x256.size inb).toLoadRect (s.mem cc0_scratch0) = pre D j d := by
    funext y
    have hy : (y 1).val < 256 := (y 1).isLt
    have hy0 : (y 0).val < 512 := (y 0).isLt
    have hi : 256 * j + 256 ≤ 1024 := inb 1
    show uS s _ = _
    unfold pre
    by_cases hlt : (y 0).val < d
    · rw [if_pos hlt, ← hI.hal]
      refine congrArg (uS s) (funext fun a => Fin.ext ?_)
      match a with
      | ⟨0, _⟩ => show 8 - d + 1 * (y 0).val = (8 - d + (y 0).val) % 8; rw [Nat.mod_eq_of_lt (by omega)]; omega
      | ⟨1, _⟩ => show 256 * j + 1 * (y 1).val = (256 * j + (y 1).val) % 1024; rw [Nat.mod_eq_of_lt (by omega)]; omega
    · rw [if_neg hlt, ← hI.u j hj ⟨(y 0).val - d, by omega⟩ (y 1) (by omega)]
      refine congrArg (uS s) (funext fun a => Fin.ext ?_)
      match a with
      | ⟨0, _⟩ => show 8 - d + 1 * (y 0).val = 8 + ((y 0).val - d); omega
      | ⟨1, _⟩ => show 256 * j + 1 * (y 1).val = 256 * j + (y 1).val; omega
  rw [← e] at h
  exact h

/-- The store of a block of the gated inputs. -/
theorem TI.st_u (hC : Ctx D H U V A5 A6 A7 A9 A10 s1) (j : ℕ) (hI : TI D V A9 A10 s1 j m z y s)
    {inb : ∀ a, (![8, 256 * j] : Fin 2 → ℕ) a + S512x256.size a ≤ S520x1024.size a} {w : S512x256.Idx → Elt F .f32}
    {x1 : ((Memref.whole cc0_scratch0).access (Rect.unit (s := S520x1024) ![8, 256 * j] S512x256.size inb)).Stores Finset.univ}
    {x2 : (Finset.univ : Finset (Rect.unit (s := S520x1024) ![8, 256 * j] S512x256.size inb).shape.Idx) = Finset.univ ∨ ∀ a, (Rect.unit (s := S520x1024) ![8, 256 * j] S512x256.size inb).stride a = 1}
    {f : PUnit → PG F β} (hw : w = uC D j)
    (h : ∀ s', TI D V A9 A10 s1 (j + 1) m z y s' → wpp (rig H h1 h2) (f ⟨⟩) Q s') :
    wpp (rig H h1 h2) (Prog.lift (.store (Memref.whole cc0_scratch0) (Rect.unit (s := S520x1024) ![8, 256 * j] S512x256.size inb) w Finset.univ x1 x2) >>= f) Q s := by
  have hi : 256 * j + 256 ≤ 1024 := inb 1
  refine ⟨hC.h0, h _ ⟨fun b hb => ?_, hI.busy, fun i hij r x hx => ?_, fun r x => ?_, fun i hij r x hx => ?_, fun hz => ?_, fun hy => ?_⟩⟩
  · exact (St.upd_ne _ _ (fun he => hb (by rw [he]; exact hC.v0))).trans (hI.other b hb)
  · refine (congrFun (St.upd_same s cc0_scratch0 _) _).trans ?_
    by_cases he : i = j
    · subst he
      rw [← hw]
      have hix : (ix2 ⟨8 + r.val, by omega⟩ ⟨256 * i + x.val, hx⟩ : S520x1024.Idx) = (Rect.unit (s := S520x1024) ![8, 256 * i] S512x256.size inb).emb (ix2 r x) := funext fun a => Fin.ext (by
        match a with
        | ⟨0, _⟩ => show 8 + r.val = 8 + 1 * r.val; omega
        | ⟨1, _⟩ => show 256 * i + x.val = 256 * i + 1 * x.val; omega)
      rw [hix]
      exact write_rect_emb (b := cc0_scratch0) _ _ _ _
    · refine (write_rect_not (b := cc0_scratch0) _ _ _ _ fun k hk => ?_).trans (hI.u i (by omega) r x hx)
      have k1 : (k 1).val < 256 := (k 1).isLt
      have e1 : 256 * j + 1 * (k 1).val = 256 * i + x.val := congrArg (fun i : S520x1024.Idx => (i 1).val) hk
      omega
  · refine (congrFun (St.upd_same s cc0_scratch0 _) _).trans ?_
    refine (write_rect_not (b := cc0_scratch0) _ _ _ _ fun k hk => ?_).trans (hI.hal r x)
    have e1 : 8 + 1 * (k 0).val = r.val := congrArg (fun i : S520x1024.Idx => (i 0).val) hk
    omega
  · exact (congrFun (St.upd_ne s (b := cc0_scratch0) (b' := cc0_scratch1) _ (by decide)) _).trans (hI.t i hij r x hx)
  · exact (rd_congr A9 (St.upd_ne s _ hC.d09)).trans (hI.za hz)
  · exact (rd_congr A10 (St.upd_ne s _ hC.d0A)).trans (hI.yc hy)

/-- The store of a block of the gated convolution. -/
theorem TI.st_t (hC : Ctx D H U V A5 A6 A7 A9 A10 s1) (j : ℕ) (hI : TI D V A9 A10 s1 n j z y s)
    {inb : ∀ a, (![0, 256 * j] : Fin 2 → ℕ) a + S512x256.size a ≤ S512x1024.size a} {w : S512x256.Idx → Elt F .bf16}
    {x1 : ((Memref.whole cc0_scratch1).access (Rect.unit (s := S512x1024) ![0, 256 * j] S512x256.size inb)).Stores Finset.univ}
    {x2 : (Finset.univ : Finset (Rect.unit (s := S512x1024) ![0, 256 * j] S512x256.size inb).shape.Idx) = Finset.univ ∨ ∀ a, (Rect.unit (s := S512x1024) ![0, 256 * j] S512x256.size inb).stride a = 1}
    {f : PUnit → PG F β} (hw : w = tC D j)
    (h : ∀ s', TI D V A9 A10 s1 n (j + 1) z y s' → wpp (rig H h1 h2) (f ⟨⟩) Q s') :
    wpp (rig H h1 h2) (Prog.lift (.store (Memref.whole cc0_scratch1) (Rect.unit (s := S512x1024) ![0, 256 * j] S512x256.size inb) w Finset.univ x1 x2) >>= f) Q s := by
  have hi : 256 * j + 256 ≤ 1024 := inb 1
  refine ⟨hC.h1, h _ ⟨fun b hb => ?_, hI.busy, fun i hij r x hx => ?_, fun r x => ?_, fun i hij r x hx => ?_, fun hz => ?_, fun hy => ?_⟩⟩
  · exact (St.upd_ne _ _ (fun he => hb (by rw [he]; exact hC.v1))).trans (hI.other b hb)
  · exact (congrFun (St.upd_ne s (b := cc0_scratch1) (b' := cc0_scratch0) _ (by decide)) _).trans (hI.u i hij r x hx)
  · exact (congrFun (St.upd_ne s (b := cc0_scratch1) (b' := cc0_scratch0) _ (by decide)) _).trans (hI.hal r x)
  · refine (congrFun (St.upd_same s cc0_scratch1 _) _).trans ?_
    by_cases he : i = j
    · subst he
      rw [← hw]
      have hix : (ix2 r ⟨256 * i + x.val, hx⟩ : S512x1024.Idx) = (Rect.unit (s := S512x1024) ![0, 256 * i] S512x256.size inb).emb (ix2 r x) := funext fun a => Fin.ext (by
        match a with
        | ⟨0, _⟩ => show r.val = 0 + 1 * r.val; omega
        | ⟨1, _⟩ => show 256 * i + x.val = 256 * i + 1 * x.val; omega)
      rw [hix]
      exact write_rect_emb (b := cc0_scratch1) _ _ _ _
    · refine (write_rect_not (b := cc0_scratch1) _ _ _ _ fun k hk => ?_).trans (hI.t i (by omega) r x hx)
      have k1 : (k 1).val < 256 := (k 1).isLt
      have e1 : 256 * j + 1 * (k 1).val = 256 * i + x.val := congrArg (fun i : S512x1024.Idx => (i 1).val) hk
      omega
  · exact (rd_congr A9 (St.upd_ne s _ hC.d19)).trans (hI.za hz)
  · exact (rd_congr A10 (St.upd_ne s _ hC.d1A)).trans (hI.yc hy)

/-- The load of the gated convolution. -/
theorem TI.ld_t (hC : Ctx D H U V A5 A6 A7 A9 A10 s1) (hI : TI D V A9 A10 s1 n 4 z y s)
    {inb : ∀ a, (![0, 0] : Fin 2 → ℕ) a + S512x1024.size a ≤ S512x1024.size a}
    {hl : (Memref.whole cc0_scratch1).view.LoadsAt (Rect.unit (s := S512x1024) ![0, 0] S512x1024.size inb).toLoadRect}
    {f : (S512x1024.Idx → Elt F .bf16) → PG F β}
    (h : wpp (rig H h1 h2) (f (tV D)) Q s) :
    wpp (rig H h1 h2) (Prog.lift (.load (Memref.whole cc0_scratch1) (Rect.unit (s := S512x1024) ![0, 0] S512x1024.size inb).toLoadRect hl) >>= f) Q s := by
  refine ⟨.inl hC.h1, ?_⟩
  have e : (Memref.whole cc0_scratch1).view.readAt (Elt F) (Rect.unit (s := S512x1024) ![0, 0] S512x1024.size inb).toLoadRect (s.mem cc0_scratch1) = tV D := by
    funext y
    have hy : (y 1).val < 1024 := (y 1).isLt
    show tS s _ = tC D ((y 1).val / 256) _
    rw [← hI.t ((y 1).val / 256) (by omega) (y 0) ⟨(y 1).val % 256, Nat.mod_lt _ (by decide)⟩ (by show 256 * ((y 1).val / 256) + (y 1).val % 256 < 1024; omega)]
    refine congrArg (tS s) (funext fun a => Fin.ext ?_)
    match a with
    | ⟨0, _⟩ => show 0 + 1 * (y 0).val = (y 0).val; omega
    | ⟨1, _⟩ => show 0 + 1 * (y 1).val = 256 * ((y 1).val / 256) + (y 1).val % 256; omega
  rw [← e] at h
  exact h

/-- A memref stored into whole reads back what was stored. -/
theorem read_store_whole {a b d : ℕ} {e : EltTy} (M : Memref sig .tc .vmem ⟨3, ![a, b, d]⟩ e) (f : M.view.ref.ty.Contents (Elt F))
    {inb : ∀ k, (![0, 0, 0] : Fin 3 → ℕ) k + (![a, b, d] : Fin 3 → ℕ) k ≤ (⟨3, ![a, b, d]⟩ : Shape).size k}
    (w : (⟨3, ![a, b, d]⟩ : Shape).Idx → Elt F e) :
    M.view.read (Elt F) ((M.access (Rect.unit (s := ⟨3, ![a, b, d]⟩) ![0, 0, 0] ![a, b, d] inb)).write (Elt F) f w Finset.univ) = w := by
  funext y
  have hy : (Rect.unit (s := ⟨3, ![a, b, d]⟩) ![0, 0, 0] ![a, b, d] inb).emb y = y := funext fun k => Fin.ext (by
    match k with
    | ⟨0, _⟩ => show 0 + 1 * (y 0).val = (y 0).val; omega
    | ⟨1, _⟩ => show 0 + 1 * (y 1).val = (y 1).val; omega
    | ⟨2, _⟩ => show 0 + 1 * (y 2).val = (y 2).val; omega)
  have h := View.read_write_of_mem (v := M.access (Rect.unit (s := ⟨3, ![a, b, d]⟩) ![0, 0, 0] ![a, b, d] inb)) f w (Finset.mem_univ y)
  rw [View.read_apply] at h ⊢
  refine Eq.trans ?_ h
  have e : (M.access (Rect.unit (s := ⟨3, ![a, b, d]⟩) ![0, 0, 0] ![a, b, d] inb)).emb y = M.view.emb y := congrArg M.view.emb hy
  rw [e]

/-- The store of the gate. -/
theorem TI.st_za (hC : Ctx D H U V A5 A6 A7 A9 A10 s1) (hI : TI D V A9 A10 s1 n m z y s)
    {inb : ∀ a, (![0, 0, 0] : Fin 3 → ℕ) a + S1x512x256.size a ≤ S1x512x256.size a} {w : S1x512x256.Idx → Elt F .bf16}
    {x1 : (A9.access (Rect.unit (s := S1x512x256) ![0, 0, 0] S1x512x256.size inb)).Stores Finset.univ}
    {x2 : (Finset.univ : Finset (Rect.unit (s := S1x512x256) ![0, 0, 0] S1x512x256.size inb).shape.Idx) = Finset.univ ∨ ∀ a, (Rect.unit (s := S1x512x256) ![0, 0, 0] S1x512x256.size inb).stride a = 1}
    {f : PUnit → PG F β} (hw : w = zaV D)
    (h : ∀ s', TI D V A9 A10 s1 n m true y s' → wpp (rig H h1 h2) (f ⟨⟩) Q s') :
    wpp (rig H h1 h2) (Prog.lift (.store A9 (Rect.unit (s := S1x512x256) ![0, 0, 0] S1x512x256.size inb) w Finset.univ x1 x2) >>= f) Q s := by
  refine ⟨hC.h9, h _ ⟨fun b hb => ?_, hI.busy, fun i hij r x hx => ?_, fun r x => ?_, fun i hij r x hx => ?_, fun hz => ?_, fun hy => ?_⟩⟩
  · exact (St.upd_ne _ _ (fun he => hb (by rw [he]; exact hC.v9))).trans (hI.other b hb)
  · exact (congrFun (St.upd_ne s (b := A9.view.ref) (b' := cc0_scratch0) _ hC.d09.symm) _).trans (hI.u i hij r x hx)
  · exact (congrFun (St.upd_ne s (b := A9.view.ref) (b' := cc0_scratch0) _ hC.d09.symm) _).trans (hI.hal r x)
  · exact (congrFun (St.upd_ne s (b := A9.view.ref) (b' := cc0_scratch1) _ hC.d19.symm) _).trans (hI.t i hij r x hx)
  · unfold rd
    rw [St.upd_same, ← hw]
    exact read_store_whole A9 _ w
  · exact (rd_congr A10 (St.upd_ne s _ hC.d9A.symm)).trans (hI.yc hy)

/-- The store of the convolution branch. -/
theorem TI.st_yc (hC : Ctx D H U V A5 A6 A7 A9 A10 s1) (hI : TI D V A9 A10 s1 n m z y s)
    {inb : ∀ a, (![0, 0, 0] : Fin 3 → ℕ) a + S1x512x1024.size a ≤ S1x512x1024.size a} {w : S1x512x1024.Idx → Elt F .bf16}
    {x1 : (A10.access (Rect.unit (s := S1x512x1024) ![0, 0, 0] S1x512x1024.size inb)).Stores Finset.univ}
    {x2 : (Finset.univ : Finset (Rect.unit (s := S1x512x1024) ![0, 0, 0] S1x512x1024.size inb).shape.Idx) = Finset.univ ∨ ∀ a, (Rect.unit (s := S1x512x1024) ![0, 0, 0] S1x512x1024.size inb).stride a = 1}
    {f : PUnit → PG F β} (hw : w = ycV D)
    (h : ∀ s', TI D V A9 A10 s1 n m z true s' → wpp (rig H h1 h2) (f ⟨⟩) Q s') :
    wpp (rig H h1 h2) (Prog.lift (.store A10 (Rect.unit (s := S1x512x1024) ![0, 0, 0] S1x512x1024.size inb) w Finset.univ x1 x2) >>= f) Q s := by
  refine ⟨hC.h10, h _ ⟨fun b hb => ?_, hI.busy, fun i hij r x hx => ?_, fun r x => ?_, fun i hij r x hx => ?_, fun hz => ?_, fun hy => ?_⟩⟩
  · exact (St.upd_ne _ _ (fun he => hb (by rw [he]; exact hC.v10))).trans (hI.other b hb)
  · exact (congrFun (St.upd_ne s (b := A10.view.ref) (b' := cc0_scratch0) _ hC.d0A.symm) _).trans (hI.u i hij r x hx)
  · exact (congrFun (St.upd_ne s (b := A10.view.ref) (b' := cc0_scratch0) _ hC.d0A.symm) _).trans (hI.hal r x)
  · exact (congrFun (St.upd_ne s (b := A10.view.ref) (b' := cc0_scratch1) _ hC.d1A.symm) _).trans (hI.t i hij r x hx)
  · exact (rd_congr A9 (St.upd_ne s _ hC.d9A)).trans (hI.za hz)
  · unfold rd
    rw [St.upd_same, ← hw]
    exact read_store_whole A10 _ w

end Cert.KernelIdeal.Attn
-- ==== Proof.Attn.BodyA.lean ====
/-
  The parts of the body that compute the convolution branch and the gate of the attention.
-/
module

public import proofs.«01_k».proof.Proof.Attn.Track

@[expose] public section

set_option maxHeartbeats 2000000
set_option maxRecDepth 16384

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F]

/-- Which operands of the body are held, and which of them it may overwrite freely. -/
structure Held (H U : Finset (Ref sig .tc)) (arg2 : Memref sig .tc .vmem S1x512x1024 .f32) (arg3 : Memref sig .tc .vmem S16x3072 .f32) (arg5 : Memref sig .tc .vmem S1x8704 .f32) (arg6 : Memref sig .tc .vmem S3x1024 .f32) (arg7 : Memref sig .tc .vmem S1024x1024 .bf16) (arg8 : Memref sig .tc .vmem S3x2x256x256 .f32) (arg9 : Memref sig .tc .vmem S1x512x256 .bf16) (arg10 : Memref sig .tc .vmem S1x512x1024 .bf16) (arg11 : Memref sig .tc .vmem S1x2x2048x128 .f32) (arg14 : Memref sig .tc .vmem S6x512x128 .f32) (arg15 : Memref sig .tc .vmem S2048x2304 .bf16) (arg16 : Memref sig .tc .vmem S3x2x2048x128 .f32) (arg17 : Memref sig .tc .vmem S8x3x128x128 .f32) (arg18 : Memref sig .tc .vmem S4x128x256 .bf16) : Prop where
  l2 : arg2.view.ref ∈ H
  l3 : arg3.view.ref ∈ H
  l5 : arg5.view.ref ∈ H
  l6 : arg6.view.ref ∈ H
  l7 : arg7.view.ref ∈ H
  l8 : arg8.view.ref ∈ H
  l9 : arg9.view.ref ∈ H
  l10 : arg10.view.ref ∈ H
  l11 : arg11.view.ref ∈ H
  l14 : arg14.view.ref ∈ H
  l15 : arg15.view.ref ∈ H
  l16 : arg16.view.ref ∈ H
  l17 : arg17.view.ref ∈ H
  l18 : arg18.view.ref ∈ H
  s11 : arg11.view.ref ∈ U
  s14 : arg14.view.ref ∈ U
  s15 : arg15.view.ref ∈ U
  s16 : arg16.view.ref ∈ U
  s17 : arg17.view.ref ∈ U
  s18 : arg18.view.ref ∈ U

/-- Block `j` of the gated convolution, before its conversion. -/
def gC (D : Data F) (j : ℕ) : FVec F S512x256 .f32 :=
  k0_pay836 D.xm (cC D j) (wB D (3072 + 1024 * j) 512) (bB D (3584 + 256 * j)) (bB D (5632 + 256 * j))

variable {c : Dev nD} {D : Data F} {H U V : Finset (Ref sig .tc)} {h1 : cc0_scratch8 ∉ H} {h2 : main_v0 ∉ H}
variable {s1 s : St F c} {n m : ℕ} {z y : Bool}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (harg12 : (Memref.whole cc0_scratch0).IsWhole) (harg13 : (Memref.whole cc0_scratch1).IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

theorem tr_part174 (v0 : BitVec 1) (v2 : BitVec 32) (v269 : FVec F S512x256 .bf16) {Q : (Σ' (v298 : IVec S128x128 1) (v303 : IVec S256x256 1) (v305 : FVec F S512x512 .f32), FVec F S1x256 .f32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 0 0 false false s) (h : ∀ v298 v303 s', TI D V arg9 arg10 s1 0 0 false false s' → Q ⟨v298, v303, (k0_pay818 D.xm (wB D 2560 512)), (k0_pay819 (bB D 4608))⟩ s') :
    wpp (rig H h1 h2) (k0_part174 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v0 v2 D.xm v269) Q s := by
  rw [k0_part174_eq_skeleton]; unfold k0_part174_skel
  refine skip_load hL.l15 fun _ => ?_
  refine hI.skip_store hC hL.s15 fun s hI => ?_
  refine hI.ld_w hC 768 256 ?_
  refine hI.ld_b hC 768 ?_
  refine skip_load hL.l15 fun _ => ?_
  refine hI.skip_store hC hL.s15 fun s hI => ?_
  refine hI.ld_w hC 1536 256 ?_
  refine hI.ld_b hC 1536 ?_
  refine skip_load hL.l15 fun _ => ?_
  refine hI.skip_store hC hL.s15 fun s hI => ?_
  refine hI.ld_w hC 2560 512 ?_
  refine hI.ld_b hC 4608 ?_
  exact h _ _ _ hI

theorem tr_part175 (v2 : BitVec 32) (v6 : BitVec 32) {Q : (Σ' (v334 : FVec F S512x256 .f32) (v341 : FVec F S256x128 .bf16) (v345 : FVec F S128x128 .bf16), FVec F S128x128 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 0 0 false false s) (h : ∀ v341 v345 v346 s', TI D V arg9 arg10 s1 1 0 false false s' → Q ⟨(cC D 0), v341, v345, v346⟩ s') :
    wpp (rig H h1 h2) (k0_part175 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v6 (k0_pay818 D.xm (wB D 2560 512)) (k0_pay819 (bB D 4608))) Q s := by
  rw [k0_part175_eq_skeleton]; unfold k0_part175_skel
  refine hI.ld_b hC 2560 ?_
  refine skip_load hC.h0 fun _ => ?_
  refine TI.st_u hC 0 hI (by rfl) fun s hI => ?_
  refine hI.ld_tap hC 0 0 ?_
  refine hI.ld_u hC 0 2 (by omega) (by omega) ?_
  refine hI.ld_tap hC 1 0 ?_
  refine hI.ld_u hC 0 1 (by omega) (by omega) ?_
  refine hI.ld_tap hC 2 0 ?_
  refine skip_load hL.l15 fun _ => ?_
  refine skip_load hL.l15 fun _ => ?_
  refine skip_load hL.l15 fun _ => ?_
  exact h _ _ _ _ hI

theorem tr_part177 (v303 : IVec S256x256 1) (v382 : FVec F S256x128 .bf16) (v383 : FVec F S128x256 .bf16) {Q : (Σ' (v396 : FVec F S256x1 .f32) (v400 : FVec F S256x256 .bf16), FVec F S512x256 .f32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 1 0 false false s) (h : ∀ v396 v400 s', TI D V arg9 arg10 s1 1 0 false false s' → Q ⟨v396, v400, (gC D 0)⟩ s') :
    wpp (rig H h1 h2) (k0_part177 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 D.xm v303 (cC D 0) v382 v383) Q s := by
  rw [k0_part177_eq_skeleton]; unfold k0_part177_skel
  refine skip_load hL.l18 fun _ => ?_
  refine hI.skip_store hC hL.s18 fun s hI => ?_
  refine skip_load hL.l18 fun _ => ?_
  refine skip_load hL.l8 fun _ => ?_
  refine hI.ld_w hC 3072 512 ?_
  refine hI.ld_b hC 3584 ?_
  refine hI.ld_b hC 5632 ?_
  exact h _ _ _ hI

theorem tr_part178 (v2 : BitVec 32) (v6 : BitVec 32) (v298 : IVec S128x128 1) (v303 : IVec S256x256 1) {Q : (Σ' (v454 : FVec F S256x1 .f32), FVec F S256x256 .f32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 1 0 false false s) (h : ∀ v454 v457 s', TI D V arg9 arg10 s1 1 1 false false s' → Q ⟨v454, v457⟩ s') :
    wpp (rig H h1 h2) (k0_part178 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v6 v298 v303 (gC D 0)) Q s := by
  rw [k0_part178_eq_skeleton]; unfold k0_part178_skel
  refine skip_load hC.h1 fun _ => ?_
  refine TI.st_t hC 0 hI (by rfl) fun s hI => ?_
  refine skip_load hL.l15 fun _ => ?_
  refine skip_load hL.l15 fun _ => ?_
  refine skip_load hL.l15 fun _ => ?_
  refine skip_load hL.l18 fun _ => ?_
  refine hI.skip_store hC hL.s18 fun s hI => ?_
  refine skip_load hL.l18 fun _ => ?_
  refine skip_load hL.l8 fun _ => ?_
  exact h _ _ _ hI

theorem tr_part179 (v2 : BitVec 32) (v6 : BitVec 32) (v298 : IVec S128x128 1) (v303 : IVec S256x256 1) (v457 : FVec F S256x256 .f32) {Q : (Σ' (v458 : FVec F S256x256 .bf16) (v487 : FVec F S256x1 .f32) (v491 : FVec F S256x256 .bf16), FVec F S512x512 .f32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 1 1 false false s) (h : ∀ v458 v487 v491 s', TI D V arg9 arg10 s1 1 1 false false s' → Q ⟨v458, v487, v491, (k0_pay847 D.xm (wB D 3584 512))⟩ s') :
    wpp (rig H h1 h2) (k0_part179 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v6 D.xm v298 v303 v457) Q s := by
  rw [k0_part179_eq_skeleton]; unfold k0_part179_skel
  refine skip_load hL.l15 fun _ => ?_
  refine skip_load hL.l15 fun _ => ?_
  refine skip_load hL.l15 fun _ => ?_
  refine skip_load hL.l18 fun _ => ?_
  refine hI.skip_store hC hL.s18 fun s hI => ?_
  refine skip_load hL.l18 fun _ => ?_
  refine skip_load hL.l8 fun _ => ?_
  refine hI.ld_w hC 3584 512 ?_
  exact h _ _ _ _ hI

theorem tr_part180 (v2 : BitVec 32) (v6 : BitVec 32) {Q : (Σ' (v522 : FVec F S512x256 .f32) (v529 : FVec F S256x128 .bf16), Vec F S128x128 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 1 1 false false s) (h : ∀ v529 v531 s', TI D V arg9 arg10 s1 2 1 false false s' → Q ⟨(cC D 1), v529, v531⟩ s') :
    wpp (rig H h1 h2) (k0_part180 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v6 (k0_pay847 D.xm (wB D 3584 512))) Q s := by
  rw [k0_part180_eq_skeleton]; unfold k0_part180_skel
  refine hI.ld_b hC 4864 ?_
  refine hI.ld_b hC 2816 ?_
  refine skip_load hC.h0 fun _ => ?_
  refine TI.st_u hC 1 hI (by rfl) fun s hI => ?_
  refine hI.ld_tap hC 0 256 ?_
  refine hI.ld_u hC 1 2 (by omega) (by omega) ?_
  refine hI.ld_tap hC 1 256 ?_
  refine hI.ld_u hC 1 1 (by omega) (by omega) ?_
  refine hI.ld_tap hC 2 256 ?_
  refine skip_load hL.l15 fun _ => ?_
  refine skip_load hL.l15 fun _ => ?_
  refine skip_load hL.l15 fun _ => ?_
  exact h _ _ _ hI

theorem tr_part184 (v2 : BitVec 32) (v637 : FVec F S128x128 .f32) (v640 : FVec F S128x128 .f32) (v643 : FVec F S128x128 .f32) (v644 : BitVec 32) {Q : (BitVec 32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 2 1 false false s) (h : ∀ v682 s', TI D V arg9 arg10 s1 2 2 false false s' → Q v682 s') :
    wpp (rig H h1 h2) (k0_part184 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 D.xm (cC D 1) v637 v640 v643 v644) Q s := by
  rw [k0_part184_eq_skeleton]; unfold k0_part184_skel
  refine skip_load hL.l16 fun _ => ?_
  refine hI.skip_store hC hL.s16 fun s hI => ?_
  refine skip_load hL.l16 fun _ => ?_
  refine hI.skip_store hC hL.s16 fun s hI => ?_
  refine skip_load hL.l16 fun _ => ?_
  refine hI.skip_store hC hL.s16 fun s hI => ?_
  refine hI.ld_w hC 4096 512 ?_
  refine hI.ld_b hC 3840 ?_
  refine hI.ld_b hC 5888 ?_
  refine skip_load hC.h1 fun _ => ?_
  refine TI.st_t hC 1 hI (by rfl) fun s hI => ?_
  exact h _ _ hI

theorem tr_part188 (v2 : BitVec 32) (v298 : IVec S128x128 1) (v791 : FVec F S256x256 .f32) (v793 : FVec F S256x128 .f32) (v796 : FVec F S128x128 .f32) {Q : (Σ' (v827 : FVec F S512x256 .f32), Vec F S1x256 .f32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 2 2 false false s) (h : ∀  s', TI D V arg9 arg10 s1 3 2 false false s' → Q ⟨(k0_pay900 D.xm (wB D 4608 512) (bB D 5120) (bB D 3072)), (tap D 0 512)⟩ s') :
    wpp (rig H h1 h2) (k0_part188 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 D.xm v298 v791 v793 v796) Q s := by
  rw [k0_part188_eq_skeleton]; unfold k0_part188_skel
  refine skip_load hL.l16 fun _ => ?_
  refine hI.skip_store hC hL.s16 fun s hI => ?_
  refine skip_load hL.l16 fun _ => ?_
  refine hI.skip_store hC hL.s16 fun s hI => ?_
  refine skip_load hL.l16 fun _ => ?_
  refine hI.skip_store hC hL.s16 fun s hI => ?_
  refine hI.ld_w hC 4608 512 ?_
  refine hI.ld_b hC 5120 ?_
  refine hI.ld_b hC 3072 ?_
  refine skip_load hC.h0 fun _ => ?_
  refine TI.st_u hC 2 hI (by rfl) fun s hI => ?_
  refine hI.ld_tap hC 0 512 ?_
  exact h _ hI

theorem tr_part189 (v2 : BitVec 32) (v298 : IVec S128x128 1) {Q : (Σ' (v846 : FVec F S512x256 .f32) (v850 : BitVec 32) (v851 : BitVec 32), FVec F S256x128 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 3 2 false false s) (h : ∀ v850 v851 v864 s', TI D V arg9 arg10 s1 3 2 false false s' → Q ⟨(cC D 2), v850, v851, v864⟩ s') :
    wpp (rig H h1 h2) (k0_part189 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v298 (k0_pay900 D.xm (wB D 4608 512) (bB D 5120) (bB D 3072)) (tap D 0 512)) Q s := by
  rw [k0_part189_eq_skeleton]; unfold k0_part189_skel
  refine hI.ld_u hC 2 2 (by omega) (by omega) ?_
  refine hI.ld_tap hC 1 512 ?_
  refine hI.ld_u hC 2 1 (by omega) (by omega) ?_
  refine hI.ld_tap hC 2 512 ?_
  refine skip_load hL.l15 fun _ => ?_
  refine skip_load hL.l15 fun _ => ?_
  refine skip_load hL.l15 fun _ => ?_
  refine skip_load hL.l18 fun _ => ?_
  refine hI.skip_store hC hL.s18 fun s hI => ?_
  exact h _ _ _ _ hI

theorem tr_part192 (v2 : BitVec 32) (v6 : BitVec 32) (v298 : IVec S128x128 1) (v584 : FVec F S256x1 .f32) (v588 : FVec F S256x256 .bf16) (v934 : FVec F S128x128 .f32) {Q : (Vec F S1024x512 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 3 2 false false s) (h : ∀  s', TI D V arg9 arg10 s1 3 2 false false s' → Q (wB D 5120 512) s') :
    wpp (rig H h1 h2) (k0_part192 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v6 v298 v584 v588 v934) Q s := by
  rw [k0_part192_eq_skeleton]; unfold k0_part192_skel
  refine skip_load hL.l16 fun _ => ?_
  refine hI.skip_store hC hL.s16 fun s hI => ?_
  refine skip_load hL.l15 fun _ => ?_
  refine skip_load hL.l15 fun _ => ?_
  refine skip_load hL.l16 fun _ => ?_
  refine hI.skip_store hC hL.s16 fun s hI => ?_
  refine skip_load hL.l16 fun _ => ?_
  refine hI.skip_store hC hL.s16 fun s hI => ?_
  refine skip_load hL.l16 fun _ => ?_
  refine hI.skip_store hC hL.s16 fun s hI => ?_
  refine hI.ld_w hC 5120 512 ?_
  exact h _ hI

theorem tr_part193 (v2 : BitVec 32) (v298 : IVec S128x128 1) {Q : (Σ' (v1009 : BitVec 32) (v1010 : BitVec 32) (v1023 : FVec F S256x128 .bf16), FVec F S128x256 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 3 2 false false s) (h : ∀ v1009 v1010 v1023 v1024 s', TI D V arg9 arg10 s1 3 3 false false s' → Q ⟨v1009, v1010, v1023, v1024⟩ s') :
    wpp (rig H h1 h2) (k0_part193 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 D.xm v298 (cC D 2) (wB D 5120 512)) Q s := by
  rw [k0_part193_eq_skeleton]; unfold k0_part193_skel
  refine hI.ld_b hC 4096 ?_
  refine hI.ld_b hC 6144 ?_
  refine skip_load hC.h1 fun _ => ?_
  refine TI.st_t hC 2 hI (by rfl) fun s hI => ?_
  refine skip_load hL.l15 fun _ => ?_
  refine skip_load hL.l15 fun _ => ?_
  refine skip_load hL.l15 fun _ => ?_
  exact h _ _ _ _ _ hI

theorem tr_part197 (v2 : BitVec 32) (v1136 : FVec F S1x1x128x128 .f32) {Q : (Σ' (v1167 : FVec F S512x256 .f32) (v1170 : BitVec 32), BitVec 32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 3 3 false false s) (h : ∀ v1170 v1171 s', TI D V arg9 arg10 s1 4 3 false false s' → Q ⟨(cC D 3), v1170, v1171⟩ s') :
    wpp (rig H h1 h2) (k0_part197 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 D.xm v1136) Q s := by
  rw [k0_part197_eq_skeleton]; unfold k0_part197_skel
  refine hI.skip_store hC hL.s16 fun s hI => ?_
  refine hI.ld_w hC 5632 512 ?_
  refine hI.ld_b hC 5376 ?_
  refine hI.ld_b hC 3328 ?_
  refine skip_load hC.h0 fun _ => ?_
  refine TI.st_u hC 3 hI (by rfl) fun s hI => ?_
  refine hI.ld_tap hC 0 768 ?_
  refine hI.ld_u hC 3 2 (by omega) (by omega) ?_
  refine hI.ld_tap hC 1 768 ?_
  refine hI.ld_u hC 3 1 (by omega) (by omega) ?_
  refine hI.ld_tap hC 2 768 ?_
  exact h _ _ _ hI

theorem tr_part211 (v1580 : BitVec 32) (v1590 : FVec F S32x128 .f32) (v1600 : FVec F S32x128 .f32) (v1606 : FVec F S32x128 .f32) {Q : (PUnit) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 4 3 false false s) (h : ∀  s', TI D V arg9 arg10 s1 4 4 false false s' → Q ⟨⟩ s') :
    wpp (rig H h1 h2) (k0_part211 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 D.xm (cC D 3) v1580 v1590 v1600 v1606) Q s := by
  rw [k0_part211_eq_skeleton]; unfold k0_part211_skel
  refine skip_load hL.l16 fun _ => ?_
  refine hI.skip_store hC hL.s16 fun s hI => ?_
  refine skip_load hL.l16 fun _ => ?_
  refine hI.skip_store hC hL.s16 fun s hI => ?_
  refine skip_load hL.l16 fun _ => ?_
  refine hI.skip_store hC hL.s16 fun s hI => ?_
  refine hI.ld_w hC 6144 512 ?_
  refine hI.ld_b hC 4352 ?_
  refine hI.ld_b hC 6400 ?_
  refine skip_load hC.h1 fun _ => ?_
  refine TI.st_t hC 3 hI (by rfl) fun s hI => ?_
  exact h _ hI

theorem tr_part237 (v2443 : BitVec 32) (v2453 : FVec F S32x128 .f32) (v2469 : FVec F S32x128 .f32) {Q : (Σ' (v2504 : FVec F S512x1024 .bf16), Vec F S1x512x1024 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 4 4 false false s) (h : ∀ v2505 s', TI D V arg9 arg10 s1 4 4 true false s' → Q ⟨(k0_pay1243 (tV D) D.wp), v2505⟩ s') :
    wpp (rig H h1 h2) (k0_part237 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 D.xm v2443 v2453 v2469) Q s := by
  rw [k0_part237_eq_skeleton]; unfold k0_part237_skel
  refine skip_load hL.l16 fun _ => ?_
  refine hI.skip_store hC hL.s16 fun s hI => ?_
  refine skip_load hL.l16 fun _ => ?_
  refine hI.skip_store hC hL.s16 fun s hI => ?_
  refine hI.ld_w hC 2304 256 ?_
  refine hI.ld_b hC 2304 ?_
  refine skip_load hL.l9 fun _ => ?_
  refine hI.st_za hC rfl fun s hI => ?_
  refine hI.ld_t hC ?_
  refine hI.ld_wp hC ?_
  refine skip_load hL.l10 fun _ => ?_
  exact h _ _ hI

theorem tr_part238 (v2 : BitVec 32) (v298 : IVec S128x128 1) (v1672 : FVec F S256x1 .f32) (v1676 : FVec F S256x256 .bf16) (v2505 : Vec F S1x512x1024 .bf16) {Q : (Σ' (v2510 : BitVec 32) (v2511 : BitVec 32), BitVec 32) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 4 4 true false s) (h : ∀ v2510 v2511 v2541 s', TI D V arg9 arg10 s1 4 4 true true s' → Q ⟨v2510, v2511, v2541⟩ s') :
    wpp (rig H h1 h2) (k0_part238 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 v298 v1672 v1676 (k0_pay1243 (tV D) D.wp) v2505) Q s := by
  rw [k0_part238_eq_skeleton]; unfold k0_part238_skel
  refine hI.st_yc hC rfl fun s hI => ?_
  refine skip_load hL.l15 fun _ => ?_
  refine skip_load hL.l15 fun _ => ?_
  refine skip_load hL.l17 fun _ => ?_
  refine hI.skip_store hC hL.s17 fun s hI => ?_
  refine skip_load hL.l17 fun _ => ?_
  refine hI.skip_store hC hL.s17 fun s hI => ?_
  refine skip_load hL.l17 fun _ => ?_
  refine hI.skip_store hC hL.s17 fun s hI => ?_
  exact h _ _ _ _ hI

end Cert.KernelIdeal.Attn
-- ==== Proof.Attn.SafeA.lean ====
/-
  The parts of the loop over the key blocks are safe.
-/
module

public import proofs.«01_k».proof.Proof.Attn.Safe
public import proofs.«01_k».proof.Proof.Gen.KernelIdeal.Skeleton

@[expose] public section

set_option maxHeartbeats 1000000

noncomputable section

namespace Cert.KernelIdeal.Attn

open Cert.KernelIdeal Cert.KernelIdeal.Gen
open Idealize.ShloMosaic Idealize.ShloMosaic.TcCoe
open Idealize.SL.Sem

variable {F : FTy → Type} [FloatOps F] {H U : Finset (Ref sig .tc)}
variable (i : grid0.Coords) (arg2 : Memref sig .tc .vmem S1x512x1024 .f32) (harg2 : arg2.IsWhole) (arg3 : Memref sig .tc .vmem S16x3072 .f32) (harg3 : arg3.IsWhole) (arg4 : Memref sig .tc .hbm S1024x8704 .f32) (harg4 : arg4.IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (arg19 : Memref sig .tc .vmem S1024x6656 .bf16) (harg19 : arg19.IsWhole) (arg20 : Memref sig .tc .vmem S4x32x6656 .f32) (harg20 : arg20.IsWhole) (arg21 : DmaSems sig S4)

theorem safe_part124 (l15 : arg15.view.ref ∈ H)  :
    ∀ k0_h4 c0_i32_2513 c1_i32_2514 k0_t1, Safe H U (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 c0_i32_2513 c1_i32_2514 k0_t1) := by
  intro k0_h4 c0_i32_2513 c1_i32_2514 k0_t1
  rw [k0_part124_eq_skeleton]; unfold k0_part124_skel
  repeat' first
    | exact safe_pure _
    | refine safe_load (by assumption) fun _ => ?_
    | refine safe_store (by assumption) ?_

theorem safe_part125 (l8 : arg8.view.ref ∈ H) (l15 : arg15.view.ref ∈ H) (l18 : arg18.view.ref ∈ H) (s18 : arg18.view.ref ∈ U) :
    ∀ v298 k0_h4 k0_t1 arg22 v3852 v3854 v3859 v3864 v3865, Safe H U (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v3852 v3854 v3859 v3864 v3865) := by
  intro v298 k0_h4 k0_t1 arg22 v3852 v3854 v3859 v3864 v3865
  rw [k0_part125_eq_skeleton]; unfold k0_part125_skel
  repeat' first
    | exact safe_pure _
    | refine safe_load (by assumption) fun _ => ?_
    | refine safe_store (by assumption) ?_

theorem safe_part126 (l15 : arg15.view.ref ∈ H)  :
    ∀ k0_h4 k0_t1 arg22 v3899 v3901, Safe H U (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v3899 v3901) := by
  intro k0_h4 k0_t1 arg22 v3899 v3901
  rw [k0_part126_eq_skeleton]; unfold k0_part126_skel
  repeat' first
    | exact safe_pure _
    | refine safe_load (by assumption) fun _ => ?_
    | refine safe_store (by assumption) ?_

theorem safe_part127 (l8 : arg8.view.ref ∈ H) (l15 : arg15.view.ref ∈ H) (l18 : arg18.view.ref ∈ H) (s18 : arg18.view.ref ∈ U) :
    ∀ v298 k0_h4 k0_t1 arg22 v3920 v3927 v3932 v3937 v3938 c1536_i32_2582, Safe H U (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v3920 v3927 v3932 v3937 v3938 c1536_i32_2582) := by
  intro v298 k0_h4 k0_t1 arg22 v3920 v3927 v3932 v3937 v3938 c1536_i32_2582
  rw [k0_part127_eq_skeleton]; unfold k0_part127_skel
  repeat' first
    | exact safe_pure _
    | refine safe_load (by assumption) fun _ => ?_
    | refine safe_store (by assumption) ?_

theorem safe_part128 (l15 : arg15.view.ref ∈ H)  :
    ∀ k0_h4 k0_t1 arg22 v3967 v3972 v3975, Safe H U (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v3967 v3972 v3975) := by
  intro k0_h4 k0_t1 arg22 v3967 v3972 v3975
  rw [k0_part128_eq_skeleton]; unfold k0_part128_skel
  repeat' first
    | exact safe_pure _
    | refine safe_load (by assumption) fun _ => ?_
    | refine safe_store (by assumption) ?_

theorem safe_part129 (l8 : arg8.view.ref ∈ H) (l15 : arg15.view.ref ∈ H) (l18 : arg18.view.ref ∈ H) (s18 : arg18.view.ref ∈ U) :
    ∀ v298 k0_h4 k0_t1 arg22 v4011 v4013, Safe H U (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4011 v4013) := by
  intro v298 k0_h4 k0_t1 arg22 v4011 v4013
  rw [k0_part129_eq_skeleton]; unfold k0_part129_skel
  repeat' first
    | exact safe_pure _
    | refine safe_load (by assumption) fun _ => ?_
    | refine safe_store (by assumption) ?_

theorem safe_part130 (l15 : arg15.view.ref ∈ H)  :
    ∀ v298 k0_h4 k0_t1 arg22 v4035 v4040 v4045, Safe H U (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4035 v4040 v4045) := by
  intro v298 k0_h4 k0_t1 arg22 v4035 v4040 v4045
  rw [k0_part130_eq_skeleton]; unfold k0_part130_skel
  repeat' first
    | exact safe_pure _
    | refine safe_load (by assumption) fun _ => ?_
    | refine safe_store (by assumption) ?_

theorem safe_part131 (l8 : arg8.view.ref ∈ H) (l15 : arg15.view.ref ∈ H) (l18 : arg18.view.ref ∈ H) (s18 : arg18.view.ref ∈ U) :
    ∀ k0_h4 k0_t1 arg22 v4085 v4086, Safe H U (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4085 v4086) := by
  intro k0_h4 k0_t1 arg22 v4085 v4086
  rw [k0_part131_eq_skeleton]; unfold k0_part131_skel
  repeat' first
    | exact safe_pure _
    | refine safe_load (by assumption) fun _ => ?_
    | refine safe_store (by assumption) ?_

theorem safe_part132 (l15 : arg15.view.ref ∈ H) (l18 : arg18.view.ref ∈ H) (s18 : arg18.view.ref ∈ U) :
    ∀ v298 k0_h4 k0_t1 arg22 v4108 v4113 v4118, Safe H U (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4108 v4113 v4118) := by
  intro v298 k0_h4 k0_t1 arg22 v4108 v4113 v4118
  rw [k0_part132_eq_skeleton]; unfold k0_part132_skel
  repeat' first
    | exact safe_pure _
    | refine safe_load (by assumption) fun _ => ?_
    | refine safe_store (by assumption) ?_

theorem safe_part133 (l8 : arg8.view.ref ∈ H) (l15 : arg15.view.ref ∈ H)  :
    ∀ k0_h4 k0_t1 arg22 v4153 v4159, Safe H U (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4153 v4159) := by
  intro k0_h4 k0_t1 arg22 v4153 v4159
  rw [k0_part133_eq_skeleton]; unfold k0_part133_skel
  repeat' first
    | exact safe_pure _
    | refine safe_load (by assumption) fun _ => ?_
    | refine safe_store (by assumption) ?_

theorem safe_part134 (l8 : arg8.view.ref ∈ H) (l15 : arg15.view.ref ∈ H) (l18 : arg18.view.ref ∈ H) (s18 : arg18.view.ref ∈ U) :
    ∀ v298 k0_h4 k0_t1 v4192 v4194 v4195 c0_i32_2740, Safe H U (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 v4192 v4194 v4195 c0_i32_2740) := by
  intro v298 k0_h4 k0_t1 v4192 v4194 v4195 c0_i32_2740
  rw [k0_part134_eq_skeleton]; unfold k0_part134_skel
  repeat' first
    | exact safe_pure _
    | refine safe_load (by assumption) fun _ => ?_
    | refine safe_store (by assumption) ?_

theorem safe_part135 (l15 : arg15.view.ref ∈ H)  :
    ∀ k0_h4 k0_t1 arg22 v4231, Safe H U (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4231) := by
  intro k0_h4 k0_t1 arg22 v4231
  rw [k0_part135_eq_skeleton]; unfold k0_part135_skel
  repeat' first
    | exact safe_pure _
    | refine safe_load (by assumption) fun _ => ?_
    | refine safe_store (by assumption) ?_

theorem safe_part136 (l8 : arg8.view.ref ∈ H) (l15 : arg15.view.ref ∈ H) (l18 : arg18.view.ref ∈ H) (s18 : arg18.view.ref ∈ U) :
    ∀ v298 k0_h4 k0_t1 arg22 v4260 v4262 v4267 v4269, Safe H U (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4260 v4262 v4267 v4269) := by
  intro v298 k0_h4 k0_t1 arg22 v4260 v4262 v4267 v4269
  rw [k0_part136_eq_skeleton]; unfold k0_part136_skel
  repeat' first
    | exact safe_pure _
    | refine safe_load (by assumption) fun _ => ?_
    | refine safe_store (by assumption) ?_

theorem safe_part137 (l15 : arg15.view.ref ∈ H)  :
    ∀ k0_h4 k0_t1 arg22 v4306, Safe H U (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4306) := by
  intro k0_h4 k0_t1 arg22 v4306
  rw [k0_part137_eq_skeleton]; unfold k0_part137_skel
  repeat' first
    | exact safe_pure _
    | refine safe_load (by assumption) fun _ => ?_
    | refine safe_store (by assumption) ?_

theorem safe_part138 (l8 : arg8.view.ref ∈ H) (l15 : arg15.view.ref ∈ H) (l18 : arg18.view.ref ∈ H) (s18 : arg18.view.ref ∈ U) :
    ∀ v298 k0_h4 k0_t1 arg22 v4328 v4330 v4335 v4340 v4343, Safe H U (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4328 v4330 v4335 v4340 v4343) := by
  intro v298 k0_h4 k0_t1 arg22 v4328 v4330 v4335 v4340 v4343
  rw [k0_part138_eq_skeleton]; unfold k0_part138_skel
  repeat' first
    | exact safe_pure _
    | refine safe_load (by assumption) fun _ => ?_
    | refine safe_store (by assumption) ?_

theorem safe_part139 (l15 : arg15.view.ref ∈ H) (l16 : arg16.view.ref ∈ H)  :
    ∀ v298 k0_h4 k0_t1 arg22 v3893 v3897 v4375, Safe H U (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v3893 v3897 v4375) := by
  intro v298 k0_h4 k0_t1 arg22 v3893 v3897 v4375
  rw [k0_part139_eq_skeleton]; unfold k0_part139_skel
  repeat' first
    | exact safe_pure _
    | refine safe_load (by assumption) fun _ => ?_
    | refine safe_store (by assumption) ?_

theorem safe_part140 (l16 : arg16.view.ref ∈ H)  :
    ∀ k0_h4 k0_t1 arg22 v4404 v4407 v4410 v4411 v4412 v4413 v4420 v4422, Safe H U (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4404 v4407 v4410 v4411 v4412 v4413 v4420 v4422) := by
  intro k0_h4 k0_t1 arg22 v4404 v4407 v4410 v4411 v4412 v4413 v4420 v4422
  rw [k0_part140_eq_skeleton]; unfold k0_part140_skel
  repeat' first
    | exact safe_pure _
    | refine safe_load (by assumption) fun _ => ?_
    | refine safe_store (by assumption) ?_

theorem safe_part141 (l16 : arg16.view.ref ∈ H)  :
    ∀ k0_h4 k0_t1 arg22 v4404 v4407 v4410 v4461 v4462 v4463 v4464, Safe H U (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4404 v4407 v4410 v4461 v4462 v4463 v4464) := by
  intro k0_h4 k0_t1 arg22 v4404 v4407 v4410 v4461 v4462 v4463 v4464
  rw [k0_part141_eq_skeleton]; unfold k0_part141_skel
  repeat' first
    | exact safe_pure _
    | refine safe_load (by assumption) fun _ => ?_
    | refine safe_store (by assumption) ?_

theorem safe_part142 (l11 : arg11.view.ref ∈ H) (l15 : arg15.view.ref ∈ H) (s11 : arg11.view.ref ∈ U) :
    ∀ v298 k0_h4 k0_t1 arg22 v3961 v3965 v4375 v4435 v4460 v4485 v4503 v4507 v4508, Safe H U (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v3961 v3965 v4375 v4435 v4460 v4485 v4503 v4507 v4508) := by
  intro v298 k0_h4 k0_t1 arg22 v3961 v3965 v4375 v4435 v4460 v4485 v4503 v4507 v4508
  rw [k0_part142_eq_skeleton]; unfold k0_part142_skel
  repeat' first
    | exact safe_pure _
    | refine safe_load (by assumption) fun _ => ?_
    | refine safe_store (by assumption) ?_

theorem safe_part143 (l16 : arg16.view.ref ∈ H)  :
    ∀ v298 k0_h4 k0_t1 arg22 v4543 v4546 v4547 v4548, Safe H U (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4543 v4546 v4547 v4548) := by
  intro v298 k0_h4 k0_t1 arg22 v4543 v4546 v4547 v4548
  rw [k0_part143_eq_skeleton]; unfold k0_part143_skel
  repeat' first
    | exact safe_pure _
    | refine safe_load (by assumption) fun _ => ?_
    | refine safe_store (by assumption) ?_

theorem safe_part144 (l16 : arg16.view.ref ∈ H)  :
    ∀ k0_h4 k0_t1 arg22 v4546 v4549 v4552 v4578 v4579 v4580 v4587 v4589 v4591, Safe H U (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4546 v4549 v4552 v4578 v4579 v4580 v4587 v4589 v4591) := by
  intro k0_h4 k0_t1 arg22 v4546 v4549 v4552 v4578 v4579 v4580 v4587 v4589 v4591
  rw [k0_part144_eq_skeleton]; unfold k0_part144_skel
  repeat' first
    | exact safe_pure _
    | refine safe_load (by assumption) fun _ => ?_
    | refine safe_store (by assumption) ?_

theorem safe_part145 (l11 : arg11.view.ref ∈ H) (l15 : arg15.view.ref ∈ H) (l16 : arg16.view.ref ∈ H) (s11 : arg11.view.ref ∈ U) :
    ∀ k0_h4 k0_t1 arg22 v4517 v4577 v4602 v4627 v4628 v4629 v4630 v4631 v4634, Safe H U (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4517 v4577 v4602 v4627 v4628 v4629 v4630 v4631 v4634) := by
  intro k0_h4 k0_t1 arg22 v4517 v4577 v4602 v4627 v4628 v4629 v4630 v4631 v4634
  rw [k0_part145_eq_skeleton]; unfold k0_part145_skel
  repeat' first
    | exact safe_pure _
    | refine safe_load (by assumption) fun _ => ?_
    | refine safe_store (by assumption) ?_

theorem safe_part146 (l15 : arg15.view.ref ∈ H) (l16 : arg16.view.ref ∈ H)  :
    ∀ v298 k0_h4 k0_t1 arg22 v4029 v4033 v4659 v4664 v4669, Safe H U (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4029 v4033 v4659 v4664 v4669) := by
  intro v298 k0_h4 k0_t1 arg22 v4029 v4033 v4659 v4664 v4669
  rw [k0_part146_eq_skeleton]; unfold k0_part146_skel
  repeat' first
    | exact safe_pure _
    | refine safe_load (by assumption) fun _ => ?_
    | refine safe_store (by assumption) ?_

theorem safe_part147 (l16 : arg16.view.ref ∈ H)  :
    ∀ k0_h4 k0_t1 arg22 v4688 v4691 v4694 v4712 v4718, Safe H U (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4688 v4691 v4694 v4712 v4718) := by
  intro k0_h4 k0_t1 arg22 v4688 v4691 v4694 v4712 v4718
  rw [k0_part147_eq_skeleton]; unfold k0_part147_skel
  repeat' first
    | exact safe_pure _
    | refine safe_load (by assumption) fun _ => ?_
    | refine safe_store (by assumption) ?_

theorem safe_part148 (l11 : arg11.view.ref ∈ H) (l16 : arg16.view.ref ∈ H) (s11 : arg11.view.ref ∈ U) :
    ∀ k0_h4 k0_t1 arg22 v4659 v4688 v4691 v4694 v4719 v4744 v4745 v4747 v4754 v4756 v4760 v4761, Safe H U (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4659 v4688 v4691 v4694 v4719 v4744 v4745 v4747 v4754 v4756 v4760 v4761) := by
  intro k0_h4 k0_t1 arg22 v4659 v4688 v4691 v4694 v4719 v4744 v4745 v4747 v4754 v4756 v4760 v4761
  rw [k0_part148_eq_skeleton]; unfold k0_part148_skel
  repeat' first
    | exact safe_pure _
    | refine safe_load (by assumption) fun _ => ?_
    | refine safe_store (by assumption) ?_

theorem safe_part149 (l15 : arg15.view.ref ∈ H) (l16 : arg16.view.ref ∈ H)  :
    ∀ v298 k0_h4 k0_t1 arg22 v4097 v4101 v4801 c32_i32_3025, Safe H U (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4097 v4101 v4801 c32_i32_3025) := by
  intro v298 k0_h4 k0_t1 arg22 v4097 v4101 v4801 c32_i32_3025
  rw [k0_part149_eq_skeleton]; unfold k0_part149_skel
  repeat' first
    | exact safe_pure _
    | refine safe_load (by assumption) fun _ => ?_
    | refine safe_store (by assumption) ?_

theorem safe_part150 (l16 : arg16.view.ref ∈ H)  :
    ∀ k0_h4 k0_t1 arg22 v4830 v4833 v4836 v4837 v4838 v4839 v4840 v4843 v4844, Safe H U (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4830 v4833 v4836 v4837 v4838 v4839 v4840 v4843 v4844) := by
  intro k0_h4 k0_t1 arg22 v4830 v4833 v4836 v4837 v4838 v4839 v4840 v4843 v4844
  rw [k0_part150_eq_skeleton]; unfold k0_part150_skel
  repeat' first
    | exact safe_pure _
    | refine safe_load (by assumption) fun _ => ?_
    | refine safe_store (by assumption) ?_

theorem safe_part151 (l16 : arg16.view.ref ∈ H)  :
    ∀ k0_h4 k0_t1 arg22 v4830 v4833 v4836 v4887, Safe H U (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4830 v4833 v4836 v4887) := by
  intro k0_h4 k0_t1 arg22 v4830 v4833 v4836 v4887
  rw [k0_part151_eq_skeleton]; unfold k0_part151_skel
  repeat' first
    | exact safe_pure _
    | refine safe_load (by assumption) fun _ => ?_
    | refine safe_store (by assumption) ?_

theorem safe_part152 (l11 : arg11.view.ref ∈ H) (l15 : arg15.view.ref ∈ H) (l16 : arg16.view.ref ∈ H) (s11 : arg11.view.ref ∈ U) :
    ∀ k0_h4 k0_t1 arg22 v4165 v4169 v4801 v4861 v4886 v4911 v4912 v4914 v4921 v4923 v4929, Safe H U (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4165 v4169 v4801 v4861 v4886 v4911 v4912 v4914 v4921 v4923 v4929) := by
  intro k0_h4 k0_t1 arg22 v4165 v4169 v4801 v4861 v4886 v4911 v4912 v4914 v4921 v4923 v4929
  rw [k0_part152_eq_skeleton]; unfold k0_part152_skel
  repeat' first
    | exact safe_pure _
    | refine safe_load (by assumption) fun _ => ?_
    | refine safe_store (by assumption) ?_

theorem safe_part153 (l16 : arg16.view.ref ∈ H)  :
    ∀ v298 k0_h4 k0_t1 arg22 v4967 v4968, Safe H U (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4967 v4968) := by
  intro v298 k0_h4 k0_t1 arg22 v4967 v4968
  rw [k0_part153_eq_skeleton]; unfold k0_part153_skel
  repeat' first
    | exact safe_pure _
    | refine safe_load (by assumption) fun _ => ?_
    | refine safe_store (by assumption) ?_

theorem safe_part154 (l16 : arg16.view.ref ∈ H)  :
    ∀ k0_h4 k0_t1 arg22 v4972 v4975 v4978 v5004 v5005 v5006 v5013 v5014, Safe H U (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4972 v4975 v4978 v5004 v5005 v5006 v5013 v5014) := by
  intro k0_h4 k0_t1 arg22 v4972 v4975 v4978 v5004 v5005 v5006 v5013 v5014
  rw [k0_part154_eq_skeleton]; unfold k0_part154_skel
  repeat' first
    | exact safe_pure _
    | refine safe_load (by assumption) fun _ => ?_
    | refine safe_store (by assumption) ?_

theorem safe_part155 (l11 : arg11.view.ref ∈ H) (l15 : arg15.view.ref ∈ H) (l16 : arg16.view.ref ∈ H) (s11 : arg11.view.ref ∈ U) :
    ∀ k0_h4 k0_t1 arg22 v4943 v5003 v5028 v5053 v5054 v5055 v5056 v5057, Safe H U (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v4943 v5003 v5028 v5053 v5054 v5055 v5056 v5057) := by
  intro k0_h4 k0_t1 arg22 v4943 v5003 v5028 v5053 v5054 v5055 v5056 v5057
  rw [k0_part155_eq_skeleton]; unfold k0_part155_skel
  repeat' first
    | exact safe_pure _
    | refine safe_load (by assumption) fun _ => ?_
    | refine safe_store (by assumption) ?_

theorem safe_part156 (l15 : arg15.view.ref ∈ H) (l16 : arg16.view.ref ∈ H)  :
    ∀ v298 k0_h4 k0_t1 arg22 v4233 v4237 v5085 v5090 v5095 c32_i32_3146, Safe H U (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4233 v4237 v5085 v5090 v5095 c32_i32_3146) := by
  intro v298 k0_h4 k0_t1 arg22 v4233 v4237 v5085 v5090 v5095 c32_i32_3146
  rw [k0_part156_eq_skeleton]; unfold k0_part156_skel
  repeat' first
    | exact safe_pure _
    | refine safe_load (by assumption) fun _ => ?_
    | refine safe_store (by assumption) ?_

theorem safe_part157 (l16 : arg16.view.ref ∈ H)  :
    ∀ k0_h4 k0_t1 arg22 v5114 v5117 v5120 v5123 v5130 v5132 v5138, Safe H U (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5114 v5117 v5120 v5123 v5130 v5132 v5138) := by
  intro k0_h4 k0_t1 arg22 v5114 v5117 v5120 v5123 v5130 v5132 v5138
  rw [k0_part157_eq_skeleton]; unfold k0_part157_skel
  repeat' first
    | exact safe_pure _
    | refine safe_load (by assumption) fun _ => ?_
    | refine safe_store (by assumption) ?_

theorem safe_part158 (l11 : arg11.view.ref ∈ H) (l16 : arg16.view.ref ∈ H)  :
    ∀ k0_h4 k0_t1 arg22 v5085 v5114 v5117 v5120 v5145 v5170 v5171 v5172 v5173 v5180 v5182, Safe H U (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5085 v5114 v5117 v5120 v5145 v5170 v5171 v5172 v5173 v5180 v5182) := by
  intro k0_h4 k0_t1 arg22 v5085 v5114 v5117 v5120 v5145 v5170 v5171 v5172 v5173 v5180 v5182
  rw [k0_part158_eq_skeleton]; unfold k0_part158_skel
  repeat' first
    | exact safe_pure _
    | refine safe_load (by assumption) fun _ => ?_
    | refine safe_store (by assumption) ?_

theorem safe_part159 (l15 : arg15.view.ref ∈ H) (s11 : arg11.view.ref ∈ U) :
    ∀ v298 k0_h4 k0_t1 arg22 v4301 v4305 v5225, Safe H U (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4301 v4305 v5225) := by
  intro v298 k0_h4 k0_t1 arg22 v4301 v4305 v5225
  rw [k0_part159_eq_skeleton]; unfold k0_part159_skel
  repeat' first
    | exact safe_pure _
    | refine safe_load (by assumption) fun _ => ?_
    | refine safe_store (by assumption) ?_

theorem safe_part160 (l16 : arg16.view.ref ∈ H)  :
    ∀ k0_h4 k0_t1 arg22 v5256 v5259 v5262 v5263 v5264 v5265 v5266, Safe H U (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5256 v5259 v5262 v5263 v5264 v5265 v5266) := by
  intro k0_h4 k0_t1 arg22 v5256 v5259 v5262 v5263 v5264 v5265 v5266
  rw [k0_part160_eq_skeleton]; unfold k0_part160_skel
  repeat' first
    | exact safe_pure _
    | refine safe_load (by assumption) fun _ => ?_
    | refine safe_store (by assumption) ?_

theorem safe_part161 (l16 : arg16.view.ref ∈ H)  :
    ∀ k0_h4 k0_t1 arg22 v5256 v5259 v5262 v5290 v5297 v5299 v5305 v5308, Safe H U (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5256 v5259 v5262 v5290 v5297 v5299 v5305 v5308) := by
  intro k0_h4 k0_t1 arg22 v5256 v5259 v5262 v5290 v5297 v5299 v5305 v5308
  rw [k0_part161_eq_skeleton]; unfold k0_part161_skel
  repeat' first
    | exact safe_pure _
    | refine safe_load (by assumption) fun _ => ?_
    | refine safe_store (by assumption) ?_

theorem safe_part162 (l11 : arg11.view.ref ∈ H) (l15 : arg15.view.ref ∈ H) (l16 : arg16.view.ref ∈ H) (s11 : arg11.view.ref ∈ U) :
    ∀ k0_h4 k0_t1 arg22 v5227 v5287 v5312 v5337 v5338 v5339 v5340 v5347 v5349 v5351, Safe H U (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5227 v5287 v5312 v5337 v5338 v5339 v5340 v5347 v5349 v5351) := by
  intro k0_h4 k0_t1 arg22 v5227 v5287 v5312 v5337 v5338 v5339 v5340 v5347 v5349 v5351
  rw [k0_part162_eq_skeleton]; unfold k0_part162_skel
  repeat' first
    | exact safe_pure _
    | refine safe_load (by assumption) fun _ => ?_
    | refine safe_store (by assumption) ?_

theorem safe_part163 (l16 : arg16.view.ref ∈ H)  :
    ∀ v298 k0_h4 k0_t1 arg22 v4369 v4373 v5390, Safe H U (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 k0_t1 arg22 v4369 v4373 v5390) := by
  intro v298 k0_h4 k0_t1 arg22 v4369 v4373 v5390
  rw [k0_part163_eq_skeleton]; unfold k0_part163_skel
  repeat' first
    | exact safe_pure _
    | refine safe_load (by assumption) fun _ => ?_
    | refine safe_store (by assumption) ?_

theorem safe_part164 (l16 : arg16.view.ref ∈ H)  :
    ∀ k0_h4 k0_t1 arg22 v5398 v5401 v5404 v5430 v5431 v5432 v5433, Safe H U (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 k0_h4 k0_t1 arg22 v5398 v5401 v5404 v5430 v5431 v5432 v5433) := by
  intro k0_h4 k0_t1 arg22 v5398 v5401 v5404 v5430 v5431 v5432 v5433
  rw [k0_part164_eq_skeleton]; unfold k0_part164_skel
  repeat' first
    | exact safe_pure _
    | refine safe_load (by assumption) fun _ => ?_
    | refine safe_store (by assumption) ?_

theorem safe_part165 (l8 : arg8.view.ref ∈ H) (l11 : arg11.view.ref ∈ H) (l15 : arg15.view.ref ∈ H) (l16 : arg16.view.ref ∈ H) (l18 : arg18.view.ref ∈ H) (s11 : arg11.view.ref ∈ U) (s18 : arg18.view.ref ∈ U) :
    ∀ v298 k0_h4 c0_i32_2513 c1_i32_2514 k0_t1, Safe H U (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 k0_h4 c0_i32_2513 c1_i32_2514 k0_t1) := by
  intro v298 k0_h4 c0_i32_2513 c1_i32_2514 k0_t1
  rw [k0_part165_eq_skeleton]; unfold k0_part165_skel
  repeat' first
    | exact safe_pure _
    | refine safe_load (by assumption) fun _ => ?_
    | refine safe_store (by assumption) ?_
    | refine safe_bind (safe_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _) fun _ => ?_
    | refine safe_bind (safe_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _ _ _ _) fun _ => ?_
    | refine safe_bind (safe_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _ _) fun _ => ?_
    | refine safe_bind (safe_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _ _ _ _ _) fun _ => ?_
    | refine safe_bind (safe_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _ _ _) fun _ => ?_
    | refine safe_bind (safe_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _) fun _ => ?_
    | refine safe_bind (safe_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _ _ _ _) fun _ => ?_
    | refine safe_bind (safe_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _) fun _ => ?_
    | refine safe_bind (safe_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 l18 s18 _ _ _ _ _ _ _) fun _ => ?_
    | refine safe_bind (safe_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 _ _ _ _ _) fun _ => ?_
    | refine safe_bind (safe_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _ _) fun _ => ?_
    | refine safe_bind (safe_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _) fun _ => ?_
    | refine safe_bind (safe_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _ _ _) fun _ => ?_
    | refine safe_bind (safe_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 _ _ _ _) fun _ => ?_
    | refine safe_bind (safe_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l8 l15 l18 s18 _ _ _ _ _ _ _ _ _) fun _ => ?_
    | refine safe_bind (safe_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 l16 _ _ _ _ _ _ _) fun _ => ?_
    | refine safe_bind (safe_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _ _) fun _ => ?_
    | refine safe_bind (safe_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _) fun _ => ?_
    | refine safe_bind (safe_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l15 s11 _ _ _ _ _ _ _ _ _ _ _ _ _) fun _ => ?_
    | refine safe_bind (safe_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _) fun _ => ?_
    | refine safe_bind (safe_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _ _ _) fun _ => ?_
    | refine safe_bind (safe_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l15 l16 s11 _ _ _ _ _ _ _ _ _ _ _ _) fun _ => ?_
    | refine safe_bind (safe_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 l16 _ _ _ _ _ _ _ _ _) fun _ => ?_
    | refine safe_bind (safe_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _) fun _ => ?_
    | refine safe_bind (safe_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l16 s11 _ _ _ _ _ _ _ _ _ _ _ _ _ _ _) fun _ => ?_
    | refine safe_bind (safe_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 l16 _ _ _ _ _ _ _ _) fun _ => ?_
    | refine safe_bind (safe_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _ _ _) fun _ => ?_
    | refine safe_bind (safe_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _) fun _ => ?_
    | refine safe_bind (safe_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l15 l16 s11 _ _ _ _ _ _ _ _ _ _ _ _ _ _) fun _ => ?_
    | refine safe_bind (safe_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _) fun _ => ?_
    | refine safe_bind (safe_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _ _) fun _ => ?_
    | refine safe_bind (safe_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l15 l16 s11 _ _ _ _ _ _ _ _ _ _ _) fun _ => ?_
    | refine safe_bind (safe_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 l16 _ _ _ _ _ _ _ _ _ _) fun _ => ?_
    | refine safe_bind (safe_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _) fun _ => ?_
    | refine safe_bind (safe_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l16 _ _ _ _ _ _ _ _ _ _ _ _ _ _) fun _ => ?_
    | refine safe_bind (safe_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l15 s11 _ _ _ _ _ _ _) fun _ => ?_
    | refine safe_bind (safe_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _) fun _ => ?_
    | refine safe_bind (safe_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _ _) fun _ => ?_
    | refine safe_bind (safe_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l11 l15 l16 s11 _ _ _ _ _ _ _ _ _ _ _ _ _) fun _ => ?_
    | refine safe_bind (safe_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _) fun _ => ?_
    | refine safe_bind (safe_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 l16 _ _ _ _ _ _ _ _ _ _) fun _ => ?_

end Cert.KernelIdeal.Attn
-- ==== Proof.Attn.SafeB.lean ====
/-
  The parts that write the rows of q, k and v, and the first windows of the attention, are safe.
-/
module

public import proofs.«01_k».proof.Proof.Attn.Safe
public import proofs.«01_k».proof.Proof.Gen.KernelIdeal.Skeleton

@[expose] public section

set_option maxHeartbeats 1000000

noncomputable section

namespace Cert.KernelIdeal.Attn

open Cert.KernelIdeal Cert.KernelIdeal.Gen
open Idealize.ShloMosaic Idealize.ShloMosaic.TcCoe
open Idealize.SL.Sem

variable {F : FTy → Type} [FloatOps F] {H U : Finset (Ref sig .tc)}
variable (i : grid0.Coords) (arg2 : Memref sig .tc .vmem S1x512x1024 .f32) (harg2 : arg2.IsWhole) (arg3 : Memref sig .tc .vmem S16x3072 .f32) (harg3 : arg3.IsWhole) (arg4 : Memref sig .tc .hbm S1024x8704 .f32) (harg4 : arg4.IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (arg19 : Memref sig .tc .vmem S1024x6656 .bf16) (harg19 : arg19.IsWhole) (arg20 : Memref sig .tc .vmem S4x32x6656 .f32) (harg20 : arg20.IsWhole) (arg21 : DmaSems sig S4)

theorem safe_part167 (l14 : arg14.view.ref ∈ H) (l15 : arg15.view.ref ∈ H) (s14 : arg14.view.ref ∈ U) (s15 : arg15.view.ref ∈ U) :
    ∀ v2 v34, Safe H U (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v34) := by
  intro v2 v34
  rw [k0_part167_eq_skeleton]; unfold k0_part167_skel
  repeat' first
    | exact safe_pure _
    | refine safe_load (by assumption) fun _ => ?_
    | refine safe_store (by assumption) ?_

theorem safe_part168 (l14 : arg14.view.ref ∈ H) (l15 : arg15.view.ref ∈ H) (s14 : arg14.view.ref ∈ U) (s15 : arg15.view.ref ∈ U) :
    ∀ v2 v34 v65, Safe H U (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v34 v65) := by
  intro v2 v34 v65
  rw [k0_part168_eq_skeleton]; unfold k0_part168_skel
  repeat' first
    | exact safe_pure _
    | refine safe_load (by assumption) fun _ => ?_
    | refine safe_store (by assumption) ?_

theorem safe_part169 (l5 : arg5.view.ref ∈ H) (l14 : arg14.view.ref ∈ H) (l15 : arg15.view.ref ∈ H) (l19 : arg19.view.ref ∈ H) (s14 : arg14.view.ref ∈ U) (s15 : arg15.view.ref ∈ U) :
    ∀ v2 v28 v101, Safe H U (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v28 v101) := by
  intro v2 v28 v101
  rw [k0_part169_eq_skeleton]; unfold k0_part169_skel
  repeat' first
    | exact safe_pure _
    | refine safe_load (by assumption) fun _ => ?_
    | refine safe_store (by assumption) ?_

theorem safe_part170 (l14 : arg14.view.ref ∈ H) (l15 : arg15.view.ref ∈ H) (s14 : arg14.view.ref ∈ U) (s15 : arg15.view.ref ∈ U) :
    ∀ v2 v112 v134, Safe H U (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v112 v134) := by
  intro v2 v112 v134
  rw [k0_part170_eq_skeleton]; unfold k0_part170_skel
  repeat' first
    | exact safe_pure _
    | refine safe_load (by assumption) fun _ => ?_
    | refine safe_store (by assumption) ?_

theorem safe_part171 (l5 : arg5.view.ref ∈ H) (l14 : arg14.view.ref ∈ H) (l15 : arg15.view.ref ∈ H) (l19 : arg19.view.ref ∈ H) (s14 : arg14.view.ref ∈ U) (s15 : arg15.view.ref ∈ U) :
    ∀ v2 v28, Safe H U (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v28) := by
  intro v2 v28
  rw [k0_part171_eq_skeleton]; unfold k0_part171_skel
  repeat' first
    | exact safe_pure _
    | refine safe_load (by assumption) fun _ => ?_
    | refine safe_store (by assumption) ?_

theorem safe_part172 (l14 : arg14.view.ref ∈ H) (l15 : arg15.view.ref ∈ H) (s14 : arg14.view.ref ∈ U) (s15 : arg15.view.ref ∈ U) :
    ∀ v2 v190, Safe H U (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v190) := by
  intro v2 v190
  rw [k0_part172_eq_skeleton]; unfold k0_part172_skel
  repeat' first
    | exact safe_pure _
    | refine safe_load (by assumption) fun _ => ?_
    | refine safe_store (by assumption) ?_

theorem safe_part173 (l5 : arg5.view.ref ∈ H) (l14 : arg14.view.ref ∈ H) (l15 : arg15.view.ref ∈ H) (l19 : arg19.view.ref ∈ H) (s15 : arg15.view.ref ∈ U) :
    ∀ v2 v28 v233, Safe H U (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v28 v233) := by
  intro v2 v28 v233
  rw [k0_part173_eq_skeleton]; unfold k0_part173_skel
  repeat' first
    | exact safe_pure _
    | refine safe_load (by assumption) fun _ => ?_
    | refine safe_store (by assumption) ?_

theorem safe_part174 (l5 : arg5.view.ref ∈ H) (l15 : arg15.view.ref ∈ H) (l19 : arg19.view.ref ∈ H) (s15 : arg15.view.ref ∈ U) :
    ∀ v0 v2 v28 v269, Safe H U (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v0 v2 v28 v269) := by
  intro v0 v2 v28 v269
  rw [k0_part174_eq_skeleton]; unfold k0_part174_skel
  repeat' first
    | exact safe_pure _
    | refine safe_load (by assumption) fun _ => ?_
    | refine safe_store (by assumption) ?_

theorem safe_part176 (l8 : arg8.view.ref ∈ H) (l15 : arg15.view.ref ∈ H) (l18 : arg18.view.ref ∈ H) (s18 : arg18.view.ref ∈ U) :
    ∀ v2 v6 v298 v303 v341 v345 v346, Safe H U (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v341 v345 v346) := by
  intro v2 v6 v298 v303 v341 v345 v346
  rw [k0_part176_eq_skeleton]; unfold k0_part176_skel
  repeat' first
    | exact safe_pure _
    | refine safe_load (by assumption) fun _ => ?_
    | refine safe_store (by assumption) ?_

theorem safe_part177 (l5 : arg5.view.ref ∈ H) (l8 : arg8.view.ref ∈ H) (l18 : arg18.view.ref ∈ H) (l19 : arg19.view.ref ∈ H) (s18 : arg18.view.ref ∈ U) :
    ∀ v28 v303 v334 v382 v383, Safe H U (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v303 v334 v382 v383) := by
  intro v28 v303 v334 v382 v383
  rw [k0_part177_eq_skeleton]; unfold k0_part177_skel
  repeat' first
    | exact safe_pure _
    | refine safe_load (by assumption) fun _ => ?_
    | refine safe_store (by assumption) ?_

theorem safe_part179 (l8 : arg8.view.ref ∈ H) (l15 : arg15.view.ref ∈ H) (l18 : arg18.view.ref ∈ H) (l19 : arg19.view.ref ∈ H) (s18 : arg18.view.ref ∈ U) :
    ∀ v2 v6 v28 v298 v303 v457, Safe H U (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v28 v298 v303 v457) := by
  intro v2 v6 v28 v298 v303 v457
  rw [k0_part179_eq_skeleton]; unfold k0_part179_skel
  repeat' first
    | exact safe_pure _
    | refine safe_load (by assumption) fun _ => ?_
    | refine safe_store (by assumption) ?_

theorem safe_part181 (l8 : arg8.view.ref ∈ H) (l15 : arg15.view.ref ∈ H) (l18 : arg18.view.ref ∈ H) (s18 : arg18.view.ref ∈ U) :
    ∀ v2 v6 v298 v303 v529 v531, Safe H U (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v529 v531) := by
  intro v2 v6 v298 v303 v529 v531
  rw [k0_part181_eq_skeleton]; unfold k0_part181_skel
  repeat' first
    | exact safe_pure _
    | refine safe_load (by assumption) fun _ => ?_
    | refine safe_store (by assumption) ?_

theorem safe_part182 (l8 : arg8.view.ref ∈ H) (l15 : arg15.view.ref ∈ H) (l18 : arg18.view.ref ∈ H) (s18 : arg18.view.ref ∈ U) :
    ∀ v2 v6 v298 v303 v363 v367 v562 v566 v567 v568, Safe H U (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v363 v367 v562 v566 v567 v568) := by
  intro v2 v6 v298 v303 v363 v367 v562 v566 v567 v568
  rw [k0_part182_eq_skeleton]; unfold k0_part182_skel
  repeat' first
    | exact safe_pure _
    | refine safe_load (by assumption) fun _ => ?_
    | refine safe_store (by assumption) ?_

theorem safe_part183 (l15 : arg15.view.ref ∈ H) (l16 : arg16.view.ref ∈ H) (s16 : arg16.view.ref ∈ U) :
    ∀ v2 v6 v298 v396 v400 v603 v606 v607 v608, Safe H U (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v396 v400 v603 v606 v607 v608) := by
  intro v2 v6 v298 v396 v400 v603 v606 v607 v608
  rw [k0_part183_eq_skeleton]; unfold k0_part183_skel
  repeat' first
    | exact safe_pure _
    | refine safe_load (by assumption) fun _ => ?_
    | refine safe_store (by assumption) ?_

theorem safe_part185 (l8 : arg8.view.ref ∈ H) (l15 : arg15.view.ref ∈ H) (l18 : arg18.view.ref ∈ H) (s18 : arg18.view.ref ∈ U) :
    ∀ v2 v6 v298 v303 v682, Safe H U (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v682) := by
  intro v2 v6 v298 v303 v682
  rw [k0_part185_eq_skeleton]; unfold k0_part185_skel
  repeat' first
    | exact safe_pure _
    | refine safe_load (by assumption) fun _ => ?_
    | refine safe_store (by assumption) ?_

theorem safe_part186 (l8 : arg8.view.ref ∈ H) (l15 : arg15.view.ref ∈ H) (l18 : arg18.view.ref ∈ H) (s18 : arg18.view.ref ∈ U) :
    ∀ v2 v6 v298 v303 v715 v718, Safe H U (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v715 v718) := by
  intro v2 v6 v298 v303 v715 v718
  rw [k0_part186_eq_skeleton]; unfold k0_part186_skel
  repeat' first
    | exact safe_pure _
    | refine safe_load (by assumption) fun _ => ?_
    | refine safe_store (by assumption) ?_

theorem safe_part187 (l15 : arg15.view.ref ∈ H) (l16 : arg16.view.ref ∈ H) (s16 : arg16.view.ref ∈ U) :
    ∀ v2 v6 v298 v454 v458 v487 v491 v756, Safe H U (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v454 v458 v487 v491 v756) := by
  intro v2 v6 v298 v454 v458 v487 v491 v756
  rw [k0_part187_eq_skeleton]; unfold k0_part187_skel
  repeat' first
    | exact safe_pure _
    | refine safe_load (by assumption) fun _ => ?_
    | refine safe_store (by assumption) ?_

theorem safe_part189 (l6 : arg6.view.ref ∈ H) (l12 : arg12.view.ref ∈ H) (l15 : arg15.view.ref ∈ H) (l18 : arg18.view.ref ∈ H) (s18 : arg18.view.ref ∈ U) :
    ∀ v2 v298 v827 v831, Safe H U (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v827 v831) := by
  intro v2 v298 v827 v831
  rw [k0_part189_eq_skeleton]; unfold k0_part189_skel
  repeat' first
    | exact safe_pure _
    | refine safe_load (by assumption) fun _ => ?_
    | refine safe_store (by assumption) ?_

theorem safe_part190 (l8 : arg8.view.ref ∈ H) (l15 : arg15.view.ref ∈ H) (l18 : arg18.view.ref ∈ H) (s18 : arg18.view.ref ∈ U) :
    ∀ v298 v303 v850 v851 v864, Safe H U (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v303 v850 v851 v864) := by
  intro v298 v303 v850 v851 v864
  rw [k0_part190_eq_skeleton]; unfold k0_part190_skel
  repeat' first
    | exact safe_pure _
    | refine safe_load (by assumption) fun _ => ?_
    | refine safe_store (by assumption) ?_

theorem safe_part191 (l15 : arg15.view.ref ∈ H) (l16 : arg16.view.ref ∈ H) (s16 : arg16.view.ref ∈ U) :
    ∀ v2 v6 v298 v303 v551 v555 v902 v904, Safe H U (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v303 v551 v555 v902 v904) := by
  intro v2 v6 v298 v303 v551 v555 v902 v904
  rw [k0_part191_eq_skeleton]; unfold k0_part191_skel
  repeat' first
    | exact safe_pure _
    | refine safe_load (by assumption) fun _ => ?_
    | refine safe_store (by assumption) ?_

theorem safe_part192 (l15 : arg15.view.ref ∈ H) (l16 : arg16.view.ref ∈ H) (l19 : arg19.view.ref ∈ H) (s16 : arg16.view.ref ∈ U) :
    ∀ v2 v6 v298 v584 v588 v934, Safe H U (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v584 v588 v934) := by
  intro v2 v6 v298 v584 v588 v934
  rw [k0_part192_eq_skeleton]; unfold k0_part192_skel
  repeat' first
    | exact safe_pure _
    | refine safe_load (by assumption) fun _ => ?_
    | refine safe_store (by assumption) ?_

theorem safe_part194 (l8 : arg8.view.ref ∈ H) (l15 : arg15.view.ref ∈ H) (l18 : arg18.view.ref ∈ H) (s18 : arg18.view.ref ∈ U) :
    ∀ v298 v1009 v1010 v1023 v1024, Safe H U (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v1009 v1010 v1023 v1024) := by
  intro v298 v1009 v1010 v1023 v1024
  rw [k0_part194_eq_skeleton]; unfold k0_part194_skel
  repeat' first
    | exact safe_pure _
    | refine safe_load (by assumption) fun _ => ?_
    | refine safe_store (by assumption) ?_

theorem safe_part195 (l8 : arg8.view.ref ∈ H) (l15 : arg15.view.ref ∈ H) (l16 : arg16.view.ref ∈ H) (s16 : arg16.view.ref ∈ U) :
    ∀ v2 v6 v298 v710 v714 v1052 v1058 cst_565, Safe H U (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v710 v714 v1052 v1058 cst_565) := by
  intro v2 v6 v298 v710 v714 v1052 v1058 cst_565
  rw [k0_part195_eq_skeleton]; unfold k0_part195_skel
  repeat' first
    | exact safe_pure _
    | refine safe_load (by assumption) fun _ => ?_
    | refine safe_store (by assumption) ?_

theorem safe_part196 (l15 : arg15.view.ref ∈ H) (l16 : arg16.view.ref ∈ H) (s16 : arg16.view.ref ∈ U) :
    ∀ v2 v6 v298 v743 v747 v1089 v1090, Safe H U (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v6 v298 v743 v747 v1089 v1090) := by
  intro v2 v6 v298 v743 v747 v1089 v1090
  rw [k0_part196_eq_skeleton]; unfold k0_part196_skel
  repeat' first
    | exact safe_pure _
    | refine safe_load (by assumption) fun _ => ?_
    | refine safe_store (by assumption) ?_

theorem safe_part198 (l8 : arg8.view.ref ∈ H) (l15 : arg15.view.ref ∈ H) (l18 : arg18.view.ref ∈ H) (s18 : arg18.view.ref ∈ U) :
    ∀ v298 v1170 v1171, Safe H U (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v1170 v1171) := by
  intro v298 v1170 v1171
  rw [k0_part198_eq_skeleton]; unfold k0_part198_skel
  repeat' first
    | exact safe_pure _
    | refine safe_load (by assumption) fun _ => ?_
    | refine safe_store (by assumption) ?_

theorem safe_part199 (l8 : arg8.view.ref ∈ H) (l15 : arg15.view.ref ∈ H) (l18 : arg18.view.ref ∈ H) (s18 : arg18.view.ref ∈ U) :
    ∀ v2 v298 v878 v882 v1205 v1209 v1210, Safe H U (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v878 v882 v1205 v1209 v1210) := by
  intro v2 v298 v878 v882 v1205 v1209 v1210
  rw [k0_part199_eq_skeleton]; unfold k0_part199_skel
  repeat' first
    | exact safe_pure _
    | refine safe_load (by assumption) fun _ => ?_
    | refine safe_store (by assumption) ?_

theorem safe_part200 (l16 : arg16.view.ref ∈ H) (l17 : arg17.view.ref ∈ H) (s17 : arg17.view.ref ∈ U) :
    ∀ v2 v298 v1244 v1247 v1250, Safe H U (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v1244 v1247 v1250) := by
  intro v2 v298 v1244 v1247 v1250
  rw [k0_part200_eq_skeleton]; unfold k0_part200_skel
  repeat' first
    | exact safe_pure _
    | refine safe_load (by assumption) fun _ => ?_
    | refine safe_store (by assumption) ?_

theorem safe_part201 (l16 : arg16.view.ref ∈ H) (l17 : arg17.view.ref ∈ H) (s16 : arg16.view.ref ∈ U) :
    ∀ v2 v1265 v1267 v1269 v1275 v1277 v1278, Safe H U (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1265 v1267 v1269 v1275 v1277 v1278) := by
  intro v2 v1265 v1267 v1269 v1275 v1277 v1278
  rw [k0_part201_eq_skeleton]; unfold k0_part201_skel
  repeat' first
    | exact safe_pure _
    | refine safe_load (by assumption) fun _ => ?_
    | refine safe_store (by assumption) ?_

theorem safe_part202 (l16 : arg16.view.ref ∈ H) (l17 : arg17.view.ref ∈ H) (s16 : arg16.view.ref ∈ U) :
    ∀ v1306 v1308 v1310, Safe H U (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1306 v1308 v1310) := by
  intro v1306 v1308 v1310
  rw [k0_part202_eq_skeleton]; unfold k0_part202_skel
  repeat' first
    | exact safe_pure _
    | refine safe_load (by assumption) fun _ => ?_
    | refine safe_store (by assumption) ?_

theorem safe_part203 (l16 : arg16.view.ref ∈ H) (l17 : arg17.view.ref ∈ H) (s16 : arg16.view.ref ∈ U) :
    ∀ v2 c256_i32_739, Safe H U (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 c256_i32_739) := by
  intro v2 c256_i32_739
  rw [k0_part203_eq_skeleton]; unfold k0_part203_skel
  repeat' first
    | exact safe_pure _
    | refine safe_load (by assumption) fun _ => ?_
    | refine safe_store (by assumption) ?_

theorem safe_part204 (l16 : arg16.view.ref ∈ H) (l17 : arg17.view.ref ∈ H) (s16 : arg16.view.ref ∈ U) :
    ∀ v2 v1347 v1357 v1373, Safe H U (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1347 v1357 v1373) := by
  intro v2 v1347 v1357 v1373
  rw [k0_part204_eq_skeleton]; unfold k0_part204_skel
  repeat' first
    | exact safe_pure _
    | refine safe_load (by assumption) fun _ => ?_
    | refine safe_store (by assumption) ?_

theorem safe_part205 (l15 : arg15.view.ref ∈ H) (l16 : arg16.view.ref ∈ H) (l17 : arg17.view.ref ∈ H) (s16 : arg16.view.ref ∈ U) :
    ∀ v298 v909 v913 v1233 v1234 v1388 v1392 v1398 v1400 v1402 v1408, Safe H U (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v909 v913 v1233 v1234 v1388 v1392 v1398 v1400 v1402 v1408) := by
  intro v298 v909 v913 v1233 v1234 v1388 v1392 v1398 v1400 v1402 v1408
  rw [k0_part205_eq_skeleton]; unfold k0_part205_skel
  repeat' first
    | exact safe_pure _
    | refine safe_load (by assumption) fun _ => ?_
    | refine safe_store (by assumption) ?_

theorem safe_part206 (l16 : arg16.view.ref ∈ H) (l17 : arg17.view.ref ∈ H) (s17 : arg17.view.ref ∈ U) :
    ∀ v2 v1439 v1442 v1445, Safe H U (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1439 v1442 v1445) := by
  intro v2 v1439 v1442 v1445
  rw [k0_part206_eq_skeleton]; unfold k0_part206_skel
  repeat' first
    | exact safe_pure _
    | refine safe_load (by assumption) fun _ => ?_
    | refine safe_store (by assumption) ?_

theorem safe_part207 (l16 : arg16.view.ref ∈ H) (l17 : arg17.view.ref ∈ H) (s16 : arg16.view.ref ∈ U) :
    ∀ v2 v1457 v1461 v1467 v1469 v1471 v1475 v1476, Safe H U (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1457 v1461 v1467 v1469 v1471 v1475 v1476) := by
  intro v2 v1457 v1461 v1467 v1469 v1471 v1475 v1476
  rw [k0_part207_eq_skeleton]; unfold k0_part207_skel
  repeat' first
    | exact safe_pure _
    | refine safe_load (by assumption) fun _ => ?_
    | refine safe_store (by assumption) ?_

theorem safe_part208 (l16 : arg16.view.ref ∈ H) (l17 : arg17.view.ref ∈ H) (s16 : arg16.view.ref ∈ U) :
    ∀ v2 v1498 v1500 v1502 v1504, Safe H U (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1498 v1500 v1502 v1504) := by
  intro v2 v1498 v1500 v1502 v1504
  rw [k0_part208_eq_skeleton]; unfold k0_part208_skel
  repeat' first
    | exact safe_pure _
    | refine safe_load (by assumption) fun _ => ?_
    | refine safe_store (by assumption) ?_

theorem safe_part209 (l16 : arg16.view.ref ∈ H) (l17 : arg17.view.ref ∈ H) (s16 : arg16.view.ref ∈ U) :
    ∀ v1539 v1540, Safe H U (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1539 v1540) := by
  intro v1539 v1540
  rw [k0_part209_eq_skeleton]; unfold k0_part209_skel
  repeat' first
    | exact safe_pure _
    | refine safe_load (by assumption) fun _ => ?_
    | refine safe_store (by assumption) ?_

theorem safe_part210 (l16 : arg16.view.ref ∈ H) (l17 : arg17.view.ref ∈ H) (s16 : arg16.view.ref ∈ U) :
    ∀ v2 v1539 v1549, Safe H U (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1539 v1549) := by
  intro v2 v1539 v1549
  rw [k0_part210_eq_skeleton]; unfold k0_part210_skel
  repeat' first
    | exact safe_pure _
    | refine safe_load (by assumption) fun _ => ?_
    | refine safe_store (by assumption) ?_

theorem safe_part212 (l8 : arg8.view.ref ∈ H) (l15 : arg15.view.ref ∈ H) (l18 : arg18.view.ref ∈ H) (s18 : arg18.view.ref ∈ U) :
    ∀ v2 v298, Safe H U (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298) := by
  intro v2 v298
  rw [k0_part212_eq_skeleton]; unfold k0_part212_skel
  repeat' first
    | exact safe_pure _
    | refine safe_load (by assumption) fun _ => ?_
    | refine safe_store (by assumption) ?_

theorem safe_part213 (l8 : arg8.view.ref ∈ H) (l15 : arg15.view.ref ∈ H) (l18 : arg18.view.ref ∈ H) (s18 : arg18.view.ref ∈ U) :
    ∀ v2 v298 v1035 v1039 v1646 v1681, Safe H U (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v1035 v1039 v1646 v1681) := by
  intro v2 v298 v1035 v1039 v1646 v1681
  rw [k0_part213_eq_skeleton]; unfold k0_part213_skel
  repeat' first
    | exact safe_pure _
    | refine safe_load (by assumption) fun _ => ?_
    | refine safe_store (by assumption) ?_

theorem safe_part214 (l17 : arg17.view.ref ∈ H) (s17 : arg17.view.ref ∈ U) :
    ∀ v2 v298 v1717 v1719, Safe H U (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v1717 v1719) := by
  intro v2 v298 v1717 v1719
  rw [k0_part214_eq_skeleton]; unfold k0_part214_skel
  repeat' first
    | exact safe_pure _
    | refine safe_load (by assumption) fun _ => ?_
    | refine safe_store (by assumption) ?_

theorem safe_part215 (l16 : arg16.view.ref ∈ H) (l17 : arg17.view.ref ∈ H) (s16 : arg16.view.ref ∈ U) :
    ∀ v2 v1740 v1742 v1744 v1746, Safe H U (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1740 v1742 v1744 v1746) := by
  intro v2 v1740 v1742 v1744 v1746
  rw [k0_part215_eq_skeleton]; unfold k0_part215_skel
  repeat' first
    | exact safe_pure _
    | refine safe_load (by assumption) fun _ => ?_
    | refine safe_store (by assumption) ?_

end Cert.KernelIdeal.Attn
-- ==== Proof.Attn.SafeC.lean ====
/-
  Parts of the attention are safe.
-/
module

public import proofs.«01_k».proof.Proof.Attn.Safe
public import proofs.«01_k».proof.Proof.Gen.KernelIdeal.Skeleton

@[expose] public section

set_option maxHeartbeats 1000000

noncomputable section

namespace Cert.KernelIdeal.Attn

open Cert.KernelIdeal Cert.KernelIdeal.Gen
open Idealize.ShloMosaic Idealize.ShloMosaic.TcCoe
open Idealize.SL.Sem

variable {F : FTy → Type} [FloatOps F] {H U : Finset (Ref sig .tc)}
variable (i : grid0.Coords) (arg2 : Memref sig .tc .vmem S1x512x1024 .f32) (harg2 : arg2.IsWhole) (arg3 : Memref sig .tc .vmem S16x3072 .f32) (harg3 : arg3.IsWhole) (arg4 : Memref sig .tc .hbm S1024x8704 .f32) (harg4 : arg4.IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (arg19 : Memref sig .tc .vmem S1024x6656 .bf16) (harg19 : arg19.IsWhole) (arg20 : Memref sig .tc .vmem S4x32x6656 .f32) (harg20 : arg20.IsWhole) (arg21 : DmaSems sig S4)

theorem safe_part216 (l16 : arg16.view.ref ∈ H) (l17 : arg17.view.ref ∈ H) (s16 : arg16.view.ref ∈ U) :
    ∀ v1781 v1783, Safe H U (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v1781 v1783) := by
  intro v1781 v1783
  rw [k0_part216_eq_skeleton]; unfold k0_part216_skel
  repeat' first
    | exact safe_pure _
    | refine safe_load (by assumption) fun _ => ?_
    | refine safe_store (by assumption) ?_

theorem safe_part217 (l16 : arg16.view.ref ∈ H) (l17 : arg17.view.ref ∈ H) (s16 : arg16.view.ref ∈ U) :
    ∀ v2 v1791, Safe H U (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1791) := by
  intro v2 v1791
  rw [k0_part217_eq_skeleton]; unfold k0_part217_skel
  repeat' first
    | exact safe_pure _
    | refine safe_load (by assumption) fun _ => ?_
    | refine safe_store (by assumption) ?_

theorem safe_part218 (l16 : arg16.view.ref ∈ H) (l17 : arg17.view.ref ∈ H) (s16 : arg16.view.ref ∈ U) :
    ∀ v2 v1822 v1832 v1842 v1848, Safe H U (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1822 v1832 v1842 v1848) := by
  intro v2 v1822 v1832 v1842 v1848
  rw [k0_part218_eq_skeleton]; unfold k0_part218_skel
  repeat' first
    | exact safe_pure _
    | refine safe_load (by assumption) fun _ => ?_
    | refine safe_store (by assumption) ?_

theorem safe_part219 (l15 : arg15.view.ref ∈ H) (l16 : arg16.view.ref ∈ H) (s16 : arg16.view.ref ∈ U) :
    ∀ v298 v1064 v1068 v1708 v1709 v1863 v1865 v1867 v1873 v1875 v1877 v1879, Safe H U (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v1064 v1068 v1708 v1709 v1863 v1865 v1867 v1873 v1875 v1877 v1879) := by
  intro v298 v1064 v1068 v1708 v1709 v1863 v1865 v1867 v1873 v1875 v1877 v1879
  rw [k0_part219_eq_skeleton]; unfold k0_part219_skel
  repeat' first
    | exact safe_pure _
    | refine safe_load (by assumption) fun _ => ?_
    | refine safe_store (by assumption) ?_

theorem safe_part220 (l16 : arg16.view.ref ∈ H) (l17 : arg17.view.ref ∈ H) (s17 : arg17.view.ref ∈ U) :
    ∀ v2 v1914 v1917 v1920, Safe H U (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1914 v1917 v1920) := by
  intro v2 v1914 v1917 v1920
  rw [k0_part220_eq_skeleton]; unfold k0_part220_skel
  repeat' first
    | exact safe_pure _
    | refine safe_load (by assumption) fun _ => ?_
    | refine safe_store (by assumption) ?_

theorem safe_part221 (l16 : arg16.view.ref ∈ H) (l17 : arg17.view.ref ∈ H) (s16 : arg16.view.ref ∈ U) :
    ∀ v2 v1932 v1934 v1936 v1942 v1944 v1946, Safe H U (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1932 v1934 v1936 v1942 v1944 v1946) := by
  intro v2 v1932 v1934 v1936 v1942 v1944 v1946
  rw [k0_part221_eq_skeleton]; unfold k0_part221_skel
  repeat' first
    | exact safe_pure _
    | refine safe_load (by assumption) fun _ => ?_
    | refine safe_store (by assumption) ?_

theorem safe_part222 (l16 : arg16.view.ref ∈ H) (l17 : arg17.view.ref ∈ H) (s16 : arg16.view.ref ∈ U) :
    ∀ v2 v1973 v1975 v1977, Safe H U (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v1973 v1975 v1977) := by
  intro v2 v1973 v1975 v1977
  rw [k0_part222_eq_skeleton]; unfold k0_part222_skel
  repeat' first
    | exact safe_pure _
    | refine safe_load (by assumption) fun _ => ?_
    | refine safe_store (by assumption) ?_

theorem safe_part223 (l16 : arg16.view.ref ∈ H) (l17 : arg17.view.ref ∈ H) (s16 : arg16.view.ref ∈ U) :
    ∀ v2013, Safe H U (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2013) := by
  intro v2013
  rw [k0_part223_eq_skeleton]; unfold k0_part223_skel
  repeat' first
    | exact safe_pure _
    | refine safe_load (by assumption) fun _ => ?_
    | refine safe_store (by assumption) ?_

theorem safe_part224 (l16 : arg16.view.ref ∈ H) (l17 : arg17.view.ref ∈ H) (s16 : arg16.view.ref ∈ U) :
    ∀ v2 v2014 v2024 v2040, Safe H U (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2014 v2024 v2040) := by
  intro v2 v2014 v2024 v2040
  rw [k0_part224_eq_skeleton]; unfold k0_part224_skel
  repeat' first
    | exact safe_pure _
    | refine safe_load (by assumption) fun _ => ?_
    | refine safe_store (by assumption) ?_

theorem safe_part225 (l15 : arg15.view.ref ∈ H) (l16 : arg16.view.ref ∈ H) (s16 : arg16.view.ref ∈ U) :
    ∀ v2 v298 v1196 v1200 v2055 v2059 v2065 v2067 v2069 v2075 v2077, Safe H U (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v1196 v1200 v2055 v2059 v2065 v2067 v2069 v2075 v2077) := by
  intro v2 v298 v1196 v1200 v2055 v2059 v2065 v2067 v2069 v2075 v2077
  rw [k0_part225_eq_skeleton]; unfold k0_part225_skel
  repeat' first
    | exact safe_pure _
    | refine safe_load (by assumption) fun _ => ?_
    | refine safe_store (by assumption) ?_

theorem safe_part226 (l16 : arg16.view.ref ∈ H) (l17 : arg17.view.ref ∈ H) (s17 : arg17.view.ref ∈ U) :
    ∀ v2 v2110 v2113 v2116, Safe H U (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2110 v2113 v2116) := by
  intro v2 v2110 v2113 v2116
  rw [k0_part226_eq_skeleton]; unfold k0_part226_skel
  repeat' first
    | exact safe_pure _
    | refine safe_load (by assumption) fun _ => ?_
    | refine safe_store (by assumption) ?_

theorem safe_part227 (l16 : arg16.view.ref ∈ H) (l17 : arg17.view.ref ∈ H) (s16 : arg16.view.ref ∈ U) :
    ∀ v2 v2128 v2130 v2132 v2138 v2140 v2142 v2144, Safe H U (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2128 v2130 v2132 v2138 v2140 v2142 v2144) := by
  intro v2 v2128 v2130 v2132 v2138 v2140 v2142 v2144
  rw [k0_part227_eq_skeleton]; unfold k0_part227_skel
  repeat' first
    | exact safe_pure _
    | refine safe_load (by assumption) fun _ => ?_
    | refine safe_store (by assumption) ?_

theorem safe_part228 (l16 : arg16.view.ref ∈ H) (s16 : arg16.view.ref ∈ U) :
    ∀ v2 v2169 v2171 v2173 v2175, Safe H U (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2169 v2171 v2173 v2175) := by
  intro v2 v2169 v2171 v2173 v2175
  rw [k0_part228_eq_skeleton]; unfold k0_part228_skel
  repeat' first
    | exact safe_pure _
    | refine safe_load (by assumption) fun _ => ?_
    | refine safe_store (by assumption) ?_

theorem safe_part229 (l16 : arg16.view.ref ∈ H) (l17 : arg17.view.ref ∈ H) (s16 : arg16.view.ref ∈ U) :
    ∀ v2210, Safe H U (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2210) := by
  intro v2210
  rw [k0_part229_eq_skeleton]; unfold k0_part229_skel
  repeat' first
    | exact safe_pure _
    | refine safe_load (by assumption) fun _ => ?_
    | refine safe_store (by assumption) ?_

theorem safe_part230 (l16 : arg16.view.ref ∈ H) (l17 : arg17.view.ref ∈ H) (s16 : arg16.view.ref ∈ U) :
    ∀ v2 v2210 v2220 v2244, Safe H U (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2210 v2220 v2244) := by
  intro v2 v2210 v2220 v2244
  rw [k0_part230_eq_skeleton]; unfold k0_part230_skel
  repeat' first
    | exact safe_pure _
    | refine safe_load (by assumption) fun _ => ?_
    | refine safe_store (by assumption) ?_

theorem safe_part231 (l15 : arg15.view.ref ∈ H) (l16 : arg16.view.ref ∈ H) (l17 : arg17.view.ref ∈ H) (s16 : arg16.view.ref ∈ U) (s17 : arg17.view.ref ∈ U) :
    ∀ v298 v1225 v1229 v2096 v2097 v2251 v2261 v2271 v2275 v2276, Safe H U (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v298 v1225 v1229 v2096 v2097 v2251 v2261 v2271 v2275 v2276) := by
  intro v298 v1225 v1229 v2096 v2097 v2251 v2261 v2271 v2275 v2276
  rw [k0_part231_eq_skeleton]; unfold k0_part231_skel
  repeat' first
    | exact safe_pure _
    | refine safe_load (by assumption) fun _ => ?_
    | refine safe_store (by assumption) ?_

theorem safe_part232 (l16 : arg16.view.ref ∈ H) (l17 : arg17.view.ref ∈ H) (s17 : arg17.view.ref ∈ U) :
    ∀ v2 v2305 v2308, Safe H U (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2305 v2308) := by
  intro v2 v2305 v2308
  rw [k0_part232_eq_skeleton]; unfold k0_part232_skel
  repeat' first
    | exact safe_pure _
    | refine safe_load (by assumption) fun _ => ?_
    | refine safe_store (by assumption) ?_

theorem safe_part233 (l16 : arg16.view.ref ∈ H) (l17 : arg17.view.ref ∈ H) (s16 : arg16.view.ref ∈ U) :
    ∀ v2 v2320 v2324 v2330 v2332 v2334 v2340 v2342, Safe H U (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2320 v2324 v2330 v2332 v2334 v2340 v2342) := by
  intro v2 v2320 v2324 v2330 v2332 v2334 v2340 v2342
  rw [k0_part233_eq_skeleton]; unfold k0_part233_skel
  repeat' first
    | exact safe_pure _
    | refine safe_load (by assumption) fun _ => ?_
    | refine safe_store (by assumption) ?_

theorem safe_part234 (l16 : arg16.view.ref ∈ H) (l17 : arg17.view.ref ∈ H) (s16 : arg16.view.ref ∈ U) :
    ∀ v2 v2361 v2363 v2365 v2367 v2371 v2373, Safe H U (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2361 v2363 v2365 v2367 v2371 v2373) := by
  intro v2 v2361 v2363 v2365 v2367 v2371 v2373
  rw [k0_part234_eq_skeleton]; unfold k0_part234_skel
  repeat' first
    | exact safe_pure _
    | refine safe_load (by assumption) fun _ => ?_
    | refine safe_store (by assumption) ?_

theorem safe_part235 (l16 : arg16.view.ref ∈ H) (l17 : arg17.view.ref ∈ H) (s16 : arg16.view.ref ∈ U) :
    ∀ v2402 v2404 v2405, Safe H U (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2402 v2404 v2405) := by
  intro v2402 v2404 v2405
  rw [k0_part235_eq_skeleton]; unfold k0_part235_skel
  repeat' first
    | exact safe_pure _
    | refine safe_load (by assumption) fun _ => ?_
    | refine safe_store (by assumption) ?_

theorem safe_part236 (l16 : arg16.view.ref ∈ H) (l17 : arg17.view.ref ∈ H) (s16 : arg16.view.ref ∈ U) :
    ∀ v2, Safe H U (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part236_eq_skeleton]; unfold k0_part236_skel
  repeat' first
    | exact safe_pure _
    | refine safe_load (by assumption) fun _ => ?_
    | refine safe_store (by assumption) ?_

theorem safe_part239 (l16 : arg16.view.ref ∈ H) (l17 : arg17.view.ref ∈ H) (s16 : arg16.view.ref ∈ U) :
    ∀ v2541, Safe H U (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2541) := by
  intro v2541
  rw [k0_part239_eq_skeleton]; unfold k0_part239_skel
  repeat' first
    | exact safe_pure _
    | refine safe_load (by assumption) fun _ => ?_
    | refine safe_store (by assumption) ?_

theorem safe_part240 (l16 : arg16.view.ref ∈ H) (l17 : arg17.view.ref ∈ H) (s16 : arg16.view.ref ∈ U) :
    ∀ v2 v2542 v2552 v2568, Safe H U (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2542 v2552 v2568) := by
  intro v2 v2542 v2552 v2568
  rw [k0_part240_eq_skeleton]; unfold k0_part240_skel
  repeat' first
    | exact safe_pure _
    | refine safe_load (by assumption) fun _ => ?_
    | refine safe_store (by assumption) ?_

theorem safe_part241 (l16 : arg16.view.ref ∈ H) (l17 : arg17.view.ref ∈ H) (s16 : arg16.view.ref ∈ U) :
    ∀ v2 v2583 v2587 v2593 v2595 v2597 v2603 v2605, Safe H U (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2583 v2587 v2593 v2595 v2597 v2603 v2605) := by
  intro v2 v2583 v2587 v2593 v2595 v2597 v2603 v2605
  rw [k0_part241_eq_skeleton]; unfold k0_part241_skel
  repeat' first
    | exact safe_pure _
    | refine safe_load (by assumption) fun _ => ?_
    | refine safe_store (by assumption) ?_

theorem safe_part242 (l16 : arg16.view.ref ∈ H) (l17 : arg17.view.ref ∈ H) (s16 : arg16.view.ref ∈ U) :
    ∀ v2 v2624 v2626 v2628 v2630 v2634 v2636, Safe H U (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2624 v2626 v2628 v2630 v2634 v2636) := by
  intro v2 v2624 v2626 v2628 v2630 v2634 v2636
  rw [k0_part242_eq_skeleton]; unfold k0_part242_skel
  repeat' first
    | exact safe_pure _
    | refine safe_load (by assumption) fun _ => ?_
    | refine safe_store (by assumption) ?_

theorem safe_part243 (l16 : arg16.view.ref ∈ H) (l17 : arg17.view.ref ∈ H) (s16 : arg16.view.ref ∈ U) :
    ∀ v2665 v2667 v2668, Safe H U (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2665 v2667 v2668) := by
  intro v2665 v2667 v2668
  rw [k0_part243_eq_skeleton]; unfold k0_part243_skel
  repeat' first
    | exact safe_pure _
    | refine safe_load (by assumption) fun _ => ?_
    | refine safe_store (by assumption) ?_

theorem safe_part244 (l15 : arg15.view.ref ∈ H) (l17 : arg17.view.ref ∈ H) (s17 : arg17.view.ref ∈ U) :
    ∀ v2 v298 v1701 v1705 v2510 v2511, Safe H U (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v298 v1701 v1705 v2510 v2511) := by
  intro v2 v298 v1701 v1705 v2510 v2511
  rw [k0_part244_eq_skeleton]; unfold k0_part244_skel
  repeat' first
    | exact safe_pure _
    | refine safe_load (by assumption) fun _ => ?_
    | refine safe_store (by assumption) ?_

theorem safe_part245 (l16 : arg16.view.ref ∈ H) (l17 : arg17.view.ref ∈ H) (s16 : arg16.view.ref ∈ U) :
    ∀ v2734 v2736, Safe H U (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2734 v2736) := by
  intro v2734 v2736
  rw [k0_part245_eq_skeleton]; unfold k0_part245_skel
  repeat' first
    | exact safe_pure _
    | refine safe_load (by assumption) fun _ => ?_
    | refine safe_store (by assumption) ?_

end Cert.KernelIdeal.Attn
-- ==== Proof.Attn.SafeD.lean ====
/-
  Further parts of the attention are safe.
-/
module

public import proofs.«01_k».proof.Proof.Attn.Safe
public import proofs.«01_k».proof.Proof.Gen.KernelIdeal.Skeleton

@[expose] public section

set_option maxHeartbeats 1000000

noncomputable section

namespace Cert.KernelIdeal.Attn

open Cert.KernelIdeal Cert.KernelIdeal.Gen
open Idealize.ShloMosaic Idealize.ShloMosaic.TcCoe
open Idealize.SL.Sem

variable {F : FTy → Type} [FloatOps F] {H U : Finset (Ref sig .tc)}
variable (i : grid0.Coords) (arg2 : Memref sig .tc .vmem S1x512x1024 .f32) (harg2 : arg2.IsWhole) (arg3 : Memref sig .tc .vmem S16x3072 .f32) (harg3 : arg3.IsWhole) (arg4 : Memref sig .tc .hbm S1024x8704 .f32) (harg4 : arg4.IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (arg12 : Memref sig .tc .vmem S520x1024 .f32) (harg12 : arg12.IsWhole) (arg13 : Memref sig .tc .vmem S512x1024 .bf16) (harg13 : arg13.IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (arg19 : Memref sig .tc .vmem S1024x6656 .bf16) (harg19 : arg19.IsWhole) (arg20 : Memref sig .tc .vmem S4x32x6656 .f32) (harg20 : arg20.IsWhole) (arg21 : DmaSems sig S4)

theorem safe_part246 (l16 : arg16.view.ref ∈ H) (l17 : arg17.view.ref ∈ H) (s16 : arg16.view.ref ∈ U) :
    ∀ v2 v2744 v2770, Safe H U (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2744 v2770) := by
  intro v2 v2744 v2770
  rw [k0_part246_eq_skeleton]; unfold k0_part246_skel
  repeat' first
    | exact safe_pure _
    | refine safe_load (by assumption) fun _ => ?_
    | refine safe_store (by assumption) ?_

theorem safe_part247 (l16 : arg16.view.ref ∈ H) (l17 : arg17.view.ref ∈ H) (s16 : arg16.view.ref ∈ U) :
    ∀ v2 v2775 v2785 v2795 v2801 v2803, Safe H U (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2775 v2785 v2795 v2801 v2803) := by
  intro v2 v2775 v2785 v2795 v2801 v2803
  rw [k0_part247_eq_skeleton]; unfold k0_part247_skel
  repeat' first
    | exact safe_pure _
    | refine safe_load (by assumption) fun _ => ?_
    | refine safe_store (by assumption) ?_

theorem safe_part248 (l16 : arg16.view.ref ∈ H) (l17 : arg17.view.ref ∈ H) (s16 : arg16.view.ref ∈ U) :
    ∀ v2 v2816 v2818 v2820 v2826 v2828 v2830 v2834, Safe H U (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2816 v2818 v2820 v2826 v2828 v2830 v2834) := by
  intro v2 v2816 v2818 v2820 v2826 v2828 v2830 v2834
  rw [k0_part248_eq_skeleton]; unfold k0_part248_skel
  repeat' first
    | exact safe_pure _
    | refine safe_load (by assumption) fun _ => ?_
    | refine safe_store (by assumption) ?_

theorem safe_part249 (l5 : arg5.view.ref ∈ H) (l16 : arg16.view.ref ∈ H) (l19 : arg19.view.ref ∈ H) (s16 : arg16.view.ref ∈ U) :
    ∀ v28 v2857 v2859 v2861 v2863, Safe H U (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v2857 v2859 v2861 v2863) := by
  intro v28 v2857 v2859 v2861 v2863
  rw [k0_part249_eq_skeleton]; unfold k0_part249_skel
  repeat' first
    | exact safe_pure _
    | refine safe_load (by assumption) fun _ => ?_
    | refine safe_store (by assumption) ?_

theorem safe_part250 (l14 : arg14.view.ref ∈ H) (s14 : arg14.view.ref ∈ U) :
    ∀ v2897 v2899, Safe H U (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2897 v2899) := by
  intro v2897 v2899
  rw [k0_part250_eq_skeleton]; unfold k0_part250_skel
  repeat' first
    | exact safe_pure _
    | refine safe_load (by assumption) fun _ => ?_
    | refine safe_store (by assumption) ?_

theorem safe_part251 (l14 : arg14.view.ref ∈ H) (l15 : arg15.view.ref ∈ H) (s15 : arg15.view.ref ∈ U) :
    ∀ v2, Safe H U (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part251_eq_skeleton]; unfold k0_part251_skel
  repeat' first
    | exact safe_pure _
    | refine safe_load (by assumption) fun _ => ?_
    | refine safe_store (by assumption) ?_

theorem safe_part252 (l14 : arg14.view.ref ∈ H) (l15 : arg15.view.ref ∈ H) (s15 : arg15.view.ref ∈ U) :
    ∀ v2 v2960, Safe H U (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2960) := by
  intro v2 v2960
  rw [k0_part252_eq_skeleton]; unfold k0_part252_skel
  repeat' first
    | exact safe_pure _
    | refine safe_load (by assumption) fun _ => ?_
    | refine safe_store (by assumption) ?_

theorem safe_part253 (l14 : arg14.view.ref ∈ H) (l15 : arg15.view.ref ∈ H) (s15 : arg15.view.ref ∈ U) :
    ∀ v2 v2992, Safe H U (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2992) := by
  intro v2 v2992
  rw [k0_part253_eq_skeleton]; unfold k0_part253_skel
  repeat' first
    | exact safe_pure _
    | refine safe_load (by assumption) fun _ => ?_
    | refine safe_store (by assumption) ?_

theorem safe_part254 (l14 : arg14.view.ref ∈ H) (l15 : arg15.view.ref ∈ H) (s14 : arg14.view.ref ∈ U) (s15 : arg15.view.ref ∈ U) :
    ∀ v2 v2901, Safe H U (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v2901) := by
  intro v2 v2901
  rw [k0_part254_eq_skeleton]; unfold k0_part254_skel
  repeat' first
    | exact safe_pure _
    | refine safe_load (by assumption) fun _ => ?_
    | refine safe_store (by assumption) ?_

theorem safe_part255 (l14 : arg14.view.ref ∈ H) (l15 : arg15.view.ref ∈ H) (s14 : arg14.view.ref ∈ U) (s15 : arg15.view.ref ∈ U) :
    ∀ v2 v3059, Safe H U (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3059) := by
  intro v2 v3059
  rw [k0_part255_eq_skeleton]; unfold k0_part255_skel
  repeat' first
    | exact safe_pure _
    | refine safe_load (by assumption) fun _ => ?_
    | refine safe_store (by assumption) ?_

theorem safe_part256 (l14 : arg14.view.ref ∈ H) (l15 : arg15.view.ref ∈ H) (s15 : arg15.view.ref ∈ U) :
    ∀ v2 v3088 v3089, Safe H U (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3088 v3089) := by
  intro v2 v3088 v3089
  rw [k0_part256_eq_skeleton]; unfold k0_part256_skel
  repeat' first
    | exact safe_pure _
    | refine safe_load (by assumption) fun _ => ?_
    | refine safe_store (by assumption) ?_

theorem safe_part257 (l14 : arg14.view.ref ∈ H) (l15 : arg15.view.ref ∈ H) (s15 : arg15.view.ref ∈ U) :
    ∀ v2 v3120, Safe H U (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3120) := by
  intro v2 v3120
  rw [k0_part257_eq_skeleton]; unfold k0_part257_skel
  repeat' first
    | exact safe_pure _
    | refine safe_load (by assumption) fun _ => ?_
    | refine safe_store (by assumption) ?_

theorem safe_part258 (l14 : arg14.view.ref ∈ H) (l15 : arg15.view.ref ∈ H) (s15 : arg15.view.ref ∈ U) :
    ∀ v2, Safe H U (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part258_eq_skeleton]; unfold k0_part258_skel
  repeat' first
    | exact safe_pure _
    | refine safe_load (by assumption) fun _ => ?_
    | refine safe_store (by assumption) ?_

theorem safe_part259 (l5 : arg5.view.ref ∈ H) (l14 : arg14.view.ref ∈ H) (l15 : arg15.view.ref ∈ H) (l19 : arg19.view.ref ∈ H) (s14 : arg14.view.ref ∈ U) (s15 : arg15.view.ref ∈ U) :
    ∀ v2 v28 v3192, Safe H U (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v28 v3192) := by
  intro v2 v28 v3192
  rw [k0_part259_eq_skeleton]; unfold k0_part259_skel
  repeat' first
    | exact safe_pure _
    | refine safe_load (by assumption) fun _ => ?_
    | refine safe_store (by assumption) ?_

theorem safe_part260 (l14 : arg14.view.ref ∈ H) (l15 : arg15.view.ref ∈ H) (s14 : arg14.view.ref ∈ U) (s15 : arg15.view.ref ∈ U) :
    ∀ v2 v3222, Safe H U (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3222) := by
  intro v2 v3222
  rw [k0_part260_eq_skeleton]; unfold k0_part260_skel
  repeat' first
    | exact safe_pure _
    | refine safe_load (by assumption) fun _ => ?_
    | refine safe_store (by assumption) ?_

theorem safe_part261 (l14 : arg14.view.ref ∈ H) (l15 : arg15.view.ref ∈ H) (s15 : arg15.view.ref ∈ U) :
    ∀ v2, Safe H U (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part261_eq_skeleton]; unfold k0_part261_skel
  repeat' first
    | exact safe_pure _
    | refine safe_load (by assumption) fun _ => ?_
    | refine safe_store (by assumption) ?_

theorem safe_part262 (l14 : arg14.view.ref ∈ H) (l15 : arg15.view.ref ∈ H) (s15 : arg15.view.ref ∈ U) :
    ∀ v2 v3286 c288_i32_2142, Safe H U (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3286 c288_i32_2142) := by
  intro v2 v3286 c288_i32_2142
  rw [k0_part262_eq_skeleton]; unfold k0_part262_skel
  repeat' first
    | exact safe_pure _
    | refine safe_load (by assumption) fun _ => ?_
    | refine safe_store (by assumption) ?_

theorem safe_part263 (l14 : arg14.view.ref ∈ H) (l15 : arg15.view.ref ∈ H) (s15 : arg15.view.ref ∈ U) :
    ∀ v2 v3318 v3321, Safe H U (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3318 v3321) := by
  intro v2 v3318 v3321
  rw [k0_part263_eq_skeleton]; unfold k0_part263_skel
  repeat' first
    | exact safe_pure _
    | refine safe_load (by assumption) fun _ => ?_
    | refine safe_store (by assumption) ?_

theorem safe_part264 (l14 : arg14.view.ref ∈ H) (l15 : arg15.view.ref ∈ H) (s14 : arg14.view.ref ∈ U) (s15 : arg15.view.ref ∈ U) :
    ∀ v2 v3211, Safe H U (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3211) := by
  intro v2 v3211
  rw [k0_part264_eq_skeleton]; unfold k0_part264_skel
  repeat' first
    | exact safe_pure _
    | refine safe_load (by assumption) fun _ => ?_
    | refine safe_store (by assumption) ?_

theorem safe_part265 (l14 : arg14.view.ref ∈ H) (l15 : arg15.view.ref ∈ H) (s14 : arg14.view.ref ∈ U) (s15 : arg15.view.ref ∈ U) :
    ∀ v2, Safe H U (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part265_eq_skeleton]; unfold k0_part265_skel
  repeat' first
    | exact safe_pure _
    | refine safe_load (by assumption) fun _ => ?_
    | refine safe_store (by assumption) ?_

theorem safe_part266 (l14 : arg14.view.ref ∈ H) (l15 : arg15.view.ref ∈ H) (s15 : arg15.view.ref ∈ U) :
    ∀ v2 v3414, Safe H U (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3414) := by
  intro v2 v3414
  rw [k0_part266_eq_skeleton]; unfold k0_part266_skel
  repeat' first
    | exact safe_pure _
    | refine safe_load (by assumption) fun _ => ?_
    | refine safe_store (by assumption) ?_

theorem safe_part267 (l14 : arg14.view.ref ∈ H) (l15 : arg15.view.ref ∈ H) (s15 : arg15.view.ref ∈ U) :
    ∀ v2 v3451, Safe H U (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3451) := by
  intro v2 v3451
  rw [k0_part267_eq_skeleton]; unfold k0_part267_skel
  repeat' first
    | exact safe_pure _
    | refine safe_load (by assumption) fun _ => ?_
    | refine safe_store (by assumption) ?_

theorem safe_part268 (l14 : arg14.view.ref ∈ H) (l15 : arg15.view.ref ∈ H) (l19 : arg19.view.ref ∈ H) (s15 : arg15.view.ref ∈ U) :
    ∀ v2 v28, Safe H U (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v28) := by
  intro v2 v28
  rw [k0_part268_eq_skeleton]; unfold k0_part268_skel
  repeat' first
    | exact safe_pure _
    | refine safe_load (by assumption) fun _ => ?_
    | refine safe_store (by assumption) ?_

theorem safe_part269 (l5 : arg5.view.ref ∈ H) (l14 : arg14.view.ref ∈ H) (s14 : arg14.view.ref ∈ U) :
    ∀ v3517, Safe H U (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v3517) := by
  intro v3517
  rw [k0_part269_eq_skeleton]; unfold k0_part269_skel
  repeat' first
    | exact safe_pure _
    | refine safe_load (by assumption) fun _ => ?_
    | refine safe_store (by assumption) ?_

theorem safe_part270 (l14 : arg14.view.ref ∈ H) (l15 : arg15.view.ref ∈ H) (s15 : arg15.view.ref ∈ U) :
    ∀ v2, Safe H U (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part270_eq_skeleton]; unfold k0_part270_skel
  repeat' first
    | exact safe_pure _
    | refine safe_load (by assumption) fun _ => ?_
    | refine safe_store (by assumption) ?_

theorem safe_part271 (l14 : arg14.view.ref ∈ H) (l15 : arg15.view.ref ∈ H) (s15 : arg15.view.ref ∈ U) :
    ∀ v2 v3578, Safe H U (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3578) := by
  intro v2 v3578
  rw [k0_part271_eq_skeleton]; unfold k0_part271_skel
  repeat' first
    | exact safe_pure _
    | refine safe_load (by assumption) fun _ => ?_
    | refine safe_store (by assumption) ?_

theorem safe_part272 (l14 : arg14.view.ref ∈ H) (l15 : arg15.view.ref ∈ H) (s15 : arg15.view.ref ∈ U) :
    ∀ v2 v3612 v3613, Safe H U (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3612 v3613) := by
  intro v2 v3612 v3613
  rw [k0_part272_eq_skeleton]; unfold k0_part272_skel
  repeat' first
    | exact safe_pure _
    | refine safe_load (by assumption) fun _ => ?_
    | refine safe_store (by assumption) ?_

theorem safe_part273 (l14 : arg14.view.ref ∈ H) (l15 : arg15.view.ref ∈ H) (s14 : arg14.view.ref ∈ U) (s15 : arg15.view.ref ∈ U) :
    ∀ v2 v3521 v3644, Safe H U (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3521 v3644) := by
  intro v2 v3521 v3644
  rw [k0_part273_eq_skeleton]; unfold k0_part273_skel
  repeat' first
    | exact safe_pure _
    | refine safe_load (by assumption) fun _ => ?_
    | refine safe_store (by assumption) ?_

theorem safe_part274 (l14 : arg14.view.ref ∈ H) (l15 : arg15.view.ref ∈ H) (s14 : arg14.view.ref ∈ U) (s15 : arg15.view.ref ∈ U) :
    ∀ v2 v3679, Safe H U (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3679) := by
  intro v2 v3679
  rw [k0_part274_eq_skeleton]; unfold k0_part274_skel
  repeat' first
    | exact safe_pure _
    | refine safe_load (by assumption) fun _ => ?_
    | refine safe_store (by assumption) ?_

theorem safe_part275 (l14 : arg14.view.ref ∈ H) (l15 : arg15.view.ref ∈ H) (s15 : arg15.view.ref ∈ U) :
    ∀ v2 v3708, Safe H U (k0_part275 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3708) := by
  intro v2 v3708
  rw [k0_part275_eq_skeleton]; unfold k0_part275_skel
  repeat' first
    | exact safe_pure _
    | refine safe_load (by assumption) fun _ => ?_
    | refine safe_store (by assumption) ?_

theorem safe_part276 (l14 : arg14.view.ref ∈ H) (l15 : arg15.view.ref ∈ H) (s15 : arg15.view.ref ∈ U) :
    ∀ v2 v3740, Safe H U (k0_part276 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2 v3740) := by
  intro v2 v3740
  rw [k0_part276_eq_skeleton]; unfold k0_part276_skel
  repeat' first
    | exact safe_pure _
    | refine safe_load (by assumption) fun _ => ?_
    | refine safe_store (by assumption) ?_

theorem safe_part277 (l14 : arg14.view.ref ∈ H) (l15 : arg15.view.ref ∈ H) (s15 : arg15.view.ref ∈ U) :
    ∀ v2, Safe H U (k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v2) := by
  intro v2
  rw [k0_part277_eq_skeleton]; unfold k0_part277_skel
  repeat' first
    | exact safe_pure _
    | refine safe_load (by assumption) fun _ => ?_
    | refine safe_store (by assumption) ?_

end Cert.KernelIdeal.Attn
-- ==== Proof.Attn.Body166.lean ====
/-
  The body: the filling at the first point, the rows carried from the point before, then the blocks one after another.
-/
module

public import proofs.«01_k».proof.Proof.Attn.FillAll
public import proofs.«01_k».proof.Proof.Attn.BodyA
public import proofs.«01_k».proof.Proof.Attn.SafeA
public import proofs.«01_k».proof.Proof.Attn.SafeB
public import proofs.«01_k».proof.Proof.Attn.SafeC
public import proofs.«01_k».proof.Proof.Attn.SafeD

@[expose] public section

set_option maxHeartbeats 2000000
set_option maxRecDepth 16384

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F] {c : Dev nD} {D : Data F} {H U V : Finset (Ref sig .tc)} {h1 : cc0_scratch8 ∉ H} {h2 : main_v0 ∉ H}
variable {s1 s : St F c} {n m : ℕ} {z y : Bool}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (harg12 : (Memref.whole cc0_scratch0).IsWhole) (harg13 : (Memref.whole cc0_scratch1).IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

/-- The row of the modulation that point `i` reads. -/
def row (i : grid0.Coords) (A : S16x3072.Idx → Elt F .f32) : S1x3072.Idx → Elt F .f32 :=
  fun y => A ((Rect.unit (s := S16x3072) (k0_off1 i) S1x3072.size (k0_off1_inb i)).emb y)

/-- The conditions of the body, as it computes them. -/
abbrev at0 (i : grid0.Coords) : BitVec 1 := Scalar.cmpi .eq (BitVec.ofNat 32 (i 1).val) 0#32
abbrev c1 (i : grid0.Coords) : BitVec 1 :=
  Scalar.cmpi .ne (Scalar.extui (Scalar.andi (Scalar.cmpi .eq (BitVec.ofNat 32 (i 0).val) 0#32) (at0 i)) : BitVec 32) 0#32
abbrev c2 (i : grid0.Coords) : BitVec 1 := Scalar.cmpi .ne (Scalar.extui (at0 i) : BitVec 32) 0#32
abbrev c3 (i : grid0.Coords) : BitVec 1 := Scalar.cmpi .ne (Scalar.extui (Scalar.xori (at0 i) 1#1) : BitVec 32) 0#32

/-- What the body finds. -/
structure Start (i : grid0.Coords) (D : Data F) (arg2 : Memref sig .tc .vmem S1x512x1024 .f32) (arg3 : Memref sig .tc .vmem S16x3072 .f32) (s0 : St F c) : Prop where
  busy : ∀ j, s0.busy j = false
  fill : c1 i = 1#1 → ∀ (r : Fin 1024) (x : Fin 6656), D.W (ix2 r x) = cv (hS s0 (ix2 r ⟨perm x.val, perm_lt x.isLt⟩))
  kept : c1 i ≠ 1#1 → wS s0 = D.W
  top : c2 i = 1#1 → D.hal = k0_pay772 (F := F)
  low : c3 i = 1#1 → D.hal = k0_pay773 (fun y => uS s0 (ix2 ⟨512 + (y 0).val, by have := (y 0).isLt; show _ < 520; change (y 0).val < 8 at this; omega⟩ (y 1)))
  ex : (c2 i = 1#1 ∧ c3 i ≠ 1#1) ∨ (c2 i ≠ 1#1 ∧ c3 i = 1#1)
  xm : D.xm = k0_pay774 (row i (rd arg3 s0)) (rd arg2 s0)

variable {β : Type}

/-- Both branches of a condition. -/
theorem wpp_dite {R : Rig} {Q : β → St F c → Prop} {p : Prop} [Decidable p] {t : p → PG F β} {e : ¬p → PG F β} {s : St F c}
    (ht : ∀ h, wpp R (t h) Q s) (he : ∀ h, wpp R (e h) Q s) : wpp R (dite p t e) Q s := by
  by_cases h : p
  · rw [dif_pos h]; exact ht h
  · rw [dif_neg h]; exact he h

/-- A condition whose one branch does more and then goes on as the other. -/
theorem wpp_jp {R : Rig} {Q : β → St F c → Prop} {p : Prop} [Decidable p] {t : p → PG F β} {e : PG F β} {s : St F c} (P : St F c → Prop)
    (K : ∀ s, P s → wpp R e Q s) (ht : ∀ h, (∀ s, P s → wpp R e Q s) → wpp R (t h) Q s) (he : ¬p → P s) : wpp R (dite p t fun _ => e) Q s := by
  by_cases h : p
  · rw [dif_pos h]; exact ht h K
  · rw [dif_neg h]; exact K s (he h)

/-- A store of the eight rows before the block. -/
theorem write_rows {f : S520x1024.Idx → Elt F .f32} {w : S8x1024.Idx → Elt F .f32} {inb : ∀ a, (![0, 0] : Fin 2 → ℕ) a + S8x1024.size a ≤ S520x1024.size a}
    (r : Fin 8) (x : Fin 1024) :
    ((Memref.whole cc0_scratch0).access (Rect.unit (s := S520x1024) ![0, 0] S8x1024.size inb)).write (Elt F) f w Finset.univ (ix2 ⟨r.val, by omega⟩ x : S520x1024.Idx) = w (ix2 r x) := by
  have hix : (ix2 ⟨r.val, by omega⟩ x : S520x1024.Idx) = (Rect.unit (s := S520x1024) ![0, 0] S8x1024.size inb).emb (ix2 r x) := funext fun a => Fin.ext (by
    match a with
    | ⟨0, _⟩ => show r.val = 0 + 1 * r.val; omega
    | ⟨1, _⟩ => show x.val = 0 + 1 * x.val; omega)
  rw [hix]
  exact write_rect_emb (b := cc0_scratch0) _ _ _ _

/-- The first part of the body. -/
theorem tr_part166 {Q : (Σ' (arg1 : BitVec 32) (v0 : BitVec 1) (v2 : BitVec 32) (v6 : BitVec 32) (v28 : FVec F S512x1024 .bf16), FVec F S512x256 .f32) → St F c → Prop} {s0 : St F c} (hL : Held H U arg2 arg3 arg5 arg6 arg7 arg8 arg9 arg10 arg11 arg14 arg15 arg16 arg17 arg18) (h0 : cc0_scratch0 ∈ H) (h7 : cc0_scratch7 ∈ H)
    (n2 : arg2.view.ref ≠ cc0_scratch0 ∧ arg2.view.ref ≠ cc0_scratch7 ∧ arg2.view.ref ≠ cc0_scratch8)
    (n3 : arg3.view.ref ≠ cc0_scratch0 ∧ arg3.view.ref ≠ cc0_scratch7 ∧ arg3.view.ref ≠ cc0_scratch8)
    (hS0 : Start i D arg2 arg3 s0)
    (h : ∀ a1 v0 v2 v6 v34 s', (∀ b, b ≠ cc0_scratch0 → b ≠ cc0_scratch7 → b ≠ cc0_scratch8 → s'.mem b = s0.mem b) → (∀ j, s'.busy j = false) →
      wS s' = D.W → (∀ (r : Fin 8) (x : Fin 1024), uS s' (ix2 ⟨r.val, by omega⟩ x) = D.hal (ix2 r x)) → Q ⟨a1, v0, v2, v6, D.xm, v34⟩ s') :
    wpp (rig H h1 h2) (k0_part166 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9) Q s0 := by
  rw [k0_part166_eq_skeleton]; unfold k0_part166_skel
  have last : ∀ s' : St F c, (∀ b, b ≠ cc0_scratch0 → b ≠ cc0_scratch7 → b ≠ cc0_scratch8 → s'.mem b = s0.mem b) → (∀ j, s'.busy j = false) →
      wS s' = D.W → (∀ (r : Fin 8) (x : Fin 1024), uS s' (ix2 ⟨r.val, by omega⟩ x) = D.hal (ix2 r x)) →
      k0_pay774 (arg3.view.readAt (Elt F) (Rect.unit (s := S16x3072) (k0_off1 i) S1x3072.size (k0_off1_inb i)).toLoadRect (s'.mem arg3.view.ref))
        (arg2.view.readAt (Elt F) (Rect.unit (s := S1x512x1024) ![0, 0, 0] S1x512x1024.size inb_S1x512x1024_S1x512x1024_0_0_0).toLoadRect (s'.mem arg2.view.ref)) = D.xm := by
    intro s' ho _ _ _
    rw [hS0.xm]
    have e3 : rd arg3 s' = rd arg3 s0 := rd_congr arg3 (ho _ n3.1 n3.2.1 n3.2.2)
    have e2 : rd arg2 s' = rd arg2 s0 := rd_congr arg2 (ho _ n2.1 n2.2.1 n2.2.2)
    rw [← e3, ← e2]
    refine congrArg (k0_pay774 _) (funext fun y => ?_)
    refine congrArg (rd arg2 s') (funext fun k => Fin.ext ?_)
    match k with
    | ⟨0, _⟩ => show 0 + 1 * (y 0).val = (y 0).val; omega
    | ⟨1, _⟩ => show 0 + 1 * (y 1).val = (y 1).val; omega
    | ⟨2, _⟩ => show 0 + 1 * (y 2).val = (y 2).val; omega
  refine wpp_jp (fun (s' : St F c) => (∀ b, b ≠ cc0_scratch7 → b ≠ cc0_scratch8 → s'.mem b = s0.mem b) ∧ (∀ j, s'.busy j = false) ∧ wS s' = D.W) ?_ ?_ ?_
  · rintro s ⟨ho, hb, hw⟩
    refine wpp_jp (fun (s' : St F c) => (∀ b, b ≠ cc0_scratch0 → s'.mem b = s.mem b) ∧ s'.busy = s.busy ∧
      (c3 i ≠ 1#1 → ∀ (r : Fin 8) (x : Fin 1024), uS s' (ix2 ⟨r.val, by omega⟩ x) = D.hal (ix2 r x)) ∧ (c3 i = 1#1 → s'.mem cc0_scratch0 = s.mem cc0_scratch0)) ?_ ?_ ?_
    · rintro s2 ⟨ho2, hb2, hl2, hk2⟩
      refine wpp_jp (fun (s' : St F c) => (∀ b, b ≠ cc0_scratch0 → s'.mem b = s.mem b) ∧ s'.busy = s.busy ∧
        ∀ (r : Fin 8) (x : Fin 1024), uS s' (ix2 ⟨r.val, by omega⟩ x) = D.hal (ix2 r x)) ?_ ?_ ?_
      · rintro s3 ⟨ho3, hb3, hl3⟩
        have hoA : ∀ b, b ≠ cc0_scratch0 → b ≠ cc0_scratch7 → b ≠ cc0_scratch8 → s3.mem b = s0.mem b := fun b hb0 hb7 hb8 => (ho3 b hb0).trans (ho b hb7 hb8)
        have hbA : ∀ j, s3.busy j = false := fun j => by rw [hb3]; exact hb j
        have hwA : wS s3 = D.W := (ho3 cc0_scratch7 (by decide)).trans hw
        refine ⟨.inl hL.l3, .inl hL.l2, .inl h7, .inl hL.l5, ?_⟩
        exact Eq.mp (congrArg (fun z => Q ⟨_, _, _, _, z, _⟩ s3) (last s3 hoA hbA hwA hl3).symm) (h _ _ _ _ _ s3 hoA hbA hwA hl3)
      · intro hc hK
        refine ⟨.inl h0, .inl h0, h0, hK _ ?_⟩
        refine ⟨fun b hb => (St.upd_ne _ _ hb).trans (ho2 b hb), hb2, fun r x => ?_⟩
        refine (congrFun (St.upd_same s2 cc0_scratch0 _) _).trans ?_
        refine (write_rows r x).trans ?_
        rw [hS0.low hc]
        refine congrFun (congrArg k0_pay773 (funext fun y => ?_)) _
        have e : uS s2 = uS s0 := (hk2 hc).trans (ho _ (by decide) (by decide))
        show uS s2 _ = _
        rw [e]
        refine congrArg (uS s0) (funext fun k => Fin.ext ?_)
        match k with
        | ⟨0, _⟩ => show 512 + 1 * (y 0).val = 512 + (y 0).val; omega
        | ⟨1, _⟩ => show 0 + 1 * (y 1).val = (y 1).val; omega
      · exact fun hc => ⟨ho2, hb2, hl2 hc⟩
    · intro hc hK
      refine ⟨.inl h0, h0, hK _ ?_⟩
      refine ⟨fun b hb => St.upd_ne _ _ hb, rfl, fun _ r x => ?_, fun h3 => ?_⟩
      · refine (congrFun (St.upd_same s cc0_scratch0 _) _).trans ?_
        refine (write_rows r x).trans ?_
        rw [hS0.top hc]
      · rcases hS0.ex with ⟨-, h'⟩ | ⟨h', -⟩
        · exact absurd h3 h'
        · exact absurd hc h'
    · intro hc
      refine ⟨fun _ _ => rfl, rfl, fun h3 => ?_, fun _ => rfl⟩
      rcases hS0.ex with ⟨h', -⟩ | ⟨-, h'⟩
      · exact absurd h' hc
      · exact absurd h' h3
  · intro hc hK
    have hI : FillI s0 0 0 0 0 s0 := ⟨fun _ _ _ => rfl, fun j => ⟨fun h => absurd h (by rw [hS0.busy j]; decide), fun ⟨e, _, h, _⟩ => absurd h (by omega)⟩,
      fun e _ h => absurd h (by omega), fun r x hx => absurd hx (by omega)⟩
    refine wpp_then (fill_part122 i arg2 harg2 arg3 harg3 harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 harg19 harg20 h7 hI fun s hI => ?_)
    refine wpp_then (fill_part123 i arg2 harg2 arg3 harg3 harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 harg19 harg20 h7 hI fun s hI => ?_)
    refine wpp_then (fill_part121 i arg2 harg2 arg3 harg3 harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 harg19 harg20 h7 hI fun s hI => ?_)
    refine wpp_move h7 (k := 31) (C := 5888) hI 256 3328 (by omega) (by omega) (by omega) (by omega) pay256 (perm_block (by decide)) fun s hI => ?_
    refine wpp_move h7 (k := 31) (C := 6144) hI 256 4352 (by omega) (by omega) (by omega) (by omega) pay256 (perm_block (by decide)) fun s hI => ?_
    refine wpp_move h7 (k := 31) (C := 6400) hI 256 6400 (by omega) (by omega) (by omega) (by omega) pay256 (perm_block (by decide)) fun s hI => ?_
    refine hK _ ⟨hI.other, fun j => ?_, funext fun y => ?_⟩
    · rcases hb : s.busy j with _ | _
      · rfl
      · obtain ⟨e, e1, e2, -⟩ := (hI.busy j).mp hb
        omega
    · rw [ix2_eq y]
      refine (hI.w (y 0) (y 1) (Or.inr ⟨by have := (y 0).isLt; change (y 0).val < 1024 at this; omega, (y 1).isLt⟩)).trans ?_
      exact (hS0.fill hc (y 0) (y 1)).symm
  · exact fun hc => ⟨fun _ _ _ => rfl, hS0.busy, hS0.kept hc⟩

end Cert.KernelIdeal.Attn
-- ==== Proof.Attn.Body.lean ====
/-
  The body: its parts one after another, and what it leaves.
-/
module

public import proofs.«01_k».proof.Proof.Attn.Body166

@[expose] public section

set_option maxHeartbeats 2000000
set_option maxRecDepth 16384

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F] {c : Dev nD} {D : Data F} {H U V : Finset (Ref sig .tc)} {h1 : cc0_scratch8 ∉ H} {h2 : main_v0 ∉ H}
variable {s1 s : St F c} {n m : ℕ} {z y : Bool}
variable (i : grid0.Coords) (arg2 : Memref sig .tc .vmem S1x512x1024 .f32) (harg2 : arg2.IsWhole) (arg3 : Memref sig .tc .vmem S16x3072 .f32) (harg3 : arg3.IsWhole) (harg4 : (Memref.whole main_v0).IsWhole) (arg5 : Memref sig .tc .vmem S1x8704 .f32) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S3x2x256x256 .f32) (harg8 : arg8.IsWhole) (arg9 : Memref sig .tc .vmem S1x512x256 .bf16) (harg9 : arg9.IsWhole) (arg10 : Memref sig .tc .vmem S1x512x1024 .bf16) (harg10 : arg10.IsWhole) (arg11 : Memref sig .tc .vmem S1x2x2048x128 .f32) (harg11 : arg11.IsWhole) (harg12 : (Memref.whole cc0_scratch0).IsWhole) (harg13 : (Memref.whole cc0_scratch1).IsWhole) (arg14 : Memref sig .tc .vmem S6x512x128 .f32) (harg14 : arg14.IsWhole) (arg15 : Memref sig .tc .vmem S2048x2304 .bf16) (harg15 : arg15.IsWhole) (arg16 : Memref sig .tc .vmem S3x2x2048x128 .f32) (harg16 : arg16.IsWhole) (arg17 : Memref sig .tc .vmem S8x3x128x128 .f32) (harg17 : arg17.IsWhole) (arg18 : Memref sig .tc .vmem S4x128x256 .bf16) (harg18 : arg18.IsWhole) (harg19 : (Memref.whole cc0_scratch7).IsWhole) (harg20 : (Memref.whole cc0_scratch8).IsWhole)

set_option maxHeartbeats 20000000

/-- The first half of the body, after its first part. -/
theorem tr_part278 {Q : (Σ' (arg1 : BitVec 32) (v2 : BitVec 32) (v28 : FVec F S512x1024 .bf16) (v298 : IVec S128x128 1) (v1225 : FVec F S256x1 .f32) (v1229 : FVec F S256x256 .bf16) (v1672 : FVec F S256x1 .f32) (v1676 : FVec F S256x256 .bf16) (v1701 : FVec F S256x1 .f32) (v1705 : FVec F S256x256 .bf16) (v2096 : BitVec 32) (v2097 : BitVec 32) (v2110 : FVec F S128x128 .f32) (v2113 : FVec F S128x128 .f32), FVec F S128x128 .f32) → St F c → Prop} {s0 : St F c} (hL : Held H U arg2 arg3 arg5 arg6 arg7 arg8 arg9 arg10 arg11 arg14 arg15 arg16 arg17 arg18) (n2 : arg2.view.ref ≠ cc0_scratch0 ∧ arg2.view.ref ≠ cc0_scratch7 ∧ arg2.view.ref ≠ cc0_scratch8)
    (n3 : arg3.view.ref ≠ cc0_scratch0 ∧ arg3.view.ref ≠ cc0_scratch7 ∧ arg3.view.ref ≠ cc0_scratch8)
    (hS0 : Start i D arg2 arg3 s0) (h0 : cc0_scratch0 ∈ H) (h7 : cc0_scratch7 ∈ H)
    (hC : ∀ s1 : St F c, (∀ b, b ≠ cc0_scratch0 → b ≠ cc0_scratch7 → b ≠ cc0_scratch8 → s1.mem b = s0.mem b) → wS s1 = D.W → Ctx D H U V arg5 arg6 arg7 arg9 arg10 s1)
    (h : ∀ s1, (∀ b, b ≠ cc0_scratch0 → b ≠ cc0_scratch7 → b ≠ cc0_scratch8 → s1.mem b = s0.mem b) → (∀ j, s1.busy j = false) → wS s1 = D.W → ∀ arg1 v2 v298 v1225 v1229 v1672 v1676 v1701 v1705 v2096 v2097 v2110 v2113 v2116 s', TI D V arg9 arg10 s1 4 4 false false s' → Q ⟨arg1, v2, D.xm, v298, v1225, v1229, v1672, v1676, v1701, v1705, v2096, v2097, v2110, v2113, v2116⟩ s') :
    wpp (rig H h1 h2) (k0_part278 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9) Q s0 := by
  rw [k0_part278_eq_skeleton]; unfold k0_part278_skel
  refine wpp_then (tr_part166 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 hL h0 h7 n2 n3 hS0 fun arg1 v0 v2 v6 v34 s1 ho hb hw hl => ?_)
  replace hC := hC s1 ho hw
  have hI : TI D V arg9 arg10 s1 0 0 false false s1 := ⟨fun _ _ => rfl, rfl, fun _ h => absurd h (by omega), hl, fun _ h => absurd h (by omega), fun h => absurd h (by decide), fun h => absurd h (by decide)⟩
  refine TI.safe hC hI (safe_part167 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun v65 s hI => ?_
  refine TI.safe hC hI (safe_part168 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _ _) fun v101 s hI => ?_
  refine TI.safe hC hI (safe_part169 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l14 hL.l15 hC.hW hL.s14 hL.s15 _ _ _) fun a s hI => ?_
  obtain ⟨v112, v134⟩ := a
  refine TI.safe hC hI (safe_part170 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _ _) fun a s hI => ?_
  refine TI.safe hC hI (safe_part171 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l14 hL.l15 hC.hW hL.s14 hL.s15 _ _) fun v190 s hI => ?_
  refine TI.safe hC hI (safe_part172 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun v233 s hI => ?_
  refine TI.safe hC hI (safe_part173 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l14 hL.l15 hC.hW hL.s15 _ _ _) fun v269 s hI => ?_
  refine wpp_then (tr_part174 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v0 v2 v269 hC hL hI fun v298 v303 s hI => ?_)
  refine wpp_then (tr_part175 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v6 hC hL hI fun v341 v345 v346 s hI => ?_)
  refine TI.safe hC hI (safe_part176 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _ _) fun a s hI => ?_
  obtain ⟨v363, v367, v382, v383⟩ := a
  refine wpp_then (tr_part177 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v303 v382 v383 hC hL hI fun v396 v400 s hI => ?_)
  refine wpp_then (tr_part178 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v6 v298 v303 hC hL hI fun v454 v457 s hI => ?_)
  refine wpp_then (tr_part179 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v6 v298 v303 v457 hC hL hI fun v458 v487 v491 s hI => ?_)
  refine wpp_then (tr_part180 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v6 hC hL hI fun v529 v531 s hI => ?_)
  refine TI.safe hC hI (safe_part181 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _) fun a s hI => ?_
  obtain ⟨v551, v555, v562, v566, v567, v568⟩ := a
  refine TI.safe hC hI (safe_part182 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _ _ _ _ _) fun a s hI => ?_
  obtain ⟨v584, v588, v603, v606, v607, v608⟩ := a
  refine TI.safe hC hI (safe_part183 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _ _ _) fun a s hI => ?_
  obtain ⟨v637, v640, v643, v644⟩ := a
  refine wpp_then (tr_part184 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v637 v640 v643 v644 hC hL hI fun v682 s hI => ?_)
  refine TI.safe hC hI (safe_part185 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _) fun a s hI => ?_
  obtain ⟨v710, v714, v715, v718⟩ := a
  refine TI.safe hC hI (safe_part186 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _) fun a s hI => ?_
  obtain ⟨v743, v747, v756⟩ := a
  refine TI.safe hC hI (safe_part187 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _ _) fun a s hI => ?_
  obtain ⟨v791, v793, v796⟩ := a
  refine wpp_then (tr_part188 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v298 v791 v793 v796 hC hL hI fun  s hI => ?_)
  refine wpp_then (tr_part189 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v298 hC hL hI fun v850 v851 v864 s hI => ?_)
  refine TI.safe hC hI (safe_part190 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _) fun a s hI => ?_
  obtain ⟨v878, v882, v902, v904⟩ := a
  refine TI.safe hC hI (safe_part191 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _ _) fun a s hI => ?_
  obtain ⟨v909, v913, v934⟩ := a
  refine wpp_then (tr_part192 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v6 v298 v584 v588 v934 hC hL hI fun  s hI => ?_)
  refine wpp_then (tr_part193 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v298 hC hL hI fun v1009 v1010 v1023 v1024 s hI => ?_)
  refine TI.safe hC hI (safe_part194 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _) fun a s hI => ?_
  obtain ⟨v1035, v1039, v1052, v1058, cst_565⟩ := a
  refine TI.safe hC hI (safe_part195 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l16 hL.s16 _ _ _ _ _ _ _ _) fun a s hI => ?_
  obtain ⟨v1064, v1068, v1089, v1090⟩ := a
  refine TI.safe hC hI (safe_part196 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _) fun v1136 s hI => ?_
  refine wpp_then (tr_part197 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v1136 hC hL hI fun v1170 v1171 s hI => ?_)
  refine TI.safe hC hI (safe_part198 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _) fun a s hI => ?_
  obtain ⟨v1196, v1200, v1205, v1209, v1210⟩ := a
  refine TI.safe hC hI (safe_part199 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _ _) fun a s hI => ?_
  obtain ⟨v1225, v1229, v1233, v1234, v1244, v1247, v1250⟩ := a
  refine TI.safe hC hI (safe_part200 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s17 _ _ _ _ _) fun a s hI => ?_
  obtain ⟨v1265, v1267, v1269, v1275, v1277, v1278⟩ := a
  refine TI.safe hC hI (safe_part201 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _) fun a s hI => ?_
  obtain ⟨v1306, v1308, v1310⟩ := a
  refine TI.safe hC hI (safe_part202 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _) fun c256_i32_739 s hI => ?_
  refine TI.safe hC hI (safe_part203 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _) fun a s hI => ?_
  obtain ⟨v1347, v1357, v1373⟩ := a
  refine TI.safe hC hI (safe_part204 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _) fun a s hI => ?_
  obtain ⟨v1388, v1392, v1398, v1400, v1402, v1408⟩ := a
  refine TI.safe hC hI (safe_part205 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.l17 hL.s16 _ _ _ _ _ _ _ _ _ _ _) fun a s hI => ?_
  obtain ⟨v1439, v1442, v1445⟩ := a
  refine TI.safe hC hI (safe_part206 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s17 _ _ _ _) fun a s hI => ?_
  obtain ⟨v1457, v1461, v1467, v1469, v1471, v1475, v1476⟩ := a
  refine TI.safe hC hI (safe_part207 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _ _) fun a s hI => ?_
  obtain ⟨v1498, v1500, v1502, v1504⟩ := a
  refine TI.safe hC hI (safe_part208 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _) fun a s hI => ?_
  obtain ⟨v1539, v1540⟩ := a
  refine TI.safe hC hI (safe_part209 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _) fun v1549 s hI => ?_
  refine TI.safe hC hI (safe_part210 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _) fun a s hI => ?_
  obtain ⟨v1580, v1590, v1600, v1606⟩ := a
  refine wpp_then (tr_part211 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v1580 v1590 v1600 v1606 hC hL hI fun  s hI => ?_)
  refine TI.safe hC hI (safe_part212 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _) fun a s hI => ?_
  obtain ⟨v1646, v1672, v1676, v1681⟩ := a
  refine TI.safe hC hI (safe_part213 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l15 hL.l18 hL.s18 _ _ _ _ _ _) fun a s hI => ?_
  obtain ⟨v1701, v1705, v1708, v1709, v1717, v1719⟩ := a
  refine TI.safe hC hI (safe_part214 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l17 hL.s17 _ _ _ _) fun a s hI => ?_
  obtain ⟨v1740, v1742, v1744, v1746⟩ := a
  refine TI.safe hC hI (safe_part215 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _) fun a s hI => ?_
  obtain ⟨v1781, v1783⟩ := a
  refine TI.safe hC hI (safe_part216 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _) fun v1791 s hI => ?_
  refine TI.safe hC hI (safe_part217 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _) fun a s hI => ?_
  obtain ⟨v1822, v1832, v1842, v1848⟩ := a
  refine TI.safe hC hI (safe_part218 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _) fun a s hI => ?_
  obtain ⟨v1863, v1865, v1867, v1873, v1875, v1877, v1879⟩ := a
  refine TI.safe hC hI (safe_part219 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _ _ _ _ _ _) fun a s hI => ?_
  obtain ⟨v1914, v1917, v1920⟩ := a
  refine TI.safe hC hI (safe_part220 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s17 _ _ _ _) fun a s hI => ?_
  obtain ⟨v1932, v1934, v1936, v1942, v1944, v1946⟩ := a
  refine TI.safe hC hI (safe_part221 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _) fun a s hI => ?_
  obtain ⟨v1973, v1975, v1977⟩ := a
  refine TI.safe hC hI (safe_part222 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _) fun v2013 s hI => ?_
  refine TI.safe hC hI (safe_part223 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _) fun a s hI => ?_
  obtain ⟨v2014, v2024, v2040⟩ := a
  refine TI.safe hC hI (safe_part224 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _) fun a s hI => ?_
  obtain ⟨v2055, v2059, v2065, v2067, v2069, v2075, v2077⟩ := a
  refine TI.safe hC hI (safe_part225 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.s16 _ _ _ _ _ _ _ _ _ _ _) fun a s hI => ?_
  obtain ⟨v2096, v2097, v2110, v2113, v2116⟩ := a
  exact h s1 ho hb hw _ _ _ _ _ _ _ _ _ _ _ _ _ _ _ hI

/-- The second half of the body. -/
theorem tr_part279 (v2 : BitVec 32) (v298 : IVec S128x128 1) (v1225 : FVec F S256x1 .f32) (v1229 : FVec F S256x256 .bf16) (v1672 : FVec F S256x1 .f32) (v1676 : FVec F S256x256 .bf16) (v1701 : FVec F S256x1 .f32) (v1705 : FVec F S256x256 .bf16) (v2096 : BitVec 32) (v2097 : BitVec 32) (v2110 : FVec F S128x128 .f32) (v2113 : FVec F S128x128 .f32) (v2116 : FVec F S128x128 .f32) {Q : (FVec F S32x128 .bf16) → St F c → Prop} (hC : Ctx D H U V arg5 arg6 arg7 arg9 arg10 s1) (hL : Held H U arg2 arg3 arg5 arg6 arg7 arg8 arg9 arg10 arg11 arg14 arg15 arg16 arg17 arg18)
    (hI : TI D V arg9 arg10 s1 4 4 false false s) (h : ∀ v s', TI D V arg9 arg10 s1 4 4 true true s' → Q v s') :
    wpp (rig H h1 h2) (k0_part279 (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 v2 D.xm v298 v1225 v1229 v1672 v1676 v1701 v1705 v2096 v2097 v2110 v2113 v2116) Q s := by
  rw [k0_part279_eq_skeleton]; unfold k0_part279_skel
  refine TI.safe hC hI (safe_part226 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s17 _ _ _ _) fun a s hI => ?_
  obtain ⟨v2128, v2130, v2132, v2138, v2140, v2142, v2144⟩ := a
  refine TI.safe hC hI (safe_part227 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _ _) fun a s hI => ?_
  obtain ⟨v2169, v2171, v2173, v2175⟩ := a
  refine TI.safe hC hI (safe_part228 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.s16 _ _ _ _ _) fun v2210 s hI => ?_
  refine TI.safe hC hI (safe_part229 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _) fun a s hI => ?_
  obtain ⟨v2220, v2244⟩ := a
  refine TI.safe hC hI (safe_part230 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _) fun a s hI => ?_
  obtain ⟨v2251, v2261, v2271, v2275, v2276⟩ := a
  refine TI.safe hC hI (safe_part231 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l16 hL.l17 hL.s16 hL.s17 _ _ _ _ _ _ _ _ _ _) fun a s hI => ?_
  obtain ⟨v2305, v2308⟩ := a
  refine TI.safe hC hI (safe_part232 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s17 _ _ _) fun a s hI => ?_
  obtain ⟨v2320, v2324, v2330, v2332, v2334, v2340, v2342⟩ := a
  refine TI.safe hC hI (safe_part233 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _ _) fun a s hI => ?_
  obtain ⟨v2361, v2363, v2365, v2367, v2371, v2373⟩ := a
  refine TI.safe hC hI (safe_part234 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _) fun a s hI => ?_
  obtain ⟨v2402, v2404, v2405⟩ := a
  refine TI.safe hC hI (safe_part235 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _) fun a s hI => ?_
  refine TI.safe hC hI (safe_part236 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _) fun a s hI => ?_
  obtain ⟨v2443, v2453, v2469⟩ := a
  refine wpp_then (tr_part237 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2443 v2453 v2469 hC hL hI fun v2505 s hI => ?_)
  refine wpp_then (tr_part238 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 v2 v298 v1672 v1676 v2505 hC hL hI fun v2510 v2511 v2541 s hI => ?_)
  refine TI.safe hC hI (safe_part239 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _) fun a s hI => ?_
  obtain ⟨v2542, v2552, v2568⟩ := a
  refine TI.safe hC hI (safe_part240 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _) fun a s hI => ?_
  obtain ⟨v2583, v2587, v2593, v2595, v2597, v2603, v2605⟩ := a
  refine TI.safe hC hI (safe_part241 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _ _) fun a s hI => ?_
  obtain ⟨v2624, v2626, v2628, v2630, v2634, v2636⟩ := a
  refine TI.safe hC hI (safe_part242 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _) fun a s hI => ?_
  obtain ⟨v2665, v2667, v2668⟩ := a
  refine TI.safe hC hI (safe_part243 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _) fun a s hI => ?_
  refine TI.safe hC hI (safe_part244 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l15 hL.l17 hL.s17 _ _ _ _ _ _) fun a s hI => ?_
  obtain ⟨v2734, v2736⟩ := a
  refine TI.safe hC hI (safe_part245 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _) fun a s hI => ?_
  obtain ⟨v2744, v2770⟩ := a
  refine TI.safe hC hI (safe_part246 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _) fun a s hI => ?_
  obtain ⟨v2775, v2785, v2795, v2801, v2803⟩ := a
  refine TI.safe hC hI (safe_part247 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _) fun a s hI => ?_
  obtain ⟨v2816, v2818, v2820, v2826, v2828, v2830, v2834⟩ := a
  refine TI.safe hC hI (safe_part248 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l16 hL.l17 hL.s16 _ _ _ _ _ _ _ _) fun a s hI => ?_
  obtain ⟨v2857, v2859, v2861, v2863⟩ := a
  refine TI.safe hC hI (safe_part249 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l16 hC.hW hL.s16 _ _ _ _ _) fun a s hI => ?_
  obtain ⟨v2897, v2899⟩ := a
  refine TI.safe hC hI (safe_part250 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.s14 _ _) fun v2901 s hI => ?_
  refine TI.safe hC hI (safe_part251 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _) fun v2960 s hI => ?_
  refine TI.safe hC hI (safe_part252 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun v2992 s hI => ?_
  refine TI.safe hC hI (safe_part253 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun a s hI => ?_
  refine TI.safe hC hI (safe_part254 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun v3059 s hI => ?_
  refine TI.safe hC hI (safe_part255 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun a s hI => ?_
  obtain ⟨v3088, v3089⟩ := a
  refine TI.safe hC hI (safe_part256 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _ _) fun v3120 s hI => ?_
  refine TI.safe hC hI (safe_part257 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun a s hI => ?_
  refine TI.safe hC hI (safe_part258 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _) fun v3192 s hI => ?_
  refine TI.safe hC hI (safe_part259 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l14 hL.l15 hC.hW hL.s14 hL.s15 _ _ _) fun a s hI => ?_
  obtain ⟨v3211, v3222⟩ := a
  refine TI.safe hC hI (safe_part260 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun a s hI => ?_
  refine TI.safe hC hI (safe_part261 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _) fun a s hI => ?_
  obtain ⟨v3286, c288_i32_2142⟩ := a
  refine TI.safe hC hI (safe_part262 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _ _) fun a s hI => ?_
  obtain ⟨v3318, v3321⟩ := a
  refine TI.safe hC hI (safe_part263 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _ _) fun a s hI => ?_
  refine TI.safe hC hI (safe_part264 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun a s hI => ?_
  refine TI.safe hC hI (safe_part265 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _) fun v3414 s hI => ?_
  refine TI.safe hC hI (safe_part266 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun v3451 s hI => ?_
  refine TI.safe hC hI (safe_part267 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun a s hI => ?_
  refine TI.safe hC hI (safe_part268 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hC.hW hL.s15 _ _) fun v3517 s hI => ?_
  refine TI.safe hC hI (safe_part269 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l5 hL.l14 hL.s14 _) fun v3521 s hI => ?_
  refine TI.safe hC hI (safe_part270 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _) fun v3578 s hI => ?_
  refine TI.safe hC hI (safe_part271 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun a s hI => ?_
  obtain ⟨v3612, v3613⟩ := a
  refine TI.safe hC hI (safe_part272 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _ _) fun v3644 s hI => ?_
  refine TI.safe hC hI (safe_part273 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _ _) fun v3679 s hI => ?_
  refine TI.safe hC hI (safe_part274 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s14 hL.s15 _ _) fun v3708 s hI => ?_
  refine TI.safe hC hI (safe_part275 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun v3740 s hI => ?_
  refine TI.safe hC hI (safe_part276 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _ _) fun a s hI => ?_
  refine TI.safe hC hI (safe_part277 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l14 hL.l15 hL.s15 _) fun v3810 s hI => ?_
  refine skip_load hL.l15 fun _ => ?_
  exact h _ _ hI

/-- The body: it ends with no copy in flight, and leaves the weights, the gate, the convolution branch and the last rows of the gated inputs. -/
theorem tr_body {Q : PUnit → St F c → Prop} {s0 : St F c} (hL : Held H U arg2 arg3 arg5 arg6 arg7 arg8 arg9 arg10 arg11 arg14 arg15 arg16 arg17 arg18) (n2 : arg2.view.ref ≠ cc0_scratch0 ∧ arg2.view.ref ≠ cc0_scratch7 ∧ arg2.view.ref ≠ cc0_scratch8)
    (n3 : arg3.view.ref ≠ cc0_scratch0 ∧ arg3.view.ref ≠ cc0_scratch7 ∧ arg3.view.ref ≠ cc0_scratch8)
    (hS0 : Start i D arg2 arg3 s0) (h0 : cc0_scratch0 ∈ H) (h7 : cc0_scratch7 ∈ H)
    (hC : ∀ s1 : St F c, (∀ b, b ≠ cc0_scratch0 → b ≠ cc0_scratch7 → b ≠ cc0_scratch8 → s1.mem b = s0.mem b) → wS s1 = D.W → Ctx D H U V arg5 arg6 arg7 arg9 arg10 s1)
    (h : ∀ s1 s', (∀ b, b ≠ cc0_scratch0 → b ≠ cc0_scratch7 → b ≠ cc0_scratch8 → s1.mem b = s0.mem b) → (∀ j, s1.busy j = false) → wS s1 = D.W →
      TI D V arg9 arg10 s1 4 4 true true s' → Q ⟨⟩ s') :
    wpp (rig H h1 h2) (cc0_proj_attn (F := F) i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9) Q s0 := by
  rw [cc0_proj_attn_eq_skeleton]; unfold cc0_proj_attn_skel
  refine wpp_then (tr_part278 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 hL n2 n3 hS0 h0 h7 hC fun s1 ho hb hw arg1 v2 v298 v1225 v1229 v1672 v1676 v1701 v1705 v2096 v2097 v2110 v2113 v2116 s hI => ?_)
  replace hC := hC s1 ho hw
  refine wpp_then (tr_part279 i arg2 harg2 arg3 harg3 harg4 arg5 harg5 arg6 harg6 arg7 harg7 arg8 harg8 arg9 harg9 arg10 harg10 arg11 harg11 harg12 harg13 arg14 harg14 arg15 harg15 arg16 harg16 arg17 harg17 arg18 harg18 harg19 harg20 _ _ _ _ _ _ _ _ _ _ _ _ _ hC hL hI fun _ s hI => ?_)
  refine hI.skip_store hC hL.s15 fun s hI => ?_
  refine skip_load hL.l14 fun _ => ?_
  refine skip_load hL.l15 fun _ => ?_
  refine hI.skip_store hC hL.s15 fun s hI => ?_
  refine wpp_jp (TI D V arg9 arg10 s1 4 4 true true) (fun s hI => h s1 s ho hb hw hI) (fun h4 hK => ?_) (fun _ => hI)
  refine TI.safe hC hI (safe_for fun k a => ?_) fun _ s hI => hK s hI
  unfold k0_t1_body
  refine safe_bind (safe_part165 i arg2 harg2 arg3 harg3 (Memref.whole main_v0) harg4 arg5 harg5 arg6 harg6 arg7 harg7 arg8 harg8 arg9 harg9 arg10 harg10 arg11 harg11 (Memref.whole cc0_scratch0) harg12 (Memref.whole cc0_scratch1) harg13 arg14 harg14 arg15 harg15 arg16 harg16 arg17 harg17 arg18 harg18 (Memref.whole cc0_scratch7) harg19 (Memref.whole cc0_scratch8) harg20 cc0_scratch9 hL.l8 hL.l11 hL.l15 hL.l16 hL.l18 hL.s11 hL.s18 _ _ _ _ _) fun x => ?_
  obtain ⟨v5369, v5429, v5454, v5479, v5480, v5481, v5482, v5489, v5491⟩ := x
  repeat' first
    | exact safe_pure _
    | refine safe_load (by first | exact hL.l16 | exact hL.l11) fun _ => ?_
    | refine safe_store hL.s11 ?_

end Cert.KernelIdeal.Attn
-- ==== Proof.Attn.Gather.lean ====
/-
  The buffers of the body at some contents each, as the body's contents, and back; the share and the parts of the copies.
-/
module

public import proofs.«01_k».proof.Proof.Attn.Fill
public import Idealize.ShloMosaic.Lib.Pipeline.BigSepL

@[expose] public section

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {c : Dev nD}

local notation "𝕄" => MT nD τ sig Unit (Elt F) ℕ (Pipeline.UD sig nD τ) ℕ

/-- A buffer and what is known of its contents. -/
abbrev Item (F : FTy → Type) [FloatOps F] (c : Dev nD) := Σ b : Ref sig .tc, (Buf (Elt F) ((c : Thread nD τ).loc b) → Prop)

/-- Buffers known one by one are buffers at contents of all buffers. -/
theorem gather (base : (b : Ref sig .tc) → Buf (Elt F) ((c : Thread nD τ).loc b)) : ∀ (l : List (Item F c)), (l.map (·.1)).Nodup →
    (bigSepL l (fun x => iprop(∃ f, ⌜x.2 f⌝ ∗ (((c : Thread nD τ).loc x.1) ↦{fullShare} f))) : sProp 𝕄)
      ⊢ iprop(∃ mem : (b : Ref sig .tc) → Buf (Elt F) ((c : Thread nD τ).loc b),
          ⌜(∀ x ∈ l, x.2 (mem x.1)) ∧ ∀ b, b ∉ l.map (·.1) → mem b = base b⌝ ∗ bigSepL l (fun x => ((c : Thread nD τ).loc x.1) ↦{fullShare} mem x.1)) := by
  intro l
  induction l with
  | nil =>
    intro _
    iintro H
    iexists base
    isplitr
    · ipureintro; exact ⟨fun _ h => absurd h (List.not_mem_nil), fun _ _ => rfl⟩
    iexact H
  | cons x l ih =>
    intro h
    obtain ⟨hx, hl⟩ := List.nodup_cons.mp h
    rw [bigSepL_cons]
    refine (sep_mono .rfl (ih hl)).trans ?_
    iintro ⟨⟨%f, %hf, Hx⟩, ⟨%mem, %hm, Hl⟩⟩
    iexists Function.update mem x.1 f
    have hne : ∀ y ∈ l, y.1 ≠ x.1 := fun y hy e => hx (List.mem_map.mpr ⟨y, hy, e⟩)
    isplitr
    · ipureintro
      refine ⟨fun y hy => ?_, fun b hb => ?_⟩
      · rcases List.mem_cons.mp hy with rfl | hy
        · rw [Function.update_self]; exact hf
        · rw [Function.update_of_ne (hne y hy)]; exact hm.1 y hy
      · have hb' : b ≠ x.1 ∧ b ∉ l.map (·.1) := by
          rw [List.map_cons, List.mem_cons, not_or] at hb; exact hb
        rw [Function.update_of_ne hb'.1]; exact hm.2 b hb'.2
    rw [bigSepL_cons']
    isplitl [Hx]
    · rw [Function.update_self]; iexact Hx
    have e : (bigSepL l (fun y => ((c : Thread nD τ).loc y.1) ↦{fullShare} mem y.1) : sProp 𝕄)
        ⊢ bigSepL l (fun y => ((c : Thread nD τ).loc y.1) ↦{fullShare} Function.update mem x.1 f y.1) :=
      bigSepL_mono fun y hy => by rw [Function.update_of_ne (hne y hy)]
    iapply e
    iexact Hl

theorem bigSepL_map {I J : Type} {M : Type} [URA M] (g : I → J) (Φ : J → sProp M) : ∀ l : List I, bigSepL (l.map g) Φ = bigSepL l (fun x => Φ (g x)) := by
  intro l
  induction l with
  | nil => rfl
  | cons x l ih => rw [List.map_cons, bigSepL_cons, bigSepL_cons, ih]

/-- The staged buffer whole is its four parts. -/
theorem parts_eq (f : Buf (Elt F) ((c : Thread nD τ).loc cc0_scratch8)) :
    ((((c : Thread nD τ).loc cc0_scratch8) ↦{fullShare} f) : sProp 𝕄)
      = bigSep Finset.univ (fun i : Fin 4 => ((c : Thread nD τ).loc cc0_scratch8) ↦[part cc0_scratch8 i]{fullShare} f) := by
  have e : (Finset.univ : Finset (Idx ((c : Thread nD τ).loc cc0_scratch8))) = Finset.univ.biUnion (part (c := c) cc0_scratch8) := by
    refine (Finset.eq_univ_iff_forall.mpr fun x => ?_).symm
    refine Finset.mem_biUnion.mpr ⟨⟨lead x, ?_⟩, Finset.mem_univ _, Finset.mem_filter.mpr ⟨Finset.mem_univ _, rfl⟩⟩
    exact (x (0 : Fin 3)).isLt
  show (((c : Thread nD τ).loc cc0_scratch8) ↦[Finset.univ]{fullShare} f : sProp 𝕄) = _
  rw [e]
  refine pointsTo_biUnion Finset.univ _ fun i _ j _ hij => Finset.disjoint_left.mpr fun x hi hj => hij (Fin.ext ?_)
  exact (Finset.mem_filter.mp hi).2.symm.trans (Finset.mem_filter.mp hj).2

/-- What the body holds, buffer by buffer, with no copy in flight. -/
theorem own_free (l : List (Ref sig .tc)) (hl : l.Nodup) (h1 : cc0_scratch8 ∉ l.toFinset) (h2 : main_v0 ∉ l.toFinset) (q : Fin 4 → PosShare TreeShare)
    (s : St F c) (hb : ∀ j, s.busy j = false) :
    (own (rig l.toFinset h1 h2) q s : sProp 𝕄)
      = iprop(bigSepL l (fun b => ((c : Thread nD τ).loc b) ↦{fullShare} s.mem b)
          ∗ (bigSep Finset.univ (fun i : Fin 4 => semVal ((c : Thread nD τ), .dma (semOf i)) 0)
            ∗ bigSep Finset.univ (fun i : Fin 4 => ((c : Thread nD τ).loc main_v0) ↦{q i} s.mem main_v0)
            ∗ (((c : Thread nD τ).loc cc0_scratch8) ↦{fullShare} s.mem cc0_scratch8))
          ∗ ∃ W, owes (c : Thread nD τ) 0 W) := by
  have e : (bigSep Finset.univ (slotRes (rig l.toFinset h1 h2) q s) : sProp 𝕄)
      = iprop(bigSep Finset.univ (fun i : Fin 4 => semVal ((c : Thread nD τ), .dma (semOf i)) 0)
            ∗ bigSep Finset.univ (fun i : Fin 4 => ((c : Thread nD τ).loc main_v0) ↦{q i} s.mem main_v0)
            ∗ bigSep Finset.univ (fun i : Fin 4 => ((c : Thread nD τ).loc cc0_scratch8) ↦[part cc0_scratch8 i]{fullShare} s.mem cc0_scratch8)) :=
    (bigSep_congr fun i _ => slotRes_free (rig l.toFinset h1 h2) q s i (hb i) rfl rfl).trans
      ((bigSep_sep Finset.univ _ _).trans (congrArg (BI.sep _) (bigSep_sep Finset.univ _ _)))
  rw [own_eq, show bigSep (rig l.toFinset h1 h2).H (fun b => (((c : Thread nD τ).loc b) ↦{fullShare} s.mem b : sProp 𝕄)) = _ from bigSep_eq_bigSepL_of_eq l rfl hl _,
    parts_eq, e]

end Cert.KernelIdeal.Attn
-- ==== Proof.Attn.Point.lean ====
/-
  One grid point: what the body finds, what it reads, what it leaves.
-/
module

public import proofs.«01_k».proof.Proof.Attn.Body
public import proofs.«01_k».proof.Proof.Attn.Gather

@[expose] public section

set_option maxRecDepth 16384
set_option maxHeartbeats 8000000

noncomputable section

namespace Cert.KernelIdeal.Attn

open Cert.KernelIdeal Cert.KernelIdeal.Gen
open Idealize.ShloMosaic Idealize.ShloMosaic.TcCoe
open Idealize.ShloMosaic.ValueIdx
open Idealize.SL.Sem

variable {F : FTy → Type} [FloatOps F]

/-! ## The buffers -/

/-- The buffers the body holds whole, the current staging buffers being `r0`, …, `r8`. -/
abbrev refs (r0 r1 r2 r3 r4 r5 r6 r7 r8 : Ref sig .tc) : List (Ref sig .tc) :=
  [cc0_scratch0, cc0_scratch1, cc0_scratch2, cc0_scratch3, cc0_scratch4, cc0_scratch5, cc0_scratch6, cc0_scratch7, r0, r1, r2, r3, r4, r5, r6, r7, r8]
/-- Those written and not followed. -/
abbrev refsU (r8 : Ref sig .tc) : Finset (Ref sig .tc) := {r8, cc0_scratch2, cc0_scratch3, cc0_scratch4, cc0_scratch5, cc0_scratch6}
/-- Those written. -/
abbrev refsV (r6 r7 r8 : Ref sig .tc) : Finset (Ref sig .tc) :=
  {r8, cc0_scratch2, cc0_scratch3, cc0_scratch4, cc0_scratch5, cc0_scratch6, cc0_scratch0, cc0_scratch1, r6, r7}

/-- The list at given slots. -/
abbrev refsAt (a0 : Fin 2) (a1 a2 a3 a4 a5 : Fin 1) (a6 a7 a8 : Fin 2) : List (Ref sig .tc) :=
  refs (stage0_0 a0).view.ref (stage0_1 a1).view.ref (stage0_2 a2).view.ref (stage0_3 a3).view.ref (stage0_4 a4).view.ref (stage0_5 a5).view.ref
    (stage0_6 a6).view.ref (stage0_7 a7).view.ref (stage0_8 a8).view.ref

theorem refs_nodup : ∀ (a0 : Fin 2) (a1 a2 a3 a4 a5 : Fin 1) (a6 a7 a8 : Fin 2), (refsAt a0 a1 a2 a3 a4 a5 a6 a7 a8).Nodup := by decide +kernel
theorem refs_stage : ∀ (a0 : Fin 2) (a1 a2 a3 a4 a5 : Fin 1) (a6 a7 a8 : Fin 2), cc0_scratch8 ∉ (refsAt a0 a1 a2 a3 a4 a5 a6 a7 a8).toFinset := by decide +kernel
theorem refs_hbm : ∀ (a0 : Fin 2) (a1 a2 a3 a4 a5 : Fin 1) (a6 a7 a8 : Fin 2), main_v0 ∉ (refsAt a0 a1 a2 a3 a4 a5 a6 a7 a8).toFinset := by decide +kernel

/-- The read staging buffers are not written, nor are they the body's own. -/
theorem refs_in : ∀ (a0 : Fin 2) (a1 a2 a3 a4 a5 : Fin 1) (a6 a7 a8 : Fin 2),
    ∀ b ∈ [(stage0_0 a0).view.ref, (stage0_1 a1).view.ref, (stage0_2 a2).view.ref, (stage0_3 a3).view.ref, (stage0_4 a4).view.ref, (stage0_5 a5).view.ref, main_v0],
      b ∉ refsV (stage0_6 a6).view.ref (stage0_7 a7).view.ref (stage0_8 a8).view.ref ∧ b ≠ cc0_scratch0 ∧ b ≠ cc0_scratch7 ∧ b ≠ cc0_scratch8 := by decide +kernel
/-- The results' staging buffers are the body's own or one another only where they have to be. -/
theorem refs_out : ∀ (a6 a7 a8 : Fin 2),
    (stage0_6 a6).view.ref ∉ refsU (stage0_8 a8).view.ref ∧ (stage0_7 a7).view.ref ∉ refsU (stage0_8 a8).view.ref
      ∧ cc0_scratch0 ∉ refsU (stage0_8 a8).view.ref ∧ cc0_scratch1 ∉ refsU (stage0_8 a8).view.ref
      ∧ (stage0_6 a6).view.ref ≠ cc0_scratch0 ∧ (stage0_6 a6).view.ref ≠ cc0_scratch1 ∧ (stage0_7 a7).view.ref ≠ cc0_scratch0 ∧ (stage0_7 a7).view.ref ≠ cc0_scratch1
      ∧ (stage0_6 a6).view.ref ≠ (stage0_7 a7).view.ref
      ∧ cc0_scratch7 ∉ refsV (stage0_6 a6).view.ref (stage0_7 a7).view.ref (stage0_8 a8).view.ref := by decide +kernel

/-! ## The conditions -/

theorem conds : ∀ t : Fin grid0.N, (c1 (grid0.coords t) = 1#1 ↔ t.val = 0) ∧ (c2 (grid0.coords t) = 1#1 ↔ t.val % 4 = 0) ∧ (c3 (grid0.coords t) = 1#1 ↔ t.val % 4 ≠ 0) := by
  decide +kernel

/-! ## What the body reads -/

variable (m : (ℓ : Loc nD τ sig) → Buf (Elt F) ℓ) (c : Dev nD)

/-- The weights, as they are copied from. -/
def hV : S1024x8704.Idx → Elt F .f32 := V m c main_v0
/-- The weights' buffer once filled. -/
def wV : S1024x6656.Idx → Elt F .bf16 := fun y => cv (hV m c (ix2 (y 0) ⟨perm (y 1).val, perm_lt (y 1).isLt⟩))
/-- The windows' blocks, by their shapes. -/
def xB (t : Fin cfg0.N) : S1x512x1024.Idx → Elt F .f32 := iblk m c 0 t
def aB (t : Fin cfg0.N) : S16x3072.Idx → Elt F .f32 := iblk m c 1 t
def biB (t : Fin cfg0.N) : S1x8704.Idx → Elt F .f32 := iblk m c 2 t
def cwB (t : Fin cfg0.N) : S3x1024.Idx → Elt F .f32 := iblk m c 3 t
def wpB (t : Fin cfg0.N) : S1024x1024.Idx → Elt F .bf16 := iblk m c 4 t

/-- What point `t` reads, over given rows before its block. -/
def datOn (t : Fin cfg0.N) (hal : S8x1024.Idx → Elt F .f32) : Data F where
  xm := k0_pay774 (row (grid0.coords t) (aB m c t)) (xB m c t)
  W := wV m c
  B := biB m c t
  cw := cwB m c t
  wp := wpB m c t
  hal := hal

/-- The last eight rows of the gated inputs of point `t`. -/
def carry (t : Fin cfg0.N) : S8x1024.Idx → Elt F .f32 := fun y =>
  uC (datOn m c t k0_pay772) ((y 1).val / 256) (ix2 ⟨504 + (y 0).val, by have : (y 0).val < 8 := (y 0).isLt; omega⟩ ⟨(y 1).val % 256, Nat.mod_lt _ (by decide)⟩)

/-- The eight rows before the block of point `t`. -/
def halo (t : Fin cfg0.N) : S8x1024.Idx → Elt F .f32 :=
  if t.val % 4 = 0 then k0_pay772 else k0_pay773 (carry m c ⟨t.val - 1, lt_of_le_of_lt (Nat.sub_le _ _) t.isLt⟩)

/-- What point `t` reads. -/
def datAt (t : Fin cfg0.N) : Data F := datOn m c t (halo m c t)

/-- What holds before point `n`. -/
def Inv (n : ℕ) (s : St F c) : Prop :=
  s.mem main_v0 = V m c main_v0 ∧ ∀ t : Fin cfg0.N, t.val + 1 = n → wS s = wV m c
    ∧ ∀ (r : Fin 8) (x : Fin 1024), uS s (ix2 ⟨512 + r.val, by omega⟩ x) = carry m c t (ix2 r x)

variable {m c}

/-- The body at a point. -/
theorem step (t : Fin cfg0.N) (a0 : Fin 2) (a1 a2 a3 a4 a5 : Fin 1) (a6 a7 a8 : Fin 2) {s0 : St F c} (hb : ∀ j, s0.busy j = false) (hI : Inv m c t.val s0)
    (e0 : rd (stage0_0 a0) s0 = xB m c t) (e1 : rd (stage0_1 a1) s0 = aB m c t) (e2 : rd (stage0_2 a2) s0 = biB m c t) (e3 : rd (stage0_3 a3) s0 = cwB m c t)
    (e4 : rd (stage0_4 a4) s0 = wpB m c t) {g0 g1 g2 g3 g4 g5 g6 g7 g8 g9 g10 g11 g12 g13 g14 g15 g16 g17 g18} :
    wpp (rig (refsAt a0 a1 a2 a3 a4 a5 a6 a7 a8).toFinset (refs_stage a0 a1 a2 a3 a4 a5 a6 a7 a8) (refs_hbm a0 a1 a2 a3 a4 a5 a6 a7 a8))
      (cc0_proj_attn (F := F) (grid0.coords t) (stage0_0 a0) g0 (stage0_1 a1) g1 (Memref.whole main_v0) g2 (stage0_2 a2) g3 (stage0_3 a3) g4 (stage0_4 a4) g5 (stage0_5 a5) g6
        (stage0_6 a6) g7 (stage0_7 a7) g8 (stage0_8 a8) g9 (Memref.whole cc0_scratch0) g10 (Memref.whole cc0_scratch1) g11 (Memref.whole cc0_scratch2) g12
        (Memref.whole cc0_scratch3) g13 (Memref.whole cc0_scratch4) g14 (Memref.whole cc0_scratch5) g15 (Memref.whole cc0_scratch6) g16 (Memref.whole cc0_scratch7) g17
        (Memref.whole cc0_scratch8) g18 cc0_scratch9)
      (fun _ s' => (∀ j, s'.busy j = false) ∧ Inv m c (t.val + 1) s'
        ∧ (∀ b ∈ [(stage0_0 a0).view.ref, (stage0_1 a1).view.ref, (stage0_2 a2).view.ref, (stage0_3 a3).view.ref, (stage0_4 a4).view.ref, (stage0_5 a5).view.ref, main_v0], s'.mem b = s0.mem b)
        ∧ rd (stage0_6 a6) s' = zaV (datAt m c t) ∧ rd (stage0_7 a7) s' = ycV (datAt m c t)) s0 := by
  have hin := refs_in a0 a1 a2 a3 a4 a5 a6 a7 a8
  obtain ⟨o1, o2, o3, o4, o5, o6, o7, o8, o9, o10⟩ := refs_out a6 a7 a8
  obtain ⟨k1, k2, k3⟩ := conds t
  have i0 := hin (stage0_0 a0).view.ref (by simp)
  have i1 := hin (stage0_1 a1).view.ref (by simp)
  have i2 := hin (stage0_2 a2).view.ref (by simp)
  have i3 := hin (stage0_3 a3).view.ref (by simp)
  have i4 := hin (stage0_4 a4).view.ref (by simp)
  have ht : t.val < 64 := lt_of_lt_of_eq t.isLt N_0
  refine tr_body (D := datAt m c t) (U := refsU (stage0_8 a8).view.ref) (V := refsV (stage0_6 a6).view.ref (stage0_7 a7).view.ref (stage0_8 a8).view.ref)
    (grid0.coords t) _ _ _ _ _ _ _ _ _ _ _ _ _ _ _ _ _ _ _ _ _ _ _ _ _ _ _ _ _ _ _ _ _
    ⟨by simp, by simp, by simp, by simp, by simp, by simp, by simp, by simp, by simp, by simp, by simp, by simp, by simp, by simp,
      by simp, by simp, by simp, by simp, by simp, by simp⟩
    i0.2 i1.2 ?_ (by simp) (by simp) ?_ ?_
  · refine ⟨hb, fun _ r x => ?_, fun h => ?_, fun h => ?_, fun h => ?_, ?_, ?_⟩
    · show cv (hV m c _) = cv (hS s0 _)
      have e : hS s0 = hV m c := hI.1
      rw [e]
    · have h0 : t.val ≠ 0 := fun e => h (k1.mpr e)
      exact (hI.2 ⟨t.val - 1, lt_of_le_of_lt (Nat.sub_le _ _) t.isLt⟩ (by show t.val - 1 + 1 = t.val; omega)).1
    · show halo m c t = _
      unfold halo; rw [if_pos (k2.mp h)]
    · show halo m c t = _
      have h3 := k3.mp h
      unfold halo; rw [if_neg h3]
      refine congrArg k0_pay773 (funext fun y => ?_)
      have hy : (y 0).val < 8 := (y 0).isLt
      have e := (hI.2 ⟨t.val - 1, lt_of_le_of_lt (Nat.sub_le _ _) t.isLt⟩ (by show t.val - 1 + 1 = t.val; omega)).2 ⟨(y 0).val, hy⟩ (y 1)
      rw [ix2_eq y]
      exact e.symm
    · by_cases h4 : t.val % 4 = 0
      · exact .inl ⟨k2.mpr h4, fun h => k3.mp h h4⟩
      · exact .inr ⟨fun h => h4 (k2.mp h), k3.mpr h4⟩
    · show k0_pay774 _ _ = _
      rw [e0, e1]
  · intro s1 ho hw
    refine ⟨?_, ?_, o3, o4, o1, o2, by simp, by simp, by simp, by simp, o5, o6, o7, o8, o9, by simp, by simp, by simp, by simp, by simp, by simp, by simp, by simp,
      i2.1, i3.1, i4.1, o10, ?_, ?_, ?_, hw⟩
    · intro b hb'
      simp only [Finset.mem_insert, Finset.mem_singleton] at hb'
      rcases hb' with rfl | rfl | rfl | rfl | rfl | rfl <;> simp
    · intro b hb'
      simp only [Finset.mem_insert, Finset.mem_singleton] at hb' ⊢
      tauto
    · exact (rd_congr _ (ho _ i2.2.1 i2.2.2.1 i2.2.2.2)).trans e2
    · exact (rd_congr _ (ho _ i3.2.1 i3.2.2.1 i3.2.2.2)).trans e3
    · exact (rd_congr _ (ho _ i4.2.1 i4.2.2.1 i4.2.2.2)).trans e4
  · intro s1 s' ho hbu hw hT
    have hk : ∀ b ∈ [(stage0_0 a0).view.ref, (stage0_1 a1).view.ref, (stage0_2 a2).view.ref, (stage0_3 a3).view.ref, (stage0_4 a4).view.ref, (stage0_5 a5).view.ref, main_v0],
        s'.mem b = s0.mem b := fun b hb' => (hT.other b (hin b hb').1).trans (ho b (hin b hb').2.1 (hin b hb').2.2.1 (hin b hb').2.2.2)
    refine ⟨fun j => (congrFun hT.busy j).trans (hbu j), ⟨(hk main_v0 (by simp)).trans hI.1, fun t' ht' => ?_⟩, hk, hT.za rfl, hT.yc rfl⟩
    have et : t' = t := Fin.ext (by omega)
    subst et
    refine ⟨(show wS s' = wS s1 from hT.other _ o10).trans hw, fun r x => ?_⟩
    have hx : x.val < 1024 := x.isLt
    have hr : r.val < 8 := r.isLt
    have e := hT.u (x.val / 256) (by omega) ⟨504 + r.val, by omega⟩ ⟨x.val % 256, Nat.mod_lt _ (by decide)⟩ (by show 256 * (x.val / 256) + x.val % 256 < 1024; omega)
    have ex : (ix2 (⟨512 + r.val, by omega⟩ : Fin 520) x : S520x1024.Idx)
        = ix2 ⟨8 + (504 + r.val), by omega⟩ ⟨256 * (x.val / 256) + x.val % 256, by omega⟩ :=
      funext fun a => Fin.ext (by
        match a with
        | ⟨0, _⟩ => show 512 + r.val = 8 + (504 + r.val); omega
        | ⟨1, _⟩ => show x.val = 256 * (x.val / 256) + x.val % 256; omega)
    rw [ex]
    exact e

end Cert.KernelIdeal.Attn
-- ==== Proof.Attn.Frame.lean ====
/-
  The call run: its frame, and the two results followed. The third result is not followed.
-/
module

public import proofs.«01_k».proof.Proof.Attn.Point

@[expose] public section

set_option maxRecDepth 16384
set_option maxHeartbeats 4000000

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body's four cells. -/
abbrev osem0 : Fin 4 → SemLoc sig := fun i => .dma (semOf i)
theorem ownSemFacts0 : Pipeline.OwnSemFacts spec0 osem0 := by decide +kernel

/-- The array the body copies from. -/
def H0 : Finset (Ref sig .tc) := {main_v0}
theorem H0_sub : H0 ⊆ Pipeline.restRefs sig spec0 := by decide +kernel

/-- The body's own buffers but the staged one. -/
abbrev scr : List (Ref sig .tc) := [cc0_scratch0, cc0_scratch1, cc0_scratch2, cc0_scratch3, cc0_scratch4, cc0_scratch5, cc0_scratch6, cc0_scratch7]

theorem chain8 {I M : Type} [URA M] (x0 x1 x2 x3 x4 x5 x6 x7 : I) (Φ : I → sProp M) :
    bigSepL [x0, x1, x2, x3, x4, x5, x6, x7] Φ = iprop(Φ x0 ∗ Φ x1 ∗ Φ x2 ∗ Φ x3 ∗ Φ x4 ∗ Φ x5 ∗ Φ x6 ∗ Φ x7) := rfl
theorem chain17 {I M : Type} [URA M] (x0 x1 x2 x3 x4 x5 x6 x7 x8 x9 x10 x11 x12 x13 x14 x15 x16 : I) (Φ : I → sProp M) :
    bigSepL [x0, x1, x2, x3, x4, x5, x6, x7, x8, x9, x10, x11, x12, x13, x14, x15, x16] Φ = iprop(Φ x0 ∗ Φ x1 ∗ Φ x2 ∗ Φ x3 ∗ Φ x4 ∗ Φ x5 ∗ Φ x6 ∗ Φ x7 ∗ Φ x8 ∗ Φ x9 ∗ Φ x10 ∗ Φ x11 ∗ Φ x12 ∗ Φ x13 ∗ Φ x14 ∗ Φ x15 ∗ Φ x16) := rfl

/-- What is held before point `n`. -/
def Phi (c : Dev nD) (n : ℕ) : sProp 𝕄 :=
  iprop(∃ s : St F c, ⌜Inv m c n s⌝ ∗ bigSepL scr (fun b => ((c : Thread nD τ).loc b) ↦{fullShare} s.mem b)
    ∗ (((c : Thread nD τ).loc cc0_scratch8) ↦{fullShare} s.mem cc0_scratch8)
    ∗ (∃ r, prngReg c r)
    ∗ bigSep Finset.univ (fun i : Fin 4 => semVal ((c : Thread nD τ), .dma (semOf i)) 0)
    ∗ (((c : Thread nD τ).loc main_v0) ↦{fullShare} V m c main_v0))

/-- The run's data: the staged arrays as found, the two results, the third forgotten. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => zaV (datAt m c t)
    | ⟨7, _⟩ => ycV (datAt m c t)
    | ⟨8, _⟩ => fun _ => Classical.arbitrary _
  Φ n := Phi m c n.val
  q _ := fullShare
  owed _ := 0

/-- The forgotten window. -/
abbrev fgt : Fin cfg0.W → Bool := fun w => match w with
  | ⟨8, _⟩ => true
  | _ => false

theorem A_eq (c : Dev nD) (w : Fin cfg0.W) : (dats m 0 c).A w = V m c (Pipeline.arrRef spec0 w) := by dsimp only [dats]

/-- A whole buffer owned at `X` is the buffer at contents that read `X`. -/
theorem owns_take {c : Dev nD} {sp : Space} {S : Shape} {e : EltTy} (M : Memref sig .tc sp S e) (h : M.IsWhole) (X : S.Idx → Elt F e) :
    (owns (c : Thread nD τ) M fullShare X : sProp 𝕄)
      ⊢ iprop(∃ f : Buf (Elt F) ((c : Thread nD τ).loc M.view.ref), ⌜M.view.read (Elt F) f = X⌝ ∗ (((c : Thread nD τ).loc M.view.ref) ↦{fullShare} f)) := by
  unfold owns
  rw [h.set_eq_univ]
theorem owns_any {c : Dev nD} {sp : Space} {S : Shape} {e : EltTy} (M : Memref sig .tc sp S e) (h : M.IsWhole) (X : S.Idx → Elt F e) :
    (owns (c : Thread nD τ) M fullShare X : sProp 𝕄)
      ⊢ iprop(∃ f : Buf (Elt F) ((c : Thread nD τ).loc M.view.ref), ⌜True⌝ ∗ (((c : Thread nD τ).loc M.view.ref) ↦{fullShare} f)) := by
  refine (owns_take M h X).trans ?_
  iintro ⟨%f, -, H⟩
  iexists f
  isplitr
  · ipureintro; trivial
  iexact H
theorem owns_give {c : Dev nD} {sp : Space} {S : Shape} {e : EltTy} (M : Memref sig .tc sp S e) (h : M.IsWhole) (X : S.Idx → Elt F e)
    {f : Buf (Elt F) ((c : Thread nD τ).loc M.view.ref)} (hf : M.view.read (Elt F) f = X) :
    (((c : Thread nD τ).loc M.view.ref) ↦{fullShare} f : sProp 𝕄) ⊢ owns (c : Thread nD τ) M fullShare X := by
  unfold owns
  rw [h.set_eq_univ]
  iintro H
  iexists f
  isplitr
  · ipureintro; exact hf
  iexact H

theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; rfl)
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; rfl)
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; rfl)
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; rfl)

/-- The buffers the body holds whole, and what is known of them before point `t`. -/
abbrev items (c : Dev nD) (t : Fin cfg0.N) (s : St F c) : List (Item F c) :=
  [⟨cc0_scratch0, fun f => f = s.mem cc0_scratch0⟩,
   ⟨cc0_scratch1, fun f => f = s.mem cc0_scratch1⟩,
   ⟨cc0_scratch2, fun f => f = s.mem cc0_scratch2⟩,
   ⟨cc0_scratch3, fun f => f = s.mem cc0_scratch3⟩,
   ⟨cc0_scratch4, fun f => f = s.mem cc0_scratch4⟩,
   ⟨cc0_scratch5, fun f => f = s.mem cc0_scratch5⟩,
   ⟨cc0_scratch6, fun f => f = s.mem cc0_scratch6⟩,
   ⟨cc0_scratch7, fun f => f = s.mem cc0_scratch7⟩,
   ⟨(st0_0 t).view.ref, fun f => (st0_0 t).view.read (Elt F) f = iblk m c 0 t⟩,
   ⟨(st0_1 t).view.ref, fun f => (st0_1 t).view.read (Elt F) f = iblk m c 1 t⟩,
   ⟨(st0_2 t).view.ref, fun f => (st0_2 t).view.read (Elt F) f = iblk m c 2 t⟩,
   ⟨(st0_3 t).view.ref, fun f => (st0_3 t).view.read (Elt F) f = iblk m c 3 t⟩,
   ⟨(st0_4 t).view.ref, fun f => (st0_4 t).view.read (Elt F) f = iblk m c 4 t⟩,
   ⟨(st0_5 t).view.ref, fun f => (st0_5 t).view.read (Elt F) f = iblk m c 5 t⟩,
   ⟨(st0_6 t).view.ref, fun _ => True⟩,
   ⟨(st0_7 t).view.ref, fun _ => True⟩,
   ⟨(st0_8 t).view.ref, fun _ => True⟩]

/-- The list of those buffers. -/
abbrev refsT (t : Fin cfg0.N) : List (Ref sig .tc) := refsAt (cfg0.slots t 0) (cfg0.slots t 1) (cfg0.slots t 2) (cfg0.slots t 3) (cfg0.slots t 4) (cfg0.slots t 5) (cfg0.slots t 6) (cfg0.slots t 7) (cfg0.slots t 8)

theorem items_refs (c : Dev nD) (t : Fin cfg0.N) (s : St F c) : (items m c t s).map (·.1) = refsT t := rfl

def bodyPre (c : Dev nD) (t : Fin cfg0.N) : sProp 𝕄 :=
  iprop(Phi m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X))
def bodyPost (c : Dev nD) (t : Fin cfg0.N) : sProp 𝕄 :=
  iprop(Phi m c (t.val + 1) ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (zaV (datAt m c t)) ∗ owns (c : Thread nD τ) (st0_7 t) fullShare (ycV (datAt m c t)) ∗ (∃ X, owns (c : Thread nD τ) (st0_8 t) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost Phi Dat.owesAt Pipeline.owesWithin
  rw [show (dats m 0 c).owed t.castSucc = 0 from rfl, show (dats m 0 c).owed t.succ = 0 from rfl]
  simp only [scr, chain8]
  iintro ⟨⟨%s, %hI, ⟨A0, A1, A2, A3, A4, A5, A6, A7⟩, Hst, Hg, Hc, Hv⟩, ⟨%W, -, HW⟩, B0, B1, B2, B3, B4, B5, B6, B7, B8⟩
  ihave G : (bigSepL (items m c t s) (fun x => iprop(∃ f, ⌜x.2 f⌝ ∗ (((c : Thread nD τ).loc x.1) ↦{fullShare} f))) : sProp 𝕄) $$ [A0 A1 A2 A3 A4 A5 A6 A7 B0 B1 B2 B3 B4 B5 B6 B7 B8]
  · rw [items, chain17]
    isplitl [A0]
    · iexists _; isplitr; swap; (iexact A0); ipureintro; rfl
    isplitl [A1]
    · iexists _; isplitr; swap; (iexact A1); ipureintro; rfl
    isplitl [A2]
    · iexists _; isplitr; swap; (iexact A2); ipureintro; rfl
    isplitl [A3]
    · iexists _; isplitr; swap; (iexact A3); ipureintro; rfl
    isplitl [A4]
    · iexists _; isplitr; swap; (iexact A4); ipureintro; rfl
    isplitl [A5]
    · iexists _; isplitr; swap; (iexact A5); ipureintro; rfl
    isplitl [A6]
    · iexists _; isplitr; swap; (iexact A6); ipureintro; rfl
    isplitl [A7]
    · iexists _; isplitr; swap; (iexact A7); ipureintro; rfl
    isplitl [B0]
    · icases B0 with ⟨%d, Hd⟩
      rw [before_0 m c t d]
      iapply (owns_take (st0_0 t) (stage_whole0 0 _) _)
      iexact Hd
    isplitl [B1]
    · icases B1 with ⟨%d, Hd⟩
      rw [before_1 m c t d]
      iapply (owns_take (st0_1 t) (stage_whole0 1 _) _)
      iexact Hd
    isplitl [B2]
    · icases B2 with ⟨%d, Hd⟩
      rw [before_2 m c t d]
      iapply (owns_take (st0_2 t) (stage_whole0 2 _) _)
      iexact Hd
    isplitl [B3]
    · icases B3 with ⟨%d, Hd⟩
      rw [before_3 m c t d]
      iapply (owns_take (st0_3 t) (stage_whole0 3 _) _)
      iexact Hd
    isplitl [B4]
    · icases B4 with ⟨%d, Hd⟩
      rw [before_4 m c t d]
      iapply (owns_take (st0_4 t) (stage_whole0 4 _) _)
      iexact Hd
    isplitl [B5]
    · icases B5 with ⟨%d, Hd⟩
      rw [before_5 m c t d]
      iapply (owns_take (st0_5 t) (stage_whole0 5 _) _)
      iexact Hd
    isplitl [B6]
    · icases B6 with ⟨%d, Hd⟩
      iapply (owns_any (st0_6 t) (stage_whole0 6 _) _)
      iexact Hd
    isplitl [B7]
    · icases B7 with ⟨%d, Hd⟩
      iapply (owns_any (st0_7 t) (stage_whole0 7 _) _)
      iexact Hd
    icases B8 with ⟨%d, Hd⟩
    iapply (owns_any (st0_8 t) (stage_whole0 8 _) _)
    iexact Hd
  ihave G := (gather s.mem (items m c t s) (by rw [items_refs]; exact refs_nodup _ _ _ _ _ _ _ _ _)) $$ G
  icases G with ⟨%mem, %hm, G⟩
  have hf := hm.1
  simp only [items, List.forall_mem_cons] at hf
  obtain ⟨m0, m1, m2, m3, m4, m5, m6, m7, w0, w1, w2, w3, w4, w5, -⟩ := hf
  have n8 : mem cc0_scratch8 = s.mem cc0_scratch8 := hm.2 _ fun h => refs_stage (cfg0.slots t 0) (cfg0.slots t 1) (cfg0.slots t 2) (cfg0.slots t 3) (cfg0.slots t 4) (cfg0.slots t 5) (cfg0.slots t 6) (cfg0.slots t 7) (cfg0.slots t 8) (List.mem_toFinset.mpr h)
  have nv : mem main_v0 = s.mem main_v0 := hm.2 _ fun h => refs_hbm (cfg0.slots t 0) (cfg0.slots t 1) (cfg0.slots t 2) (cfg0.slots t 3) (cfg0.slots t 4) (cfg0.slots t 5) (cfg0.slots t 6) (cfg0.slots t 7) (cfg0.slots t 8) (List.mem_toFinset.mpr h)
  have hInv : Inv m c t.val (⟨mem, fun _ => false⟩ : St F c) := by
    refine ⟨nv.trans hI.1, fun t' ht' => ?_⟩
    obtain ⟨e1, e2⟩ := hI.2 t' ht'
    exact ⟨(show wS (⟨mem, fun _ => false⟩ : St F c) = wS s from m7).trans e1, fun r x => (congrFun (show uS (⟨mem, fun _ => false⟩ : St F c) = uS s from m0) _).trans (e2 r x)⟩
  have hw := step (m := m) (c := c) t (cfg0.slots t 0) (cfg0.slots t 1) (cfg0.slots t 2) (cfg0.slots t 3) (cfg0.slots t 4) (cfg0.slots t 5) (cfg0.slots t 6) (cfg0.slots t 7) (cfg0.slots t 8) (s0 := ⟨mem, fun _ => false⟩) (fun _ => rfl) hInv w0 w1 w2 w3 w4
    (g0 := hstage0_0 ((cfg0.slots t 0).cast nbuf0_0)) (g1 := hstage0_1 ((cfg0.slots t 1).cast nbuf0_1)) (g2 := Memref.isWhole_whole _)
    (g3 := hstage0_2 ((cfg0.slots t 2).cast nbuf0_2)) (g4 := hstage0_3 ((cfg0.slots t 3).cast nbuf0_3)) (g5 := hstage0_4 ((cfg0.slots t 4).cast nbuf0_4))
    (g6 := hstage0_5 ((cfg0.slots t 5).cast nbuf0_5)) (g7 := hstage0_6 ((cfg0.slots t 6).cast nbuf0_6)) (g8 := hstage0_7 ((cfg0.slots t 7).cast nbuf0_7))
    (g9 := hstage0_8 ((cfg0.slots t 8).cast nbuf0_8)) (g10 := Memref.isWhole_whole _) (g11 := Memref.isWhole_whole _) (g12 := Memref.isWhole_whole _)
    (g13 := Memref.isWhole_whole _) (g14 := Memref.isWhole_whole _) (g15 := Memref.isWhole_whole _) (g16 := Memref.isWhole_whole _)
    (g17 := Memref.isWhole_whole _) (g18 := Memref.isWhole_whole _)
  ihave Hv := (pointsTo_toks_split fullShare 4) $$ Hv
  icases Hv with ⟨Hd, Hv⟩
  iapply (wpp_sound (rig (refsT t).toFinset (refs_stage (cfg0.slots t 0) (cfg0.slots t 1) (cfg0.slots t 2) (cfg0.slots t 3) (cfg0.slots t 4) (cfg0.slots t 5) (cfg0.slots t 6) (cfg0.slots t 7) (cfg0.slots t 8)) (refs_hbm (cfg0.slots t 0) (cfg0.slots t 1) (cfg0.slots t 2) (cfg0.slots t 3) (cfg0.slots t 4) (cfg0.slots t 5) (cfg0.slots t 6) (cfg0.slots t 7) (cfg0.slots t 8))) (shareTok fullShare 4) _ _ _ _ hw)
  rw [own_free (refsT t) (refs_nodup (cfg0.slots t 0) (cfg0.slots t 1) (cfg0.slots t 2) (cfg0.slots t 3) (cfg0.slots t 4) (cfg0.slots t 5) (cfg0.slots t 6) (cfg0.slots t 7) (cfg0.slots t 8)) _ _ _ _ (fun _ => rfl)]
  isplitl [G Hc Hv Hst HW]
  · isplitl [G]
    · ihave G := (Entails.of_eq (bigSepL_map (M := 𝕄) (fun x : Item F c => x.1) (fun b => ((c : Thread nD τ).loc b) ↦{fullShare} mem b) (items m c t s)).symm) $$ G
      iexact G
    isplitl [Hc Hv Hst]
    · isplitl [Hc]; · iexact Hc
      isplitl [Hv]
      · rw [show (⟨mem, fun _ => false⟩ : St F c).mem main_v0 = V m c main_v0 from nv.trans hI.1]
        iexact Hv
      rw [show (⟨mem, fun _ => false⟩ : St F c).mem cc0_scratch8 = s.mem cc0_scratch8 from n8]
      iexact Hst
    iexists W; iexact HW
  iintro %a %s' %hQ Ho
  obtain ⟨hb', hI', hK, kz, ky⟩ := hQ
  ihave Ho := (Entails.of_eq (own_free (refsT t) (refs_nodup (cfg0.slots t 0) (cfg0.slots t 1) (cfg0.slots t 2) (cfg0.slots t 3) (cfg0.slots t 4) (cfg0.slots t 5) (cfg0.slots t 6) (cfg0.slots t 7) (cfg0.slots t 8)) _ _ _ s' hb')) $$ Ho
  icases Ho with ⟨G, ⟨Hc, Hv, Hst⟩, ⟨%W', HW⟩⟩
  have k0 : (st0_0 t).view.read (Elt F) (s'.mem (st0_0 t).view.ref) = iblk m c 0 t := (congrArg _ (hK (st0_0 t).view.ref (by simp))).trans w0
  have k1 : (st0_1 t).view.read (Elt F) (s'.mem (st0_1 t).view.ref) = iblk m c 1 t := (congrArg _ (hK (st0_1 t).view.ref (by simp))).trans w1
  have k2 : (st0_2 t).view.read (Elt F) (s'.mem (st0_2 t).view.ref) = iblk m c 2 t := (congrArg _ (hK (st0_2 t).view.ref (by simp))).trans w2
  have k3 : (st0_3 t).view.read (Elt F) (s'.mem (st0_3 t).view.ref) = iblk m c 3 t := (congrArg _ (hK (st0_3 t).view.ref (by simp))).trans w3
  have k4 : (st0_4 t).view.read (Elt F) (s'.mem (st0_4 t).view.ref) = iblk m c 4 t := (congrArg _ (hK (st0_4 t).view.ref (by simp))).trans w4
  have k5 : (st0_5 t).view.read (Elt F) (s'.mem (st0_5 t).view.ref) = iblk m c 5 t := (congrArg _ (hK (st0_5 t).view.ref (by simp))).trans w5
  have k6 : (st0_6 t).view.read (Elt F) (s'.mem (st0_6 t).view.ref) = zaV (datAt m c t) := kz
  have k7 : (st0_7 t).view.read (Elt F) (s'.mem (st0_7 t).view.ref) = ycV (datAt m c t) := ky
  ihave G := (Entails.of_eq (chain17 _ _ _ _ _ _ _ _ _ _ _ _ _ _ _ _ _ _)) $$ G
  icases G with ⟨C0, C1, C2, C3, C4, C5, C6, C7, C8, C9, C10, C11, C12, C13, C14, C15, C16⟩
  ihave Hv := (pointsTo_toks_join fullShare 4) $$ [Hd Hv]
  · isplitl [Hd]; · iexact Hd
    rw [show s'.mem main_v0 = V m c main_v0 from hI'.1]
    iexact Hv
  isplitl [C0 C1 C2 C3 C4 C5 C6 C7 Hst Hg Hc Hv]
  · iexists s'
    isplitr; · ipureintro; exact hI'
    isplitl [C0 C1 C2 C3 C4 C5 C6 C7]
    · skip
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    isplitl [Hst]; · iexact Hst
    isplitl [Hg]; · iexact Hg
    isplitl [Hc]; · iexact Hc
    iexact Hv
  isplitl [HW]
  · iexists W'; isplitr; · ipureintro; exact fun _ _ => Or.inl trivial
    iexact HW
  isplitl [C8]
  · iapply (owns_give (st0_0 t) (stage_whole0 0 _) _ k0)
    iexact C8
  isplitl [C9]
  · iapply (owns_give (st0_1 t) (stage_whole0 1 _) _ k1)
    iexact C9
  isplitl [C10]
  · iapply (owns_give (st0_2 t) (stage_whole0 2 _) _ k2)
    iexact C10
  isplitl [C11]
  · iapply (owns_give (st0_3 t) (stage_whole0 3 _) _ k3)
    iexact C11
  isplitl [C12]
  · iapply (owns_give (st0_4 t) (stage_whole0 4 _) _ k4)
    iexact C12
  isplitl [C13]
  · iapply (owns_give (st0_5 t) (stage_whole0 5 _) _ k5)
    iexact C13
  isplitl [C14]
  · iapply (owns_give (st0_6 t) (stage_whole0 6 _) _ k6)
    iexact C14
  isplitl [C15]
  · iapply (owns_give (st0_7 t) (stage_whole0 7 _) _ k7)
    iexact C15
  iexists _
  iapply (owns_give (st0_8 t) (stage_whole0 8 _) _ rfl)
  iexact C16

end Cert.KernelIdeal.Attn
-- ==== Proof.Attn.Run.lean ====
/-
  The run of the whole call, and what it leaves: the inputs as found, the two results as `dats` says, every counter at zero.
-/
module

public import proofs.«01_k».proof.Proof.Attn.Frame

@[expose] public section

set_option maxRecDepth 16384
set_option maxHeartbeats 1600000

noncomputable section

namespace Cert.KernelIdeal.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligationLoose)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev scr9 : List (Ref sig .tc) := [cc0_scratch0, cc0_scratch1, cc0_scratch2, cc0_scratch3, cc0_scratch4, cc0_scratch5, cc0_scratch6, cc0_scratch7, cc0_scratch8]

theorem chain9 {I M : Type} [URA M] (x0 x1 x2 x3 x4 x5 x6 x7 x8 : I) (Φ : I → sProp M) :
    bigSepL [x0, x1, x2, x3, x4, x5, x6, x7, x8] Φ = iprop(Φ x0 ∗ Φ x1 ∗ Φ x2 ∗ Φ x3 ∗ Φ x4 ∗ Φ x5 ∗ Φ x6 ∗ Φ x7 ∗ Φ x8) := rfl

/-- The region starts with what the first point asks for. -/
theorem enter (c : Dev nD) : (Pipeline.ΦD osem0 spec0 H0 (V m) c : sProp 𝕄) ⊢ Phi m c 0 := by
  unfold Pipeline.ΦD Phi H0 Pipeline.ownSems0
  rw [scopedRest0_eq, bigSep_singleton]
  iintro ⟨⟨S0, S1, S2, S3, S4, S5, S6, S7, S8⟩, Hg, Hc, Hv⟩
  ihave G : (bigSepL (scr9.map fun b => (⟨b, fun _ => True⟩ : Item F c)) (fun x => iprop(∃ f, ⌜x.2 f⌝ ∗ (((c : Thread nD τ).loc x.1) ↦{fullShare} f))) : sProp 𝕄) $$ [S0 S1 S2 S3 S4 S5 S6 S7 S8]
  · rw [List.map, List.map, List.map, List.map, List.map, List.map, List.map, List.map, List.map, List.map, chain9]
    isplitl [S0]
    · icases S0 with ⟨%f, S0⟩; iexists f; isplitr; swap; (iexact S0); ipureintro; trivial
    isplitl [S1]
    · icases S1 with ⟨%f, S1⟩; iexists f; isplitr; swap; (iexact S1); ipureintro; trivial
    isplitl [S2]
    · icases S2 with ⟨%f, S2⟩; iexists f; isplitr; swap; (iexact S2); ipureintro; trivial
    isplitl [S3]
    · icases S3 with ⟨%f, S3⟩; iexists f; isplitr; swap; (iexact S3); ipureintro; trivial
    isplitl [S4]
    · icases S4 with ⟨%f, S4⟩; iexists f; isplitr; swap; (iexact S4); ipureintro; trivial
    isplitl [S5]
    · icases S5 with ⟨%f, S5⟩; iexists f; isplitr; swap; (iexact S5); ipureintro; trivial
    isplitl [S6]
    · icases S6 with ⟨%f, S6⟩; iexists f; isplitr; swap; (iexact S6); ipureintro; trivial
    isplitl [S7]
    · icases S7 with ⟨%f, S7⟩; iexists f; isplitr; swap; (iexact S7); ipureintro; trivial
    icases S8 with ⟨%f, S8⟩; iexists f; isplitr; swap; (iexact S8); ipureintro; trivial
  ihave G := (gather (V m c) (scr9.map fun b => (⟨b, fun _ => True⟩ : Item F c)) (show scr9.Nodup by decide)) $$ G
  icases G with ⟨%mem, %hm, G⟩
  ihave G := (Entails.of_eq (bigSepL_map (M := 𝕄) (fun b : Ref sig .tc => (⟨b, fun _ => True⟩ : Item F c)) (fun x => ((c : Thread nD τ).loc x.1) ↦{fullShare} mem x.1) scr9)) $$ G
  ihave G := (Entails.of_eq (chain9 _ _ _ _ _ _ _ _ _ _)) $$ G
  icases G with ⟨S0, S1, S2, S3, S4, S5, S6, S7, S8⟩
  iexists (⟨mem, fun _ => false⟩ : St F c)
  isplitr
  · ipureintro
    exact ⟨hm.2 main_v0 (show main_v0 ∉ scr9 by decide), fun t ht => absurd ht (Nat.succ_ne_zero _)⟩
  isplitl [S0 S1 S2 S3 S4 S5 S6 S7]
  · simp only [scr, chain8]
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [S8]; · iexact S8
  isplitl [Hg]; · iexact Hg
  isplitl [Hc]; · iexact Hc
  iexact Hv

/-- The last point leaves what the region gives back. -/
theorem leave (c : Dev nD) (n : ℕ) : Phi m c n ⊢ (Pipeline.ΦD osem0 spec0 H0 (V m) c : sProp 𝕄) := by
  unfold Pipeline.ΦD Phi H0 Pipeline.ownSems0
  rw [scopedRest0_eq, bigSep_singleton]
  simp only [scr, chain8]
  iintro ⟨%s, -, ⟨S0, S1, S2, S3, S4, S5, S6, S7⟩, S8, Hg, Hc, Hv⟩
  isplitl [S0 S1 S2 S3 S4 S5 S6 S7 S8]
  · skip
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  isplitl [Hg]; · iexact Hg
  isplitl [Hc]; · iexact Hc
  iexact Hv

set_option backward.isDefEq.respectTransparency.types false in
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_dma_forget (Q' := fun r => Pipeline.RDat.FramePost (cfgs 0) (fun c => (dats m 0 c).toRForget fgt) (V m) r ∧ r.2.sem = fun _ => 0)
    cfgs (dats m) (0 : Fin 1) launch0 osem0 defs₀ Variants.none fgt ownSemFacts0 H0 H0_sub m ρ main
    (hbody := fun c => body_obligation m c) (hshare := fun c => (dats m 0 c).share_full fun _ => rfl)
    (howed := fun _ _ => rfl) (V := V m) (hmain := hmain m Variants.none) (hA := A_eq m)
    (hin := fun c => enter m c) (hout := fun c => leave m c _) (hQ' := fun _ h => h)

/-- The run ends, the seven inputs as found and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(((Pipeline.Dat.toRForget_arrAt_iff (dats m 0 c) (fgt := fgt) (w := 0) rfl _ _).mp ((h.1 c).1 0)).trans ((dats m 0 c).arrAt_in 0 rfl _)).trans ((A_eq m c 0).trans (V_main_arg0 m c)),
      (((Pipeline.Dat.toRForget_arrAt_iff (dats m 0 c) (fgt := fgt) (w := 1) rfl _ _).mp ((h.1 c).1 1)).trans ((dats m 0 c).arrAt_in 1 rfl _)).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (((Pipeline.Dat.toRForget_arrAt_iff (dats m 0 c) (fgt := fgt) (w := 5) rfl _ _).mp ((h.1 c).1 5)).trans ((dats m 0 c).arrAt_in 5 rfl _)).trans ((A_eq m c 5).trans (V_main_arg6 m c))⟩, h.2⟩) (run_main m ρ)

/-- The run, its two results followed. -/
theorem run_results : θ_run defs (onTc (τ := τ) (main (F := F))) ⟨m, fun _ => 0, ρ⟩ (fun r => ∀ c : Dev nD,
      r.2.mem ((c.tc : Thread nD τ).loc main_v6_0) = (dats m 0 c).arrAt 6 cfg0.N
      ∧ r.2.mem ((c.tc : Thread nD τ).loc main_v6_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(Pipeline.Dat.toRForget_arrAt_iff (dats m 0 c) (fgt := fgt) (w := 6) rfl _ _).mp ((h.1 c).1 6),
    (Pipeline.Dat.toRForget_arrAt_iff (dats m 0 c) (fgt := fgt) (w := 7) rfl _ _).mp ((h.1 c).1 7), (((Pipeline.Dat.toRForget_arrAt_iff (dats m 0 c) (fgt := fgt) (w := 0) rfl _ _).mp ((h.1 c).1 0)).trans ((dats m 0 c).arrAt_in 0 rfl _)).trans ((A_eq m c 0).trans (V_main_arg0 m c)),
      (((Pipeline.Dat.toRForget_arrAt_iff (dats m 0 c) (fgt := fgt) (w := 1) rfl _ _).mp ((h.1 c).1 1)).trans ((dats m 0 c).arrAt_in 1 rfl _)).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (((Pipeline.Dat.toRForget_arrAt_iff (dats m 0 c) (fgt := fgt) (w := 5) rfl _ _).mp ((h.1 c).1 5)).trans ((dats m 0 c).arrAt_in 5 rfl _)).trans ((A_eq m c 5).trans (V_main_arg6 m c))⟩) (run_main m ρ)

end Cert.KernelIdeal.Attn

end
-- ==== Proof.Attn.Frames.lean ====
/-
  The frames of the call as compiled and as read at the ideal numbers: one run, over any numbers, gives both.
-/
module

public import proofs.«01_k».proof.Defs
public import proofs.«01_k».proof.Proof.Gen.Kernel.Frame
public import proofs.«01_k».proof.Proof.Attn.Run

@[expose] public section

set_option maxRecDepth 16384
set_option maxHeartbeats 1600000

namespace Cert.Layer.Attn

open Idealize.ShloMosaic Idealize.ShloMosaic.TcCoe Idealize.SL.Sem

/-- The two printings of the call have one body table. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl

theorem defs_eq : @Cert.Kernel.defs Bits _ _ = @Cert.KernelIdeal.defs Bits _ _ := by
  unfold Cert.Kernel.defs Cert.KernelIdeal.defs
  rw [bodies_eq]
  rfl

theorem frame_p : Cert.quiescent_Kernel := fun m ρ _ => by
  rw [defs_eq]
  exact Cert.KernelIdeal.Attn.frame_run (F := Bits) m ρ

theorem frame_pi : Cert.quiescent_KernelIdeal := fun m ρ _ => Cert.KernelIdeal.Attn.frame_run (F := Ideal) m ρ

theorem preserves : Cert.preserves_Kernel_KernelIdeal := trivial

end Cert.Layer.Attn

end
-- ==== Proof.Ada.Silu.lean ====
/-
  The two spellings of the logistic function over the extended reals: `1/2·tanh(x/2) + 1/2` and `1/(1 + exp (−x))`.
-/
module

public import Idealize.ShloMosaic.PureOps.Ideal
public import Mathlib.Analysis.SpecialFunctions.Trigonometric.DerivHyp

@[expose] public section

noncomputable section

namespace Cert.Layer

open Idealize.ShloMosaic

/-- The word of one half. -/
theorem half_eq : Ideal.ofBits .f32 0x3F000000#32 = ((1 / 2 : ℝ) : EReal) := by
  simp [Ideal.ofBits, Ideal.ieee, -EReal.coe_mul]; norm_num

/-- The word of one. -/
theorem one_eq : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h]; rfl

/-- The word of zero. -/
theorem zero_eq : Ideal.ofBits .f32 0x00000000#32 = (0 : EReal) := by
  simp [Ideal.ofBits, Ideal.ieee]

/-- The real identity. -/
theorem real_sigmoid (r : ℝ) : 1 / 2 * Real.tanh (1 / 2 * r) + 1 / 2 = (1 + Real.exp (-r))⁻¹ := by
  rw [Real.tanh_eq_sinh_div_cosh, Real.sinh_eq, Real.cosh_eq]
  have h : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  rw [h]
  set a := Real.exp (1 / 2 * r) with ha
  set b := Real.exp (-(1 / 2 * r)) with hb
  have pa : 0 < a := Real.exp_pos _
  have pb : 0 < b := Real.exp_pos _
  have e1 : a + b ≠ 0 := by positivity
  have e2 : 1 + b * b ≠ 0 := by positivity
  field_simp
  nlinarith [h2]

/-- The logistic function written through the hyperbolic tangent, over the extended reals. -/
theorem sigmoid_eq (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, Ideal.logistic_coe, ← EReal.coe_mul, ← EReal.coe_add, real_sigmoid]

end Cert.Layer
-- ==== Proof.Attn.Ref.lean ====
/-
  The layer's projections, convolution and gates, row by row, and the reference read at an index.
-/
module

public import proofs.«01_k».proof.Defs
public import proofs.«01_k».proof.Proof.Ada.Silu
public import proofs.«01_k».proof.Proof.Gen.ReferenceIdeal.Read
public import Idealize.ShloMosaic.Lib.Pipeline.ValueKit
public import Idealize.ShloMosaic.Lib.KernelVsHost

@[expose] public section

set_option maxRecDepth 16384

noncomputable section

namespace Cert.Layer.Attn

open Idealize.ShloMosaic Idealize.ShloMosaic.TcCoe Idealize.SL.Sem
open Cert.ReferenceIdeal Cert.ReferenceIdeal.Gen Cert.ReferenceIdeal.Read

section
variable (X0 : S16x2048x1024.Idx → EReal) (X1 : S16x3072.Idx → EReal) (X2 : S1x1024x8704.Idx → EReal) (X3 : S1x8704.Idx → EReal)
  (X4 : S1x3x1024.Idx → EReal) (X5 : S1x1024x1024.Idx → EReal)

/-- The modulated input. -/
def hid (b : Fin 16) (r : Fin 2048) (k : Fin 1024) : EReal :=
  X0 (ix3 b r k) * (1 + X1 (ix2 b ⟨1024 + k.val, by omega⟩)) + X1 (ix2 b ⟨k.val, by omega⟩)
/-- The input projection. -/
def proj (b : Fin 16) (r : Fin 2048) (n : Fin 8704) : EReal := ∑ k, hid X0 X1 b r k * X2 (ix3 0 k n) + X3 (ix2 0 n)
/-- The gated inputs. -/
def uu (b : Fin 16) (r : Fin 2048) (x : Fin 1024) : EReal :=
  proj X0 X1 X2 X3 b r ⟨4608 + x.val, by omega⟩ * proj X0 X1 X2 X3 b r ⟨2560 + x.val, by omega⟩
/-- The gated inputs `d` rows before row `r`, zero before the first. -/
def ub (b : Fin 16) (r d : ℕ) (x : Fin 1024) : EReal :=
  if h : d ≤ r ∧ r < 2048 then uu X0 X1 X2 X3 b ⟨r - d, by omega⟩ x else 0
/-- The causal convolution of three taps. -/
def conv (b : Fin 16) (r : Fin 2048) (x : Fin 1024) : EReal :=
  X4 (ix3 0 0 x) * ub X0 X1 X2 X3 b r.val 2 x + X4 (ix3 0 1 x) * ub X0 X1 X2 X3 b r.val 1 x + X4 (ix3 0 2 x) * uu X0 X1 X2 X3 b r x
/-- A value times its logistic. -/
def silu (v : EReal) : EReal := v * Ideal.logistic v
/-- The gated convolution. -/
def gated (b : Fin 16) (r : Fin 2048) (x : Fin 1024) : EReal :=
  proj X0 X1 X2 X3 b r ⟨3584 + x.val, by omega⟩ * conv X0 X1 X2 X3 X4 b r x * silu (proj X0 X1 X2 X3 b r ⟨5632 + x.val, by omega⟩)
/-- The gate of the attention. -/
def za (b : Fin 16) (r : Fin 2048) (y : Fin 256) : EReal := silu (proj X0 X1 X2 X3 b r ⟨2304 + y.val, by omega⟩)
/-- The convolution branch. -/
def yc (b : Fin 16) (r : Fin 2048) (n : Fin 1024) : EReal := ∑ x, gated X0 X1 X2 X3 X4 b r x * X5 (ix3 0 x n)
end

variable (x0 : (⟨S16x2048x1024, .f32⟩ : BufTy).Contents (Elt Ideal)) (x1 : (⟨S16x3072, .f32⟩ : BufTy).Contents (Elt Ideal)) (x2 : (⟨S1x1024x8704, .f32⟩ : BufTy).Contents (Elt Ideal)) (x3 : (⟨S1x8704, .f32⟩ : BufTy).Contents (Elt Ideal)) (x4 : (⟨S1x3x1024, .f32⟩ : BufTy).Contents (Elt Ideal)) (x5 : (⟨S1x1024x1024, .f32⟩ : BufTy).Contents (Elt Ideal))

theorem v15_apply (i : S16x2048x8704.Idx) : val_main_v15 (F := Ideal) x0 x1 x2 x3 i = proj x0 x1 x2 x3 (i 0) (i 1) (i 2) := by
  unfold proj hid
  pointwise [val_main_v0, val_main_v1, val_main_v2, val_main_v3, val_main_cst, val_main_v4, val_main_v5, val_main_v6, val_main_v7, val_main_v8, val_main_v9,
      val_main_v10, val_main_v11, val_main_v12, val_main_v13, val_main_v14, val_main_v15]

theorem v21_apply (i : S16x2048x1024.Idx) : val_main_v21 (F := Ideal) x0 x1 x2 x3 i = uu x0 x1 x2 x3 (i 0) (i 1) (i 2) := by
  unfold uu
  pointwise [val_main_v21, val_main_v19, val_main_v17, v15_apply]

theorem zero_pad (i : S_.Idx) : val_main_call0_v0 (F := Ideal) i = (0 : EReal) := by
  pointwise [val_main_call0_v0, val_main_c]
  show (((0#32).toInt : ℝ) : EReal) = 0
  simp

theorem v22_apply (b : Fin 16) (r : Fin 2048) (d : ℕ) (hd : d ≤ 2) (x : Fin 1024) :
    val_main_v22 (F := Ideal) x0 x1 x2 x3 (ix3 b ⟨2 - d + r.val, by omega⟩ x) = ub x0 x1 x2 x3 b r.val d x := by
  unfold val_main_v22 ub
  by_cases h : d ≤ r.val
  · rw [dif_pos ⟨h, r.isLt⟩]
    refine (Idealize.ShloMosaic.pad_apply_of_inside _ _ _ _ _ _ _ _ (ix3 b ⟨r.val - d, by omega⟩ x) fun a => ?_).trans (v21_apply ..)
    fin_cases a
    · show b.val = 0 + b.val * 1; omega
    · show 2 - d + r.val = 2 + (r.val - d) * 1; omega
    · show x.val = 0 + x.val * 1; omega
  · rw [dif_neg fun hh => h hh.1]
    refine (Idealize.ShloMosaic.pad_apply_of_not_inside _ _ _ _ _ _ _ _ (1 : Fin 3) fun hh => ?_).trans (zero_pad _)
    have h2 : 2 ≤ 2 - d + r.val := hh.1
    omega

/-- The reference's gate of the attention. -/
theorem v50_apply (i : S16x2048x256.Idx) : val_main_v50 (F := Ideal) x0 x1 x2 x3 i = za x0 x1 x2 x3 (i 0) (i 1) (i 2) := by
  unfold za silu
  pointwise [val_main_v50, val_main_v49, val_main_call2_v5, val_main_call2_v4, val_main_call2_cst_0, val_main_call2_v3, val_main_call2_v2, val_main_call2_cst,
    val_main_call2_v1, val_main_call2_v0, val_main_v16, v15_apply]
  simp only [one_eq, Ideal.logistic]

theorem v43_apply (i : S16x2048x1024.Idx) : val_main_v43 (F := Ideal) x0 x1 x2 x3 x4 i = conv x0 x1 x2 x3 x4 (i 0) (i 1) (i 2) := by
  unfold conv
  rw [← v22_apply x0 x1 x2 x3 (i 0) (i 1) 2 (by omega) (i 2), ← v22_apply x0 x1 x2 x3 (i 0) (i 1) 1 (by omega) (i 2)]
  have e : uu x0 x1 x2 x3 (i 0) (i 1) (i 2) = val_main_v22 (F := Ideal) x0 x1 x2 x3 (ix3 (i 0) ⟨2 + (i 1).val, by idx_bounds i; omega⟩ (i 2)) := by
    refine Eq.trans ?_ (v22_apply x0 x1 x2 x3 (i 0) (i 1) 0 (by omega) (i 2)).symm
    unfold ub
    rw [dif_pos ⟨Nat.zero_le _, (i 1).isLt⟩]
    rfl
  rw [e]
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23]

theorem v46_apply (i : S16x2048x1024.Idx) : val_main_v46 (F := Ideal) x0 x1 x2 x3 x4 i = gated x0 x1 x2 x3 x4 (i 0) (i 1) (i 2) := by
  unfold gated silu
  pointwise [val_main_v46, val_main_v45, val_main_v44, val_main_call1_v5, val_main_call1_v4, val_main_call1_cst_0, val_main_call1_v3, val_main_call1_v2, val_main_call1_cst,
    val_main_call1_v1, val_main_call1_v0, val_main_v20, val_main_v18, v43_apply, v15_apply]
  simp only [one_eq, Ideal.logistic]

/-- The reference's convolution branch. -/
theorem v51_apply (i : S16x2048x1024.Idx) : val_main_v51 (F := Ideal) x0 x1 x2 x3 x4 x5 i = yc x0 x1 x2 x3 x4 x5 (i 0) (i 1) (i 2) := by
  unfold yc
  pointwise [val_main_v51, val_main_v48, val_main_v47, v46_apply]

end Cert.Layer.Attn

end
-- ==== Proof.Attn.Tile.lean ====
/-
  One grid point of the call against the layer: what the point reads being rows of the arrays, what it leaves is rows of the
  attention's gate and of the convolution branch.
-/
module

public import proofs.«01_k».proof.Proof.Attn.Ref
public import proofs.«01_k».proof.Proof.Attn.Point

@[expose] public section

set_option maxRecDepth 16384

noncomputable section

namespace Cert.Layer.Attn

open Idealize.ShloMosaic Idealize.ShloMosaic.TcCoe Idealize.SL.Sem
open Cert.KernelIdeal Cert.KernelIdeal.Gen Cert.KernelIdeal.Attn

/-! ## The payloads at an index -/

theorem xm_apply (a : Vec Ideal S1x3072 .f32) (x : Vec Ideal S1x512x1024 .f32) (j : S512x1024.Idx) :
    k0_pay774 (F := Ideal) a x j = x (ix3 0 (j 0) (j 1)) * (1 + a (ix2 0 ⟨1024 + (j 1).val, by idx_bounds j; omega⟩)) + a (ix2 0 ⟨(j 1).val, by idx_bounds j; omega⟩) := by
  pointwise [k0_pay774]

theorem u_apply (xm : Vec Ideal S512x1024 .bf16) (w : Vec Ideal S1024x512 .bf16) (b1 b2 : Vec Ideal S1x256 .f32) (j : S512x256.Idx) :
    k0_pay821 (F := Ideal) (k0_pay818 xm w) (k0_pay819 b1) b2 j
      = (∑ k : Fin 1024, xm (ix2 (j 0) k) * w (ix2 k ⟨(j 1).val, by idx_bounds j; omega⟩) + b1 (ix2 0 (j 1)))
        * (∑ k : Fin 1024, xm (ix2 (j 0) k) * w (ix2 k ⟨256 + (j 1).val, by idx_bounds j; omega⟩) + b2 (ix2 0 (j 1))) := by
  pointwise [k0_pay821, k0_pay820, k0_pay819, k0_pay818]

theorem c_apply (xm : Vec Ideal S512x1024 .bf16) (w : Vec Ideal S1024x512 .bf16) (b1 b2 t0 t1 t2 : Vec Ideal S1x256 .f32) (p2 p1 : Vec Ideal S512x256 .f32)
    (j : S512x256.Idx) :
    k0_pay822 (F := Ideal) (k0_pay818 xm w) (k0_pay819 b1) b2 t0 p2 t1 p1 t2 j
      = t0 (ix2 0 (j 1)) * p2 j + t1 (ix2 0 (j 1)) * p1 j + t2 (ix2 0 (j 1)) * (k0_pay821 (F := Ideal) (k0_pay818 xm w) (k0_pay819 b1) b2 j) := by
  pointwise [k0_pay822, k0_pay821, k0_pay820, k0_pay819, k0_pay818]

theorem t_apply (xm : Vec Ideal S512x1024 .bf16) (cc : Vec Ideal S512x256 .f32) (w : Vec Ideal S1024x512 .bf16) (b1 b2 : Vec Ideal S1x256 .f32) (j : S512x256.Idx) :
    k0_pay837 (F := Ideal) (k0_pay836 xm cc w b1 b2) j
      = (∑ k : Fin 1024, xm (ix2 (j 0) k) * w (ix2 k ⟨(j 1).val, by idx_bounds j; omega⟩) + b1 (ix2 0 (j 1))) * cc j
        * silu (∑ k : Fin 1024, xm (ix2 (j 0) k) * w (ix2 k ⟨256 + (j 1).val, by idx_bounds j; omega⟩) + b2 (ix2 0 (j 1))) := by
  unfold silu
  pointwise [k0_pay837, k0_pay836]
  simp only [half_eq, zero_eq, zero_add, sigmoid_eq]

theorem z_apply (xm : Vec Ideal S512x1024 .bf16) (w : Vec Ideal S1024x256 .bf16) (b : Vec Ideal S1x256 .f32) (j : S1x512x256.Idx) :
    k0_pay1242 (F := Ideal) xm w b j = silu (∑ k : Fin 1024, xm (ix2 (j 1) k) * w (ix2 k (j 2)) + b (ix2 0 (j 2))) := by
  unfold silu
  pointwise [k0_pay1242]
  simp only [half_eq, zero_eq, zero_add, sigmoid_eq]

theorem y_apply (t : Vec Ideal S512x1024 .bf16) (w : Vec Ideal S1024x1024 .bf16) (j : S1x512x1024.Idx) :
    k0_pay1244 (F := Ideal) (k0_pay1243 t w) j = (∑ k : Fin 1024, t (ix2 (j 1) k) * w (ix2 k (j 2)) : EReal) := by
  pointwise [k0_pay1244, k0_pay1243]

/-! ## A point whose buffers are rows of the arrays -/

section
variable (X0 : S16x2048x1024.Idx → EReal) (X1 : S16x3072.Idx → EReal) (X2 : S1x1024x8704.Idx → EReal) (X3 : S1x8704.Idx → EReal)
  (X4 : S1x3x1024.Idx → EReal) (X5 : S1x1024x1024.Idx → EReal)

/-- What the point reads: rows `base …` of batch `b`, the weights' columns in the buffer's order, the bias. -/
structure Rows (b : Fin 16) (base : ℕ) (D : Data Ideal) : Prop where
  le : base + 512 ≤ 2048
  xm : ∀ (r : Fin 512) (k : Fin 1024), D.xm (ix2 r k) = hid X0 X1 b ⟨base + r.val, by omega⟩ k
  W : ∀ (k : Fin 1024) (n : Fin 6656), D.W (ix2 k n) = X2 (ix3 0 k ⟨perm n.val, perm_lt n.isLt⟩)
  B : ∀ n : Fin 8704, D.B (ix2 0 n) = X3 (ix2 0 n)

variable {X0 X1 X2 X3 X4 X5} {b : Fin 16} {base : ℕ} {D : Data Ideal}

/-- Column `C + y` of the projection, from the buffer's column and the bias' entry. -/
theorem proj_apply (h : Rows X0 X1 X2 X3 b base D) (r : Fin 512) (C N c : ℕ) (y : Fin N) (i : Fin 256) (n : Fin 8704) (hn : perm (C + y.val) = n.val) (hC : C + y.val < 6656)
    (hc : c + i.val = n.val) :
    (∑ k : Fin 1024, D.xm (ix2 r k) * wB D C N (ix2 k y) + bB D c (ix2 0 i) : EReal) = proj X0 X1 X2 X3 b ⟨base + r.val, by have := h.le; omega⟩ n := by
  unfold proj
  have e2 : bB D c (ix2 0 i) = X3 (ix2 0 n) := by
    rw [← h.B]
    refine congrArg D.B (congrArg (ix2 0) (Fin.ext ?_))
    show (c + i.val) % 8704 = n.val
    rw [hc]; exact Nat.mod_eq_of_lt n.isLt
  rw [e2]
  congr 1
  refine Finset.sum_congr rfl fun k _ => ?_
  have e1 : wB D C N (ix2 k y) = X2 (ix3 0 k n) := by
    refine Eq.trans ?_ ((h.W k ⟨C + y.val, hC⟩).trans (congrArg (fun z => X2 (ix3 0 k z)) (Fin.ext hn)))
    refine congrArg D.W (congrArg (ix2 k) (Fin.ext ?_))
    exact Nat.mod_eq_of_lt hC
  rw [h.xm, e1]

theorem perm_gc (j y : ℕ) (hj : j < 4) (hy : y < 256) : perm (2560 + 1024 * j + y) = 4608 + (256 * j + y) := by
  unfold perm; rw [if_neg (by omega), if_pos (by omega)]; omega
theorem perm_ux (j y : ℕ) (hj : j < 4) (hy : y < 256) : perm (2560 + 1024 * j + (256 + y)) = 2560 + (256 * j + y) := by
  unfold perm; rw [if_neg (by omega), if_neg (by omega), if_pos (by omega)]; omega
theorem perm_gb (j y : ℕ) (hj : j < 4) (hy : y < 256) : perm (3072 + 1024 * j + y) = 3584 + (256 * j + y) := by
  unfold perm; rw [if_neg (by omega), if_neg (by omega), if_neg (by omega), if_pos (by omega)]; omega
theorem perm_zc (j y : ℕ) (hj : j < 4) (hy : y < 256) : perm (3072 + 1024 * j + (256 + y)) = 5632 + (256 * j + y) := by
  unfold perm; rw [if_neg (by omega), if_neg (by omega), if_neg (by omega), if_neg (by omega)]; omega

theorem uC_apply (h : Rows X0 X1 X2 X3 b base D) (j : ℕ) (hj : j < 4) (r : Fin 512) (y : Fin 256) :
    uC D j (ix2 r y) = uu X0 X1 X2 X3 b ⟨base + r.val, by have := h.le; omega⟩ ⟨256 * j + y.val, by omega⟩ := by
  unfold uC uu
  rw [u_apply]
  congr 1
  · exact proj_apply h r _ _ _ ⟨y.val, by omega⟩ y _ (perm_gc j y.val hj y.isLt) (by show _ + y.val < _; omega) (by show _ = 4608 + (256 * j + y.val); omega)
  · exact proj_apply h r _ _ _ ⟨256 + y.val, by omega⟩ y _ (perm_ux j y.val hj y.isLt) (by show _ + (256 + y.val) < _; omega) (by show _ = 2560 + (256 * j + y.val); omega)

/-- The gated inputs `d` rows earlier, from the block and the eight rows before it. -/
theorem pre_apply (h : Rows X0 X1 X2 X3 b base D) (hh : ∀ (e : Fin 8) (x : Fin 1024), D.hal (ix2 e x) = ub X0 X1 X2 X3 b base (8 - e.val) x)
    (j : ℕ) (hj : j < 4) (d : ℕ) (hd : d ≤ 8) (r : Fin 512) (y : Fin 256) :
    pre D j d (ix2 r y) = ub X0 X1 X2 X3 b (base + r.val) d ⟨256 * j + y.val, by omega⟩ := by
  have hle := h.le
  unfold pre
  by_cases hr : r.val < d
  · refine (if_pos hr).trans ?_
    have e1 : (⟨(8 - d + r.val) % 8, Nat.mod_lt _ (by decide)⟩ : Fin 8) = ⟨8 - d + r.val, by omega⟩ := Fin.ext (Nat.mod_eq_of_lt (by omega))
    have e2 : (⟨(256 * j + y.val) % 1024, Nat.mod_lt _ (by decide)⟩ : Fin 1024) = ⟨256 * j + y.val, by omega⟩ := Fin.ext (Nat.mod_eq_of_lt (by omega))
    refine (congrArg D.hal (show ix2 _ _ = ix2 (⟨8 - d + r.val, by omega⟩ : Fin 8) (⟨256 * j + y.val, by omega⟩ : Fin 1024) from congr (congrArg ix2 e1) e2)).trans ?_
    rw [hh]
    have h8 : 8 - (8 - d + r.val) = d - r.val := by omega
    show ub X0 X1 X2 X3 b base (8 - (8 - d + r.val)) _ = _
    rw [h8]
    unfold ub
    by_cases hb : d ≤ base + r.val
    · rw [dif_pos (by omega), dif_pos (by omega)]
      congr 1
      apply Fin.ext
      show base - (d - r.val) = base + r.val - d
      omega
    · rw [dif_neg (by omega), dif_neg (by omega)]
  · refine (if_neg hr).trans ?_
    refine (uC_apply h j hj ⟨r.val - d, by omega⟩ y).trans ?_
    unfold ub
    rw [dif_pos (by omega)]
    congr 1
    apply Fin.ext
    show base + (r.val - d) = base + r.val - d
    omega

/-- What else the point reads. -/
structure Full (X0 : S16x2048x1024.Idx → EReal) (X1 : S16x3072.Idx → EReal) (X2 : S1x1024x8704.Idx → EReal) (X3 : S1x8704.Idx → EReal)
    (X4 : S1x3x1024.Idx → EReal) (X5 : S1x1024x1024.Idx → EReal) (b : Fin 16) (base : ℕ) (D : Data Ideal) : Prop extends Rows X0 X1 X2 X3 b base D where
  hal : ∀ (e : Fin 8) (x : Fin 1024), D.hal (ix2 e x) = ub X0 X1 X2 X3 b base (8 - e.val) x
  cw : ∀ (k : Fin 3) (x : Fin 1024), D.cw (ix2 k x) = X4 (ix3 0 k x)
  wp : ∀ x n : Fin 1024, D.wp (ix2 x n) = X5 (ix3 0 x n)

theorem tap_apply (h : Full X0 X1 X2 X3 X4 X5 b base D) (k : Fin 3) (j : ℕ) (hj : j < 4) (y : Fin 256) :
    tap D k (256 * j) (ix2 0 y) = X4 (ix3 0 k ⟨256 * j + y.val, by omega⟩) := by
  rw [← h.cw]
  exact congrArg D.cw (congrArg (ix2 k) (Fin.ext (Nat.mod_eq_of_lt (show 256 * j + y.val < 1024 by omega))))

theorem cC_apply (h : Full X0 X1 X2 X3 X4 X5 b base D) (j : ℕ) (hj : j < 4) (r : Fin 512) (y : Fin 256) :
    cC D j (ix2 r y) = conv X0 X1 X2 X3 X4 b ⟨base + r.val, by have := h.le; omega⟩ ⟨256 * j + y.val, by omega⟩ := by
  unfold cC conv
  rw [c_apply]
  have e := uC_apply h.toRows j hj r y
  unfold uC at e
  rw [e, pre_apply h.toRows h.hal j hj 2 (by omega), pre_apply h.toRows h.hal j hj 1 (by omega)]
  simp only [ix2_1]
  rw [tap_apply h 0 j hj, tap_apply h 1 j hj, tap_apply h 2 j hj]

theorem tC_apply (h : Full X0 X1 X2 X3 X4 X5 b base D) (j : ℕ) (hj : j < 4) (r : Fin 512) (y : Fin 256) :
    tC D j (ix2 r y) = gated X0 X1 X2 X3 X4 b ⟨base + r.val, by have := h.le; omega⟩ ⟨256 * j + y.val, by omega⟩ := by
  unfold tC gated
  rw [t_apply, cC_apply h j hj]
  congr 1
  · congr 1
    exact proj_apply h.toRows r _ _ _ ⟨y.val, by omega⟩ y _ (perm_gb j y.val hj y.isLt) (by show _ + y.val < _; omega) (by show _ = 3584 + (256 * j + y.val); omega)
  · refine congrArg silu ?_
    exact proj_apply h.toRows r _ _ _ ⟨256 + y.val, by omega⟩ y _ (perm_zc j y.val hj y.isLt) (by show _ + (256 + y.val) < _; omega) (by show _ = 5632 + (256 * j + y.val); omega)

theorem tV_apply (h : Full X0 X1 X2 X3 X4 X5 b base D) (r : Fin 512) (x : Fin 1024) :
    tV D (ix2 r x) = gated X0 X1 X2 X3 X4 b ⟨base + r.val, by have := h.le; omega⟩ x := by
  refine (tC_apply h (x.val / 256) (by omega) r ⟨x.val % 256, Nat.mod_lt _ (by decide)⟩).trans ?_
  congr 1
  apply Fin.ext
  show 256 * (x.val / 256) + x.val % 256 = x.val
  omega

theorem ycV_apply (h : Full X0 X1 X2 X3 X4 X5 b base D) (r : Fin 512) (n : Fin 1024) :
    ycV D (ix3 0 r n) = yc X0 X1 X2 X3 X4 X5 b ⟨base + r.val, by have := h.le; omega⟩ n := by
  unfold ycV yc
  rw [y_apply]
  refine Finset.sum_congr rfl fun x _ => ?_
  simp only [ix3_1, ix3_2]
  rw [tV_apply h, h.wp]

theorem zaV_apply (h : Rows X0 X1 X2 X3 b base D) (r : Fin 512) (y : Fin 256) :
    zaV D (ix3 0 r y) = za X0 X1 X2 X3 b ⟨base + r.val, by have := h.le; omega⟩ y := by
  unfold zaV za
  rw [z_apply]
  refine congrArg silu ?_
  exact proj_apply h r _ _ _ y y _ (by show perm (2304 + y.val) = 2304 + y.val; unfold perm; rw [if_pos (by omega)]) (by omega) rfl
end

end Cert.Layer.Attn

end
-- ==== Proof.Attn.Value.lean ====
/-
  The arrays the call leaves are the reference's results.
-/
module

public import proofs.«01_k».proof.Proof.Attn.Tile
public import proofs.«01_k».proof.Proof.Attn.Frame

@[expose] public section

set_option maxRecDepth 16384

noncomputable section

namespace Cert.Layer.Attn

open Idealize.ShloMosaic Idealize.ShloMosaic.TcCoe Idealize.SL.Sem
open Cert.KernelIdeal Cert.KernelIdeal.Gen Cert.KernelIdeal.Attn

variable (m : (ℓ : Loc nD τ sig) → Buf (Elt Ideal) ℓ) (c : Dev nD)

/-- The windows' block indices. -/
theorem idx : ∀ t : Fin grid0.N, win0_0.index t = ![(grid0.coords t 0).val, (grid0.coords t 1).val, 0] ∧ win0_1.index t = ![0, 0]
    ∧ win0_2.index t = ![0, 0] ∧ win0_3.index t = ![0, 0] ∧ win0_4.index t = ![0, 0]
    ∧ win0_6.index t = ![(grid0.coords t 0).val, (grid0.coords t 1).val, 0] ∧ win0_7.index t = ![(grid0.coords t 0).val, (grid0.coords t 1).val, 0] := by
  decide +kernel

theorem coords_eq : ∀ t : Fin grid0.N, (grid0.coords t 0).val = t.val / 4 ∧ (grid0.coords t 1).val = t.val % 4 := by decide +kernel

theorem off1_eq : ∀ t : Fin grid0.N, k0_off1 (grid0.coords t) = ![(grid0.coords t 0).val, 0] := by decide +kernel

/-- The batch of a grid point. -/
def bat (t : Fin grid0.N) : Fin 16 := ⟨(grid0.coords t 0).val, (grid0.coords t 0).isLt⟩
/-- The first row of a grid point. -/
def base (t : Fin grid0.N) : ℕ := 512 * (grid0.coords t 1).val

theorem base_le (t : Fin grid0.N) : base t + 512 ≤ 2048 := by
  have : (grid0.coords t 1).val < 4 := (grid0.coords t 1).isLt
  unfold base; omega

/-- The six arrays the results read. -/
abbrev A0 : S16x2048x1024.Idx → EReal := m ((c : Thread nD τ).loc main_arg0)
abbrev A1 : S16x3072.Idx → EReal := m ((c : Thread nD τ).loc main_arg1)
abbrev A2 : S1x1024x8704.Idx → EReal := m ((c : Thread nD τ).loc main_arg2)
abbrev A3 : S1x8704.Idx → EReal := m ((c : Thread nD τ).loc main_arg3)
abbrev A4 : S1x3x1024.Idx → EReal := m ((c : Thread nD τ).loc main_arg4)
abbrev A5 : S1x1024x1024.Idx → EReal := m ((c : Thread nD τ).loc main_arg5)

theorem xB_apply (t : Fin cfg0.N) (r : Fin 512) (k : Fin 1024) : xB m c t (ix3 0 r k) = A0 m c (ix3 (bat t) ⟨base t + r.val, by have := base_le t; omega⟩ k) := by
  unfold bat base xB A0
  blk_point [iblk, V, idx t]

theorem row_apply (t : Fin cfg0.N) (n : Fin 3072) : row (grid0.coords t) (aB m c t) (ix2 0 n) = A1 m c (ix2 (bat t) n) := by
  unfold bat row aB A1
  blk_point [iblk, V, idx t, off1_eq t]

theorem hV_apply (k : Fin 1024) (n : Fin 8704) : hV m c (ix2 k n) = A2 m c (ix3 0 k n) := by
  unfold hV A2
  show StableHlo.after hostOps0 (fun b => m (c, b)) main_v0 (ix2 k n) = _
  after_results_simp
  pointwise

theorem biB_apply (t : Fin cfg0.N) (n : Fin 8704) : biB m c t (ix2 0 n) = A3 m c (ix2 0 n) := by
  unfold biB A3
  blk_point [iblk, V, idx t]

theorem cwB_apply (t : Fin cfg0.N) (k : Fin 3) (n : Fin 1024) : cwB m c t (ix2 k n) = A4 m c (ix3 0 k n) := by
  unfold cwB A4
  blk_point [iblk, V, idx t]

theorem wpB_apply (t : Fin cfg0.N) (k : Fin 1024) (n : Fin 1024) : wpB m c t (ix2 k n) = A5 m c (ix3 0 k n) := by
  unfold wpB A5
  blk_point [iblk, V, idx t]

theorem rows (t : Fin cfg0.N) (h : S8x1024.Idx → EReal) : Rows (A0 m c) (A1 m c) (A2 m c) (A3 m c) (bat t) (base t) (datOn m c t h) where
  le := base_le t
  xm r k := by
    show k0_pay774 (row (grid0.coords t) (aB m c t)) (xB m c t) (ix2 r k) = _
    rw [xm_apply]
    simp only [ix2_0, ix2_1]
    rw [xB_apply, row_apply, row_apply]
    rfl
  W k n := by
    show cv (F := Ideal) (hV m c (ix2 k ⟨perm n.val, _⟩)) = _
    rw [hV_apply]
    rfl
  B n := biB_apply m c t n

/-- The rows carried out of a point. -/
theorem carry_apply (t : Fin cfg0.N) (e : Fin 8) (x : Fin 1024) :
    carry m c t (ix2 e x) = uu (A0 m c) (A1 m c) (A2 m c) (A3 m c) (bat t) ⟨base t + (504 + e.val), by have := base_le t; omega⟩ x := by
  refine (uC_apply (rows m c t _) (x.val / 256) (by omega) ⟨504 + e.val, by omega⟩ ⟨x.val % 256, Nat.mod_lt _ (by decide)⟩).trans ?_
  congr 1
  apply Fin.ext
  show 256 * (x.val / 256) + x.val % 256 = x.val
  omega

theorem pay772_apply (y : S8x1024.Idx) : k0_pay772 (F := Ideal) y = (0 : EReal) := by
  pointwise [k0_pay772]
theorem pay773_apply (v : Vec Ideal S8x1024 .f32) (y : S8x1024.Idx) : k0_pay773 v y = v y := by
  pointwise [k0_pay773]

theorem halo_apply (t : Fin cfg0.N) (e : Fin 8) (x : Fin 1024) :
    halo m c t (ix2 e x) = ub (A0 m c) (A1 m c) (A2 m c) (A3 m c) (bat t) (base t) (8 - e.val) x := by
  have hc := coords_eq t
  have hb := base_le t
  unfold halo
  by_cases h0 : t.val % 4 = 0
  · rw [if_pos h0, pay772_apply]
    unfold ub
    rw [dif_neg]
    unfold base; omega
  · rw [if_neg h0, pay773_apply, carry_apply]
    have hlt : t.val - 1 < cfg0.N := lt_of_le_of_lt (Nat.sub_le _ _) t.isLt
    have hc' : (grid0.coords ⟨t.val - 1, hlt⟩ 0).val = (t.val - 1) / 4 ∧ (grid0.coords ⟨t.val - 1, hlt⟩ 1).val = (t.val - 1) % 4 := coords_eq ⟨t.val - 1, hlt⟩
    have e1 : bat ⟨t.val - 1, hlt⟩ = bat t := Fin.ext (by
      show (grid0.coords _ 0).val = (grid0.coords _ 0).val
      rw [hc.1, hc'.1]; omega)
    have e2 : base ⟨t.val - 1, hlt⟩ + (504 + e.val) = base t - (8 - e.val) := by
      unfold base
      rw [hc.2, hc'.2]; omega
    unfold ub
    rw [dif_pos (by unfold base at hb ⊢; omega)]
    rw [e1]
    congr 1
    exact Fin.ext e2

theorem full (t : Fin cfg0.N) : Full (A0 m c) (A1 m c) (A2 m c) (A3 m c) (A4 m c) (A5 m c) (bat t) (base t) (datAt m c t) where
  toRows := rows m c t _
  hal := halo_apply m c t
  cw := cwB_apply m c t
  wp := wpB_apply m c t

theorem after6 (t : Fin cfg0.N) : (dats m 0 c).after 6 t = zaV (datAt m c t) := by dsimp only [dats]
theorem after7 (t : Fin cfg0.N) : (dats m 0 c).after 7 t = ycV (datAt m c t) := by dsimp only [dats]

/-- The attention's gate. -/
theorem za_arr : (dats m 0 c).arrAt 6 cfg0.N = Cert.ReferenceIdeal.Read.val_main_v50 (F := Ideal) (A0 m c) (A1 m c) (A2 m c) (A3 m c) := by
  refine (dats m 0 c).arrAt_eq_of_covers 6 _ (by decide +kernel) fun t hf y => ?_
  blk_simp
  rw [after6, v50_apply]
  have hy : y = ix3 (0 : Fin 1) (y 1) (y 2) := by
    blk_ext
  refine (congrArg (zaV (datAt m c t)) hy).trans ((zaV_apply (full m c t).toRows (y 1) (y 2)).trans ?_)
  unfold bat base
  blk_point [idx t]

/-- The convolution branch. -/
theorem yc_arr : (dats m 0 c).arrAt 7 cfg0.N = Cert.ReferenceIdeal.Read.val_main_v51 (F := Ideal) (A0 m c) (A1 m c) (A2 m c) (A3 m c) (A4 m c) (A5 m c) := by
  refine (dats m 0 c).arrAt_eq_of_covers 7 _ (by decide +kernel) fun t hf y => ?_
  blk_simp
  rw [after7, v51_apply]
  have hy : y = ix3 (0 : Fin 1) (y 1) (y 2) := by
    blk_ext
  refine (congrArg (ycV (datAt m c t)) hy).trans ((ycV_apply (full m c t) (y 1) (y 2)).trans ?_)
  have key : ∀ (G : S16x2048x1024.Idx → EReal) (h : base t + (y 1).val < 2048), G (ix3 (bat t) ⟨base t + (y 1).val, h⟩ (y 2)) = G ((win0_7.blk t).view.emb y) := by
    intro G h
    unfold bat base
    blk_point [idx t]
  exact key (fun i => yc (A0 m c) (A1 m c) (A2 m c) (A3 m c) (A4 m c) (A5 m c) (i 0) (i 1) (i 2)) (by have := base_le t; have h1 : (y 1).val < 512 := (y 1).isLt; omega)

end Cert.Layer.Attn

end
-- ==== Proof.Attn.Equation.lean ====
/-
  The projections' call: its reference's frame and the equation of the two results.
-/
module

public import proofs.«01_k».proof.Defs
public import proofs.«01_k».proof.Proof.Attn.Frames
public import proofs.«01_k».proof.Proof.Attn.Run
public import proofs.«01_k».proof.Proof.Attn.Value
public import proofs.«01_k».proof.Proof.Gen.ReferenceIdeal.Run
public import proofs.«01_k».proof.Proof.Gen.ReferenceIdeal.Read
public import Idealize.ShloMosaic.Lib.Quiescent

@[expose] public section

noncomputable section

namespace Cert.Layer.Attn

open Idealize.ShloMosaic Idealize.ShloMosaic.TcCoe Idealize.SL.Sem

theorem frame_ri : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The call's two arrays are the reference's results, of arguments that agree. -/
theorem algebraic : Cert.algebraic_KernelIdeal_ReferenceIdeal := by
  intro m ρ m' ρ' _ hagree
  refine ⟨_, _, Cert.KernelIdeal.Attn.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [za_arr m c]
    unfold A0 A1 A2 A3
    rw [← (hagree c).1, ← (hagree c).2.1, ← (hagree c).2.2.1, ← (hagree c).2.2.2.1]
    exact Cert.ReferenceIdeal.Read.val_main_v50_eq _ _ _ _
  · rw [yc_arr m c]
    unfold A0 A1 A2 A3 A4 A5
    rw [← (hagree c).1, ← (hagree c).2.1, ← (hagree c).2.2.1, ← (hagree c).2.2.2.1, ← (hagree c).2.2.2.2.1, ← (hagree c).2.2.2.2.2.1]
    exact Cert.ReferenceIdeal.Read.val_main_v51_eq m' c

end Cert.Layer.Attn

end
-- ==== Proof.Ada.Value.lean ====
/-
  The modulation call: block `t` of its result is `silu(c) · w[:, t] + b[t]`, so the array it returns is the reference's.
-/
module

public import proofs.«01_k».proof.Defs
public import proofs.«01_k».proof.Proof.Ada.Silu
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Layer.Ada

open Idealize.ShloMosaic Idealize.ShloMosaic.TcCoe Idealize.SL.Sem
open Cert.Kernel3Ideal Cert.Kernel3Ideal.Gen

/-- One element of what a grid point stores. -/
theorem pay_apply (x0 : Vec Ideal S16x1024 .f32) (x1 : Vec Ideal S1024x1024 .f32) (x2 : Vec Ideal S1x1024 .f32) (j : S16x1024.Idx) :
    k0_pay1 (F := Ideal) x0 x1 x2 j
      = (∑ k : Fin 1024, (x0 (ix2 (j 0) k) * Ideal.logistic (x0 (ix2 (j 0) k))) * x1 (ix2 k (j 1))) + x2 (ix2 0 (j 1)) := by
  pointwise [k0_pay1]
  simp only [half_eq, zero_eq, zero_add, sigmoid_eq]

variable (m : (ℓ : Loc nD τ sig) → Buf (Elt Ideal) ℓ) (c : Dev nD)

/-- The windows' block indices: the second axis follows the grid point. -/
theorem idx : ∀ t : Fin grid0.N, win0_0.index t = ![0, 0] ∧ win0_1.index t = ![0, t.val] ∧ win0_2.index t = ![0, t.val] ∧ win0_3.index t = ![0, t.val] := by
  decide +kernel

/-- The returned array is the reference's. -/
theorem arr_eq : (dats m 0 c).arrAt 3 cfg0.N
    = Cert.Reference3Ideal.Read.val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  erw [pay_apply]
  pointwise [Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_call0_v5, Cert.Reference3Ideal.Read.val_main_call0_v4, Cert.Reference3Ideal.Read.val_main_call0_v3, Cert.Reference3Ideal.Read.val_main_call0_v2, Cert.Reference3Ideal.Read.val_main_call0_v1, Cert.Reference3Ideal.Read.val_main_call0_v0, Cert.Reference3Ideal.Read.val_main_call0_cst, Cert.Reference3Ideal.Read.val_main_call0_cst_0]
  simp only [one_eq, Ideal.logistic]
  blk_point [iblk, V, idx t]

end Cert.Layer.Ada
-- ==== Proof.Ada.Equation.lean ====
/-
  The modulation call's claims.
-/
module

public import proofs.«01_k».proof.Defs
public import proofs.«01_k».proof.Proof.Ada.Value
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent

@[expose] public section

noncomputable section

namespace Cert.Layer.Ada

open Idealize.ShloMosaic Idealize.ShloMosaic.TcCoe Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves : Cert.preserves_Kernel3_Kernel3Ideal :=
  trivial

/-- The call's array is the reference's result, of arguments that agree. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩) (Cert.Reference3Ideal.Value.run (F := Ideal) m' ρ')
  rw [arr_eq m c]
  rw [(hagree c).1, (hagree c).2.1, (hagree c).2.2]
  exact Cert.Reference3Ideal.Read.val_main_v6_eq _ _ _

end Cert.Layer.Ada

end
-- ==== Proof.Out.Norm.lean ====
/-
  The layer norm does not see a positive scale: the norm of `α · r` with `α² · e` under the root is the norm of `r` with
  `e` under it, over the extended reals. The kernel norms `x + (gate / α) · s` where the reference norms `α · x + gate · s`.
-/
module

public import Idealize.ShloMosaic.PureOps.Ideal
public import Mathlib.Data.EReal.Inv

@[expose] public section

noncomputable section

namespace Cert.Layer

open Idealize.ShloMosaic

/-- A row, normed: centred by its mean and divided by the root of its variance plus `e`. -/
def norm {ι : Type} [Fintype ι] (N e : EReal) (r : ι → EReal) (i : ι) : EReal :=
  (r i - Ideal.div (∑ k, r k) N)
    * Ideal.rsqrt (Ideal.div (∑ k, (r k - Ideal.div (∑ k, r k) N) * (r k - Ideal.div (∑ k, r k) N)) N + e)

theorem mul_sum_real {ι : Type} (a : ℝ) (ha : 0 ≤ a) (s : Finset ι) (f : ι → EReal) : ∑ k ∈ s, (a : EReal) * f k = (a : EReal) * ∑ k ∈ s, f k := by
  classical
  induction s using Finset.induction_on with
  | empty => simp
  | insert i s hi ih =>
    rw [Finset.sum_insert hi, Finset.sum_insert hi, ih,
      EReal.left_distrib_of_nonneg_of_ne_top (EReal.coe_nonneg.mpr ha) (EReal.coe_ne_top a)]

theorem mul_sub_real (a : ℝ) (ha : 0 ≤ a) (x y : EReal) : (a : EReal) * x - (a : EReal) * y = (a : EReal) * (x - y) := by
  rw [sub_eq_add_neg, sub_eq_add_neg, EReal.left_distrib_of_nonneg_of_ne_top (EReal.coe_nonneg.mpr ha) (EReal.coe_ne_top a), mul_neg]

theorem div_real (n : ℝ) (hn : n ≠ 0) (x : EReal) : Ideal.div x (n : EReal) = ((n⁻¹ : ℝ) : EReal) * x := by
  unfold Ideal.div
  rw [if_neg (by exact_mod_cast hn), mul_comm, EReal.coe_inv]

theorem sq_nonneg (x : EReal) : 0 ≤ x * x := by
  induction x using EReal.rec with
  | bot => simp
  | top => simp
  | coe r => rw [← EReal.coe_mul]; exact_mod_cast mul_self_nonneg r

/-- The reciprocal root of a scaled positive number. -/
theorem rsqrt_scale (a : ℝ) (ha : 0 < a) (w : EReal) (hw : 0 < w) :
    (a : EReal) * Ideal.rsqrt ((a : EReal) * (a : EReal) * w) = Ideal.rsqrt w := by
  induction w using EReal.rec with
  | bot => simp at hw
  | top =>
    rw [← EReal.coe_mul, EReal.coe_mul_top_of_pos (mul_pos ha ha)]
    simp
  | coe r =>
    have hr : 0 < r := by exact_mod_cast hw
    have har : 0 < a * a * r := mul_pos (mul_pos ha ha) hr
    rw [← EReal.coe_mul, ← EReal.coe_mul, Ideal.rsqrt_coe, Ideal.rsqrt_coe, if_neg (not_lt.mpr har.le), if_neg har.ne', if_neg (not_lt.mpr hr.le),
      if_neg hr.ne', ← EReal.coe_mul]
    congr 1
    rw [Real.sqrt_mul (mul_self_nonneg a), Real.sqrt_mul_self ha.le, mul_inv, ← mul_assoc, mul_inv_cancel₀ ha.ne', one_mul]

/-- The norm of the scaled row is the norm of the row. -/
theorem norm_scale {ι : Type} [Fintype ι] (n : ℝ) (hn : 0 < n) (a : ℝ) (ha : 0 < a) (e : ℝ) (he : 0 < e) (r : ι → EReal) (i : ι) :
    norm (n : EReal) ((a * a * e : ℝ) : EReal) (fun k => (a : EReal) * r k) i = norm (n : EReal) (e : EReal) r i := by
  unfold norm
  have hmu : Ideal.div (∑ k, (a : EReal) * r k) n = (a : EReal) * Ideal.div (∑ k, r k) n := by
    rw [div_real n hn.ne', div_real n hn.ne', mul_sum_real a ha.le, mul_left_comm]
  simp only [hmu, mul_sub_real a ha.le]
  generalize Ideal.div (∑ k, r k) n = mu
  have hsq : ∀ x : EReal, ((a : EReal) * x) * ((a : EReal) * x) = ((a * a : ℝ) : EReal) * (x * x) := fun x => by
    rw [mul_mul_mul_comm, EReal.coe_mul]
  have h0 : (0 : EReal) ≤ Ideal.div (∑ k, (r k - mu) * (r k - mu)) n := by
    rw [div_real n hn.ne']
    exact mul_nonneg (EReal.coe_nonneg.mpr (inv_nonneg.mpr hn.le)) (Finset.sum_nonneg fun k _ => sq_nonneg _)
  simp only [hsq]
  rw [mul_sum_real (a * a) (mul_self_nonneg a), show Ideal.div (((a * a : ℝ) : EReal) * ∑ k, (r k - mu) * (r k - mu)) n
      = ((a * a : ℝ) : EReal) * Ideal.div (∑ k, (r k - mu) * (r k - mu)) n by
    rw [div_real n hn.ne', div_real n hn.ne', mul_left_comm]]
  rw [EReal.coe_mul (a * a) e, ← EReal.left_distrib_of_nonneg_of_ne_top (EReal.coe_nonneg.mpr (mul_self_nonneg a)) (EReal.coe_ne_top _)]
  have hw : (0 : EReal) < Ideal.div (∑ k, (r k - mu) * (r k - mu)) n + (e : EReal) :=
    lt_of_lt_of_le (EReal.coe_pos.mpr he) (le_add_of_nonneg_left h0)
  rw [EReal.coe_mul, mul_comm (a : EReal) (r i - mu), mul_assoc, rsqrt_scale a ha _ hw]

/-- The residual row: scaled by `a`, what the kernel norms is what the reference norms. -/
theorem residual_scale (a b : ℝ) (ha : 0 ≤ a) (hab : a * b = 1) (x g s : EReal) :
    (a : EReal) * (x + (g * (b : EReal)) * s) = (a : EReal) * x + g * s := by
  rw [EReal.left_distrib_of_nonneg_of_ne_top (EReal.coe_nonneg.mpr ha) (EReal.coe_ne_top a), mul_comm g, mul_assoc, ← mul_assoc (a : EReal) (b : EReal),
    ← EReal.coe_mul, hab, EReal.coe_one, one_mul]

end Cert.Layer
-- ==== Proof.Out.Block.lean ====
/-
  One grid point of the output call: the merged activations, column chunk by column chunk, and the normed rows, row chunk
  by row chunk, read at an index.
-/
module

public import proofs.«01_k».proof.Defs
public import proofs.«01_k».proof.Proof.Ada.Silu
public import proofs.«01_k».proof.Proof.Out.Norm
public import proofs.«01_k».proof.Proof.Gen.Kernel2Ideal.Value
public import Idealize.ShloMosaic.Lib.Pipeline.ValueKit

@[expose] public section

set_option maxRecDepth 16384

noncomputable section

namespace Cert.Layer.Out

open Idealize.ShloMosaic Idealize.ShloMosaic.TcCoe Idealize.SL.Sem
open Cert.Kernel2Ideal Cert.Kernel2Ideal.Gen

/-- A merged activation: the two gates' products, the attention branch's projection and the convolution branch. -/
def merge (h wa wb : Fin 1024 → EReal) (ba bb : EReal) (t wp : Fin 256 → EReal) (y : EReal) : EReal :=
  Ideal.logistic (∑ k, h k * wa k + ba) * (∑ q, t q * wp q) + Ideal.logistic (∑ k, h k * wb k + bb) * y

/-- The merged activations as the four column chunks leave them. -/
def mArr (a : Vec Ideal S1x3072 .f32) (x0 : Vec Ideal S1x1024x1024 .f32) (o0 o1 : Vec Ideal S1x1x1024x128 .f32)
    (x3 : Vec Ideal S1x1024x256 .bf16) (x4 : Vec Ideal S1x1024x1024 .bf16) (x9 : Vec Ideal S1x8704 .f32)
    (wg : Vec Ideal S1024x2048 .bf16) (wpa : Vec Ideal S256x1024 .bf16) : Vec Ideal S1024x1024 .bf16 :=
  View.canon
    [⟨(Rect.unit (s := S1024x1024) ![0, 768] ![1024, 256] (by decide)), k0_pay20 (k0_pay18 (k0_pay10 a x0) (k0_pay11 o0 o1 x3) (View.ld wg (Rect.unit (s := S1024x2048) ![0, 768] ![1024, 256] (by decide))) (View.ld x9 (Rect.unit (s := S1x8704) ![0, 7424] ![1, 256] (by decide))) (View.ld wpa (Rect.unit (s := S256x1024) ![0, 768] ![256, 256] (by decide)))) (k0_pay19 (k0_pay10 a x0) (View.ld wg (Rect.unit (s := S1024x2048) ![0, 1792] ![1024, 256] (by decide))) (View.ld x9 (Rect.unit (s := S1x8704) ![0, 8448] ![1, 256] (by decide)))) (View.ld x4 (Rect.unit (s := S1x1024x1024) ![0, 0, 768] ![1, 1024, 256] (by decide)))⟩,
     ⟨(Rect.unit (s := S1024x1024) ![0, 512] ![1024, 256] (by decide)), k0_pay17 (k0_pay16 (k0_pay10 a x0) (k0_pay11 o0 o1 x3) (View.ld wg (Rect.unit (s := S1024x2048) ![0, 512] ![1024, 256] (by decide))) (View.ld x9 (Rect.unit (s := S1x8704) ![0, 7168] ![1, 256] (by decide))) (View.ld wg (Rect.unit (s := S1024x2048) ![0, 1536] ![1024, 256] (by decide))) (View.ld x9 (Rect.unit (s := S1x8704) ![0, 8192] ![1, 256] (by decide))) (View.ld wpa (Rect.unit (s := S256x1024) ![0, 512] ![256, 256] (by decide))) (View.ld x4 (Rect.unit (s := S1x1024x1024) ![0, 0, 512] ![1, 1024, 256] (by decide))))⟩,
     ⟨(Rect.unit (s := S1024x1024) ![0, 256] ![1024, 256] (by decide)), k0_pay15 (k0_pay14 (k0_pay10 a x0) (k0_pay11 o0 o1 x3) (View.ld wg (Rect.unit (s := S1024x2048) ![0, 256] ![1024, 256] (by decide))) (View.ld x9 (Rect.unit (s := S1x8704) ![0, 6912] ![1, 256] (by decide))) (View.ld wg (Rect.unit (s := S1024x2048) ![0, 1280] ![1024, 256] (by decide))) (View.ld x9 (Rect.unit (s := S1x8704) ![0, 7936] ![1, 256] (by decide))) (View.ld wpa (Rect.unit (s := S256x1024) ![0, 256] ![256, 256] (by decide))) (View.ld x4 (Rect.unit (s := S1x1024x1024) ![0, 0, 256] ![1, 1024, 256] (by decide))))⟩,
     ⟨(Rect.unit (s := S1024x1024) ![0, 0] ![1024, 256] (by decide)), k0_pay13 (k0_pay10 a x0) (k0_pay11 o0 o1 x3) (k0_pay12 a x0 (View.ld wg (Rect.unit (s := S1024x2048) ![0, 0] ![1024, 256] (by decide)))) (View.ld x9 (Rect.unit (s := S1x8704) ![0, 6656] ![1, 256] (by decide))) (View.ld wg (Rect.unit (s := S1024x2048) ![0, 1024] ![1024, 256] (by decide))) (View.ld x9 (Rect.unit (s := S1x8704) ![0, 7680] ![1, 256] (by decide))) (View.ld wpa (Rect.unit (s := S256x1024) ![0, 0] ![256, 256] (by decide))) (View.ld x4 (Rect.unit (s := S1x1024x1024) ![0, 0, 0] ![1, 1024, 256] (by decide)))⟩]

/-- The block as the four row chunks leave it. -/
def outArr (a : Vec Ideal S1x3072 .f32) (x0 : Vec Ideal S1x1024x1024 .f32) (M : Vec Ideal S1024x1024 .bf16)
    (x12 x13 x14 : Vec Ideal S1x1024 .f32) (wout : Vec Ideal S1024x1024 .bf16) : Vec Ideal S1x1024x1024 .f32 :=
  View.canon
    [⟨(Rect.unit (s := S1x1024x1024) ![0, 768, 0] ![1, 256, 1024] (by decide)), k0_pay1 (k0_pay28 (k0_pay9 a) (View.ld M (Rect.unit (s := S1024x1024) ![768, 0] ![256, 1024] (by decide))) wout x12 (View.ld x0 (Rect.unit (s := S1x1024x1024) ![0, 768, 0] ![1, 256, 1024] (by decide)))) x13 x14⟩,
     ⟨(Rect.unit (s := S1x1024x1024) ![0, 512, 0] ![1, 256, 1024] (by decide)), k0_pay27 (k0_pay26 (k0_pay9 a) (View.ld M (Rect.unit (s := S1024x1024) ![512, 0] ![256, 1024] (by decide))) wout x12 (View.ld x0 (Rect.unit (s := S1x1024x1024) ![0, 512, 0] ![1, 256, 1024] (by decide)))) x13 x14⟩,
     ⟨(Rect.unit (s := S1x1024x1024) ![0, 256, 0] ![1, 256, 1024] (by decide)), k0_pay25 (k0_pay23 (k0_pay9 a) (View.ld M (Rect.unit (s := S1024x1024) ![256, 0] ![256, 1024] (by decide))) wout x12 (View.ld x0 (Rect.unit (s := S1x1024x1024) ![0, 256, 0] ![1, 256, 1024] (by decide)))) (k0_pay24 x13) x14⟩,
     ⟨(Rect.unit (s := S1x1024x1024) ![0, 0, 0] ![1, 256, 1024] (by decide)), k0_pay22 (k0_pay21 (k0_pay9 a) (View.ld M (Rect.unit (s := S1024x1024) ![0, 0] ![256, 1024] (by decide))) wout x12 (View.ld x0 (Rect.unit (s := S1x1024x1024) ![0, 0, 0] ![1, 256, 1024] (by decide))) x13) x14⟩]

theorem mArr_apply (a : Vec Ideal S1x3072 .f32) (x0 : Vec Ideal S1x1024x1024 .f32) (o0 o1 : Vec Ideal S1x1x1024x128 .f32)
    (x3 : Vec Ideal S1x1024x256 .bf16) (x4 : Vec Ideal S1x1024x1024 .bf16) (x9 : Vec Ideal S1x8704 .f32)
    (wg : Vec Ideal S1024x2048 .bf16) (wpa : Vec Ideal S256x1024 .bf16) (y : S1024x1024.Idx) :
    mArr a x0 o0 o1 x3 x4 x9 wg wpa y
      = merge (fun k => x0 (ix3 0 (y 0) k) * (1 + a (ix2 0 ⟨1024 + k.val, by omega⟩)) + a (ix2 0 ⟨k.val, by omega⟩))
          (fun k => wg (ix2 k ⟨(y 1).val, by idx_bounds y; omega⟩)) (fun k => wg (ix2 k ⟨1024 + (y 1).val, by idx_bounds y; omega⟩))
          (x9 (ix2 0 ⟨6656 + (y 1).val, by idx_bounds y; omega⟩)) (x9 (ix2 0 ⟨7680 + (y 1).val, by idx_bounds y; omega⟩))
          (fun q => (if h : q.val < 128 then o0 (ix4 0 0 (y 0) ⟨q.val, h⟩) else o1 (ix4 0 0 (y 0) ⟨q.val - 128, by omega⟩)) * x3 (ix3 0 (y 0) q))
          (fun q => wpa (ix2 q (y 1))) (x4 (ix3 0 (y 0) (y 1))) := by
  unfold mArr merge
  canon_tiles x h
  all_goals
    pointwise [k0_pay20, k0_pay19, k0_pay18, k0_pay17, k0_pay16, k0_pay15, k0_pay14, k0_pay13, k0_pay12, k0_pay11, k0_pay10]
    simp only [half_eq, zero_eq, one_eq, zero_add, sigmoid_eq]
    blk_point []

theorem n_eq : Ideal.ofBits .f32 0x44800000#32 = ((1024 : ℝ) : EReal) := by
  simp [Ideal.ofBits, Ideal.ieee, -EReal.coe_mul]; norm_num

theorem inv_alpha_eq : Named.named (F := Ideal) (φ := .f32) κ "inv_alpha" 0x3F5744FD#32 = ((524288 / 623487 : ℝ) : EReal) :=
  IdealRules.named_const.ideal_named_scalar _ _ _ _ rfl

theorem eps_eq : Named.named (F := Ideal) (φ := .f32) κ "eps_over_alpha_sq" 0x36ED4403#32 = ((2748779 / 388736039169 : ℝ) : EReal) :=
  IdealRules.named_const.ideal_named_scalar _ _ _ _ rfl

theorem outArr_apply (a : Vec Ideal S1x3072 .f32) (x0 : Vec Ideal S1x1024x1024 .f32) (M : Vec Ideal S1024x1024 .bf16)
    (x12 x13 x14 : Vec Ideal S1x1024 .f32) (wout : Vec Ideal S1024x1024 .bf16) (y : S1x1024x1024.Idx) :
    outArr a x0 M x12 x13 x14 wout y
      = norm ((1024 : ℝ) : EReal) ((2748779 / 388736039169 : ℝ) : EReal)
          (fun k : Fin 1024 => x0 (ix3 0 (y 1) k) + (a (ix2 0 ⟨2048 + k.val, by omega⟩) * ((524288 / 623487 : ℝ) : EReal))
              * (∑ j : Fin 1024, M (ix2 (y 1) j) * wout (ix2 j k) + x12 (ix2 0 k))) (y 2)
          * x13 (ix2 0 (y 2)) + x14 (ix2 0 (y 2)) := by
  unfold outArr norm
  canon_tiles x h
  all_goals
    pointwise [k0_pay1, k0_pay28, k0_pay27, k0_pay26, k0_pay25, k0_pay24, k0_pay23, k0_pay22, k0_pay21, k0_pay9]
    simp only [half_eq, zero_eq, one_eq, n_eq, zero_add, inv_alpha_eq, eps_eq]
    blk_point []

end Cert.Layer.Out
-- ==== Proof.Out.Ref.lean ====
/-
  The reference of the output call, read at an index: the merged activations, the residual row and its norm.
-/
module

public import proofs.«01_k».proof.Proof.Out.Block
public import proofs.«01_k».proof.Proof.Gen.Reference2Ideal.Read

@[expose] public section

set_option maxRecDepth 16384

noncomputable section

namespace Cert.Layer.Out

open Idealize.ShloMosaic Idealize.ShloMosaic.TcCoe Idealize.SL.Sem
open Cert.Reference2Ideal Cert.Reference2Ideal.Gen Cert.Reference2Ideal.Read

/-- The reference's merged activation. -/
theorem merged_apply (x0 : (⟨S16x2048x1024, .f32⟩ : BufTy).Contents (Elt Ideal)) (x1 : (⟨S16x3072, .f32⟩ : BufTy).Contents (Elt Ideal)) (x2 : (⟨S16x2x2048x128, .f32⟩ : BufTy).Contents (Elt Ideal)) (x3 : (⟨S16x2048x256, .bf16⟩ : BufTy).Contents (Elt Ideal)) (x4 : (⟨S16x2048x1024, .bf16⟩ : BufTy).Contents (Elt Ideal)) (x5 : (⟨S1x1024x8704, .f32⟩ : BufTy).Contents (Elt Ideal)) (x6 : (⟨S1x8704, .f32⟩ : BufTy).Contents (Elt Ideal)) (x7 : (⟨S1x256x1024, .f32⟩ : BufTy).Contents (Elt Ideal))
    (i : S16x2048x1024.Idx) :
    val_main_v39 (F := Ideal) x0 x1 x2 x3 x4 x5 x6 x7 i
      = merge (fun k => x0 (ix3 (i 0) (i 1) k) * (1 + x1 (ix2 (i 0) ⟨1024 + k.val, by omega⟩)) + x1 (ix2 (i 0) ⟨k.val, by omega⟩))
          (fun k => x5 (ix3 0 k ⟨6656 + (i 2).val, by idx_bounds i; omega⟩)) (fun k => x5 (ix3 0 k ⟨7680 + (i 2).val, by idx_bounds i; omega⟩))
          (x6 (ix2 0 ⟨6656 + (i 2).val, by idx_bounds i; omega⟩)) (x6 (ix2 0 ⟨7680 + (i 2).val, by idx_bounds i; omega⟩))
          (fun q => x2 (ix4 (i 0) ⟨q.val / 128, by omega⟩ (i 1) ⟨q.val % 128, by omega⟩) * x3 (ix3 (i 0) (i 1) q))
          (fun q => x7 (ix3 0 q (i 2))) (x4 (ix3 (i 0) (i 1) (i 2))) := by
  unfold merge
  pointwise [val_main_v0, val_main_v1, val_main_v2, val_main_v3, val_main_cst, val_main_v4, val_main_v5, val_main_v6, val_main_v7, val_main_v8, val_main_v9,
      val_main_v10, val_main_v11, val_main_v12, val_main_v13, val_main_v14, val_main_v15, val_main_v16, val_main_v17, val_main_v18, val_main_v19,
      val_main_v20, val_main_v21, val_main_v22, val_main_v23, val_main_v24, val_main_v25, val_main_cst_0, val_main_v26, val_main_v27, val_main_cst_1,
      val_main_v28, val_main_v29, val_main_v30, val_main_v31, val_main_v32, val_main_cst_2, val_main_v33, val_main_v34, val_main_cst_3, val_main_v35,
      val_main_v36, val_main_v37, val_main_v38, val_main_v39]
  simp only [one_eq, Ideal.logistic]

/-- The words of the two constants. -/
theorem alpha_eq : Ideal.ofBits .f32 0x3F9837F0#32 = ((623487 / 524288 : ℝ) : EReal) := by
  simp [Ideal.ofBits, Ideal.ieee, -EReal.coe_mul]; norm_num

theorem eps_word_eq : Ideal.ofBits .f32 0x3727C5AC#32 = ((2748779 / 274877906944 : ℝ) : EReal) := by
  simp [Ideal.ofBits, Ideal.ieee, -EReal.coe_mul]; norm_num

/-- The reference's residual row. -/
theorem residual_apply (x0 : (⟨S16x2048x1024, .f32⟩ : BufTy).Contents (Elt Ideal)) (x1 : (⟨S16x3072, .f32⟩ : BufTy).Contents (Elt Ideal)) (x2 : (⟨S16x2x2048x128, .f32⟩ : BufTy).Contents (Elt Ideal)) (x3 : (⟨S16x2048x256, .bf16⟩ : BufTy).Contents (Elt Ideal)) (x4 : (⟨S16x2048x1024, .bf16⟩ : BufTy).Contents (Elt Ideal)) (x5 : (⟨S1x1024x8704, .f32⟩ : BufTy).Contents (Elt Ideal)) (x6 : (⟨S1x8704, .f32⟩ : BufTy).Contents (Elt Ideal)) (x7 : (⟨S1x256x1024, .f32⟩ : BufTy).Contents (Elt Ideal)) (x8 : (⟨S1x1024x1024, .f32⟩ : BufTy).Contents (Elt Ideal)) (x9 : (⟨S1x1024, .f32⟩ : BufTy).Contents (Elt Ideal))
    (i : S16x2048x1024.Idx) :
    val_main_v50 (F := Ideal) x0 x1 x2 x3 x4 x5 x6 x7 x8 x9 i
      = ((623487 / 524288 : ℝ) : EReal) * x0 (ix3 (i 0) (i 1) (i 2)) + x1 (ix2 (i 0) ⟨2048 + (i 2).val, by idx_bounds i; omega⟩)
          * (∑ j : Fin 1024, val_main_v39 (F := Ideal) x0 x1 x2 x3 x4 x5 x6 x7 (ix3 (i 0) (i 1) j) * x8 (ix3 0 j (i 2)) + x9 (ix2 0 (i 2))) := by
  pointwise [val_main_v3, val_main_v0, val_main_v40, val_main_v41, val_main_v42, val_main_v43, val_main_v44, val_main_v45, val_main_v46, val_main_v47, val_main_cst_4,
      val_main_v48, val_main_v49, val_main_v50]
  simp only [alpha_eq]

/-- The reference's result: the norm of the residual row, scaled and shifted. -/
theorem result_apply (x0 : (⟨S16x2048x1024, .f32⟩ : BufTy).Contents (Elt Ideal)) (x1 : (⟨S16x3072, .f32⟩ : BufTy).Contents (Elt Ideal)) (x2 : (⟨S16x2x2048x128, .f32⟩ : BufTy).Contents (Elt Ideal)) (x3 : (⟨S16x2048x256, .bf16⟩ : BufTy).Contents (Elt Ideal)) (x4 : (⟨S16x2048x1024, .bf16⟩ : BufTy).Contents (Elt Ideal)) (x5 : (⟨S1x1024x8704, .f32⟩ : BufTy).Contents (Elt Ideal)) (x6 : (⟨S1x8704, .f32⟩ : BufTy).Contents (Elt Ideal)) (x7 : (⟨S1x256x1024, .f32⟩ : BufTy).Contents (Elt Ideal)) (x8 : (⟨S1x1024x1024, .f32⟩ : BufTy).Contents (Elt Ideal)) (x9 x10 x11 : (⟨S1x1024, .f32⟩ : BufTy).Contents (Elt Ideal))
    (i : S16x2048x1024.Idx) :
    val_main_v76 (F := Ideal) x0 x1 x2 x3 x4 x5 x6 x7 x8 x9 x10 x11 i
      = norm ((1024 : ℝ) : EReal) ((2748779 / 274877906944 : ℝ) : EReal)
          (fun k : Fin 1024 => val_main_v50 (F := Ideal) x0 x1 x2 x3 x4 x5 x6 x7 x8 x9 (ix3 (i 0) (i 1) k)) (i 2)
          * x10 (ix2 0 (i 2)) + x11 (ix2 0 (i 2)) := by
  unfold norm
  pointwise [val_main_cst_5, val_main_v51, val_main_v52, val_main_cst_6, val_main_v53, val_main_v54, val_main_v55, val_main_v56, val_main_v57, val_main_cst_7,
      val_main_v58, val_main_v59, val_main_cst_8, val_main_v60, val_main_v61, val_main_v62, val_main_v63, val_main_cst_9, val_main_v64, val_main_v65,
      val_main_v66, val_main_v67, val_main_v68, val_main_v69, val_main_v70, val_main_v71, val_main_v72, val_main_v73, val_main_v74, val_main_v75,
      val_main_v76]
  simp only [n_eq, eps_word_eq, half_eq, zero_eq, one_eq, zero_add]

end Cert.Layer.Out
-- ==== Proof.Out.Rows.lean ====
/-
  One grid point of the output call against the reference: blocks that are rows of the arrays give rows of the reference's result.
-/
module

public import proofs.«01_k».proof.Proof.Out.Ref

@[expose] public section

set_option maxRecDepth 16384

noncomputable section

namespace Cert.Layer.Out

open Idealize.ShloMosaic Idealize.ShloMosaic.TcCoe Idealize.SL.Sem
open Cert.Kernel2Ideal Cert.Kernel2Ideal.Gen

variable (b : Fin 16) (R : Fin 1024 → Fin 2048)

/-- The merged activations of rows `R` of batch `b`. -/
theorem merged_rows (a : Vec Ideal S1x3072 .f32) (x0 : Vec Ideal S1x1024x1024 .f32) (o0 o1 : Vec Ideal S1x1x1024x128 .f32)
    (x3 : Vec Ideal S1x1024x256 .bf16) (x4 : Vec Ideal S1x1024x1024 .bf16) (x9 : Vec Ideal S1x8704 .f32)
    (wg : Vec Ideal S1024x2048 .bf16) (wpa : Vec Ideal S256x1024 .bf16)
    (X0 : (⟨S16x2048x1024, .f32⟩ : BufTy).Contents (Elt Ideal)) (X1 : (⟨S16x3072, .f32⟩ : BufTy).Contents (Elt Ideal)) (X2 : (⟨S16x2x2048x128, .f32⟩ : BufTy).Contents (Elt Ideal)) (X3 : (⟨S16x2048x256, .bf16⟩ : BufTy).Contents (Elt Ideal)) (X4 : (⟨S16x2048x1024, .bf16⟩ : BufTy).Contents (Elt Ideal)) (X5 : (⟨S1x1024x8704, .f32⟩ : BufTy).Contents (Elt Ideal)) (X6 : (⟨S1x8704, .f32⟩ : BufTy).Contents (Elt Ideal)) (X7 : (⟨S1x256x1024, .f32⟩ : BufTy).Contents (Elt Ideal))
    (ha : ∀ k, a (ix2 0 k) = X1 (ix2 b k)) (h0 : ∀ r k, x0 (ix3 0 r k) = X0 (ix3 b (R r) k))
    (ho0 : ∀ r k, o0 (ix4 0 0 r k) = X2 (ix4 b 0 (R r) k)) (ho1 : ∀ r k, o1 (ix4 0 0 r k) = X2 (ix4 b 1 (R r) k))
    (h3 : ∀ r k, x3 (ix3 0 r k) = X3 (ix3 b (R r) k)) (h4 : ∀ r k, x4 (ix3 0 r k) = X4 (ix3 b (R r) k)) (h9 : ∀ k, x9 (ix2 0 k) = X6 (ix2 0 k))
    (hg : ∀ (k : Fin 1024) (j : Fin 2048), wg (ix2 k j) = X5 (ix3 0 k ⟨6656 + j.val, by omega⟩)) (hp : ∀ (k : Fin 256) (j : Fin 1024), wpa (ix2 k j) = X7 (ix3 0 k j))
    (r j : Fin 1024) :
    mArr a x0 o0 o1 x3 x4 x9 wg wpa (ix2 r j) = Cert.Reference2Ideal.Read.val_main_v39 (F := Ideal) X0 X1 X2 X3 X4 X5 X6 X7 (ix3 b (R r) j) := by
  rw [mArr_apply, merged_apply]
  simp only [ix2_0, ix2_1, ix3_0, ix3_1, ix3_2, ha, h0, ho0, ho1, h3, h4, h9, hg, hp]
  congr 1
  · funext q
    congr 2
    apply Fin.ext
    show 6656 + (1024 + j.val) = 7680 + j.val
    omega
  · funext q
    congr 1
    split
    · congr 2
      · apply Fin.ext; show 0 = q.val / 128; omega
      · apply Fin.ext; show q.val = q.val % 128; omega
    · congr 2
      · apply Fin.ext; show 1 = q.val / 128; omega
      · apply Fin.ext; show q.val - 128 = q.val % 128; omega

/-- The rows of the result. -/
theorem result_rows (a : Vec Ideal S1x3072 .f32) (x0 : Vec Ideal S1x1024x1024 .f32) (M : Vec Ideal S1024x1024 .bf16)
    (x12 x13 x14 : Vec Ideal S1x1024 .f32) (wout : Vec Ideal S1024x1024 .bf16)
    (X0 : (⟨S16x2048x1024, .f32⟩ : BufTy).Contents (Elt Ideal)) (X1 : (⟨S16x3072, .f32⟩ : BufTy).Contents (Elt Ideal)) (X2 : (⟨S16x2x2048x128, .f32⟩ : BufTy).Contents (Elt Ideal)) (X3 : (⟨S16x2048x256, .bf16⟩ : BufTy).Contents (Elt Ideal)) (X4 : (⟨S16x2048x1024, .bf16⟩ : BufTy).Contents (Elt Ideal)) (X5 : (⟨S1x1024x8704, .f32⟩ : BufTy).Contents (Elt Ideal)) (X6 : (⟨S1x8704, .f32⟩ : BufTy).Contents (Elt Ideal)) (X7 : (⟨S1x256x1024, .f32⟩ : BufTy).Contents (Elt Ideal)) (X8 : (⟨S1x1024x1024, .f32⟩ : BufTy).Contents (Elt Ideal)) (X9 : (⟨S1x1024, .f32⟩ : BufTy).Contents (Elt Ideal)) (X10 : (⟨S1x1024, .f32⟩ : BufTy).Contents (Elt Ideal)) (X11 : (⟨S1x1024, .f32⟩ : BufTy).Contents (Elt Ideal))
    (ha : ∀ k, a (ix2 0 k) = X1 (ix2 b k)) (h0 : ∀ r k, x0 (ix3 0 r k) = X0 (ix3 b (R r) k))
    (hM : ∀ r j, M (ix2 r j) = Cert.Reference2Ideal.Read.val_main_v39 (F := Ideal) X0 X1 X2 X3 X4 X5 X6 X7 (ix3 b (R r) j))
    (h12 : ∀ k, x12 (ix2 0 k) = X9 (ix2 0 k)) (h13 : ∀ k, x13 (ix2 0 k) = X10 (ix2 0 k)) (h14 : ∀ k, x14 (ix2 0 k) = X11 (ix2 0 k))
    (hw : ∀ (k j : Fin 1024), wout (ix2 k j) = X8 (ix3 0 k j))
    (r q : Fin 1024) :
    outArr a x0 M x12 x13 x14 wout (ix3 0 r q) = Cert.Reference2Ideal.Read.val_main_v76 (F := Ideal) X0 X1 X2 X3 X4 X5 X6 X7 X8 X9 X10 X11 (ix3 b (R r) q) := by
  refine (outArr_apply _ _ _ _ _ _ _ _).trans (Eq.trans ?_ (result_apply _ _ _ _ _ _ _ _ _ _ _ _ _).symm)
  have hs : (fun k : Fin 1024 => Cert.Reference2Ideal.Read.val_main_v50 (F := Ideal) X0 X1 X2 X3 X4 X5 X6 X7 X8 X9 (ix3 b (R r) k))
      = fun k : Fin 1024 => ((623487 / 524288 : ℝ) : EReal) * (x0 (ix3 0 r k) + (a (ix2 0 ⟨2048 + k.val, by omega⟩) * ((524288 / 623487 : ℝ) : EReal))
          * (∑ j : Fin 1024, M (ix2 r j) * wout (ix2 j k) + x12 (ix2 0 k))) := by
    funext k
    refine (residual_apply _ _ _ _ _ _ _ _ _ _ _).trans (Eq.trans ?_ (residual_scale _ _ (by norm_num) (by norm_num) _ _ _).symm)
    simp only [ix3_0, ix3_1, ix3_2, ha, h0, hM, h12, hw]
  have hn := norm_scale 1024 (by norm_num) (623487 / 524288) (by norm_num) (2748779 / 388736039169) (by norm_num)
    (fun k : Fin 1024 => (x0 (ix3 0 r k) + (a (ix2 0 ⟨2048 + k.val, by omega⟩) * ((524288 / 623487 : ℝ) : EReal))
          * (∑ j : Fin 1024, M (ix2 r j) * wout (ix2 j k) + x12 (ix2 0 k)))) q
  rw [show ((623487 / 524288 : ℝ) * (623487 / 524288) * (2748779 / 388736039169)) = 2748779 / 274877906944 by norm_num] at hn
  rw [← hs] at hn
  exact (congrArg₂ (· + ·) (congrArg₂ (· * ·) hn.symm (h13 q)) (h14 q))

end Cert.Layer.Out
-- ==== Proof.Out.Value.lean ====
/-
  The output call: every grid point works with the whole weights (stored at the first point and kept), so its block is the
  reference's.
-/
module

public import proofs.«01_k».proof.Proof.Out.Rows
public import Idealize.ShloMosaic.Lib.Pipeline.ReadBack

@[expose] public section

set_option maxRecDepth 16384

noncomputable section

namespace Cert.Layer.Out

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- A load of a box after writes reads what they leave. -/
theorem readCov_ld {Val : EltTy → Type} [∀ e, Nonempty (Val e)] {sig : RefSig} {κ : Kind} {sp : Space} {s : Shape} {e : EltTy}
    (v : View sig κ sp s e) (L : List (View.Piece Val s e)) (r : Rect s) : v.readCov L r.toLoadRect = View.ld (View.canon L) r :=
  View.readCov_eq_canon' v L r.toLoadRect

/-- The windows' block indices. -/
theorem idx : ∀ t : Fin grid0.N, win0_0.index t = ![(grid0.coords t 0).val, (grid0.coords t 1).val, 0] ∧ win0_1.index t = ![0, 0]
    ∧ win0_2.index t = ![(grid0.coords t 0).val, 0, (grid0.coords t 1).val, 0] ∧ win0_3.index t = ![(grid0.coords t 0).val, (grid0.coords t 1).val, 0]
    ∧ win0_4.index t = ![(grid0.coords t 0).val, (grid0.coords t 1).val, 0]
    ∧ win0_5.index t = ![0, 13] ∧ win0_6.index t = ![0, 14] ∧ win0_7.index t = ![0, 15] ∧ win0_8.index t = ![0, 16]
    ∧ win0_9.index t = ![0, 0] ∧ win0_10.index t = ![0, 0] ∧ win0_11.index t = ![0, 0] ∧ win0_12.index t = ![0, 0]
    ∧ win0_13.index t = ![0, 0] ∧ win0_14.index t = ![0, 0]
    ∧ win0_15.index t = ![(grid0.coords t 0).val, (grid0.coords t 1).val, 0] := by
  decide +kernel

/-- The gates' weights as the kernel keeps them: the last 2048 columns of the input projection. -/
def WG : Vec Ideal S1024x2048 .bf16 := fun j => m ((c : Thread nD τ).loc main_arg5) (ix3 0 (j 0) ⟨6656 + (j 1).val, by idx_bounds j; omega⟩)
/-- The attention branch's projection. -/
def WPA : Vec Ideal S256x1024 .bf16 := fun j => m ((c : Thread nD τ).loc main_arg7) (ix3 0 (j 0) (j 1))
/-- The output projection. -/
def WOUT : Vec Ideal S1024x1024 .bf16 := fun j => m ((c : Thread nD τ).loc main_arg8) (ix3 0 (j 0) (j 1))

theorem sc1_A (t : Fin cfg0.N) (h0 : t.val % 32 = 0) : (outsAt0 m c t.val t.isLt).2.1 = WG m c := by
  funext y
  rw [outsAt0_A m c t h0]
  frame_out
  unfold WG
  canon_tiles x h
  all_goals
    pointwise
    blk_point [iblk, V, idx t]

theorem sc2_A (t : Fin cfg0.N) (h0 : t.val % 32 = 0) : (outsAt0 m c t.val t.isLt).2.2.1 = WPA m c := by
  funext y
  rw [outsAt0_A m c t h0]
  frame_out
  unfold WPA
  pointwise
  blk_point [iblk, V, idx t]

theorem sc3_A (t : Fin cfg0.N) (h0 : t.val % 32 = 0) : (outsAt0 m c t.val t.isLt).2.2.2 = WOUT m c := by
  funext y
  rw [outsAt0_A m c t h0]
  frame_out
  unfold WOUT
  pointwise [k0_pay8, k0_pay7]
  blk_point [iblk, V, idx t]

theorem sc (n : ℕ) (hn : n < cfg0.N) : (outsAt0 m c n hn).2.1 = WG m c ∧ (outsAt0 m c n hn).2.2.1 = WPA m c ∧ (outsAt0 m c n hn).2.2.2 = WOUT m c := by
  induction n with
  | zero => exact ⟨sc1_A m c ⟨0, hn⟩ rfl, sc2_A m c ⟨0, hn⟩ rfl, sc3_A m c ⟨0, hn⟩ rfl⟩
  | succ n ih =>
    have hN : cfg0.N = 32 := N_0
    have h0 : ¬ (⟨n + 1, hn⟩ : Fin cfg0.N).val % 32 = 0 := by dsimp only; omega
    rw [show outsAt0 m c (n + 1) hn = outsAt0 m c (⟨n + 1, hn⟩ : Fin cfg0.N).val (⟨n + 1, hn⟩ : Fin cfg0.N).isLt from rfl, outsAt0_B m c ⟨n + 1, hn⟩ h0]
    obtain ⟨h1, h2, h3⟩ := ih (by omega)
    refine ⟨?_, ?_, ?_⟩
    · refine Eq.trans ?_ h1
      dsimp only
      unfold sout0_B_1
      rfl
    · refine Eq.trans ?_ h2
      dsimp only
      unfold sout0_B_2
      rfl
    · refine Eq.trans ?_ h3
      dsimp only
      unfold sout0_B_3
      rfl

/-- A grid point's block, over the whole weights. -/
def blockOut (t : Fin cfg0.N) : Vec Ideal S1x1024x1024 .f32 :=
  outArr (View.ld (iblk m c 1 t) (Rect.unit (s := S16x3072) (k0_off1 (grid0.coords t)) ![1, 3072] (k0_off1_inb (grid0.coords t)))) (iblk m c 0 t)
    (mArr (View.ld (iblk m c 1 t) (Rect.unit (s := S16x3072) (k0_off1 (grid0.coords t)) ![1, 3072] (k0_off1_inb (grid0.coords t)))) (iblk m c 0 t)
      (View.ld (iblk m c 2 t) (Rect.unit (s := S1x2x1024x128) ![0, 0, 0, 0] ![1, 1, 1024, 128] (by decide)))
      (View.ld (iblk m c 2 t) (Rect.unit (s := S1x2x1024x128) ![0, 1, 0, 0] ![1, 1, 1024, 128] (by decide)))
      (iblk m c 3 t) (iblk m c 4 t) (iblk m c 9 t) (WG m c) (WPA m c))
    (iblk m c 12 t) (iblk m c 13 t) (iblk m c 14 t) (WOUT m c)

theorem out_B (t : Fin cfg0.N) (h0 : ¬t.val % 32 = 0) : (outsAt0 m c t.val t.isLt).1 = blockOut m c t := by
  funext y
  rw [outsAt0_B m c t h0]
  frame_out
  simp only [readCov_ld, read_unread_whole]
  rw [(sc m c _ _).1, (sc m c _ _).2.1, (sc m c _ _).2.2]
  unfold blockOut outArr mArr
  first | rfl | exact rfl | fail "no"

/-- The gates' weights as the first point stores them, block of columns by block of columns. -/
theorem canon_WG (t : Fin cfg0.N) :
    View.canon (Val := Elt Ideal) (s := S1024x2048) (e := .bf16) [⟨Rect.unit (s := S1024x2048) ![0, 1536] ![1024, 512] (by decide), shapeCast S1024x512 (truncf (F := Ideal) .bf16 (shapeCast S1024x512 (show FVec Ideal S1024x512 .f32 from iblk m c 8 t) shapeCasts_S1024x512_S1024x512) bitsLt_bf16_f32) shapeCasts_S1024x512_S1024x512⟩,
     ⟨Rect.unit (s := S1024x2048) ![0, 1024] ![1024, 512] (by decide), shapeCast S1024x512 (truncf (F := Ideal) .bf16 (shapeCast S1024x512 (show FVec Ideal S1024x512 .f32 from iblk m c 7 t) shapeCasts_S1024x512_S1024x512) bitsLt_bf16_f32) shapeCasts_S1024x512_S1024x512⟩,
     ⟨Rect.unit (s := S1024x2048) ![0, 512] ![1024, 512] (by decide), shapeCast S1024x512 (truncf (F := Ideal) .bf16 (shapeCast S1024x512 (show FVec Ideal S1024x512 .f32 from iblk m c 6 t) shapeCasts_S1024x512_S1024x512) bitsLt_bf16_f32) shapeCasts_S1024x512_S1024x512⟩,
     ⟨Rect.unit (s := S1024x2048) ![0, 0] ![1024, 512] (by decide), shapeCast S1024x512 (truncf (F := Ideal) .bf16 (shapeCast S1024x512 (show FVec Ideal S1024x512 .f32 from iblk m c 5 t) shapeCasts_S1024x512_S1024x512) bitsLt_bf16_f32) shapeCasts_S1024x512_S1024x512⟩] = WG m c := by
  funext y
  unfold WG
  canon_tiles x h
  all_goals
    pointwise
    blk_point [iblk, V, idx t]

theorem canon_WPA (t : Fin cfg0.N) :
    View.canon (Val := Elt Ideal) (s := S256x1024) (e := .bf16) [⟨Rect.unit (s := S256x1024) ![0, 0] ![256, 1024] (by decide), shapeCast S256x1024 (truncf (F := Ideal) .bf16 (shapeCast S256x1024 (show FVec Ideal S256x1024 .f32 from iblk m c 10 t) shapeCasts_S256x1024_S256x1024) bitsLt_bf16_f32) shapeCasts_S256x1024_S256x1024⟩] = WPA m c := by
  funext y
  unfold WPA
  canon_tiles x h
  all_goals
    pointwise
    blk_point [iblk, V, idx t]

theorem whole_WOUT (t : Fin cfg0.N) :
    k0_pay8 (truncf (F := Ideal) .bf16 (shapeCast S1024x1024 (show FVec Ideal S1024x1024 .f32 from iblk m c 11 t) shapeCasts_S1024x1024_S1024x1024) bitsLt_bf16_f32) = WOUT m c := by
  funext y
  unfold WOUT
  pointwise [k0_pay8]
  blk_point [iblk, V, idx t]

set_option maxHeartbeats 2000000 in
theorem out_A (t : Fin cfg0.N) (h0 : t.val % 32 = 0) : (outsAt0 m c t.val t.isLt).1 = blockOut m c t := by
  funext y
  rw [outsAt0_A m c t h0]
  frame_out
  simp only [readCov_ld, read_unread_whole]
  rw [canon_WG m c t]
  rw [canon_WPA m c t, whole_WOUT m c t]
  unfold blockOut outArr mArr
  first | rfl | fail "no"

theorem block_eq (t : Fin cfg0.N) : (outsAt0 m c t.val t.isLt).1 = blockOut m c t := by
  by_cases h0 : t.val % 32 = 0
  · exact out_A m c t h0
  · exact out_B m c t h0

/-- The batch and the row of a grid point's block. -/
def bat (t : Fin cfg0.N) : Fin 16 := ⟨(grid0.coords t 0).val, (grid0.coords t 0).isLt⟩
def row (t : Fin cfg0.N) (r : Fin 1024) : Fin 2048 :=
  ⟨1024 * (grid0.coords t 1).val + r.val, by have h : (grid0.coords t 1).val < 2 := (grid0.coords t 1).isLt; omega⟩

theorem off1_eq : ∀ t : Fin grid0.N, k0_off1 (grid0.coords t) = ![(grid0.coords t 0).val, 0] := by decide +kernel

theorem ld1 (t : Fin cfg0.N) (k : Fin 3072) :
    View.ld (iblk m c 1 t) (Rect.unit (s := S16x3072) (k0_off1 (grid0.coords t)) ![1, 3072] (k0_off1_inb (grid0.coords t))) (ix2 0 k)
      = m ((c : Thread nD τ).loc main_arg1) (ix2 (bat t) k) := by
  unfold bat
  blk_point [iblk, V, idx t, off1_eq t]

theorem ld0 (t : Fin cfg0.N) (r k : Fin 1024) : iblk m c 0 t (ix3 0 r k) = m ((c : Thread nD τ).loc main_arg0) (ix3 (bat t) (row t r) k) := by
  unfold bat row
  blk_point [iblk, V, idx t]

theorem ld2a (t : Fin cfg0.N) (r : Fin 1024) (k : Fin 128) :
    View.ld (iblk m c 2 t) (Rect.unit (s := S1x2x1024x128) ![0, 0, 0, 0] ![1, 1, 1024, 128] (by decide)) (ix4 0 0 r k)
      = m ((c : Thread nD τ).loc main_arg2) (ix4 (bat t) 0 (row t r) k) := by
  unfold bat row
  blk_point [iblk, V, idx t]

theorem ld2b (t : Fin cfg0.N) (r : Fin 1024) (k : Fin 128) :
    View.ld (iblk m c 2 t) (Rect.unit (s := S1x2x1024x128) ![0, 1, 0, 0] ![1, 1, 1024, 128] (by decide)) (ix4 0 0 r k)
      = m ((c : Thread nD τ).loc main_arg2) (ix4 (bat t) 1 (row t r) k) := by
  unfold bat row
  blk_point [iblk, V, idx t]

theorem ld3 (t : Fin cfg0.N) (r : Fin 1024) (k : Fin 256) : iblk m c 3 t (ix3 0 r k) = m ((c : Thread nD τ).loc main_arg3) (ix3 (bat t) (row t r) k) := by
  unfold bat row
  blk_point [iblk, V, idx t]

theorem ld4 (t : Fin cfg0.N) (r : Fin 1024) (k : Fin 1024) : iblk m c 4 t (ix3 0 r k) = m ((c : Thread nD τ).loc main_arg4) (ix3 (bat t) (row t r) k) := by
  unfold bat row
  blk_point [iblk, V, idx t]

theorem ld9 (t : Fin cfg0.N) (k : Fin 8704) : iblk m c 9 t (ix2 0 k) = m ((c : Thread nD τ).loc main_arg6) (ix2 0 k) := by
  blk_point [iblk, V, idx t]

theorem ld12 (t : Fin cfg0.N) (k : Fin 1024) : iblk m c 12 t (ix2 0 k) = m ((c : Thread nD τ).loc main_arg9) (ix2 0 k) := by
  blk_point [iblk, V, idx t]

theorem ld13 (t : Fin cfg0.N) (k : Fin 1024) : iblk m c 13 t (ix2 0 k) = m ((c : Thread nD τ).loc main_arg10) (ix2 0 k) := by
  blk_point [iblk, V, idx t]

theorem ld14 (t : Fin cfg0.N) (k : Fin 1024) : iblk m c 14 t (ix2 0 k) = m ((c : Thread nD τ).loc main_arg11) (ix2 0 k) := by
  blk_point [iblk, V, idx t]

/-- A grid point's block is the reference's. -/
theorem block_result (t : Fin cfg0.N) (r q : Fin 1024) :
    blockOut m c t (ix3 0 r q) = Cert.Reference2Ideal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (bat t) (row t r) q) :=
  result_rows (bat t) (row t) _ _ _ _ _ _ _ _ _ _ _ _ _ _ _ _ _ _ _ (ld1 m c t) (ld0 m c t)
    (merged_rows (bat t) (row t) _ _ _ _ _ _ _ _ _ _ _ _ _ _ _ _ _ (ld1 m c t) (ld0 m c t) (ld2a m c t) (ld2b m c t) (ld3 m c t) (ld4 m c t) (ld9 m c t)
      (fun _ _ => rfl) (fun _ _ => rfl))
    (ld12 m c t) (ld13 m c t) (ld14 m c t) (fun _ _ => rfl) r q

/-- The output call's array is the reference's result. -/
theorem arr_eq : (dats m 0 c).arrAt 15 cfg0.N = Cert.Reference2Ideal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  blk_simp
  rw [after0_15, block_eq]
  have hy : y = ix3 (0 : Fin 1) (y 1) (y 2) := by
    blk_ext
  refine (congrArg (blockOut m c t) hy).trans ((block_result m c t (y 1) (y 2)).trans ?_)
  unfold bat row
  blk_point [idx t]

end Cert.Layer.Out
-- ==== Proof.Out.Equation.lean ====
/-
  The output call's claims.
-/
module

public import proofs.«01_k».proof.Defs
public import proofs.«01_k».proof.Proof.Out.Value
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

noncomputable section

namespace Cert.Layer.Out

open Idealize.ShloMosaic Idealize.ShloMosaic.TcCoe Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal :=
  ⟨IdealRules.named_const.statement Cert.Kernel2Ideal.κ "inv_alpha" .f32 0x3F5744FD#32 ((524288 / 623487 : ℝ) : EReal) rfl,
    IdealRules.named_const.statement Cert.Kernel2Ideal.κ "eps_over_alpha_sq" .f32 0x36ED4403#32 ((2748779 / 388736039169 : ℝ) : EReal) rfl⟩

/-- The call's array is the reference's result, of arguments that agree. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩) (Cert.Reference2Ideal.Value.run (F := Ideal) m' ρ')
  rw [arr_eq m c]
  rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2.1, ← (hagree c).2.2.2.2.2.2.2.2.2.2.1, ← (hagree c).2.2.2.2.2.2.2.2.2.2.2]
  exact Cert.Reference2Ideal.Read.val_main_v76_eq m' c

end Cert.Layer.Out

end
-- ==== Proof.lean ====
module

public import proofs.«01_k».proof.Defs
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Attn.Equation
public import proofs.«01_k».proof.Proof.Ada.Equation
public import proofs.«01_k».proof.Proof.Out.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts,
    Cert.Reference3Ideal.Gen.facts,
    Cert.Layer.Attn.frame_p, Cert.Layer.Attn.frame_pi, Cert.Layer.Attn.frame_ri,
    Cert.Layer.Out.frame_p, Cert.Layer.Out.frame_pi, Cert.Layer.Out.frame_ri, Cert.Layer.Ada.frame_p, Cert.Layer.Ada.frame_pi, Cert.Layer.Ada.frame_ri,
    Cert.Layer.Attn.preserves, Cert.Layer.Attn.algebraic,
    Cert.Layer.Out.preserves, Cert.Layer.Out.algebraic, Cert.Layer.Ada.preserves, Cert.Layer.Ada.algebraic⟩

end Cert.Proof

end
